-- ==== Defs.lean ====
def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqIdeal_finite [hPre_finite : Cert.Pre_finite.Facts] (m : (ℓ : Loc Cert.DqIdeal.nD Cert.DqIdeal.τ Cert.DqIdeal.sig) → Buf (Elt Ideal) ℓ) : Prop :=
  ∀ c : Dev Cert.DqIdeal.nD,
    (Cert.Pre_finite.fn (F := Ideal) (m ((c.tc : Thread Cert.DqIdeal.nD Cert.DqIdeal.τ).loc Cert.DqIdeal.main_arg0)) (m ((c.tc : Thread Cert.DqIdeal.nD Cert.DqIdeal.τ).loc Cert.DqIdeal.main_arg1)) (m ((c.tc : Thread Cert.DqIdeal.nD Cert.DqIdeal.τ).loc Cert.DqIdeal.main_arg2)) (m ((c.tc : Thread Cert.DqIdeal.nD Cert.DqIdeal.τ).loc Cert.DqIdeal.main_arg3))) = (fun _ => 1#1)

def Pre_DqRefIdeal (m : (ℓ : Loc Cert.DqRefIdeal.nD Cert.DqRefIdeal.τ Cert.DqRefIdeal.sig) → Buf (Elt Ideal) ℓ) : Prop :=
  True

def Pre_DqRefIdeal_finite [hPre_finite : Cert.Pre_finite.Facts] (m : (ℓ : Loc Cert.DqRefIdeal.nD Cert.DqRefIdeal.τ Cert.DqRefIdeal.sig) → Buf (Elt Ideal) ℓ) : Prop :=
  ∀ c : Dev Cert.DqRefIdeal.nD,
    (Cert.Pre_finite.fn (F := Ideal) (m ((c.tc : Thread Cert.DqRefIdeal.nD Cert.DqRefIdeal.τ).loc Cert.DqRefIdeal.main_arg0)) (m ((c.tc : Thread Cert.DqRefIdeal.nD Cert.DqRefIdeal.τ).loc Cert.DqRefIdeal.main_arg1)) (m ((c.tc : Thread Cert.DqRefIdeal.nD Cert.DqRefIdeal.τ).loc Cert.DqRefIdeal.main_arg2)) (m ((c.tc : Thread Cert.DqRefIdeal.nD Cert.DqRefIdeal.τ).loc Cert.DqRefIdeal.main_arg3))) = (fun _ => 1#1)

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvIdeal_finite [hPre_finite : Cert.Pre_finite.Facts] (m : (ℓ : Loc Cert.DkvIdeal.nD Cert.DkvIdeal.τ Cert.DkvIdeal.sig) → Buf (Elt Ideal) ℓ) : Prop :=
  ∀ c : Dev Cert.DkvIdeal.nD,
    (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3))) = (fun _ => 1#1)

def Pre_DkvRefIdeal (m : (ℓ : Loc Cert.DkvRefIdeal.nD Cert.DkvRefIdeal.τ Cert.DkvRefIdeal.sig) → Buf (Elt Ideal) ℓ) : Prop :=
  True

def Pre_DkvRefIdeal_finite [hPre_finite : Cert.Pre_finite.Facts] (m : (ℓ : Loc Cert.DkvRefIdeal.nD Cert.DkvRefIdeal.τ Cert.DkvRefIdeal.sig) → Buf (Elt Ideal) ℓ) : Prop :=
  ∀ c : Dev Cert.DkvRefIdeal.nD,
    (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3))) = (fun _ => 1#1)

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_DycatRefIdeal (m : (ℓ : Loc Cert.DycatRefIdeal.nD Cert.DycatRefIdeal.τ Cert.DycatRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_DwUqRefIdeal (m : (ℓ : Loc Cert.DwUqRefIdeal.nD Cert.DwUqRefIdeal.τ Cert.DwUqRefIdeal.sig) → Buf (Elt Ideal) ℓ) : Prop :=
  True

def Pre_DwUkv (m : (ℓ : Loc Cert.DwUkv.nD Cert.DwUkv.τ Cert.DwUkv.sig) → Buf (Elt Bits) ℓ) : Prop :=
  True

def Pre_DwUkvIdeal (m : (ℓ : Loc Cert.DwUkvIdeal.nD Cert.DwUkvIdeal.τ Cert.DwUkvIdeal.sig) → Buf (Elt Ideal) ℓ) : Prop :=
  True

def Pre_DwUkvRefIdeal (m : (ℓ : Loc Cert.DwUkvRefIdeal.nD Cert.DwUkvRefIdeal.τ Cert.DwUkvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_scores [hPre_finite_scores : Cert.Pre_finite_scores.Facts] (m : (ℓ : Loc Cert.MlaIdeal.nD Cert.MlaIdeal.τ Cert.MlaIdeal.sig) → Buf (Elt Ideal) ℓ) : Prop :=
  ∀ c : Dev Cert.MlaIdeal.nD,
    (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_scores [hPre_finite_scores : Cert.Pre_finite_scores.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1)
      ∧ r.2.mem ((c.tc : Thread Cert.Dq.nD Cert.Dq.τ).loc Cert.Dq.main_arg2) = m ((c.tc : Thread Cert.Dq.nD Cert.Dq.τ).loc Cert.Dq.main_arg2)
      ∧ r.2.mem ((c.tc : Thread Cert.Dq.nD Cert.Dq.τ).loc Cert.Dq.main_arg3) = m ((c.tc : Thread Cert.Dq.nD Cert.Dq.τ).loc Cert.Dq.main_arg3))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
      ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ r.2.sem = fun _ => 0)

def quiescent_DqIdeal_pre_finite [hDqIdeal : Cert.DqIdeal.Facts] [hPre_finite : Cert.Pre_finite.Facts] : Prop :=
  ∀ (m : (ℓ : Loc Cert.DqIdeal.nD Cert.DqIdeal.τ Cert.DqIdeal.sig) → Buf (Elt Ideal) ℓ) (g : Dev Cert.DqIdeal.nD → PrngReg), Pre_DqIdeal_finite m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
      ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ r.2.sem = fun _ => 0)

def quiescent_DqRefIdeal [hDqRefIdeal : Cert.DqRefIdeal.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2)
      ∧ r.2.mem ((c.tc : Thread Cert.DqRefIdeal.nD Cert.DqRefIdeal.τ).loc Cert.DqRefIdeal.main_arg3) = m ((c.tc : Thread Cert.DqRefIdeal.nD Cert.DqRefIdeal.τ).loc Cert.DqRefIdeal.main_arg3))
      ∧ r.2.sem = fun _ => 0)

def quiescent_DqRefIdeal_pre_finite [hDqRefIdeal : Cert.DqRefIdeal.Facts] [hPre_finite : Cert.Pre_finite.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal_finite m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2)
      ∧ r.2.mem ((c.tc : Thread Cert.DqRefIdeal.nD Cert.DqRefIdeal.τ).loc Cert.DqRefIdeal.main_arg3) = m ((c.tc : Thread Cert.DqRefIdeal.nD Cert.DqRefIdeal.τ).loc Cert.DqRefIdeal.main_arg3))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1)
      ∧ r.2.mem ((c.tc : Thread Cert.Dkv.nD Cert.Dkv.τ).loc Cert.Dkv.main_arg2) = m ((c.tc : Thread Cert.Dkv.nD Cert.Dkv.τ).loc Cert.Dkv.main_arg2)
      ∧ r.2.mem ((c.tc : Thread Cert.Dkv.nD Cert.Dkv.τ).loc Cert.Dkv.main_arg3) = m ((c.tc : Thread Cert.Dkv.nD Cert.Dkv.τ).loc Cert.Dkv.main_arg3))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ r.2.sem = fun _ => 0)

def quiescent_DkvIdeal_pre_finite [hDkvIdeal : Cert.DkvIdeal.Facts] [hPre_finite : Cert.Pre_finite.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal_finite m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3))
      ∧ r.2.sem = fun _ => 0)

def quiescent_DkvRefIdeal_pre_finite [hDkvRefIdeal : Cert.DkvRefIdeal.Facts] [hPre_finite : Cert.Pre_finite.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal_finite m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ r.2.sem = fun _ => 0)

def quiescent_DycatRefIdeal [hDycatRefIdeal : Cert.DycatRefIdeal.Facts] : Prop :=
  ∀ (m : (ℓ : Loc Cert.DycatRefIdeal.nD Cert.DycatRefIdeal.τ Cert.DycatRefIdeal.sig) → Buf (Elt Ideal) ℓ) (g : Dev Cert.DycatRefIdeal.nD → PrngReg), Pre_DycatRefIdeal m →
    θ_run (Cert.DycatRefIdeal.defs (F := Ideal)) (onTc (τ := Cert.DycatRefIdeal.τ) (Cert.DycatRefIdeal.main (F := Ideal))) ⟨m, fun _ => 0, g⟩ (fun r => (∀ c : Dev Cert.DycatRefIdeal.nD,
      r.2.mem ((c.tc : Thread Cert.DycatRefIdeal.nD Cert.DycatRefIdeal.τ).loc Cert.DycatRefIdeal.main_arg0) = m ((c.tc : Thread Cert.DycatRefIdeal.nD Cert.DycatRefIdeal.τ).loc Cert.DycatRefIdeal.main_arg0)
      ∧ r.2.mem ((c.tc : Thread Cert.DycatRefIdeal.nD Cert.DycatRefIdeal.τ).loc Cert.DycatRefIdeal.main_arg1) = m ((c.tc : Thread Cert.DycatRefIdeal.nD Cert.DycatRefIdeal.τ).loc Cert.DycatRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ r.2.sem = fun _ => 0)

def quiescent_DwUqRefIdeal [hDwUqRefIdeal : Cert.DwUqRefIdeal.Facts] : Prop :=
  ∀ (m : (ℓ : Loc Cert.DwUqRefIdeal.nD Cert.DwUqRefIdeal.τ Cert.DwUqRefIdeal.sig) → Buf (Elt Ideal) ℓ) (g : Dev Cert.DwUqRefIdeal.nD → PrngReg), Pre_DwUqRefIdeal m →
    θ_run (Cert.DwUqRefIdeal.defs (F := Ideal)) (onTc (τ := Cert.DwUqRefIdeal.τ) (Cert.DwUqRefIdeal.main (F := Ideal))) ⟨m, fun _ => 0, g⟩ (fun r => (∀ c : Dev Cert.DwUqRefIdeal.nD,
      r.2.mem ((c.tc : Thread Cert.DwUqRefIdeal.nD Cert.DwUqRefIdeal.τ).loc Cert.DwUqRefIdeal.main_arg0) = m ((c.tc : Thread Cert.DwUqRefIdeal.nD Cert.DwUqRefIdeal.τ).loc Cert.DwUqRefIdeal.main_arg0)
      ∧ r.2.mem ((c.tc : Thread Cert.DwUqRefIdeal.nD Cert.DwUqRefIdeal.τ).loc Cert.DwUqRefIdeal.main_arg1) = m ((c.tc : Thread Cert.DwUqRefIdeal.nD Cert.DwUqRefIdeal.τ).loc Cert.DwUqRefIdeal.main_arg1))
      ∧ r.2.sem = fun _ => 0)

def quiescent_DwUkv [hDwUkv : Cert.DwUkv.Facts] : Prop :=
  ∀ (m : (ℓ : Loc Cert.DwUkv.nD Cert.DwUkv.τ Cert.DwUkv.sig) → Buf (Elt Bits) ℓ) (g : Dev Cert.DwUkv.nD → PrngReg), Pre_DwUkv m →
    θ_run (Cert.DwUkv.defs (F := Bits)) (onTc (τ := Cert.DwUkv.τ) (Cert.DwUkv.main (F := Bits))) ⟨m, fun _ => 0, g⟩ (fun r => (∀ c : Dev Cert.DwUkv.nD,
      r.2.mem ((c.tc : Thread Cert.DwUkv.nD Cert.DwUkv.τ).loc Cert.DwUkv.main_arg0) = m ((c.tc : Thread Cert.DwUkv.nD Cert.DwUkv.τ).loc Cert.DwUkv.main_arg0)
      ∧ r.2.mem ((c.tc : Thread Cert.DwUkv.nD Cert.DwUkv.τ).loc Cert.DwUkv.main_arg1) = m ((c.tc : Thread Cert.DwUkv.nD Cert.DwUkv.τ).loc Cert.DwUkv.main_arg1))
      ∧ r.2.sem = fun _ => 0)

def quiescent_DwUkvIdeal [hDwUkvIdeal : Cert.DwUkvIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg), Pre_DwUkvIdeal m →
    θ_run (Cert.DwUkvIdeal.defs (F := Ideal)) (onTc (τ := Cert.DwUkvIdeal.τ) (Cert.DwUkvIdeal.main (F := Ideal))) ⟨m, fun _ => 0, g⟩ (fun r => (∀ c : Dev Cert.DwUkvIdeal.nD,
      r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
      ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ r.2.sem = fun _ => 0)

def quiescent_DwUkvRefIdeal [hDwUkvRefIdeal : Cert.DwUkvRefIdeal.Facts] : Prop :=
  ∀ (m : (ℓ : Loc Cert.DwUkvRefIdeal.nD Cert.DwUkvRefIdeal.τ Cert.DwUkvRefIdeal.sig) → Buf (Elt Ideal) ℓ) (g : Dev Cert.DwUkvRefIdeal.nD → PrngReg), Pre_DwUkvRefIdeal m →
    θ_run (Cert.DwUkvRefIdeal.defs (F := Ideal)) (onTc (τ := Cert.DwUkvRefIdeal.τ) (Cert.DwUkvRefIdeal.main (F := Ideal))) ⟨m, fun _ => 0, g⟩ (fun r => (∀ c : Dev Cert.DwUkvRefIdeal.nD,
      r.2.mem ((c.tc : Thread Cert.DwUkvRefIdeal.nD Cert.DwUkvRefIdeal.τ).loc Cert.DwUkvRefIdeal.main_arg0) = m ((c.tc : Thread Cert.DwUkvRefIdeal.nD Cert.DwUkvRefIdeal.τ).loc Cert.DwUkvRefIdeal.main_arg0)
      ∧ r.2.mem ((c.tc : Thread Cert.DwUkvRefIdeal.nD Cert.DwUkvRefIdeal.τ).loc Cert.DwUkvRefIdeal.main_arg1) = m ((c.tc : Thread Cert.DwUkvRefIdeal.nD Cert.DwUkvRefIdeal.τ).loc Cert.DwUkvRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_scores [hMlaIdeal : Cert.MlaIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_scores m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_scores [hMlaRefIdeal : Cert.MlaRefIdeal.Facts] [hPre_finite_scores : Cert.Pre_finite_scores.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_scores m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Dq_DqIdeal : Prop :=
  True

def algebraic_DqIdeal_DqRefIdeal_pre_finite [hDqIdeal : Cert.DqIdeal.Facts] [hDqRefIdeal : Cert.DqRefIdeal.Facts] [hPre_finite : Cert.Pre_finite.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.DqRefIdeal.nD Cert.DqRefIdeal.τ Cert.DqRefIdeal.sig) → Buf (Elt Ideal) ℓ) (g' : Dev Cert.DqRefIdeal.nD → PrngReg), Pre_DqIdeal_finite m →
    (∀ c : Dev Cert.DqIdeal.nD,
      m' ((c.tc : Thread Cert.DqRefIdeal.nD Cert.DqRefIdeal.τ).loc Cert.DqRefIdeal.main_arg0) = m ((c.tc : Thread Cert.DqIdeal.nD Cert.DqIdeal.τ).loc Cert.DqIdeal.main_arg0)
      ∧ m' ((c.tc : Thread Cert.DqRefIdeal.nD Cert.DqRefIdeal.τ).loc Cert.DqRefIdeal.main_arg1) = m ((c.tc : Thread Cert.DqIdeal.nD Cert.DqIdeal.τ).loc Cert.DqIdeal.main_arg1)
      ∧ m' ((c.tc : Thread Cert.DqRefIdeal.nD Cert.DqRefIdeal.τ).loc Cert.DqRefIdeal.main_arg2) = m ((c.tc : Thread Cert.DqIdeal.nD Cert.DqIdeal.τ).loc Cert.DqIdeal.main_arg2)
      ∧ m' ((c.tc : Thread Cert.DqRefIdeal.nD Cert.DqRefIdeal.τ).loc Cert.DqRefIdeal.main_arg3) = m ((c.tc : Thread Cert.DqIdeal.nD Cert.DqIdeal.τ).loc Cert.DqIdeal.main_arg3)) →
    ∃ (v0 : (c : Dev Cert.DqIdeal.nD) → Buf (Elt Ideal) ((c.tc : Thread Cert.DqIdeal.nD Cert.DqIdeal.τ).loc Cert.DqIdeal.main_v42)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v42) = v0 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
          ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
          ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ θ_run (Cert.DqRefIdeal.defs (F := Ideal)) (onTc (τ := Cert.DqRefIdeal.τ) (Cert.DqRefIdeal.main (F := Ideal))) ⟨m', fun _ => 0, g'⟩ (fun r => ∀ c : Dev Cert.DqRefIdeal.nD,
          r.2.mem ((c.tc : Thread Cert.DqRefIdeal.nD Cert.DqRefIdeal.τ).loc Cert.DqRefIdeal.main_v71) = v0 c
          ∧ r.2.mem ((c.tc : Thread Cert.DqRefIdeal.nD Cert.DqRefIdeal.τ).loc Cert.DqRefIdeal.main_arg0) = m' ((c.tc : Thread Cert.DqRefIdeal.nD Cert.DqRefIdeal.τ).loc Cert.DqRefIdeal.main_arg0)
          ∧ r.2.mem ((c.tc : Thread Cert.DqRefIdeal.nD Cert.DqRefIdeal.τ).loc Cert.DqRefIdeal.main_arg1) = m' ((c.tc : Thread Cert.DqRefIdeal.nD Cert.DqRefIdeal.τ).loc Cert.DqRefIdeal.main_arg1)
          ∧ r.2.mem ((c.tc : Thread Cert.DqRefIdeal.nD Cert.DqRefIdeal.τ).loc Cert.DqRefIdeal.main_arg2) = m' ((c.tc : Thread Cert.DqRefIdeal.nD Cert.DqRefIdeal.τ).loc Cert.DqRefIdeal.main_arg2)
          ∧ r.2.mem ((c.tc : Thread Cert.DqRefIdeal.nD Cert.DqRefIdeal.τ).loc Cert.DqRefIdeal.main_arg3) = m' ((c.tc : Thread Cert.DqRefIdeal.nD Cert.DqRefIdeal.τ).loc Cert.DqRefIdeal.main_arg3))

def preserves_Dkv_DkvIdeal : Prop :=
  IdealRules.named_const.Statement Cert.DkvIdeal.κ "ln2" .f32 0x3F317218#32 ((Real.log 2 : ℝ) : EReal)

def algebraic_DkvIdeal_DkvRefIdeal_pre_finite [hDkvIdeal : Cert.DkvIdeal.Facts] [hDkvRefIdeal : Cert.DkvRefIdeal.Facts] [hPre_finite : Cert.Pre_finite.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal_finite m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)
      ∧ m' ((c.tc : Thread Cert.DkvRefIdeal.nD Cert.DkvRefIdeal.τ).loc Cert.DkvRefIdeal.main_arg2) = m ((c.tc : Thread Cert.DkvIdeal.nD Cert.DkvIdeal.τ).loc Cert.DkvIdeal.main_arg2)
      ∧ m' ((c.tc : Thread Cert.DkvRefIdeal.nD Cert.DkvRefIdeal.τ).loc Cert.DkvRefIdeal.main_arg3) = m ((c.tc : Thread Cert.DkvIdeal.nD Cert.DkvIdeal.τ).loc Cert.DkvIdeal.main_arg3)) →
    ∃ (v0 : (c : Dev Cert.DkvIdeal.nD) → Buf (Elt Ideal) ((c.tc : Thread Cert.DkvIdeal.nD Cert.DkvIdeal.τ).loc Cert.DkvIdeal.main_v41_0)) (v1 : (c : Dev Cert.DkvIdeal.nD) → Buf (Elt Ideal) ((c.tc : Thread Cert.DkvIdeal.nD Cert.DkvIdeal.τ).loc Cert.DkvIdeal.main_v41_1)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v41_0) = v0 c
          ∧ r.2.mem ((c.tc : Thread Cert.DkvIdeal.nD Cert.DkvIdeal.τ).loc Cert.DkvIdeal.main_v41_1) = v1 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
          ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
          ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v70) = v0 c
          ∧ r.2.mem ((c.tc : Thread Cert.DkvRefIdeal.nD Cert.DkvRefIdeal.τ).loc Cert.DkvRefIdeal.main_v50) = v1 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1)
          ∧ r.2.mem ((c.tc : Thread Cert.DkvRefIdeal.nD Cert.DkvRefIdeal.τ).loc Cert.DkvRefIdeal.main_arg2) = m' ((c.tc : Thread Cert.DkvRefIdeal.nD Cert.DkvRefIdeal.τ).loc Cert.DkvRefIdeal.main_arg2)
          ∧ r.2.mem ((c.tc : Thread Cert.DkvRefIdeal.nD Cert.DkvRefIdeal.τ).loc Cert.DkvRefIdeal.main_arg3) = m' ((c.tc : Thread Cert.DkvRefIdeal.nD Cert.DkvRefIdeal.τ).loc Cert.DkvRefIdeal.main_arg3))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v7) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v6) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v7) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1))

def preserves_Dycat_DycatIdeal : Prop :=
  True

def algebraic_DycatIdeal_DycatRefIdeal [hDycatIdeal : Cert.DycatIdeal.Facts] [hDycatRefIdeal : Cert.DycatRefIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.DycatRefIdeal.nD Cert.DycatRefIdeal.τ Cert.DycatRefIdeal.sig) → Buf (Elt Ideal) ℓ) (g' : Dev Cert.DycatRefIdeal.nD → PrngReg), Pre_DycatIdeal m →
    (∀ c : Dev Cert.DycatIdeal.nD,
      m' ((c.tc : Thread Cert.DycatRefIdeal.nD Cert.DycatRefIdeal.τ).loc Cert.DycatRefIdeal.main_arg0) = m ((c.tc : Thread Cert.DycatIdeal.nD Cert.DycatIdeal.τ).loc Cert.DycatIdeal.main_arg0)
      ∧ m' ((c.tc : Thread Cert.DycatRefIdeal.nD Cert.DycatRefIdeal.τ).loc Cert.DycatRefIdeal.main_arg1) = m ((c.tc : Thread Cert.DycatIdeal.nD Cert.DycatIdeal.τ).loc Cert.DycatIdeal.main_arg1)) →
    ∃ (v0 : (c : Dev Cert.DycatIdeal.nD) → Buf (Elt Ideal) ((c.tc : Thread Cert.DycatIdeal.nD Cert.DycatIdeal.τ).loc Cert.DycatIdeal.main_v0)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v0) = v0 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ θ_run (Cert.DycatRefIdeal.defs (F := Ideal)) (onTc (τ := Cert.DycatRefIdeal.τ) (Cert.DycatRefIdeal.main (F := Ideal))) ⟨m', fun _ => 0, g'⟩ (fun r => ∀ c : Dev Cert.DycatRefIdeal.nD,
          r.2.mem ((c.tc : Thread Cert.DycatRefIdeal.nD Cert.DycatRefIdeal.τ).loc Cert.DycatRefIdeal.main_v6) = v0 c
          ∧ r.2.mem ((c.tc : Thread Cert.DycatRefIdeal.nD Cert.DycatRefIdeal.τ).loc Cert.DycatRefIdeal.main_arg0) = m' ((c.tc : Thread Cert.DycatRefIdeal.nD Cert.DycatRefIdeal.τ).loc Cert.DycatRefIdeal.main_arg0)
          ∧ r.2.mem ((c.tc : Thread Cert.DycatRefIdeal.nD Cert.DycatRefIdeal.τ).loc Cert.DycatRefIdeal.main_arg1) = m' ((c.tc : Thread Cert.DycatRefIdeal.nD Cert.DycatRefIdeal.τ).loc Cert.DycatRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwUq_DwUqIdeal : Prop :=
  True

def algebraic_DwUqIdeal_DwUqRefIdeal [hDwUqIdeal : Cert.DwUqIdeal.Facts] [hDwUqRefIdeal : Cert.DwUqRefIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.DwUqRefIdeal.nD Cert.DwUqRefIdeal.τ Cert.DwUqRefIdeal.sig) → Buf (Elt Ideal) ℓ) (g' : Dev Cert.DwUqRefIdeal.nD → PrngReg), Pre_DwUqIdeal m →
    (∀ c : Dev Cert.DwUqIdeal.nD,
      m' ((c.tc : Thread Cert.DwUqRefIdeal.nD Cert.DwUqRefIdeal.τ).loc Cert.DwUqRefIdeal.main_arg0) = m ((c.tc : Thread Cert.DwUqIdeal.nD Cert.DwUqIdeal.τ).loc Cert.DwUqIdeal.main_arg0)
      ∧ m' ((c.tc : Thread Cert.DwUqRefIdeal.nD Cert.DwUqRefIdeal.τ).loc Cert.DwUqRefIdeal.main_arg1) = m ((c.tc : Thread Cert.DwUqIdeal.nD Cert.DwUqIdeal.τ).loc Cert.DwUqIdeal.main_arg1)) →
    ∃ (v0 : (c : Dev Cert.DwUqIdeal.nD) → Buf (Elt Ideal) ((c.tc : Thread Cert.DwUqIdeal.nD Cert.DwUqIdeal.τ).loc Cert.DwUqIdeal.main_v0)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v0) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ θ_run (Cert.DwUqRefIdeal.defs (F := Ideal)) (onTc (τ := Cert.DwUqRefIdeal.τ) (Cert.DwUqRefIdeal.main (F := Ideal))) ⟨m', fun _ => 0, g'⟩ (fun r => ∀ c : Dev Cert.DwUqRefIdeal.nD,
          r.2.mem ((c.tc : Thread Cert.DwUqRefIdeal.nD Cert.DwUqRefIdeal.τ).loc Cert.DwUqRefIdeal.main_v7) = v0 c
          ∧ r.2.mem ((c.tc : Thread Cert.DwUqRefIdeal.nD Cert.DwUqRefIdeal.τ).loc Cert.DwUqRefIdeal.main_arg0) = m' ((c.tc : Thread Cert.DwUqRefIdeal.nD Cert.DwUqRefIdeal.τ).loc Cert.DwUqRefIdeal.main_arg0)
          ∧ r.2.mem ((c.tc : Thread Cert.DwUqRefIdeal.nD Cert.DwUqRefIdeal.τ).loc Cert.DwUqRefIdeal.main_arg1) = m' ((c.tc : Thread Cert.DwUqRefIdeal.nD Cert.DwUqRefIdeal.τ).loc Cert.DwUqRefIdeal.main_arg1))

def preserves_DwUkv_DwUkvIdeal : Prop :=
  True

def algebraic_DwUkvIdeal_DwUkvRefIdeal [hDwUkvIdeal : Cert.DwUkvIdeal.Facts] [hDwUkvRefIdeal : Cert.DwUkvRefIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg)
    (m' : (ℓ : Loc Cert.DwUkvRefIdeal.nD Cert.DwUkvRefIdeal.τ Cert.DwUkvRefIdeal.sig) → Buf (Elt Ideal) ℓ) (g' : Dev Cert.DwUkvRefIdeal.nD → PrngReg), Pre_DwUkvIdeal m →
    (∀ c : Dev Cert.DwUkvIdeal.nD,
      m' ((c.tc : Thread Cert.DwUkvRefIdeal.nD Cert.DwUkvRefIdeal.τ).loc Cert.DwUkvRefIdeal.main_arg0) = m ((c.tc : Thread Cert.DwUkvIdeal.nD Cert.DwUkvIdeal.τ).loc Cert.DwUkvIdeal.main_arg0)
      ∧ m' ((c.tc : Thread Cert.DwUkvRefIdeal.nD Cert.DwUkvRefIdeal.τ).loc Cert.DwUkvRefIdeal.main_arg1) = m ((c.tc : Thread Cert.DwUkvIdeal.nD Cert.DwUkvIdeal.τ).loc Cert.DwUkvIdeal.main_arg1)) →
    ∃ (v0 : (c : Dev Cert.DwUkvIdeal.nD) → Buf (Elt Ideal) ((c.tc : Thread Cert.DwUkvIdeal.nD Cert.DwUkvIdeal.τ).loc Cert.DwUkvIdeal.main_v0)),
      θ_run (Cert.DwUkvIdeal.defs (F := Ideal)) (onTc (τ := Cert.DwUkvIdeal.τ) (Cert.DwUkvIdeal.main (F := Ideal))) ⟨m, fun _ => 0, g⟩ (fun r => ∀ c : Dev Cert.DwUkvIdeal.nD,
          r.2.mem ((c.tc : Thread Cert.DwUkvIdeal.nD Cert.DwUkvIdeal.τ).loc Cert.DwUkvIdeal.main_v0) = v0 c
          ∧ r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
          ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ θ_run (Cert.DwUkvRefIdeal.defs (F := Ideal)) (onTc (τ := Cert.DwUkvRefIdeal.τ) (Cert.DwUkvRefIdeal.main (F := Ideal))) ⟨m', fun _ => 0, g'⟩ (fun r => ∀ c : Dev Cert.DwUkvRefIdeal.nD,
          r.2.mem ((c.tc : Thread Cert.DwUkvRefIdeal.nD Cert.DwUkvRefIdeal.τ).loc Cert.DwUkvRefIdeal.main_v7) = v0 c
          ∧ r.2.mem ((c.tc : Thread Cert.DwUkvRefIdeal.nD Cert.DwUkvRefIdeal.τ).loc Cert.DwUkvRefIdeal.main_arg0) = m' ((c.tc : Thread Cert.DwUkvRefIdeal.nD Cert.DwUkvRefIdeal.τ).loc Cert.DwUkvRefIdeal.main_arg0)
          ∧ r.2.mem ((c.tc : Thread Cert.DwUkvRefIdeal.nD Cert.DwUkvRefIdeal.τ).loc Cert.DwUkvRefIdeal.main_arg1) = m' ((c.tc : Thread Cert.DwUkvRefIdeal.nD Cert.DwUkvRefIdeal.τ).loc Cert.DwUkvRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Mla_MlaIdeal : Prop :=
  IdealRules.named_const.Statement Cert.MlaIdeal.κ "log2e" .f32 0x3FB8AA3B#32 (((Real.log 2)⁻¹ : ℝ) : EReal)

def algebraic_MlaIdeal_MlaRefIdeal_pre_finite_scores [hMlaIdeal : Cert.MlaIdeal.Facts] [hMlaRefIdeal : Cert.MlaRefIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_scores m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v9_0)) (v1 : (c : Dev Cert.MlaIdeal.nD) → Buf (Elt Ideal) ((c.tc : Thread Cert.MlaIdeal.nD Cert.MlaIdeal.τ).loc Cert.MlaIdeal.main_v9_1)) (v2 : (c : Dev Cert.MlaIdeal.nD) → Buf (Elt Ideal) ((c.tc : Thread Cert.MlaIdeal.nD Cert.MlaIdeal.τ).loc Cert.MlaIdeal.main_v9_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v9_0) = v0 c
          ∧ r.2.mem ((c.tc : Thread Cert.MlaIdeal.nD Cert.MlaIdeal.τ).loc Cert.MlaIdeal.main_v9_1) = v1 c
          ∧ r.2.mem ((c.tc : Thread Cert.MlaIdeal.nD Cert.MlaIdeal.τ).loc Cert.MlaIdeal.main_v9_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v24) = v0 c
          ∧ r.2.mem ((c.tc : Thread Cert.MlaRefIdeal.nD Cert.MlaRefIdeal.τ).loc Cert.MlaRefIdeal.main_v33) = v1 c
          ∧ r.2.mem ((c.tc : Thread Cert.MlaRefIdeal.nD Cert.MlaRefIdeal.τ).loc Cert.MlaRefIdeal.main_v36) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)) (v4 : (c : Dev Cert.NormIdeal.nD) → Buf (Elt Ideal) ((c.tc : Thread Cert.NormIdeal.nD Cert.NormIdeal.τ).loc Cert.NormIdeal.main_v0_4)) (v5 : (c : Dev Cert.NormIdeal.nD) → Buf (Elt Ideal) ((c.tc : Thread Cert.NormIdeal.nD Cert.NormIdeal.τ).loc Cert.NormIdeal.main_v0_5)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_v0_4) = v4 c
          ∧ r.2.mem ((c.tc : Thread Cert.NormIdeal.nD Cert.NormIdeal.τ).loc Cert.NormIdeal.main_v0_5) = v5 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v49) = v0 c
          ∧ r.2.mem ((c.tc : Thread Cert.NormRefIdeal.nD Cert.NormRefIdeal.τ).loc Cert.NormRefIdeal.main_v32) = v1 c
          ∧ r.2.mem ((c.tc : Thread Cert.NormRefIdeal.nD Cert.NormRefIdeal.τ).loc Cert.NormRefIdeal.main_v27) = v2 c
          ∧ r.2.mem ((c.tc : Thread Cert.NormRefIdeal.nD Cert.NormRefIdeal.τ).loc Cert.NormRefIdeal.main_v24) = v3 c
          ∧ r.2.mem ((c.tc : Thread Cert.NormRefIdeal.nD Cert.NormRefIdeal.τ).loc Cert.NormRefIdeal.main_v57) = v4 c
          ∧ r.2.mem ((c.tc : Thread Cert.NormRefIdeal.nD Cert.NormRefIdeal.τ).loc Cert.NormRefIdeal.main_v56) = v5 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def Claim : Prop :=
  ∃ (hDwUp : Cert.DwUp.Facts) (hDwUpIdeal : Cert.DwUpIdeal.Facts) (hDwUpRefIdeal : Cert.DwUpRefIdeal.Facts) (hDq : Cert.Dq.Facts) (hDqIdeal : Cert.DqIdeal.Facts) (hDqRefIdeal : Cert.DqRefIdeal.Facts) (hDkv : Cert.Dkv.Facts) (hDkvIdeal : Cert.DkvIdeal.Facts) (hDkvRefIdeal : Cert.DkvRefIdeal.Facts) (hDh2 : Cert.Dh2.Facts) (hDh2Ideal : Cert.Dh2Ideal.Facts) (hDh2RefIdeal : Cert.Dh2RefIdeal.Facts) (hDact : Cert.Dact.Facts) (hDactIdeal : Cert.DactIdeal.Facts) (hDactRefIdeal : Cert.DactRefIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hDh1 : Cert.Dh1.Facts) (hDh1Ideal : Cert.Dh1Ideal.Facts) (hDh1RefIdeal : Cert.Dh1RefIdeal.Facts) (hDycat : Cert.Dycat.Facts) (hDycatIdeal : Cert.DycatIdeal.Facts) (hDycatRefIdeal : Cert.DycatRefIdeal.Facts) (hDwOut : Cert.DwOut.Facts) (hDwOutIdeal : Cert.DwOutIdeal.Facts) (hDwOutRefIdeal : Cert.DwOutRefIdeal.Facts) (hDwUq : Cert.DwUq.Facts) (hDwUqIdeal : Cert.DwUqIdeal.Facts) (hDwUqRefIdeal : Cert.DwUqRefIdeal.Facts) (hDwUkv : Cert.DwUkv.Facts) (hDwUkvIdeal : Cert.DwUkvIdeal.Facts) (hDwUkvRefIdeal : Cert.DwUkvRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hMla : Cert.Mla.Facts) (hMlaIdeal : Cert.MlaIdeal.Facts) (hMlaRefIdeal : Cert.MlaRefIdeal.Facts) (hNorm : Cert.Norm.Facts) (hNormIdeal : Cert.NormIdeal.Facts) (hNormRefIdeal : Cert.NormRefIdeal.Facts) (hPre_finite : Cert.Pre_finite.Facts) (hPre_finite_scores : Cert.Pre_finite_scores.Facts),
    quiescent_DwUp (hDwUp := hDwUp)
    ∧ quiescent_DwUpIdeal (hDwUpIdeal := hDwUpIdeal)
    ∧ quiescent_DwUpRefIdeal (hDwUpRefIdeal := hDwUpRefIdeal)
    ∧ quiescent_Dq (hDq := hDq)
    ∧ quiescent_DqIdeal (hDqIdeal := hDqIdeal)
    ∧ quiescent_DqIdeal_pre_finite (hDqIdeal := hDqIdeal) (hPre_finite := hPre_finite)
    ∧ quiescent_DqRefIdeal (hDqRefIdeal := hDqRefIdeal)
    ∧ quiescent_DqRefIdeal_pre_finite (hDqRefIdeal := hDqRefIdeal) (hPre_finite := hPre_finite)
    ∧ quiescent_Dkv (hDkv := hDkv)
    ∧ quiescent_DkvIdeal (hDkvIdeal := hDkvIdeal)
    ∧ quiescent_DkvIdeal_pre_finite (hDkvIdeal := hDkvIdeal) (hPre_finite := hPre_finite)
    ∧ quiescent_DkvRefIdeal (hDkvRefIdeal := hDkvRefIdeal)
    ∧ quiescent_DkvRefIdeal_pre_finite (hDkvRefIdeal := hDkvRefIdeal) (hPre_finite := hPre_finite)
    ∧ quiescent_Dh2 (hDh2 := hDh2)
    ∧ quiescent_Dh2Ideal (hDh2Ideal := hDh2Ideal)
    ∧ quiescent_Dh2RefIdeal (hDh2RefIdeal := hDh2RefIdeal)
    ∧ quiescent_Dact (hDact := hDact)
    ∧ quiescent_DactIdeal (hDactIdeal := hDactIdeal)
    ∧ quiescent_DactRefIdeal (hDactRefIdeal := hDactRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Dycat (hDycat := hDycat)
    ∧ quiescent_DycatIdeal (hDycatIdeal := hDycatIdeal)
    ∧ quiescent_DycatRefIdeal (hDycatRefIdeal := hDycatRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwUq (hDwUq := hDwUq)
    ∧ quiescent_DwUqIdeal (hDwUqIdeal := hDwUqIdeal)
    ∧ quiescent_DwUqRefIdeal (hDwUqRefIdeal := hDwUqRefIdeal)
    ∧ quiescent_DwUkv (hDwUkv := hDwUkv)
    ∧ quiescent_DwUkvIdeal (hDwUkvIdeal := hDwUkvIdeal)
    ∧ quiescent_DwUkvRefIdeal (hDwUkvRefIdeal := hDwUkvRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Mla (hMla := hMla)
    ∧ quiescent_MlaIdeal (hMlaIdeal := hMlaIdeal)
    ∧ quiescent_MlaIdeal_pre_finite_scores (hMlaIdeal := hMlaIdeal) (hPre_finite_scores := hPre_finite_scores)
    ∧ quiescent_MlaRefIdeal (hMlaRefIdeal := hMlaRefIdeal)
    ∧ quiescent_MlaRefIdeal_pre_finite_scores (hMlaRefIdeal := hMlaRefIdeal) (hPre_finite_scores := hPre_finite_scores)
    ∧ quiescent_Norm (hNorm := hNorm)
    ∧ quiescent_NormIdeal (hNormIdeal := hNormIdeal)
    ∧ quiescent_NormRefIdeal (hNormRefIdeal := hNormRefIdeal)
    ∧ preserves_DwUp_DwUpIdeal
    ∧ algebraic_DwUpIdeal_DwUpRefIdeal (hDwUpIdeal := hDwUpIdeal) (hDwUpRefIdeal := hDwUpRefIdeal)
    ∧ preserves_Dq_DqIdeal
    ∧ algebraic_DqIdeal_DqRefIdeal_pre_finite (hDqIdeal := hDqIdeal) (hDqRefIdeal := hDqRefIdeal) (hPre_finite := hPre_finite)
    ∧ preserves_Dkv_DkvIdeal
    ∧ algebraic_DkvIdeal_DkvRefIdeal_pre_finite (hDkvIdeal := hDkvIdeal) (hDkvRefIdeal := hDkvRefIdeal) (hPre_finite := hPre_finite)
    ∧ preserves_Dh2_Dh2Ideal
    ∧ algebraic_Dh2Ideal_Dh2RefIdeal (hDh2Ideal := hDh2Ideal) (hDh2RefIdeal := hDh2RefIdeal)
    ∧ preserves_Dact_DactIdeal
    ∧ algebraic_DactIdeal_DactRefIdeal (hDactIdeal := hDactIdeal) (hDactRefIdeal := hDactRefIdeal)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_Dh1_Dh1Ideal
    ∧ algebraic_Dh1Ideal_Dh1RefIdeal (hDh1Ideal := hDh1Ideal) (hDh1RefIdeal := hDh1RefIdeal)
    ∧ preserves_Dycat_DycatIdeal
    ∧ algebraic_DycatIdeal_DycatRefIdeal (hDycatIdeal := hDycatIdeal) (hDycatRefIdeal := hDycatRefIdeal)
    ∧ preserves_DwOut_DwOutIdeal
    ∧ algebraic_DwOutIdeal_DwOutRefIdeal (hDwOutIdeal := hDwOutIdeal) (hDwOutRefIdeal := hDwOutRefIdeal)
    ∧ preserves_DwUq_DwUqIdeal
    ∧ algebraic_DwUqIdeal_DwUqRefIdeal (hDwUqIdeal := hDwUqIdeal) (hDwUqRefIdeal := hDwUqRefIdeal)
    ∧ preserves_DwUkv_DwUkvIdeal
    ∧ algebraic_DwUkvIdeal_DwUkvRefIdeal (hDwUkvIdeal := hDwUkvIdeal) (hDwUkvRefIdeal := hDwUkvRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Mla_MlaIdeal
    ∧ algebraic_MlaIdeal_MlaRefIdeal_pre_finite_scores (hMlaIdeal := hMlaIdeal) (hMlaRefIdeal := hMlaRefIdeal) (hPre_finite_scores := hPre_finite_scores)
    ∧ preserves_Norm_NormIdeal
    ∧ algebraic_NormIdeal_NormRefIdeal (hNormIdeal := hNormIdeal) (hNormRefIdeal := hNormRefIdeal)
-- ==== Pre_finite.lean ====
abbrev S4096x512 : Shape := ⟨2, ![4096, 512]⟩
abbrev S4096x1536 : Shape := ⟨2, ![4096, 1536]⟩
abbrev S_ : Shape := ⟨0, ![]⟩

class Facts : Prop where
  bcast_S_S4096x512 : S_.BroadcastsInDim S4096x512 (![] : Fin 0 → Fin S4096x512.rank)
  slices_S4096x1536_S4096x512_0_512 : S4096x1536.Slices ![0, 512] S4096x512

variable [Facts]

def fn {F : FTy → Type} [FloatOps F] (main_arg0 : FVec F S4096x512 .f32) (main_arg1 : FVec F S4096x512 .f32) (main_arg2 : FVec F S4096x512 .f32) (main_arg3 : FVec F S4096x1536 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  let main_v7 : FVec F S4096x512 .f32 := Host.absf main_arg2
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : IVec S4096x512 1 := andi main_v6 main_v9
  let main_v11 : FVec F S4096x512 .f32 := (extractStridedSlice S4096x512 ![0, 512] · slices_S4096x1536_S4096x512_0_512) main_arg3
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_v15 : IVec S4096x512 1 := andi main_v10 main_v14
  main_v15
-- ==== Pre_finite_scores.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S4096x512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  main_v6
-- ==== DwUp.lean ====
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | .hbm, ⟨10, _⟩ => ⟨S5632x1024, .f32⟩
  | .hbm, ⟨11, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dq.lean ====
abbrev S4096x512 : Shape := ⟨2, ![4096, 512]⟩
abbrev S4096x1536 : Shape := ⟨2, ![4096, 1536]⟩
abbrev S10 : Shape := ⟨1, ![10]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4096x4 : Shape := ⟨2, ![4096, 4]⟩
abbrev S4096x4x1 : Shape := ⟨3, ![4096, 4, 1]⟩
abbrev S1024x128 : Shape := ⟨2, ![1024, 128]⟩
abbrev S1 : Shape := ⟨1, ![1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 57
  | .vmem => 15
  | .smem => 2
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1536, .f32⟩
  | .hbm, ⟨4, _⟩ => ⟨S4096x4x128, .f32⟩
  | .hbm, ⟨5, _⟩ => ⟨S4096x4x128, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4x4096x4096, .i1⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4096x4x128, .f32⟩
  | .hbm, ⟨33, _⟩ => ⟨S4x128x4096, .f32⟩
  | .hbm, ⟨34, _⟩ => ⟨S4096x4x128, .f32⟩
  | .hbm, ⟨35, _⟩ => ⟨S4096x512, .f32⟩
  | .hbm, ⟨36, _⟩ => ⟨S4x4096, .f32⟩
  | .hbm, ⟨37, _⟩ => ⟨S4x4096, .f32⟩
  | .hbm, ⟨38, _⟩ => ⟨S_, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4096x4, .f32⟩
  | .hbm, ⟨43, _⟩ => ⟨S4096x4x1, .f32⟩
  | .hbm, ⟨44, _⟩ => ⟨S4096x4x128, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S4096x512, .bf16⟩
  | .hbm, ⟨54, _⟩ => ⟨S4096x512, .bf16⟩
  | .hbm, ⟨55, _⟩ => ⟨S4096x512, .bf16⟩
  | .hbm, ⟨56, _⟩ => ⟨S4096x512, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .smem, ⟨0, _⟩ => ⟨S10, .i32⟩
  | .local _ .smem, ⟨1, _⟩ => ⟨S10, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DqRefIdeal.lean ====
abbrev S4096x512 : Shape := ⟨2, ![4096, 512]⟩
abbrev S4096x1536 : Shape := ⟨2, ![4096, 1536]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x4096x128 : Shape := ⟨3, ![4, 4096, 128]⟩

abbrev nBuf : Space → Nat
  | .hbm => 98
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1536, .f32⟩
  | .hbm, ⟨4, _⟩ => ⟨S4096x4x128, .f32⟩
  | .hbm, ⟨5, _⟩ => ⟨S4096x4x128, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4x4096x4096, .i1⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .i1⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .i1⟩
  | .hbm, ⟨37, _⟩ => ⟨S_, .f32⟩
  | .hbm, ⟨38, _⟩ => ⟨S4x4096, .f32⟩
  | .hbm, ⟨39, _⟩ => ⟨S4x4096, .i1⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S_, .f32⟩
  | .hbm, ⟨45, _⟩ => ⟨S4x4096, .f32⟩
  | .hbm, ⟨46, _⟩ => ⟨S4x4096, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S4x4096x4096, .f32⟩
  | .hbm, ⟨56, _⟩ => ⟨S4x4096x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4096x4x128, .f32⟩
  | .hbm, ⟨62, _⟩ => ⟨S4x128x4096, .f32⟩
  | .hbm, ⟨63, _⟩ => ⟨S4096x4x128, .f32⟩
  | .hbm, ⟨64, _⟩ => ⟨S4096x512, .f32⟩
  | .hbm, ⟨65, _⟩ => ⟨S4096x512, .f32⟩
  | .hbm, ⟨66, _⟩ => ⟨S4096x4x128, .f32⟩
  | .hbm, ⟨67, _⟩ => ⟨S4x128x4096, .f32⟩
  | .hbm, ⟨68, _⟩ => ⟨S4x4096x4096, .f32⟩
  | .hbm, ⟨69, _⟩ => ⟨S4x128x4096, .f32⟩
  | .hbm, ⟨70, _⟩ => ⟨S4096x4x128, .f32⟩
  | .hbm, ⟨71, _⟩ => ⟨S4096x512, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S4x4096x1, .f32⟩
  | .hbm, ⟨79, _⟩ => ⟨S4x4096x4096, .f32⟩
  | .hbm, ⟨80, _⟩ => ⟨S4x4096x4096, .f32⟩
  | .hbm, ⟨81, _⟩ => ⟨S_, .f32⟩
  | .hbm, ⟨82, _⟩ => ⟨S4x4096, .f32⟩
  | .hbm, ⟨83, _⟩ => ⟨S4x4096x4096, .f32⟩
  | .hbm, ⟨84, _⟩ => ⟨S4x4096x4096, .f32⟩
  | .hbm, ⟨85, _⟩ => ⟨S4x4096x4096, .f32⟩
  | .hbm, ⟨86, _⟩ => ⟨S_, .f32⟩
  | .hbm, ⟨87, _⟩ => ⟨S4x4096x4096, .f32⟩
  | .hbm, ⟨88, _⟩ => ⟨S4x4096x4096, .f32⟩
  | .hbm, ⟨89, _⟩ => ⟨S_, .f32⟩
  | .hbm, ⟨90, _⟩ => ⟨S4x4096x4096, .f32⟩
  | .hbm, ⟨91, _⟩ => ⟨S4x4096x4096, .f32⟩
  | .hbm, ⟨92, _⟩ => ⟨S4x4096x128, .f32⟩
  | .hbm, ⟨93, _⟩ => ⟨S4096x4x128, .f32⟩
  | .hbm, ⟨94, _⟩ => ⟨S4x4096x128, .f32⟩
  | .hbm, ⟨95, _⟩ => ⟨S4096x4x128, .f32⟩
  | .hbm, ⟨96, _⟩ => ⟨S4096x512, .f32⟩
  | .hbm, ⟨97, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Dkv.lean ====
abbrev S4096x512 : Shape := ⟨2, ![4096, 512]⟩
abbrev S4096x1536 : Shape := ⟨2, ![4096, 1536]⟩
abbrev S10 : Shape := ⟨1, ![10]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x1x4096 : Shape := ⟨3, ![4, 1, 4096]⟩
abbrev S4x8x4096 : Shape := ⟨3, ![4, 8, 4096]⟩
abbrev S32x4096 : Shape := ⟨2, ![32, 4096]⟩
abbrev S1024x128 : Shape := ⟨2, ![1024, 128]⟩
abbrev S1 : Shape := ⟨1, ![1]⟩
abbrev S8x1024 : Shape := ⟨2, ![8, 1024]⟩
abbrev S8x128 : Shape := ⟨2, ![8, 128]⟩
abbrev S1x1024 : Shape := ⟨2, ![1, 1024]⟩
abbrev S1024x1024 : Shape := ⟨2, ![1024, 1024]⟩

abbrev nBuf : Space → Nat
  | .hbm => 57
  | .vmem => 18
  | .smem => 2
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1536, .f32⟩
  | .hbm, ⟨4, _⟩ => ⟨S4096x4x128, .f32⟩
  | .hbm, ⟨5, _⟩ => ⟨S4096x4x128, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4x4096x4096, .i1⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4096x4x128, .f32⟩
  | .hbm, ⟨33, _⟩ => ⟨S4x128x4096, .f32⟩
  | .hbm, ⟨34, _⟩ => ⟨S4096x4x128, .f32⟩
  | .hbm, ⟨35, _⟩ => ⟨S4096x512, .f32⟩
  | .hbm, ⟨36, _⟩ => ⟨S4x4096, .f32⟩
  | .hbm, ⟨37, _⟩ => ⟨S4x4096, .f32⟩
  | .hbm, ⟨38, _⟩ => ⟨S_, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4x1x4096, .f32⟩
  | .hbm, ⟨43, _⟩ => ⟨S4x8x4096, .f32⟩
  | .hbm, ⟨44, _⟩ => ⟨S32x4096, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S4096x512, .bf16⟩
  | .hbm, ⟨53, _⟩ => ⟨S4096x512, .bf16⟩
  | .hbm, ⟨54, _⟩ => ⟨S4096x512, .bf16⟩
  | .hbm, ⟨55, _⟩ => ⟨S4096x512, .f32⟩
  | .hbm, ⟨56, _⟩ => ⟨S4096x512, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S8x1024, .f32⟩
  | .local _ .vmem, ⟨9, _⟩ => ⟨S8x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .smem, ⟨0, _⟩ => ⟨S10, .i32⟩
  | .local _ .smem, ⟨1, _⟩ => ⟨S10, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) : BitVec 1 :=
  let c3_i32 : BitVec 32 := 3#32
  let v13 : BitVec 1 := Scalar.cmpi .eq v1 c3_i32
  let v14 : BitVec 32 := Scalar.extui v13
  let c0_i32_2 : BitVec 32 := 0#32
  let v15 : BitVec 1 := Scalar.cmpi .ne v14 c0_i32_2
  v15

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![arg0.toNat, v1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DkvIdeal.lean ====
variable {F : FTy → Type} [FloatOps F] [Named F]
def κ : String → Option EReal := fun
  | "ln2" => some ((Real.log 2 : ℝ) : EReal)
  | _ => none
-- ==== DkvRefIdeal.lean ====
abbrev S4096x512 : Shape := ⟨2, ![4096, 512]⟩
abbrev S4096x1536 : Shape := ⟨2, ![4096, 1536]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x4096x128 : Shape := ⟨3, ![4, 4096, 128]⟩

abbrev nBuf : Space → Nat
  | .hbm => 98
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1536, .f32⟩
  | .hbm, ⟨4, _⟩ => ⟨S4096x4x128, .f32⟩
  | .hbm, ⟨5, _⟩ => ⟨S4096x4x128, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4x4096x4096, .i1⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .i1⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .i1⟩
  | .hbm, ⟨37, _⟩ => ⟨S_, .f32⟩
  | .hbm, ⟨38, _⟩ => ⟨S4x4096, .f32⟩
  | .hbm, ⟨39, _⟩ => ⟨S4x4096, .i1⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S_, .f32⟩
  | .hbm, ⟨45, _⟩ => ⟨S4x4096, .f32⟩
  | .hbm, ⟨46, _⟩ => ⟨S4x4096, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S4x4096x4096, .f32⟩
  | .hbm, ⟨56, _⟩ => ⟨S4x4096x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4096x4x128, .f32⟩
  | .hbm, ⟨62, _⟩ => ⟨S4x128x4096, .f32⟩
  | .hbm, ⟨63, _⟩ => ⟨S4096x4x128, .f32⟩
  | .hbm, ⟨64, _⟩ => ⟨S4096x512, .f32⟩
  | .hbm, ⟨65, _⟩ => ⟨S4096x512, .f32⟩
  | .hbm, ⟨66, _⟩ => ⟨S4096x4x128, .f32⟩
  | .hbm, ⟨67, _⟩ => ⟨S4x128x4096, .f32⟩
  | .hbm, ⟨68, _⟩ => ⟨S4x4096x4096, .f32⟩
  | .hbm, ⟨69, _⟩ => ⟨S4x128x4096, .f32⟩
  | .hbm, ⟨70, _⟩ => ⟨S4096x4x128, .f32⟩
  | .hbm, ⟨71, _⟩ => ⟨S4096x512, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S4x4096x1, .f32⟩
  | .hbm, ⟨79, _⟩ => ⟨S4x4096x4096, .f32⟩
  | .hbm, ⟨80, _⟩ => ⟨S4x4096x4096, .f32⟩
  | .hbm, ⟨81, _⟩ => ⟨S_, .f32⟩
  | .hbm, ⟨82, _⟩ => ⟨S4x4096, .f32⟩
  | .hbm, ⟨83, _⟩ => ⟨S4x4096x4096, .f32⟩
  | .hbm, ⟨84, _⟩ => ⟨S4x4096x4096, .f32⟩
  | .hbm, ⟨85, _⟩ => ⟨S4x4096x4096, .f32⟩
  | .hbm, ⟨86, _⟩ => ⟨S_, .f32⟩
  | .hbm, ⟨87, _⟩ => ⟨S4x4096x4096, .f32⟩
  | .hbm, ⟨88, _⟩ => ⟨S4x4096x4096, .f32⟩
  | .hbm, ⟨89, _⟩ => ⟨S_, .f32⟩
  | .hbm, ⟨90, _⟩ => ⟨S4x4096x4096, .f32⟩
  | .hbm, ⟨91, _⟩ => ⟨S4x4096x4096, .f32⟩
  | .hbm, ⟨92, _⟩ => ⟨S4x4096x128, .f32⟩
  | .hbm, ⟨93, _⟩ => ⟨S4096x4x128, .f32⟩
  | .hbm, ⟨94, _⟩ => ⟨S4x4096x128, .f32⟩
  | .hbm, ⟨95, _⟩ => ⟨S4096x4x128, .f32⟩
  | .hbm, ⟨96, _⟩ => ⟨S4096x512, .f32⟩
  | .hbm, ⟨97, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Dh2.lean ====
abbrev S4096x5632 : Shape := ⟨2, ![4096, 5632]⟩
abbrev S5632x1024 : Shape := ⟨2, ![5632, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S4096x5632 : Shape := ⟨2, ![4096, 5632]⟩
abbrev S5632x1024 : Shape := ⟨2, ![5632, 1024]⟩
abbrev S_ : Shape := ⟨0, ![]⟩
abbrev S4096x1024 : Shape := ⟨2, ![4096, 1024]⟩
abbrev S1024x5632 : Shape := ⟨2, ![1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S_, .f32⟩
  | .hbm, ⟨3, _⟩ => ⟨S4096x1024, .f32⟩
  | .hbm, ⟨4, _⟩ => ⟨S1024x5632, .bf16⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dact.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwIn.lean ====
abbrev S4096x3072 : Shape := ⟨2, ![4096, 3072]⟩
abbrev S4096x1024 : Shape := ⟨2, ![4096, 1024]⟩
abbrev S3072x1024 : Shape := ⟨2, ![3072, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x3072 : Shape := ⟨2, ![4096, 3072]⟩
abbrev S4096x1024 : Shape := ⟨2, ![4096, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S4096x1024, .f32⟩
  | .hbm, ⟨10, _⟩ => ⟨S3072x1024, .f32⟩
  | .hbm, ⟨11, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh1.lean ====
abbrev S4096x3072 : Shape := ⟨2, ![4096, 3072]⟩
abbrev S3072x1024 : Shape := ⟨2, ![3072, 1024]⟩
abbrev S4096x1024 : Shape := ⟨2, ![4096, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1RefIdeal.lean ====
abbrev S4096x3072 : Shape := ⟨2, ![4096, 3072]⟩
abbrev S3072x1024 : Shape := ⟨2, ![3072, 1024]⟩
abbrev S_ : Shape := ⟨0, ![]⟩
abbrev S4096x1024 : Shape := ⟨2, ![4096, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S_, .f32⟩
  | .hbm, ⟨3, _⟩ => ⟨S4096x1024, .f32⟩
  | .hbm, ⟨4, _⟩ => ⟨S1024x3072, .bf16⟩
  | .hbm, ⟨5, _⟩ => ⟨S1024x3072, .f32⟩
  | .hbm, ⟨6, _⟩ => ⟨S4096x3072, .f32⟩
  | .hbm, ⟨7, _⟩ => ⟨S4096x3072, .f32⟩
  | .hbm, ⟨8, _⟩ => ⟨S3072x1024, .f32⟩
  | .hbm, ⟨9, _⟩ => ⟨S1024x3072, .f32⟩
  | .hbm, ⟨10, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dycat.lean ====
abbrev S4096x1024 : Shape := ⟨2, ![4096, 1024]⟩
abbrev S1536x1024 : Shape := ⟨2, ![1536, 1024]⟩
abbrev S4096x1536 : Shape := ⟨2, ![4096, 1536]⟩
abbrev S2048x1024 : Shape := ⟨2, ![2048, 1024]⟩
abbrev S2048x1536 : Shape := ⟨2, ![2048, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .f32⟩
  | .local _ .vmem, ⟨0, _⟩ => ⟨S2048x1024, .bf16⟩
  | .local _ .vmem, ⟨1, _⟩ => ⟨S2048x1024, .bf16⟩
  | .local _ .vmem, ⟨2, _⟩ => ⟨S1536x1024, .bf16⟩
  | .local _ .vmem, ⟨3, _⟩ => ⟨S2048x1536, .f32⟩
  | .local _ .vmem, ⟨4, _⟩ => ⟨S2048x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DycatRefIdeal.lean ====
abbrev S4096x1024 : Shape := ⟨2, ![4096, 1024]⟩
abbrev S1536x1024 : Shape := ⟨2, ![1536, 1024]⟩
abbrev S_ : Shape := ⟨0, ![]⟩
abbrev S4096x1536 : Shape := ⟨2, ![4096, 1536]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S_, .f32⟩
  | .hbm, ⟨3, _⟩ => ⟨S4096x1536, .f32⟩
  | .hbm, ⟨4, _⟩ => ⟨S1536x1024, .f32⟩
  | .hbm, ⟨5, _⟩ => ⟨S4096x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S4096x1536 : Shape := ⟨2, ![4096, 1536]⟩
abbrev S4096x1024 : Shape := ⟨2, ![4096, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S_, .f32⟩
  | .hbm, ⟨4, _⟩ => ⟨S1536x1024, .f32⟩
  | .hbm, ⟨5, _⟩ => ⟨S4096x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S4096x1536, .f32⟩
  | .hbm, ⟨10, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwUq.lean ====
abbrev S4096x256 : Shape := ⟨2, ![4096, 256]⟩
abbrev S4096x512 : Shape := ⟨2, ![4096, 512]⟩
abbrev S256x512 : Shape := ⟨2, ![256, 512]⟩
abbrev S1024x256 : Shape := ⟨2, ![1024, 256]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S256x512, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S256x512, .bf16⟩
  | .local _ .vmem, ⟨5, _⟩ => ⟨S256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUqRefIdeal.lean ====
abbrev S4096x256 : Shape := ⟨2, ![4096, 256]⟩
abbrev S4096x512 : Shape := ⟨2, ![4096, 512]⟩
abbrev S_ : Shape := ⟨0, ![]⟩
abbrev S256x512 : Shape := ⟨2, ![256, 512]⟩
abbrev S512x256 : Shape := ⟨2, ![512, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S4096x256, .f32⟩
  | .hbm, ⟨3, _⟩ => ⟨S_, .f32⟩
  | .hbm, ⟨4, _⟩ => ⟨S256x512, .f32⟩
  | .hbm, ⟨5, _⟩ => ⟨S4096x512, .f32⟩
  | .hbm, ⟨6, _⟩ => ⟨S4096x512, .f32⟩
  | .hbm, ⟨7, _⟩ => ⟨S512x256, .f32⟩
  | .hbm, ⟨8, _⟩ => ⟨S256x512, .f32⟩
  | .hbm, ⟨9, _⟩ => ⟨S4096x256, .f32⟩
  | .hbm, ⟨10, _⟩ => ⟨S256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwUkv.lean ====
abbrev S4096x128 : Shape := ⟨2, ![4096, 128]⟩
abbrev S4096x1024 : Shape := ⟨2, ![4096, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S128x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .bf16⟩
  | .local _ .vmem, ⟨5, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUkvRefIdeal.lean ====
abbrev S4096x128 : Shape := ⟨2, ![4096, 128]⟩
abbrev S4096x1024 : Shape := ⟨2, ![4096, 1024]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S4096x128, .f32⟩
  | .hbm, ⟨3, _⟩ => ⟨S_, .f32⟩
  | .hbm, ⟨4, _⟩ => ⟨S128x1024, .f32⟩
  | .hbm, ⟨5, _⟩ => ⟨S4096x1024, .f32⟩
  | .hbm, ⟨6, _⟩ => ⟨S4096x1024, .f32⟩
  | .hbm, ⟨7, _⟩ => ⟨S1024x128, .f32⟩
  | .hbm, ⟨8, _⟩ => ⟨S128x1024, .f32⟩
  | .hbm, ⟨9, _⟩ => ⟨S4096x128, .f32⟩
  | .hbm, ⟨10, _⟩ => ⟨S128x1024, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S4096x1024 : Shape := ⟨2, ![4096, 1024]⟩
abbrev S5632x1024 : Shape := ⟨2, ![5632, 1024]⟩
abbrev S4096x5632 : Shape := ⟨2, ![4096, 5632]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S1024x5632, .bf16⟩
  | .hbm, ⟨4, _⟩ => ⟨S1024x5632, .f32⟩
  | .hbm, ⟨5, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proj.lean ====
abbrev S4096x1024 : Shape := ⟨2, ![4096, 1024]⟩
abbrev S3072x1024 : Shape := ⟨2, ![3072, 1024]⟩
abbrev S4096x3072 : Shape := ⟨2, ![4096, 3072]⟩
abbrev S2048x1024 : Shape := ⟨2, ![2048, 1024]⟩
abbrev S1536x1024 : Shape := ⟨2, ![1536, 1024]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1536, .f32⟩
  | .local _ .vmem, ⟨5, _⟩ => ⟨S2048x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x1024, .f32⟩
  | .hbm, ⟨3, _⟩ => ⟨S1024x3072, .bf16⟩
  | .hbm, ⟨4, _⟩ => ⟨S1024x3072, .f32⟩
  | .hbm, ⟨5, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x1536 : Shape := ⟨2, ![4096, 1536]⟩
abbrev S1536x1024 : Shape := ⟨2, ![1536, 1024]⟩
abbrev S4096x1024 : Shape := ⟨2, ![4096, 1024]⟩
abbrev S2048x1536 : Shape := ⟨2, ![2048, 1536]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .local _ .vmem, ⟨0, _⟩ => ⟨S2048x1536, .bf16⟩
  | .local _ .vmem, ⟨1, _⟩ => ⟨S2048x1536, .bf16⟩
  | .local _ .vmem, ⟨2, _⟩ => ⟨S1536x1024, .bf16⟩
  | .local _ .vmem, ⟨3, _⟩ => ⟨S2048x1024, .f32⟩
  | .local _ .vmem, ⟨4, _⟩ => ⟨S2048x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x1536 : Shape := ⟨2, ![4096, 1536]⟩
abbrev S1536x1024 : Shape := ⟨2, ![1536, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1536, .f32⟩
  | .hbm, ⟨3, _⟩ => ⟨S1536x1024, .f32⟩
  | .hbm, ⟨4, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mla.lean ====
abbrev S4096x512 : Shape := ⟨2, ![4096, 512]⟩
abbrev S10 : Shape := ⟨1, ![10]⟩
abbrev S_ : Shape := ⟨0, ![]⟩
abbrev S512x4096 : Shape := ⟨2, ![512, 4096]⟩
abbrev S32x4096 : Shape := ⟨2, ![32, 4096]⟩
abbrev S1024x128 : Shape := ⟨2, ![1024, 128]⟩
abbrev S1 : Shape := ⟨1, ![1]⟩
abbrev S128x1024 : Shape := ⟨2, ![128, 1024]⟩
abbrev S8x1024 : Shape := ⟨2, ![8, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 17
  | .vmem => 15
  | .smem => 2
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .bf16⟩
  | .hbm, ⟨11, _⟩ => ⟨S4096x512, .bf16⟩
  | .hbm, ⟨12, _⟩ => ⟨S512x4096, .f32⟩
  | .hbm, ⟨13, _⟩ => ⟨S512x4096, .bf16⟩
  | .hbm, ⟨14, _⟩ => ⟨S4096x512, .f32⟩
  | .hbm, ⟨15, _⟩ => ⟨S4096x512, .f32⟩
  | .hbm, ⟨16, _⟩ => ⟨S32x4096, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S8x1024, .f32⟩
  | .local _ .vmem, ⟨11, _⟩ => ⟨S8x1024, .f32⟩
  | .local _ .vmem, ⟨12, _⟩ => ⟨S1x1024, .f32⟩
  | .local _ .vmem, ⟨13, _⟩ => ⟨S1x1024, .f32⟩
  | .local _ .vmem, ⟨14, _⟩ => ⟨S128x1024, .f32⟩
  | .local _ .smem, ⟨0, _⟩ => ⟨S10, .i32⟩
  | .local _ .smem, ⟨1, _⟩ => ⟨S10, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![arg0.toNat, v1.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![arg0.toNat, v1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaIdeal.lean ====
variable {F : FTy → Type} [FloatOps F] [Named F]
def κ : String → Option EReal := fun
  | "log2e" => some (((Real.log 2)⁻¹ : ℝ) : EReal)
  | _ => none
-- ==== MlaRefIdeal.lean ====
abbrev S4096x512 : Shape := ⟨2, ![4096, 512]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4096x4 : Shape := ⟨2, ![4096, 4]⟩
abbrev S4096x4x1 : Shape := ⟨3, ![4096, 4, 1]⟩
abbrev S4x1x4096 : Shape := ⟨3, ![4, 1, 4096]⟩
abbrev S4x8x4096 : Shape := ⟨3, ![4, 8, 4096]⟩
abbrev S32x4096 : Shape := ⟨2, ![32, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x4x128, .f32⟩
  | .hbm, ⟨4, _⟩ => ⟨S4096x4x128, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4x4096x4096, .i1⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4096x4x128, .f32⟩
  | .hbm, ⟨32, _⟩ => ⟨S4x128x4096, .f32⟩
  | .hbm, ⟨33, _⟩ => ⟨S4096x4x128, .f32⟩
  | .hbm, ⟨34, _⟩ => ⟨S4096x512, .f32⟩
  | .hbm, ⟨35, _⟩ => ⟨S4x4096, .f32⟩
  | .hbm, ⟨36, _⟩ => ⟨S4x4096, .f32⟩
  | .hbm, ⟨37, _⟩ => ⟨S_, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S4096x4, .f32⟩
  | .hbm, ⟨42, _⟩ => ⟨S4096x4x1, .f32⟩
  | .hbm, ⟨43, _⟩ => ⟨S4096x4x128, .f32⟩
  | .hbm, ⟨44, _⟩ => ⟨S4096x512, .f32⟩
  | .hbm, ⟨45, _⟩ => ⟨S4x1x4096, .f32⟩
  | .hbm, ⟨46, _⟩ => ⟨S4x8x4096, .f32⟩
  | .hbm, ⟨47, _⟩ => ⟨S32x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Proof.Stored.lean ====
/-
  A block stored whole is read back as it was stored: used at every point of the three attention kernels.
-/
module

public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

open Idealize.ShloMosaic

namespace Cert.Stored

variable {sig : RefSig} {κ : Kind} {sp : Space} {S : Shape} {e : EltTy}
  {Val : EltTy → Type} [∀ e, Nonempty (Val e)]
  (v : View sig κ sp S e) {off : Fin S.rank → Nat} (h : off = fun _ => 0) (inb : ∀ a, off a + S.size a ≤ S.size a)

include h

/-- The block holds what was stored last. -/
theorem stored (f : v.ty.Contents Val) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load of the block reads what was stored last. -/
theorem reread (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Cert.Stored
-- ==== Proof.MlaBody.lean ====
/-
  What one grid point of the attention's forward kernel does to its buffers: the scratches hold of a block of queries the
  largest score so far, the sum of the exponentials and their product with the values; they are reset at the first block of
  keys, take in the point's block of keys, and at the diagonal block, which is the last, the three results are stored.
-/
module

public import proofs.«01_k».proof.Proof.Gen.MlaIdeal.Skeleton
public import proofs.«01_k».proof.Proof.Gen.MlaIdeal.Launch
public import proofs.«01_k».proof.Proof.Stored

@[expose] public section

set_option maxRecDepth 16384

noncomputable section

namespace Cert.MlaIdeal.Hand

open Cert.MlaIdeal Cert.MlaIdeal.Gen Cert.Stored
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The tables and the scratches, whole: the largest scores, the sums of exponentials, their products with the values. -/
abbrev tb0 : Memref sig .tc .smem S10 .i32 := Memref.whole main_c
abbrev tb1 : Memref sig .tc .smem S10 .i32 := Memref.whole main_c_0
abbrev mx : Memref sig .tc .vmem S1x1024 .f32 := Memref.whole cc0_scratch0
abbrev sm : Memref sig .tc .vmem S1x1024 .f32 := Memref.whole cc0_scratch1
abbrev ac : Memref sig .tc .vmem S128x1024 .f32 := Memref.whole cc0_scratch2

theorem hz : (![0, 0] : Fin 2 → Nat) = fun _ => 0 := funext fun a => by fin_cases a <;> rfl

/-- The word of a table the point reads: the query block's number, the key block's. -/
abbrev iword (T0 : S10.Idx → Elt F .i32) (i : grid0.Coords) : BitVec 32 :=
  View.readAt (Elt F) (tb0).view (Rect.unit (s := S10) (k0_off1 i) S1.size (k0_off1_inb i)).toLoadRect T0 (Shape.Idx.first (numel1_S1.symm ▸ Nat.one_pos))
abbrev jword (T1 : S10.Idx → Elt F .i32) (i : grid0.Coords) : BitVec 32 :=
  View.readAt (Elt F) (tb1).view (Rect.unit (s := S10) (k0_off1 i) S1.size (k0_off1_inb i)).toLoadRect T1 (Shape.Idx.first (numel1_S1.symm ▸ Nat.one_pos))

/-- The scratches' contents. -/
structure St (F : FTy → Type) [FloatOps F] where
  m : Vec F S1x1024 .f32
  l : Vec F S1x1024 .f32
  a : Vec F S128x1024 .f32

/-- The scratches when they are reset, after a block of keys below the diagonal, and after the diagonal block. -/
def start : St F := ⟨k0_pay1, k0_pay2, k0_pay3⟩
def below (q k : Vec F S1024x128 .bf16) (v : Vec F S128x1024 .bf16) (s : St F) : St F :=
  ⟨k0_pay15 k q s.m, k0_pay13 k q s.m s.l, k0_pay14 k q s.m s.a v⟩
def diag (q k : Vec F S1024x128 .bf16) (v : Vec F S128x1024 .bf16) (s : St F) : St F :=
  ⟨k0_pay4 (k0_pay17 k q s.m), k0_pay20 k q s.m s.l, k0_pay21 k q s.m s.a v⟩

/-- The kernel's tests at a point: the first block of keys, a block below the diagonal, the diagonal's. -/
abbrev atFirst (T1 : S10.Idx → Elt F .i32) (i : grid0.Coords) : Prop := Scalar.cmpi .ne (Scalar.extui (Scalar.cmpi .eq (jword T1 i) 0#32)) 0#32 = 1#1
abbrev atBelow (T0 T1 : S10.Idx → Elt F .i32) (i : grid0.Coords) : Prop := Scalar.cmpi .ne (Scalar.extui (Scalar.cmpi .slt (jword T1 i) (iword T0 i))) 0#32 = 1#1
abbrev atDiag (T0 T1 : S10.Idx → Elt F .i32) (i : grid0.Coords) : Prop := Scalar.cmpi .ne (Scalar.extui (Scalar.cmpi .eq (jword T1 i) (iword T0 i))) 0#32 = 1#1

section Runs
variable (c : Dev nD) (i : grid0.Coords)
  (arg4 : Memref sig .tc .vmem S1024x128 .bf16) (harg4 : arg4.IsWhole)
  (arg5 : Memref sig .tc .vmem S1024x128 .bf16) (harg5 : arg5.IsWhole)
  (arg6 : Memref sig .tc .vmem S128x1024 .bf16) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S8x1024 .f32) (harg9 : arg9.IsWhole)
  (T0 T1 : S10.Idx → Elt F .i32)
  (q k : Vec F S1024x128 .bf16) (v : Vec F S128x1024 .bf16) (y z : Vec F S1024x128 .f32) (w : Vec F S8x1024 .f32) (s : St F)

/-- The buffers before and after a point: the inputs, the tables, the results at `y`, `z` and `w`, the scratches at `s`. -/
def Held (y z : Vec F S1024x128 .f32) (w : Vec F S8x1024 .f32) (s : St F) : sProp 𝕄 :=
  iprop(owns (c : Thread nD τ) arg4 fullShare q ∗ owns (c : Thread nD τ) arg5 fullShare k ∗ owns (c : Thread nD τ) arg6 fullShare v
    ∗ (tb0.view.loc (c : Thread nD τ) ↦{fullShare.right} T0) ∗ (tb1.view.loc (c : Thread nD τ) ↦{fullShare.right} T1)
    ∗ owns (c : Thread nD τ) arg7 fullShare y ∗ owns (c : Thread nD τ) arg8 fullShare z ∗ owns (c : Thread nD τ) arg9 fullShare w
    ∗ owns (c : Thread nD τ) mx fullShare s.m ∗ owns (c : Thread nD τ) sm fullShare s.l ∗ owns (c : Thread nD τ) ac fullShare s.a)

/-- The kernel's call at a point. -/
abbrev call : Prog (TpuEff nD τ sig (Elt F) Λ₀ .tc) PUnit :=
  cc0_mla_attn i tb0 (Memref.isWhole_whole _) tb1 (Memref.isWhole_whole _) arg4 harg4 arg5 harg5 arg6 harg6 arg7 harg7 arg8 harg8 arg9 harg9 mx (Memref.isWhole_whole _) sm (Memref.isWhole_whole _) ac (Memref.isWhole_whole _)

/-- A memref's buffer at the contents `x` is the memref owned at `x`. -/
theorem owned {sp : Space} {sh : Shape} {e : EltTy} (m : Memref sig .tc sp sh e) (h : m.IsWhole) (x : sh.Idx → Elt F e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; swap
  · iexact H
  ipureintro; exact h.read_unread _

set_option maxHeartbeats 8000000 in
/-- A query block's first block of keys, below the diagonal. -/
theorem run_A (hc0 : atFirst T1 i) (hc1 : atBelow T0 T1 i) (hc2 : ¬atDiag T0 T1 i) (hc3 : ¬k0_cond4 (iword T0 i) (jword T1 i) = 1#1) (K : PUnit → sProp 𝕄) :
    iprop(Held c arg4 arg5 arg6 arg7 arg8 arg9 T0 T1 q k v y z w s
      ∗ (Held c arg4 arg5 arg6 arg7 arg8 arg9 T0 T1 q k v y z w (below q k v start) -∗ K ⟨⟩))
      ⊢ wp frame (wpE (defs₀ (F := F)) Variants.none c none) Set.univ (call i arg4 harg4 arg5 harg5 arg6 harg6 arg7 harg7 arg8 harg8 arg9 harg9) K := by
  unfold call Held
  rw [cc0_mla_attn_eq_skeleton]; unfold cc0_mla_attn_skel
  rw [k0_part1_eq_skeleton]; unfold k0_part1_skel
  have hS0 : mx.IsWhole := Memref.isWhole_whole _
  have hS1 : sm.IsWhole := Memref.isWhole_whole _
  have hS2 : ac.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, HT0, HT1, ⟨%f7, %h7, H7⟩, ⟨%f8, %h8, H8⟩, ⟨%f9, %h9, H9⟩, ⟨%f10, %h10, H10⟩, ⟨%f11, %h11, H11⟩, ⟨%f12, %h12, H12⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := hS0.eq_unread h10
  obtain rfl := hS1.eq_unread h11
  obtain rfl := hS2.eq_unread h12
  sl_exec! (disch := first | (guard_target = ¬(Scalar.cmpi = _); first | exact hc2) | (guard_target = Scalar.cmpi = _; first | exact hc0 | exact hc1) | (guard_target = ¬(k0_cond4 _ _ = _); exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [HT0]; · iexact HT0
  isplitl [HT1]; · iexact HT1
  isplitl [H7]; · iapply owned (F := F) c arg7 harg7; iexact H7
  isplitl [H8]; · iapply owned (F := F) c arg8 harg8; iexact H8
  isplitl [H9]; · iapply owned (F := F) c arg9 harg9; iexact H9
  isplitl [H10]; iexists _; isplitr; swap; iexact H10; rotate_left
  isplitl [H11]; iexists _; isplitr; swap; iexact H11; rotate_left
  iexists _; isplitr; swap; iexact H12
  all_goals
    ipureintro
    sl_unfold_words
    rw [stored _ hz]
    simp only [View.readAt_eq_ld, hS0.read_unread, hS1.read_unread, hS2.read_unread, Memref.IsWhole.read_unread, View.ld_unit_zero (S := S1024x128) hz, View.ld_unit_zero (S := S128x1024) hz, View.ld_unit_zero (S := S1x1024) hz, reread (S := S128x1024) _ hz, reread (S := S1x1024) _ hz, start, below, diag]

set_option maxHeartbeats 8000000 in
/-- A later block of keys below the diagonal. -/
theorem run_B (hc0 : ¬atFirst T1 i) (hc1 : atBelow T0 T1 i) (hc2 : ¬atDiag T0 T1 i) (hc3 : ¬k0_cond4 (iword T0 i) (jword T1 i) = 1#1) (K : PUnit → sProp 𝕄) :
    iprop(Held c arg4 arg5 arg6 arg7 arg8 arg9 T0 T1 q k v y z w s
      ∗ (Held c arg4 arg5 arg6 arg7 arg8 arg9 T0 T1 q k v y z w (below q k v s) -∗ K ⟨⟩))
      ⊢ wp frame (wpE (defs₀ (F := F)) Variants.none c none) Set.univ (call i arg4 harg4 arg5 harg5 arg6 harg6 arg7 harg7 arg8 harg8 arg9 harg9) K := by
  unfold call Held
  rw [cc0_mla_attn_eq_skeleton]; unfold cc0_mla_attn_skel
  rw [k0_part1_eq_skeleton]; unfold k0_part1_skel
  have hS0 : mx.IsWhole := Memref.isWhole_whole _
  have hS1 : sm.IsWhole := Memref.isWhole_whole _
  have hS2 : ac.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, HT0, HT1, ⟨%f7, %h7, H7⟩, ⟨%f8, %h8, H8⟩, ⟨%f9, %h9, H9⟩, ⟨%f10, %h10, H10⟩, ⟨%f11, %h11, H11⟩, ⟨%f12, %h12, H12⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := hS0.eq_unread h10
  obtain rfl := hS1.eq_unread h11
  obtain rfl := hS2.eq_unread h12
  sl_exec! (disch := first | (guard_target = ¬(Scalar.cmpi = _); first | exact hc0 | exact hc2) | (guard_target = Scalar.cmpi = _; first | exact hc1) | (guard_target = ¬(k0_cond4 _ _ = _); exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [HT0]; · iexact HT0
  isplitl [HT1]; · iexact HT1
  isplitl [H7]; · iapply owned (F := F) c arg7 harg7; iexact H7
  isplitl [H8]; · iapply owned (F := F) c arg8 harg8; iexact H8
  isplitl [H9]; · iapply owned (F := F) c arg9 harg9; iexact H9
  isplitl [H10]; iexists _; isplitr; swap; iexact H10; rotate_left
  isplitl [H11]; iexists _; isplitr; swap; iexact H11; rotate_left
  iexists _; isplitr; swap; iexact H12
  all_goals
    ipureintro
    sl_unfold_words
    rw [stored _ hz]
    simp only [View.readAt_eq_ld, hS0.read_unread, hS1.read_unread, hS2.read_unread, Memref.IsWhole.read_unread, View.ld_unit_zero (S := S1024x128) hz, View.ld_unit_zero (S := S128x1024) hz, View.ld_unit_zero (S := S1x1024) hz, reread (S := S128x1024) _ hz, reread (S := S1x1024) _ hz, start, below, diag]

set_option maxHeartbeats 8000000 in
/-- A query block's only block of keys, at the diagonal: the results are stored. -/
theorem run_C (hc0 : atFirst T1 i) (hc1 : ¬atBelow T0 T1 i) (hc2 : atDiag T0 T1 i) (hc3 : k0_cond4 (iword T0 i) (jword T1 i) = 1#1) (K : PUnit → sProp 𝕄) :
    iprop(Held c arg4 arg5 arg6 arg7 arg8 arg9 T0 T1 q k v y z w s
      ∗ (Held c arg4 arg5 arg6 arg7 arg8 arg9 T0 T1 q k v (k0_pay5 (diag q k v start).a (diag q k v start).l) (k0_pay8 (diag q k v start).m (diag q k v start).l) (k0_pay7 (diag q k v start).m (diag q k v start).l) (diag q k v start) -∗ K ⟨⟩))
      ⊢ wp frame (wpE (defs₀ (F := F)) Variants.none c none) Set.univ (call i arg4 harg4 arg5 harg5 arg6 harg6 arg7 harg7 arg8 harg8 arg9 harg9) K := by
  unfold call Held
  rw [cc0_mla_attn_eq_skeleton]; unfold cc0_mla_attn_skel
  rw [k0_part2_eq_skeleton]; unfold k0_part2_skel
  have hS0 : mx.IsWhole := Memref.isWhole_whole _
  have hS1 : sm.IsWhole := Memref.isWhole_whole _
  have hS2 : ac.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, HT0, HT1, ⟨%f7, %h7, H7⟩, ⟨%f8, %h8, H8⟩, ⟨%f9, %h9, H9⟩, ⟨%f10, %h10, H10⟩, ⟨%f11, %h11, H11⟩, ⟨%f12, %h12, H12⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := hS0.eq_unread h10
  obtain rfl := hS1.eq_unread h11
  obtain rfl := hS2.eq_unread h12
  sl_exec! (disch := first | (guard_target = ¬(Scalar.cmpi = _); first | exact hc1) | (guard_target = Scalar.cmpi = _; first | exact hc0 | exact hc2) | (guard_target = k0_cond4 _ _ = _; exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [HT0]; · iexact HT0
  isplitl [HT1]; · iexact HT1
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  iexists _; isplitr; swap; iexact H12
  all_goals
    ipureintro
    sl_unfold_words
    rw [stored _ hz]
    simp only [View.readAt_eq_ld, hS0.read_unread, hS1.read_unread, hS2.read_unread, Memref.IsWhole.read_unread, View.ld_unit_zero (S := S1024x128) hz, View.ld_unit_zero (S := S128x1024) hz, View.ld_unit_zero (S := S1x1024) hz, reread (S := S128x1024) _ hz, reread (S := S1x1024) _ hz, start, below, diag]

set_option maxHeartbeats 8000000 in
/-- A query block's last block of keys, at the diagonal: the results are stored. -/
theorem run_D (hc0 : ¬atFirst T1 i) (hc1 : ¬atBelow T0 T1 i) (hc2 : atDiag T0 T1 i) (hc3 : k0_cond4 (iword T0 i) (jword T1 i) = 1#1) (K : PUnit → sProp 𝕄) :
    iprop(Held c arg4 arg5 arg6 arg7 arg8 arg9 T0 T1 q k v y z w s
      ∗ (Held c arg4 arg5 arg6 arg7 arg8 arg9 T0 T1 q k v (k0_pay5 (diag q k v s).a (diag q k v s).l) (k0_pay8 (diag q k v s).m (diag q k v s).l) (k0_pay7 (diag q k v s).m (diag q k v s).l) (diag q k v s) -∗ K ⟨⟩))
      ⊢ wp frame (wpE (defs₀ (F := F)) Variants.none c none) Set.univ (call i arg4 harg4 arg5 harg5 arg6 harg6 arg7 harg7 arg8 harg8 arg9 harg9) K := by
  unfold call Held
  rw [cc0_mla_attn_eq_skeleton]; unfold cc0_mla_attn_skel
  rw [k0_part2_eq_skeleton]; unfold k0_part2_skel
  have hS0 : mx.IsWhole := Memref.isWhole_whole _
  have hS1 : sm.IsWhole := Memref.isWhole_whole _
  have hS2 : ac.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, HT0, HT1, ⟨%f7, %h7, H7⟩, ⟨%f8, %h8, H8⟩, ⟨%f9, %h9, H9⟩, ⟨%f10, %h10, H10⟩, ⟨%f11, %h11, H11⟩, ⟨%f12, %h12, H12⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := hS0.eq_unread h10
  obtain rfl := hS1.eq_unread h11
  obtain rfl := hS2.eq_unread h12
  sl_exec! (disch := first | (guard_target = ¬(Scalar.cmpi = _); first | exact hc0 | exact hc1) | (guard_target = Scalar.cmpi = _; first | exact hc2) | (guard_target = k0_cond4 _ _ = _; exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [HT0]; · iexact HT0
  isplitl [HT1]; · iexact HT1
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  isplitl [H11]; iexists _; isplitr; swap; iexact H11; rotate_left
  iexists _; isplitr; swap; iexact H12
  all_goals
    ipureintro
    sl_unfold_words
    rw [stored _ hz]
    simp only [View.readAt_eq_ld, hS0.read_unread, hS1.read_unread, hS2.read_unread, Memref.IsWhole.read_unread, View.ld_unit_zero (S := S1024x128) hz, View.ld_unit_zero (S := S128x1024) hz, View.ld_unit_zero (S := S1x1024) hz, reread (S := S128x1024) _ hz, reread (S := S1x1024) _ hz, start, below, diag]

end Runs

end Cert.MlaIdeal.Hand

end
-- ==== Proof.MlaFacts.lean ====
/-
  The schedule of the attention's forward kernel: the two tables of block numbers are constants of the
  program, so which blocks a grid point reads, whether it is the first or the last of its query block, and when the
  output is written back are decided once, at every one of the forty points.
-/
module

public import proofs.«01_k».proof.Proof.MlaBody

@[expose] public section

set_option maxRecDepth 16384

noncomputable section

namespace Cert.MlaIdeal.Hand

open Cert.MlaIdeal Cert.MlaIdeal.Gen
open Idealize.ShloMosaic
open Idealize.ShloMosaic.TcCoe Idealize.ShloMosaic.Tactic
open Idealize.SL Idealize.SL.RA Idealize.SL.BI
open Idealize.ShloMosaic.Pipeline (Dat Cfg Window BodyObligation BodyObligationLoose cellOf)

variable {F : FTy → Type} [FloatOps F] [Named F]

/-- The query block's number at each of the ten pairs, and the key block's. -/
def rowBlock (n : ℕ) : ℕ := [0, 1, 1, 2, 2, 2, 3, 3, 3, 3].getD (n % 10) 0
def colBlock (n : ℕ) : ℕ := [0, 0, 1, 0, 1, 2, 0, 1, 2, 3].getD (n % 10) 0

/-- The two tables. -/
abbrev tabI : S10.Idx → Elt F .i32 := fun i => lit0 (S10.rowMajor i)
abbrev tabJ : S10.Idx → Elt F .i32 := fun i => lit1 (S10.rowMajor i)

set_option backward.proofsInPublic true in
/-- The tables' contents. -/
def pf : pre0.Contents (Elt F) := fun | ⟨0, _⟩ => tabI | ⟨1, _⟩ => tabJ | ⟨_ + 2, h⟩ => absurd h (by simp)

theorem inb0 : ∀ i : grid0.Coords, ∀ a, (cc0_transform_0 k0_off1_inb numel1_S1 (pf (F := F)) i a + 1) * S1024x128.size a ≤ S4096x512.size a :=
  of_decide_eq_true (by sl_kernel_rfl)
theorem inb1 : ∀ i : grid0.Coords, ∀ a, (cc0_transform_1 k0_off1_inb numel1_S1 (pf (F := F)) i a + 1) * S1024x128.size a ≤ S4096x512.size a :=
  of_decide_eq_true (by sl_kernel_rfl)
theorem inb2 : ∀ i : grid0.Coords, ∀ a, (cc0_transform_2 k0_off1_inb numel1_S1 (pf (F := F)) i a + 1) * S128x1024.size a ≤ S512x4096.size a :=
  of_decide_eq_true (by sl_kernel_rfl)
theorem inb3 : ∀ i : grid0.Coords, ∀ a, (cc0_transform_3 k0_off1_inb numel1_S1 (pf (F := F)) i a + 1) * S1024x128.size a ≤ S4096x512.size a :=
  of_decide_eq_true (by sl_kernel_rfl)
theorem inb4 : ∀ i : grid0.Coords, ∀ a, (cc0_transform_4 k0_off1_inb numel1_S1 (pf (F := F)) i a + 1) * S1024x128.size a ≤ S4096x512.size a :=
  of_decide_eq_true (by sl_kernel_rfl)
theorem inb5 : ∀ i : grid0.Coords, ∀ a, (cc0_transform_5 k0_off1_inb numel1_S1 (pf (F := F)) i a + 1) * S8x1024.size a ≤ S32x4096.size a :=
  of_decide_eq_true (by sl_kernel_rfl)

/-- Every block lies in its array. -/
theorem pf_ok : ok0 (F := F) pf :=
  ⟨fun i => ⟨inb0 i, .inr (Affine.block_words_dvd (by decide) (by decide))⟩,
   fun i => ⟨inb1 i, .inr (Affine.block_words_dvd (by decide) (by decide))⟩,
   fun i => ⟨inb2 i, .inr (Affine.block_words_dvd (by decide) (by decide))⟩,
   fun i => ⟨inb3 i, .inl rfl⟩, fun i => ⟨inb4 i, .inl rfl⟩, fun i => ⟨inb5 i, .inl rfl⟩⟩

/-- The pipeline at these tables. -/
def adm : (pcfg0 (F := F)).Adm := ⟨pf, pf_ok⟩
abbrev cfgA : Pipeline.Cfg sig Λ₀ := cfg0 (F := F) adm
abbrev crd (t : Fin (cfgA (F := F)).N) : (cfgA (F := F)).grid.Coords := (cfgA (F := F)).grid.coords t

/-- What is decided at a point: the pair it works on, its position in its query block, the results' schedule. -/
abbrev FactsAt (t : Fin (cfgA (F := F)).N) : Prop :=
  (Scalar.cmpi .ne (Scalar.extui (Scalar.cmpi .eq (jword (F := F) tabJ (crd t)) 0#32)) 0#32 = 1#1 ↔ colBlock t.val = 0)
  ∧ (Scalar.cmpi .ne (Scalar.extui (Scalar.cmpi .slt (jword (F := F) tabJ (crd t)) (iword (F := F) tabI (crd t)))) 0#32 = 1#1 ↔ colBlock t.val < rowBlock t.val)
  ∧ (Scalar.cmpi .ne (Scalar.extui (Scalar.cmpi .eq (jword (F := F) tabJ (crd t)) (iword (F := F) tabI (crd t)))) 0#32 = 1#1 ↔ colBlock t.val = rowBlock t.val)
  ∧ (k0_cond4 (iword (F := F) tabI (crd t)) (jword (F := F) tabJ (crd t)) = 1#1 ↔ colBlock t.val = rowBlock t.val)
  ∧ (cfgA (F := F)).idle (3 : Fin 6) (crd t) = !decide (colBlock t.val = rowBlock t.val)
  ∧ ((cfgA (F := F)).win (3 : Fin 6)).flush t = decide (colBlock t.val = rowBlock t.val)
  ∧ (cfgA (F := F)).idle (4 : Fin 6) (crd t) = !decide (colBlock t.val = rowBlock t.val)
  ∧ ((cfgA (F := F)).win (4 : Fin 6)).flush t = decide (colBlock t.val = rowBlock t.val)
  ∧ (cfgA (F := F)).idle (5 : Fin 6) (crd t) = !decide (colBlock t.val = rowBlock t.val)
  ∧ ((cfgA (F := F)).win (5 : Fin 6)).flush t = decide (colBlock t.val = rowBlock t.val)
  ∧ (t.val = 0 → colBlock t.val = 0)

theorem facts : ∀ t : Fin (cfgA (F := F)).N, FactsAt t := of_decide_eq_true (by sl_kernel_rfl)

end Cert.MlaIdeal.Hand

end
-- ==== Proof.MlaFrame.lean ====
/-
  The run of the attention's forward kernel: the host lines, then the kernel's forty grid points with what
  the scratches hold after each, then the written blocks. From any memory it ends with the arguments unchanged and
  every counter at zero.
-/
module

public import proofs.«01_k».proof.Proof.MlaFacts
public import Idealize.ShloMosaic.Lib.StableHlo.RunRead

@[expose] public section

set_option maxRecDepth 16384

noncomputable section

namespace Cert.MlaIdeal.Hand

open Cert.MlaIdeal Cert.MlaIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- A grid point. -/
abbrev Pt (F : FTy → Type) [FloatOps F] [Named F] := Fin (cfgA (F := F)).N

variable (m : (ℓ : Loc nD τ sig) → Buf (Elt F) ℓ) (ρ : Dev nD → PrngReg)

/-! ## The contents at the kernel's start -/

/-- The host lines. -/
abbrev host : List (List (HloOp τ sig (Elt F))) := [hostOps0]

/-- What a buffer holds when the kernel starts. -/
def V (c : Dev nD) (b : Ref sig .tc) : Buf (Elt F) ((c.tc : Thread nD τ).loc b) :=
  StableHlo.after (host (F := F)).flatten (fun b => m (c, b)) b

theorem host_sub : (host (F := F)).Forall fun ops => ops.Forall fun op => op.bufs ⊆ StableHlo.tcRefs τ sig :=
  hostOps0_sub

theorem host_fresh : (host (F := F)).Forall fun ops => ops.Forall fun op => op.fresh = ∅ := by
  repeat' first | exact rfl | constructor

theorem V_main : Pipeline.HMainP (Ix := Unit) (Name := ℕ) (U := UR sig nD τ) (Lvl := ℕ) (pcfgs (F := F)) 0 defs₀ Variants.none m main (V m) :=
  Pipeline.hmainP_prefixes (pcfgs (F := F)) 0 defs₀ Variants.none m main host host_sub host_fresh main_chain

/-! ## What the accumulator holds -/

/-- Input `w`'s block at point `t`. -/
def iblk (c : Dev nD) (w : Fin 6) (t : Pt F) :
    Shape.Idx ((cfgA (F := F)).win w).block → Elt F ((cfgA (F := F)).win w).elt :=
  (((cfgA (F := F)).win w).blk t).view.read (Elt F) (V m c (Pipeline.arrRef spec0 w))

abbrev bq (c : Dev nD) (t : Pt F) : Vec F S1024x128 .bf16 := iblk m c 0 t
abbrev bk (c : Dev nD) (t : Pt F) : Vec F S1024x128 .bf16 := iblk m c 1 t
abbrev bv (c : Dev nD) (t : Pt F) : Vec F S128x1024 .bf16 := iblk m c 2 t

/-- The scratches after a point, from their contents before. -/
def step (c : Dev nD) (t : Pt F) (s : St F) : St F :=
  if colBlock t.val < rowBlock t.val then below (bq m c t) (bk m c t) (bv m c t) (if colBlock t.val = 0 then start else s)
  else diag (bq m c t) (bk m c t) (bv m c t) (if colBlock t.val = 0 then start else s)

/-- The scratches before point `n`. -/
def stAt (c : Dev nD) : ℕ → St F
  | 0 => start
  | n + 1 => if h : n < (cfgA (F := F)).N then step m c ⟨n, h⟩ (stAt c n) else stAt c n

theorem stAt_succ (c : Dev nD) (t : Pt F) : stAt m c (t.val + 1) = step m c t (stAt m c t.val) := by
  rw [stAt]; exact dif_pos t.isLt

/-- The three results of the scratches. -/
def resO (s : St F) : Vec F S1024x128 .f32 := k0_pay5 s.a s.l
def resL (s : St F) : Vec F S1024x128 .f32 := k0_pay8 s.m s.l
def resT (s : St F) : Vec F S8x1024 .f32 := k0_pay7 s.m s.l

/-- The state carried between points: the scratches, the generator's register, the kernel's halves of the tables. -/
def Phi (c : Dev nD) (t : Fin ((cfgA (F := F)).N + 1)) : sProp 𝕄 :=
  iprop((∃ s : St F, ⌜t.val ≠ 0 → s = stAt m c t.val⌝ ∗ owns (c : Thread nD τ) mx fullShare s.m
      ∗ owns (c : Thread nD τ) sm fullShare s.l ∗ owns (c : Thread nD τ) ac fullShare s.a) ∗ (∃ r, prngReg c r)
    ∗ (tb0.view.loc (c : Thread nD τ) ↦{fullShare.right} tabI) ∗ (tb1.view.loc (c : Thread nD τ) ↦{fullShare.right} tabJ))

/-- The proof data of the pipeline. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => resO (stAt m c (t.val + 1))
    | ⟨4, _⟩ => resL (stAt m c (t.val + 1))
    | ⟨5, _⟩ => resT (stAt m c (t.val + 1))
  Φ t := Phi m c t
  q _ := fullShare
  owed _ := 0

theorem A_eq (c : Dev nD) (w : Fin (cfgA (F := F)).W) : (dats m 0 c).A w = V m c (Pipeline.arrRef spec0 w) := by
  dsimp only [dats]

theorem after_0 (c : Dev nD) (t : Pt F) : (dats m 0 c).after (0 : Fin 6) t = iblk m c 0 t := by dsimp only [dats]
theorem before_0 (c : Dev nD) (t : Pt F) (d) : (dats m 0 c).before (0 : Fin 6) t d = iblk m c 0 t :=
  ((dats m 0 c).before_in_eq_fetched (0 : Fin 6) rfl (fun _ => rfl) (fun _ _ _ => rfl) (fun t => by rw [after_0]; unfold Dat.blockOf iblk; rw [A_eq]) t d).trans
    (by unfold Dat.fetched Dat.blockOf iblk; rw [A_eq]; rfl)

theorem after_1 (c : Dev nD) (t : Pt F) : (dats m 0 c).after (1 : Fin 6) t = iblk m c 1 t := by dsimp only [dats]
theorem before_1 (c : Dev nD) (t : Pt F) (d) : (dats m 0 c).before (1 : Fin 6) t d = iblk m c 1 t :=
  ((dats m 0 c).before_in_eq_fetched (1 : Fin 6) rfl (fun _ => rfl) (fun _ _ _ => rfl) (fun t => by rw [after_1]; unfold Dat.blockOf iblk; rw [A_eq]) t d).trans
    (by unfold Dat.fetched Dat.blockOf iblk; rw [A_eq]; rfl)

theorem after_2 (c : Dev nD) (t : Pt F) : (dats m 0 c).after (2 : Fin 6) t = iblk m c 2 t := by dsimp only [dats]
theorem before_2 (c : Dev nD) (t : Pt F) (d) : (dats m 0 c).before (2 : Fin 6) t d = iblk m c 2 t :=
  ((dats m 0 c).before_in_eq_fetched (2 : Fin 6) rfl (fun _ => rfl) (fun _ _ _ => rfl) (fun t => by rw [after_2]; unfold Dat.blockOf iblk; rw [A_eq]) t d).trans
    (by unfold Dat.fetched Dat.blockOf iblk; rw [A_eq]; rfl)

theorem after_3 (c : Dev nD) (t : Pt F) : (dats m 0 c).after (3 : Fin 6) t = resO (stAt m c (t.val + 1)) := by dsimp only [dats]
theorem after_4 (c : Dev nD) (t : Pt F) : (dats m 0 c).after (4 : Fin 6) t = resL (stAt m c (t.val + 1)) := by dsimp only [dats]
theorem after_5 (c : Dev nD) (t : Pt F) : (dats m 0 c).after (5 : Fin 6) t = resT (stAt m c (t.val + 1)) := by dsimp only [dats]

/-! ## A grid point -/

abbrev ms0 (t : Pt F) : Memref sig .tc .vmem S1024x128 .bf16 := spec0_0.stage ((cfgA (F := F)).slots t (0 : Fin 6))
abbrev hs0 (t : Pt F) : (ms0 t).IsWhole := hstage0_0 (((cfgA (F := F)).slots t (0 : Fin 6)).cast nbuf0_0)
abbrev ms1 (t : Pt F) : Memref sig .tc .vmem S1024x128 .bf16 := spec0_1.stage ((cfgA (F := F)).slots t (1 : Fin 6))
abbrev hs1 (t : Pt F) : (ms1 t).IsWhole := hstage0_1 (((cfgA (F := F)).slots t (1 : Fin 6)).cast nbuf0_1)
abbrev ms2 (t : Pt F) : Memref sig .tc .vmem S128x1024 .bf16 := spec0_2.stage ((cfgA (F := F)).slots t (2 : Fin 6))
abbrev hs2 (t : Pt F) : (ms2 t).IsWhole := hstage0_2 (((cfgA (F := F)).slots t (2 : Fin 6)).cast nbuf0_2)
abbrev ms3 (t : Pt F) : Memref sig .tc .vmem S1024x128 .f32 := spec0_3.stage ((cfgA (F := F)).slots t (3 : Fin 6))
abbrev hs3 (t : Pt F) : (ms3 t).IsWhole := hstage0_3 (((cfgA (F := F)).slots t (3 : Fin 6)).cast nbuf0_3)
abbrev ms4 (t : Pt F) : Memref sig .tc .vmem S1024x128 .f32 := spec0_4.stage ((cfgA (F := F)).slots t (4 : Fin 6))
abbrev hs4 (t : Pt F) : (ms4 t).IsWhole := hstage0_4 (((cfgA (F := F)).slots t (4 : Fin 6)).cast nbuf0_4)
abbrev ms5 (t : Pt F) : Memref sig .tc .vmem S8x1024 .f32 := spec0_5.stage ((cfgA (F := F)).slots t (5 : Fin 6))
abbrev hs5 (t : Pt F) : (ms5 t).IsWhole := hstage0_5 (((cfgA (F := F)).slots t (5 : Fin 6)).cast nbuf0_5)

/-- The body at point `t`. -/
abbrev bodyAt (t : Pt F) : Prog (TpuEff nD τ sig (Elt F) Λ₀ .tc) PUnit :=
  call (crd t) (ms0 t) (hs0 t) (ms1 t) (hs1 t) (ms2 t) (hs2 t) (ms3 t) (hs3 t) (ms4 t) (hs4 t) (ms5 t) (hs5 t)

set_option maxHeartbeats 4000000 in
/-- The body at a point takes the carried state and the staging buffers to what the proof data say. -/
theorem sound_body (c : Dev nD) (t : Pt F) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  obtain ⟨c0, c1, c2, c3, id3, fl3, id4, fl4, id5, fl5, z⟩ := facts (F := F) t
  rewrite [id3, fl3, fl4, fl5]
  simp only [before_0, before_1, before_2, after_0, after_1, after_2, after_3, after_4, after_5]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi; simp only [Fin.val_castSucc, Fin.val_succ, stAt_succ]
  have hle : ¬colBlock t.val < rowBlock t.val → colBlock t.val = rowBlock t.val := by
    have : ∀ n : ℕ, n < 10 → ¬([0, 0, 1, 0, 1, 2, 0, 1, 2, 3].getD n 0 < [0, 1, 1, 2, 2, 2, 3, 3, 3, 3].getD n 0)
        → [0, 0, 1, 0, 1, 2, 0, 1, 2, 3].getD n 0 = [0, 1, 1, 2, 2, 2, 3, 3, 3, 3].getD n 0 := by decide
    exact this _ (Nat.mod_lt _ (by decide))
  by_cases q0 : colBlock t.val = 0 <;> by_cases q1 : colBlock t.val < rowBlock t.val
  all_goals
    first | have q2 := hle q1 | have q2 : ¬colBlock t.val = rowBlock t.val := by omega
    simp only [q2, decide_true, decide_false, Bool.not_true, Bool.not_false]
    iintro ⟨⟨⟨%s, %hs, HM, HL, HA⟩, Hg, HT0, HT1⟩, Ho, ⟨%d0, H0⟩, ⟨%d1, H1⟩, ⟨%d2, H2⟩, ⟨%d3, H3⟩, ⟨%d4, H4⟩, ⟨%d5, H5⟩⟩
    try (have e := hs (fun h => q0 (z h)); subst e)
    first
      | (have g := c0.mpr q0; have g := c1.mpr q1
         iapply (run_A c (crd t) (ms0 t) (hs0 t) (ms1 t) (hs1 t) (ms2 t) (hs2 t) (ms3 t) (hs3 t) (ms4 t) (hs4 t) (ms5 t) (hs5 t) tabI tabJ (bq m c t) (bk m c t) (bv m c t) _ _ _ s (c0.mpr q0) (c1.mpr q1) (fun h => q2 (c2.mp h)) (fun h => q2 (c3.mp h)) _))
      | (have g := mt c0.mp q0; have g := c1.mpr q1
         iapply (run_B c (crd t) (ms0 t) (hs0 t) (ms1 t) (hs1 t) (ms2 t) (hs2 t) (ms3 t) (hs3 t) (ms4 t) (hs4 t) (ms5 t) (hs5 t) tabI tabJ (bq m c t) (bk m c t) (bv m c t) _ _ _ _ (fun h => q0 (c0.mp h)) (c1.mpr q1) (fun h => q2 (c2.mp h)) (fun h => q2 (c3.mp h)) _))
      | (have g := c0.mpr q0; have g := mt c1.mp q1
         iapply (run_C c (crd t) (ms0 t) (hs0 t) (ms1 t) (hs1 t) (ms2 t) (hs2 t) (ms3 t) (hs3 t) (ms4 t) (hs4 t) (ms5 t) (hs5 t) tabI tabJ (bq m c t) (bk m c t) (bv m c t) _ _ _ s (c0.mpr q0) (fun h => q1 (c1.mp h)) (c2.mpr q2) (c3.mpr q2) _))
      | (have g := mt c0.mp q0; have g := mt c1.mp q1
         iapply (run_D c (crd t) (ms0 t) (hs0 t) (ms1 t) (hs1 t) (ms2 t) (hs2 t) (ms3 t) (hs3 t) (ms4 t) (hs4 t) (ms5 t) (hs5 t) tabI tabJ (bq m c t) (bk m c t) (bv m c t) _ _ _ _ (fun h => q0 (c0.mp h)) (fun h => q1 (c1.mp h)) (c2.mpr q2) (c3.mpr q2) _))
    unfold Held
    isplitl [H0 H1 H2 HT0 HT1 H3 H4 H5 HM HL HA]
    · isplitl [H0]; · iexact H0
      isplitl [H1]; · iexact H1
      isplitl [H2]; · iexact H2
      isplitl [HT0]; · iexact HT0
      isplitl [HT1]; · iexact HT1
      isplitl [H3]; · iexact H3
      isplitl [H4]; · iexact H4
      isplitl [H5]; · iexact H5
      isplitl [HM]; · iexact HM
      isplitl [HL]; · iexact HL
      iexact HA
    iintro ⟨H0, H1, H2, HT0, HT1, H3, H4, H5, HM, HL, HA⟩
    isplitl [HM HL HA Hg HT0 HT1]
    · isplitl [HM HL HA]
      · iexists _; isplitr; swap
        · isplitl [HM]; · iexact HM
          isplitl [HL]; · iexact HL
          iexact HA
        ipureintro; intro _; first | simp only [step, if_neg q0, if_neg q1] | simp only [step, if_neg q0, if_pos q1] | simp only [step, if_pos q0, if_neg q1] | simp only [step, if_pos q0, if_pos q1]
      isplitl [Hg]; · iexact Hg
      isplitl [HT0]; · iexact HT0
      iexact HT1
    isplitl [Ho]; · iexact Ho
    isplitl [H0]; · iexact H0
    isplitl [H1]; · iexact H1
    isplitl [H2]; · iexact H2
    first
      | (isplitl [H3]; · iexists d3; iexact H3
         isplitl [H4]; · iexists d4; iexact H4
         iexists d5; iexact H5)
      | (first | simp only [step, if_neg q0, if_neg q1, resO, resL, resT] | simp only [step, if_pos q0, if_neg q1, resO, resL, resT]
         isplitl [H3]; · iexact H3
         isplitl [H4]; · iexact H4
         iexact H5)

theorem defs₀_row (t : Pt F) :
    defs₀ (F := F) .tc (cfgA (F := F)).body ((cfgA (F := F)).bodyArgs t ((cfgA (F := F)).slots t)) = bodyAt t := by
  unfold defs₀; rw [Defs.onTc_tc]

theorem body_obligation (c : Dev nD) : BodyObligation (dats (F := F) m 0 c) (defs₀ (F := F)) Variants.none () Set.univ := fun t => by
  rw [bigSep_W0, defs₀_row]
  exact triple_restated (sound_body m c t) rfl .rfl fun _ => .rfl

/-! ## The run -/

/-- The buffers the host lines write after the two tables, in order. -/
abbrev written : List (Ref sig .tc) := [main_cst, main_v0, main_v1, main_cst_1, main_v2, main_v3, main_v4, main_v5, main_v6, main_v7, main_v8]

theorem V_tabI (c : Dev nD) : V m c main_c = tabI :=
  (StableHlo.after_last_write (ops := (host (F := F)).flatten) (i := 0) (main_c_0 :: written) (r := main_c) rfl rfl (by decide) _).trans (StableHlo.nullary_result' ..)
theorem V_tabJ (c : Dev nD) : V m c main_c_0 = tabJ :=
  (StableHlo.after_last_write (ops := (host (F := F)).flatten) (i := 1) written (r := main_c_0) rfl rfl (by decide) _).trans (StableHlo.nullary_result' ..)

theorem hpf (c : Dev nD) (k) : V m c ((pcfgs (F := F) 0).pre.ref k) = (adm (F := F)).1 k := by
  match k with
  | ⟨0, _⟩ => exact V_tabI m c
  | ⟨1, _⟩ => exact V_tabJ m c
  | ⟨n + 2, h⟩ => exact absurd (show n + 2 < 2 from h) (by omega)

/-- The tables' halves the launch hands the kernel. -/
theorem tables_eq (c : Dev nD) : (Pipeline.ΦT (pcfgs (F := F) 0).pre (adm (F := F)).1 c : sProp 𝕄)
    = iprop((tb0.view.loc (c : Thread nD τ) ↦{fullShare.right} tabI) ∗ (tb1.view.loc (c : Thread nD τ) ↦{fullShare.right} tabJ)) := by
  unfold Pipeline.ΦT Pipeline.prefHeld
  rw [show (Finset.univ : Finset (Fin 2)) = insert 0 {1} from by decide, bigSep_insert (show (0 : Fin 2) ∉ ({1} : Finset (Fin 2)) from by decide), bigSep_singleton]
  rfl

theorem hin (c : Dev nD) : iprop(Pipeline.ΦA spec0 c ∗ Pipeline.ΦT (pcfgs (F := F) 0).pre (adm (F := F)).1 c) ⊢ (dats m 0 c).Φ 0 := by
  rw [show (dats m 0 c).Φ 0 = Phi m c 0 from rfl, tables_eq]
  unfold Phi Pipeline.ΦA; rw [scopedRest0_eq]
  iintro ⟨⟨⟨⟨%f, HM⟩, ⟨%g, HL⟩, ⟨%h, HA⟩⟩, Hg⟩, HT0, HT1⟩
  isplitl [HM HL HA]
  · iexists (⟨f, g, h⟩ : St F); isplitr
    · ipureintro; intro h; exact absurd rfl h
    isplitl [HM]; · rw [owns_whole]; iexact HM
    isplitl [HL]; · rw [owns_whole]; iexact HL
    rw [owns_whole]; iexact HA
  isplitl [Hg]; · iexact Hg
  isplitl [HT0]; · iexact HT0
  iexact HT1

theorem hout (c : Dev nD) : (dats m 0 c).Φ (Fin.last (cfgA (F := F)).N) ⊢ Pipeline.ΦA spec0 c := by
  rw [show (dats m 0 c).Φ (Fin.last (cfgA (F := F)).N) = Phi m c (Fin.last (cfgA (F := F)).N) from rfl]
  unfold Phi Pipeline.ΦA; rw [scopedRest0_eq]
  iintro ⟨⟨%s, %hs, HM, HL, HA⟩, Hg, HT0, HT1⟩
  isplitl [HM HL HA]
  · isplitl [HM]
    · iexists s.m; rw [← owns_whole]; iexact HM
    isplitl [HL]
    · iexists s.l; rw [← owns_whole]; iexact HL
    iexists s.a; rw [← owns_whole]; iexact HA
  iexact Hg

set_option backward.isDefEq.respectTransparency.types false in
/-- Every run ends with the written blocks in their arrays, the other buffers as the kernel found them, and every
    counter at zero. -/
theorem run_main : θ_run defs (onTc (τ := τ) (main (F := F))) (s₀ m ρ)
    (fun r => Pipeline.FramePost (Pipeline.pin (pcfgs (F := F)) fun _ => adm) (dats m) 0 (V m) r ∧ r.2.sem = fun _ => 0) :=
  Pipeline.θ_run_frameP_track (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := V_main m) (hA := A_eq m) (hpf := hpf m) (hin := hin m) (hout := hout m)

end Cert.MlaIdeal.Hand

end
-- ==== Proof.Reals.lean ====
/-
  Extended reals that are real numbers: sums, quotients, and the constants and masks that the attention's lines name.
-/
module

public import Idealize.ShloMosaic.Lib.Pointwise
public import Idealize.ShloMosaic.Lib.ValueIdx
public import Mathlib.Tactic.Ring
public import Mathlib.Tactic.FieldSimp
public import Mathlib.Tactic.NormNum

@[expose] public section

noncomputable section

namespace Cert.Reals

open Idealize.ShloMosaic
open scoped BigOperators

/-- A finite sum of real numbers, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are real numbers is the real sum. -/
theorem sum_eq {ι : Type*} (s : Finset ι) (g : ι → EReal) (f : ι → ℝ) (h : ∀ i ∈ s, g i = (f i : EReal)) :
    ∑ i ∈ s, g i = ((∑ i ∈ s, f i : ℝ) : EReal) := by
  rw [coe_sum]; exact Finset.sum_congr rfl h

/-- A quotient of real numbers, the divisor not zero. -/
theorem div_real (x y : ℝ) (h : y ≠ 0) : Ideal.div (x : EReal) (y : EReal) = ((x / y : ℝ) : EReal) := by
  rw [Ideal.div_coe h, ← EReal.coe_mul]; congr 1; ring

/-- A finite value is the coercion of its real part. -/
theorem coe_of_abs_lt {x : EReal} (h : x ≠ ⊤) (h' : x ≠ ⊥) : x = ((x.toReal : ℝ) : EReal) := (EReal.coe_toReal h h').symm

/-- The largest of finitely many values below plus infinity, one of them above minus infinity. -/
theorem fold_max_real {ι : Type*} [Fintype ι] (f : ι → EReal) (hf : ∀ j, f j < ⊤) (i : ι) (hi : ⊥ < f i) (x : EReal)
    (hx : x = Finset.univ.fold max ⊥ f) : x = ((x.toReal : ℝ) : EReal) := by
  refine coe_of_abs_lt (ne_of_lt ?_) (ne_of_gt ?_)
  · rw [hx, Finset.fold_max_lt]
    exact ⟨bot_lt_top, fun j _ => hf j⟩
  · rw [hx]
    refine lt_of_lt_of_le hi ?_
    rw [Finset.le_fold_max]
    exact .inr ⟨i, Finset.mem_univ _, le_rfl⟩

/-- A comparison of two small numbers kept as 32-bit words, as a choice. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  have e : (BitVec.ofNat 32 a).sle (BitVec.ofNat 32 b) = decide (a ≤ b) := by
    rw [BitVec.sle_eq_decide, BitVec.toInt_eq_toNat_cond, BitVec.toInt_eq_toNat_cond]
    simp only [BitVec.toNat_ofNat]
    rw [Nat.mod_eq_of_lt (by omega), Nat.mod_eq_of_lt (by omega), if_pos (by omega), if_pos (by omega)]
    simp
  unfold Scalar.select IntOp.cmpi
  rw [e]
  by_cases h : a ≤ b <;> simp [h]

/-- The same, the right side an offset of zero. -/
theorem select_le_zero_add {α : Type} (a b : ℕ) (ha : a < 2 ^ 31) (hb : b < 2 ^ 31) (x y : α) :
    Scalar.select (IntOp.cmpi .sle (BitVec.ofNat 32 a) (IntOp.addi (0#32) (BitVec.ofNat 32 b))) x y = if a ≤ b then x else y := by
  have e : IntOp.addi (0#32) (BitVec.ofNat 32 b) = BitVec.ofNat 32 b := by unfold IntOp.addi; simp
  rw [e, select_le a b ha hb]

/-- The word of minus infinity. -/
theorem ofBits_bot : Ideal.ofBits .f32 4286578688#32 = ⊥ := by simp [Ideal.ofBits, Ideal.ieee]

/-- The word of two. -/
theorem ofBits_two : Ideal.ofBits .f32 1073741824#32 = ((2 : ℝ) : EReal) := by
  have e1 : ((1073741824#32 : BitVec 32).extractLsb' 31 1 == 1#1) = false := by decide
  have e2 : ((1073741824#32 : BitVec 32).extractLsb' 23 8).toNat = 128 := by decide
  have e3 : ((1073741824#32 : BitVec 32).extractLsb' 0 23).toNat = 0 := by decide
  simp only [Ideal.ofBits, Ideal.ieee, e1, e2, e3]
  norm_num

/-- The score's scale, the real number of its float word. -/
def c1 : ℝ := (Ideal.ofBits .f32 1037108716#32).toReal

theorem ofBits_c1 : Ideal.ofBits .f32 1037108716#32 = (c1 : EReal) := by
  have e2 : ((1037108716#32 : BitVec 32).extractLsb' 23 8).toNat = 123 := by decide
  have h : ∃ r : ℝ, Ideal.ofBits .f32 1037108716#32 = (r : EReal) := by
    simp only [Ideal.ofBits, Ideal.ieee, e2]
    exact ⟨_, by norm_num; rfl⟩
  obtain ⟨r, hr⟩ := h
  unfold c1
  rw [hr, EReal.toReal_coe]

end Cert.Reals

end
-- ==== Proof.Running.lean ====
/-
  A softmax taken run by run. The largest of the first scores, and the scores' weights summed from that level, follow the
  scores as they come: a new largest score rescales the sums so far. No score need be finite for this. Where the visible
  scores are real, the quotient of two such sums is the sum over the normalised exponentials.
-/
module

public import proofs.«01_k».proof.Proof.Reals
public import Mathlib.Analysis.SpecialFunctions.Log.Basic
public import Mathlib.Analysis.SpecialFunctions.Pow.Real
public import Mathlib.Algebra.BigOperators.Intervals

@[expose] public section

noncomputable section

namespace Cert.Running

open Idealize.ShloMosaic
open scoped BigOperators

theorem exp2_bot : Ideal.exp2 ⊥ = 0 := rfl

/-- Weights from one level, rescaled to a higher one. -/
theorem rescale {s a b : EReal} (h : s ≤ a) (h' : a ≤ b) : Ideal.exp2 (a - b) * Ideal.exp2 (s - a) = Ideal.exp2 (s - b) := by
  induction b using EReal.rec with
  | bot =>
    obtain rfl : a = ⊥ := le_bot_iff.mp h'
    obtain rfl : s = ⊥ := le_bot_iff.mp h
    rw [EReal.bot_sub, exp2_bot, zero_mul]
  | top => rw [EReal.sub_top, EReal.sub_top, exp2_bot, zero_mul]
  | coe b =>
    induction a using EReal.rec with
    | bot =>
      obtain rfl : s = ⊥ := le_bot_iff.mp h
      rw [EReal.bot_sub, EReal.bot_sub, exp2_bot, zero_mul]
    | top => exact absurd h' (by simp)
    | coe a =>
      induction s using EReal.rec with
      | bot => rw [EReal.bot_sub, EReal.bot_sub, exp2_bot, mul_zero]
      | top => exact absurd h (by simp)
      | coe s =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (s - a) = (2 : ℝ) ^ (s - b)
        rw [← Real.rpow_add (by norm_num)]
        congr 1
        ring

/-- The factor of a rescaling is a real number, not negative. -/
theorem factor {a b : EReal} (h : a ≤ b) : ∃ r : ℝ, 0 ≤ r ∧ Ideal.exp2 (a - b) = (r : EReal) := by
  induction b using EReal.rec with
  | bot =>
    obtain rfl : a = ⊥ := le_bot_iff.mp h
    exact ⟨0, le_rfl, by rw [EReal.bot_sub, exp2_bot, EReal.coe_zero]⟩
  | top => exact ⟨0, le_rfl, by rw [EReal.sub_top, exp2_bot, EReal.coe_zero]⟩
  | coe b =>
    induction a using EReal.rec with
    | bot => exact ⟨0, le_rfl, by rw [EReal.bot_sub, exp2_bot, EReal.coe_zero]⟩
    | top => exact absurd h (by simp)
    | coe a => exact ⟨(2 : ℝ) ^ (a - b), Real.rpow_nonneg (by norm_num) _, by rw [← EReal.coe_sub, Ideal.exp2_coe]; rfl⟩

/-- A real factor that is not negative goes into a sum. -/
theorem real_mul_sum {ι : Type*} (s : Finset ι) (f : ι → EReal) {r : ℝ} (hr : 0 ≤ r) : (r : EReal) * ∑ j ∈ s, f j = ∑ j ∈ s, (r : EReal) * f j := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-- The largest of the first `N` scores. -/
def top (Z : ℕ → EReal) (N : ℕ) : EReal := (Finset.range N).sup Z

/-- The first `N` values, weighted from that level. -/
def sum (Z U : ℕ → EReal) (N : ℕ) : EReal := ∑ j ∈ Finset.range N, U j * Ideal.exp2 (Z j - top Z N)

variable (Z U : ℕ → EReal)

theorem top_zero : top Z 0 = ⊥ := rfl
theorem sum_zero : sum Z U 0 = 0 := rfl

theorem top_add (N B : ℕ) : top Z (N + B) = max (top Z N) (Finset.univ.fold max ⊥ fun j : Fin B => Z (N + j.val)) := by
  refine le_antisymm (Finset.sup_le fun j hj => ?_) (max_le (Finset.sup_mono (Finset.range_subset_range.2 (Nat.le_add_right N B))) ?_)
  · by_cases h : j < N
    · exact le_max_of_le_left (Finset.le_sup (f := Z) (Finset.mem_range.2 h))
    · have hj' := Finset.mem_range.1 hj
      refine le_max_of_le_right (Finset.le_fold_max _ |>.2 (.inr ⟨⟨j - N, by omega⟩, Finset.mem_univ _, ?_⟩))
      dsimp only
      rw [Nat.add_sub_cancel' (by omega)]
  · rw [Finset.fold_max_le]
    exact ⟨bot_le, fun j _ => Finset.le_sup (f := Z) (Finset.mem_range.2 (by omega))⟩

theorem top_le (N B : ℕ) : top Z N ≤ top Z (N + B) := by rw [top_add]; exact le_max_left _ _

theorem sum_add (N B : ℕ) : sum Z U (N + B) = Ideal.exp2 (top Z N - top Z (N + B)) * sum Z U N
    + ∑ j : Fin B, U (N + j.val) * Ideal.exp2 (Z (N + j.val) - top Z (N + B)) := by
  obtain ⟨r, hr, e⟩ := factor (top_le Z N B)
  unfold sum
  rw [Finset.sum_range_add, Fin.sum_univ_eq_sum_range (fun j => U (N + j) * Ideal.exp2 (Z (N + j) - top Z (N + B))) B, e, real_mul_sum _ _ hr]
  refine congrArg (· + _) (Finset.sum_congr rfl fun j hj => ?_)
  rw [← e, mul_left_comm, rescale (show Z j ≤ top Z N from Finset.le_sup (f := Z) hj) (top_le Z N B)]

section Real

variable {Z U} {n : ℕ} {s : ℕ → ℝ} {i N : ℕ} {S : Fin n → EReal} (hi : i < N) (hN : N ≤ n)
  (hZ : ∀ j < N, Z j = if j ≤ i then ((s j * (Real.log 2)⁻¹ : ℝ) : EReal) else ⊥) (hS : ∀ j : Fin n, S j = if j.val ≤ i then (s j.val : EReal) else ⊥)
include hi hN hZ hS

/-- The largest score is real, in either base. -/
theorem top_real : ∃ μ : ℝ, top Z N = ((μ * (Real.log 2)⁻¹ : ℝ) : EReal) ∧ Finset.univ.fold max ⊥ S = (μ : EReal) := by
  have hκ : (0 : ℝ) ≤ (Real.log 2)⁻¹ := inv_nonneg.mpr (Real.log_pos (by norm_num)).le
  obtain ⟨k, hk, hm⟩ := Finset.exists_max_image (Finset.range (i + 1)) s ⟨0, Finset.mem_range.2 (by omega)⟩
  have hk' : k ≤ i := by have := Finset.mem_range.1 hk; omega
  refine ⟨s k, le_antisymm (Finset.sup_le fun j hj => ?_) ?_, le_antisymm ?_ ?_⟩
  · rw [hZ j (Finset.mem_range.1 hj)]
    split
    · exact EReal.coe_le_coe_iff.2 (mul_le_mul_of_nonneg_right (hm j (Finset.mem_range.2 (by omega))) hκ)
    · exact bot_le
  · refine le_trans (le_of_eq ?_) (Finset.le_sup (f := Z) (Finset.mem_range.2 (show k < N by omega)))
    rw [hZ k (by omega), if_pos hk']
  · rw [Finset.fold_max_le]
    refine ⟨bot_le, fun j _ => ?_⟩
    rw [hS]
    split
    · exact EReal.coe_le_coe_iff.2 (hm j.val (Finset.mem_range.2 (by omega)))
    · exact bot_le
  · refine Finset.le_fold_max _ |>.2 (.inr ⟨⟨k, by omega⟩, Finset.mem_univ _, le_of_eq ?_⟩)
    rw [hS, if_pos hk']

/-- The weights are real, the same in either base, and their sum is positive. -/
theorem weights : ∃ (μ τ : ℝ) (e : ℕ → ℝ), top Z N = ((μ * (Real.log 2)⁻¹ : ℝ) : EReal) ∧ Finset.univ.fold max ⊥ S = (μ : EReal) ∧ 0 < τ
    ∧ (∀ U' : ℕ → EReal, sum Z U' N = ∑ j : Fin n, U' j.val * (e j.val : EReal))
    ∧ (∀ j : Fin n, Ideal.exp (S j - μ) = (e j.val : EReal)) ∧ (∑ j : Fin n, (e j.val : EReal)) = τ := by
  obtain ⟨μ, h1, h2⟩ := top_real hi hN hZ hS
  have hlog : Real.log 2 ≠ 0 := (Real.log_pos (by norm_num)).ne'
  refine ⟨μ, ∑ j : Fin n, if j.val ≤ i then Real.exp (s j.val - μ) else 0, fun j => if j ≤ i then Real.exp (s j - μ) else 0, h1, h2, ?_, fun U' => ?_, fun j => ?_,
    (Cert.Reals.coe_sum _ _).symm⟩
  · refine Finset.sum_pos' (fun j _ => ?_) ⟨⟨i, by omega⟩, Finset.mem_univ _, ?_⟩
    · split
      · exact (Real.exp_pos _).le
      · exact le_rfl
    · rw [if_pos le_rfl]; exact Real.exp_pos _
  · rw [Fin.sum_univ_eq_sum_range (fun j => U' j * ((if j ≤ i then Real.exp (s j - μ) else 0 : ℝ) : EReal)) n,
      ← Finset.sum_subset (Finset.range_subset_range.2 hN) (fun j _ hj => by
        rw [if_neg (by have : N ≤ j := by simpa using hj
                       omega), EReal.coe_zero, mul_zero])]
    refine Finset.sum_congr rfl fun j hj => congrArg (U' j * ·) ?_
    rw [h1, hZ j (Finset.mem_range.1 hj)]
    split
    · rw [← EReal.coe_sub, Ideal.exp2_coe]
      congr 1
      show (2 : ℝ) ^ (s j * (Real.log 2)⁻¹ - μ * (Real.log 2)⁻¹) = Real.exp (s j - μ)
      rw [Real.rpow_def_of_pos (by norm_num)]
      congr 1
      field_simp
    · rw [EReal.bot_sub, exp2_bot, EReal.coe_zero]
  · rw [hS]
    dsimp only
    split
    · rw [← EReal.coe_sub, Ideal.exp_coe]
    · rw [EReal.bot_sub, EReal.coe_zero]; rfl

/-- The quotient of the weighted values by the weights. -/
theorem quotient : Ideal.div (sum Z U N) (sum Z (fun _ => 1) N)
    = ∑ j : Fin n, U j.val * Ideal.div (Ideal.exp (S j - Finset.univ.fold max ⊥ S)) (∑ j' : Fin n, Ideal.exp (S j' - Finset.univ.fold max ⊥ S)) := by
  obtain ⟨μ, τ, e, -, h2, hτ, h3, h4, h5⟩ := weights hi hN hZ hS
  simp only [h2, h3, h4, one_mul, h5, Ideal.div_coe hτ.ne']
  rw [mul_comm, real_mul_sum _ _ (one_div_nonneg.mpr hτ.le)]
  exact Finset.sum_congr rfl fun j _ => by rw [mul_left_comm, mul_comm (e j.val : EReal)]

/-- The base-2 logarithm of the sum of the exponentials. -/
theorem logSum : top Z N + Ideal.log (sum Z (fun _ => 1) N) * (((Real.log 2)⁻¹ : ℝ) : EReal)
    = Ideal.div (Finset.univ.fold max ⊥ S + Ideal.log (∑ j : Fin n, Ideal.exp (S j - Finset.univ.fold max ⊥ S))) (Ideal.log ((2 : ℝ) : EReal)) := by
  obtain ⟨μ, τ, e, h1, h2, hτ, h3, h4, h5⟩ := weights hi hN hZ hS
  simp only [h1, h2, h3, h4, one_mul, h5]
  rw [Ideal.log_coe, if_neg (by linarith), Ideal.log_coe, if_neg (by norm_num), ← EReal.coe_add, Cert.Reals.div_real _ _ (Real.log_pos (by norm_num)).ne',
    ← EReal.coe_mul, ← EReal.coe_add]
  congr 1
  ring

end Real

end Cert.Running

end
-- ==== Proof.MlaBlock.lean ====
/-
  What one block of keys does to the attention kernel's scratches, a query at a time: the largest score so far, the sum of
  the weights and the weighted values move on by the block's keys.
-/
module

public import proofs.«01_k».proof.Proof.MlaBody
public import proofs.«01_k».proof.Proof.Running
public import Idealize.ShloMosaic.Lib.Pointwise
public import Idealize.ShloMosaic.Lib.ValueIdx

@[expose] public section

noncomputable section

namespace Cert.MlaIdeal.Block

open Cert.MlaIdeal Cert.MlaIdeal.Gen Cert.MlaIdeal.Hand Idealize.ShloMosaic

variable (q k : Vec Ideal S1024x128 .bf16) (v : Vec Ideal S128x1024 .bf16) (m l : Vec Ideal S1x1024 .f32) (a : Vec Ideal S128x1024 .f32)

/-- The scores of a block of keys, and of the block on the diagonal. -/
theorem pay9_apply (j r : Fin 1024) : (k0_pay9 k q : S1024x1024.Idx → EReal) (ix2 j r) = ∑ y : Fin 128, (k (ix2 j y) : EReal) * q (ix2 r y) := by
  unfold k0_pay9
  pointwise

theorem pay16_apply (j r : Fin 1024) : (k0_pay16 k q : S1024x1024.Idx → EReal) (ix2 j r) = if j.val ≤ r.val then ∑ y : Fin 128, (k (ix2 j y) : EReal) * q (ix2 r y) else ⊥ := by
  unfold k0_pay16
  pointwise
  rw [Cert.Reals.select_le j.val r.val (by omega) (by omega), Cert.Reals.ofBits_bot]

theorem pay15_apply (r : Fin 1024) : (k0_pay15 k q m : S1x1024.Idx → EReal) (ix2 0 r) = max (m (ix2 0 r) : EReal) (Finset.univ.fold max ⊥ fun j : Fin 1024 => (k0_pay9 k q (ix2 j r) : EReal)) := by
  unfold k0_pay15 k0_pay10
  generalize k0_pay9 k q = s
  pointwise
  rw [Cert.Reals.ofBits_bot]

theorem pay17_apply (r : Fin 1024) : (k0_pay17 k q m : S1x1024.Idx → EReal) (ix2 0 r) = max (m (ix2 0 r) : EReal) (Finset.univ.fold max ⊥ fun j : Fin 1024 => (k0_pay16 k q (ix2 j r) : EReal)) := by
  unfold k0_pay17
  generalize k0_pay16 k q = s
  pointwise
  rw [Cert.Reals.ofBits_bot]

theorem pay13_apply (r : Fin 1024) : (k0_pay13 k q m l : S1x1024.Idx → EReal) (ix2 0 r)
    = Ideal.exp2 ((m (ix2 0 r) : EReal) - k0_pay10 k q m (ix2 0 r)) * l (ix2 0 r) + ∑ j : Fin 1024, Ideal.exp2 ((k0_pay9 k q (ix2 j r) : EReal) - k0_pay10 k q m (ix2 0 r)) := by
  unfold k0_pay13 k0_pay12 k0_pay11
  generalize k0_pay10 k q m = w
  generalize k0_pay9 k q = s
  pointwise
  rfl

theorem pay20_apply (r : Fin 1024) : (k0_pay20 k q m l : S1x1024.Idx → EReal) (ix2 0 r)
    = Ideal.exp2 ((m (ix2 0 r) : EReal) - k0_pay17 k q m (ix2 0 r)) * l (ix2 0 r) + ∑ j : Fin 1024, Ideal.exp2 ((k0_pay16 k q (ix2 j r) : EReal) - k0_pay17 k q m (ix2 0 r)) := by
  unfold k0_pay20 k0_pay19 k0_pay18
  generalize k0_pay17 k q m = w
  generalize k0_pay16 k q = s
  pointwise
  rfl

theorem pay14_apply (x : Fin 128) (r : Fin 1024) : (k0_pay14 k q m a v : S128x1024.Idx → EReal) (ix2 x r)
    = Ideal.exp2 ((m (ix2 0 r) : EReal) - k0_pay10 k q m (ix2 0 r)) * a (ix2 x r) + ∑ j : Fin 1024, (v (ix2 x j) : EReal) * Ideal.exp2 ((k0_pay9 k q (ix2 j r) : EReal) - k0_pay10 k q m (ix2 0 r)) := by
  unfold k0_pay14 k0_pay12 k0_pay11
  generalize k0_pay10 k q m = w
  generalize k0_pay9 k q = s
  pointwise
  rfl

theorem pay21_apply (x : Fin 128) (r : Fin 1024) : (k0_pay21 k q m a v : S128x1024.Idx → EReal) (ix2 x r)
    = Ideal.exp2 ((m (ix2 0 r) : EReal) - k0_pay17 k q m (ix2 0 r)) * a (ix2 x r) + ∑ j : Fin 1024, (v (ix2 x j) : EReal) * Ideal.exp2 ((k0_pay16 k q (ix2 j r) : EReal) - k0_pay17 k q m (ix2 0 r)) := by
  unfold k0_pay21 k0_pay19 k0_pay18
  generalize k0_pay17 k q m = w
  generalize k0_pay16 k q = s
  pointwise
  rfl

theorem pay4_apply (r : Fin 1024) : (k0_pay4 (F := Ideal) m : S1x1024.Idx → EReal) (ix2 0 r) = m (ix2 0 r) := by
  unfold k0_pay4
  pointwise

theorem pay15_eq (r : Fin 1024) : (k0_pay15 k q m : S1x1024.Idx → EReal) (ix2 0 r) = k0_pay10 k q m (ix2 0 r) := by
  unfold k0_pay15
  generalize k0_pay10 k q m = w
  pointwise

/-- The three results. -/
theorem pay5_apply (r : Fin 1024) (x : Fin 128) : (k0_pay5 a l : S1024x128.Idx → EReal) (ix2 r x) = Ideal.div (a (ix2 x r)) (l (ix2 0 r)) := by
  unfold k0_pay5
  pointwise

theorem pay7_apply (e : Fin 8) (r : Fin 1024) : (k0_pay7 m l : S8x1024.Idx → EReal) (ix2 e r) = (m (ix2 0 r) : EReal) + Ideal.log (l (ix2 0 r)) * (((Real.log 2)⁻¹ : ℝ) : EReal) := by
  unfold k0_pay7 k0_pay6
  pointwise
  rfl

theorem pay8_apply (r : Fin 1024) (x : Fin 128) : (k0_pay8 m l : S1024x128.Idx → EReal) (ix2 r x) = (m (ix2 0 r) : EReal) + Ideal.log (l (ix2 0 r)) * (((Real.log 2)⁻¹ : ℝ) : EReal) := by
  unfold k0_pay8 k0_pay6
  pointwise
  rfl

/-- The scratches hold, for a query, what its first `N` scores and their values give. -/
structure At (s : St Ideal) (r : Fin 1024) (Z : ℕ → EReal) (U : Fin 128 → ℕ → EReal) (N : ℕ) : Prop where
  m : (s.m (ix2 0 r) : EReal) = Cert.Running.top Z N
  l : (s.l (ix2 0 r) : EReal) = Cert.Running.sum Z (fun _ => 1) N
  a : ∀ x, (s.a (ix2 x r) : EReal) = Cert.Running.sum Z (U x) N

variable (s : St Ideal) (r : Fin 1024) (Z : ℕ → EReal) (U : Fin 128 → ℕ → EReal) (N : ℕ)

theorem start_at : At start r Z U 0 where
  m := by
    show (k0_pay1 (F := Ideal) (ix2 0 r) : EReal) = ⊥
    unfold k0_pay1
    pointwise
    exact Cert.Reals.ofBits_bot
  l := by
    show (k0_pay2 (F := Ideal) (ix2 0 r) : EReal) = 0
    unfold k0_pay2
    pointwise
  a x := by
    show (k0_pay3 (F := Ideal) (ix2 x r) : EReal) = 0
    unfold k0_pay3
    pointwise

variable {s Z U N}

theorem below_at (h : At s r Z U N) (hZ : ∀ j : Fin 1024, Z (N + j.val) = ∑ y : Fin 128, (k (ix2 j y) : EReal) * q (ix2 r y))
    (hU : ∀ x (j : Fin 1024), U x (N + j.val) = (v (ix2 x j) : EReal)) : At (below q k v s) r Z U (N + 1024) := by
  have e : (k0_pay10 k q s.m (ix2 0 r) : EReal) = Cert.Running.top Z (N + 1024) := by
    refine (pay15_eq q k s.m r).symm.trans ?_
    rw [pay15_apply, h.m, Cert.Running.top_add]
    simp only [pay9_apply, hZ]
  refine ⟨(pay15_eq q k s.m r).trans e, ?_, fun x => ?_⟩
  · show (k0_pay13 k q s.m s.l (ix2 0 r) : EReal) = _
    rw [pay13_apply, e, h.m, h.l, Cert.Running.sum_add]
    simp only [pay9_apply, hZ, one_mul]
  · show (k0_pay14 k q s.m s.a v (ix2 x r) : EReal) = _
    rw [pay14_apply, e, h.m, h.a, Cert.Running.sum_add]
    simp only [pay9_apply, hZ, hU]

theorem diag_at (h : At s r Z U N) (hZ : ∀ j : Fin 1024, Z (N + j.val) = if j.val ≤ r.val then ∑ y : Fin 128, (k (ix2 j y) : EReal) * q (ix2 r y) else ⊥)
    (hU : ∀ x (j : Fin 1024), U x (N + j.val) = (v (ix2 x j) : EReal)) : At (diag q k v s) r Z U (N + 1024) := by
  have e : (k0_pay17 k q s.m (ix2 0 r) : EReal) = Cert.Running.top Z (N + 1024) := by
    rw [pay17_apply, h.m, Cert.Running.top_add]
    simp only [pay16_apply, hZ]
  refine ⟨(pay4_apply (k0_pay17 k q s.m) r).trans e, ?_, fun x => ?_⟩
  · show (k0_pay20 k q s.m s.l (ix2 0 r) : EReal) = _
    rw [pay20_apply, e, h.m, h.l, Cert.Running.sum_add]
    simp only [pay16_apply, hZ, one_mul]
  · show (k0_pay21 k q s.m s.a v (ix2 x r) : EReal) = _
    rw [pay21_apply, e, h.m, h.a, Cert.Running.sum_add]
    simp only [pay16_apply, hZ, hU]

end Cert.MlaIdeal.Block

end
-- ==== Proof.DkvBody.lean ====
/-
  What one grid point of the key- and value-gradient kernel of the attention does to its buffers: the two accumulators
  (scratches) are cleared at the diagonal block, which is a key block's first, gain the products of the block's score
  gradient with the queries and of its weights with the output's gradient, and at the last query block are stored, the
  keys' one scaled.
-/
module

public import proofs.«01_k».proof.Proof.Gen.DkvIdeal.Skeleton
public import proofs.«01_k».proof.Proof.Gen.DkvIdeal.Launch
public import proofs.«01_k».proof.Proof.Stored

@[expose] public section

set_option maxRecDepth 16384

noncomputable section

namespace Cert.DkvIdeal.Hand

open Cert.DkvIdeal Cert.DkvIdeal.Gen Cert.Stored
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The tables and the accumulators of the keys' and the values' gradients, whole. -/
abbrev tb0 : Memref sig .tc .smem S10 .i32 := Memref.whole main_c
abbrev tb1 : Memref sig .tc .smem S10 .i32 := Memref.whole main_c_0
abbrev acc : Memref sig .tc .vmem S1024x128 .f32 := Memref.whole cc0_scratch0
abbrev bcc : Memref sig .tc .vmem S1024x128 .f32 := Memref.whole cc0_scratch1

theorem hz : (![0, 0] : Fin 2 → Nat) = fun _ => 0 := funext fun a => by fin_cases a <;> rfl

/-- The word of a table the point reads: the query block's number, the key block's. -/
abbrev iword (T0 : S10.Idx → Elt F .i32) (i : grid0.Coords) : BitVec 32 :=
  View.readAt (Elt F) (tb0).view (Rect.unit (s := S10) (k0_off1 i) S1.size (k0_off1_inb i)).toLoadRect T0 (Shape.Idx.first (numel1_S1.symm ▸ Nat.one_pos))
abbrev jword (T1 : S10.Idx → Elt F .i32) (i : grid0.Coords) : BitVec 32 :=
  View.readAt (Elt F) (tb1).view (Rect.unit (s := S10) (k0_off1 i) S1.size (k0_off1_inb i)).toLoadRect T1 (Shape.Idx.first (numel1_S1.symm ▸ Nat.one_pos))

/-- The kernel's tests at a point: on the diagonal, below it. -/
abbrev atDiag (T0 T1 : S10.Idx → Elt F .i32) (i : grid0.Coords) : Prop := Scalar.cmpi .ne (Scalar.extui (Scalar.cmpi .eq (iword T0 i) (jword T1 i))) 0#32 = 1#1
abbrev atBelow (T0 T1 : S10.Idx → Elt F .i32) (i : grid0.Coords) : Prop := Scalar.cmpi .ne (Scalar.extui (Scalar.cmpi .sgt (iword T0 i) (jword T1 i))) 0#32 = 1#1

section Runs
variable (c : Dev nD) (i : grid0.Coords)
  (arg4 : Memref sig .tc .vmem S1024x128 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1024x128 .f32) (harg7 : arg7.IsWhole)
  (arg8 : Memref sig .tc .vmem S8x1024 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (T0 T1 : S10.Idx → Elt F .i32)
  (q k v : Vec F S1024x128 .bf16) (o : Vec F S1024x128 .f32) (l : Vec F S8x1024 .f32) (d y z a b : Vec F S1024x128 .f32)

/-- The buffers before and after a point: the inputs, the tables, the outputs at `y` and `z`, the accumulators at `a` and `b`. -/
def Held (y z a b : Vec F S1024x128 .f32) : sProp 𝕄 :=
  iprop(owns (c : Thread nD τ) arg4 fullShare q ∗ owns (c : Thread nD τ) arg5 fullShare k ∗ owns (c : Thread nD τ) arg6 fullShare v
    ∗ owns (c : Thread nD τ) arg7 fullShare o ∗ owns (c : Thread nD τ) arg8 fullShare l ∗ owns (c : Thread nD τ) arg9 fullShare d
    ∗ (tb0.view.loc (c : Thread nD τ) ↦{fullShare.right} T0) ∗ (tb1.view.loc (c : Thread nD τ) ↦{fullShare.right} T1)
    ∗ owns (c : Thread nD τ) arg10 fullShare y ∗ owns (c : Thread nD τ) arg11 fullShare z
    ∗ owns (c : Thread nD τ) acc fullShare a ∗ owns (c : Thread nD τ) bcc fullShare b)

/-- The row of base-2 log-sums a block reads. -/
def line (l : Vec F S8x1024 .f32) : Vec F S1x1024 .f32 :=
  View.ld l (Rect.unit (s := S8x1024) ![0, 0] S1x1024.size inb_S8x1024_S1x1024_0_0)

/-- The accumulators after a block past the diagonal, and after a diagonal block. -/
def below (a : Vec F S1024x128 .f32) : Vec F S1024x128 .f32 := k0_pay3 a (k0_pay9 q d o (line l) k v)
def belowV (b : Vec F S1024x128 .f32) : Vec F S1024x128 .f32 := k0_pay8 q d (line l) k b
def diag (a : Vec F S1024x128 .f32) : Vec F S1024x128 .f32 := k0_pay4 (k0_pay10 q) (k0_pay11 d o) (k0_pay12 q (line l) k) (k0_pay14 d v) a
def diagV (b : Vec F S1024x128 .f32) : Vec F S1024x128 .f32 := k0_pay13 q d (line l) k b

/-- The kernel's call at a point. -/
abbrev call : Prog (TpuEff nD τ sig (Elt F) Λ₀ .tc) PUnit :=
  cc0_mla_dkv i tb0 (Memref.isWhole_whole _) tb1 (Memref.isWhole_whole _) arg4 harg4 arg5 harg5 arg6 harg6 arg7 harg7 arg8 harg8 arg9 harg9 arg10 harg10 arg11 harg11 acc (Memref.isWhole_whole _) bcc (Memref.isWhole_whole _)

/-- A memref's buffer at the contents `x` is the memref owned at `x`. -/
theorem owned {sp : Space} {sh : Shape} {e : EltTy} (m : Memref sig .tc sp sh e) (h : m.IsWhole) (x : sh.Idx → Elt F e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; swap
  · iexact H
  ipureintro; exact h.read_unread _

set_option maxHeartbeats 8000000 in
/-- A key block's first block, at the diagonal: the accumulators start at the block's masked products. -/
theorem run_A (hc0 : atDiag T0 T1 i) (hc1 : ¬atBelow T0 T1 i) (hc3 : ¬k0_cond4 (iword T0 i) = 1#1) (K : PUnit → sProp 𝕄) :
    iprop(Held c arg4 arg5 arg6 arg7 arg8 arg9 arg10 arg11 T0 T1 q k v o l d y z a b
      ∗ (Held c arg4 arg5 arg6 arg7 arg8 arg9 arg10 arg11 T0 T1 q k v o l d y z (diag q k v o l d k0_pay1) (diagV q k l d k0_pay2) -∗ K ⟨⟩))
      ⊢ wp frame (wpE (defs₀ (F := F)) Variants.none c none) Set.univ (call i arg4 harg4 arg5 harg5 arg6 harg6 arg7 harg7 arg8 harg8 arg9 harg9 arg10 harg10 arg11 harg11) K := by
  unfold call Held
  rw [cc0_mla_dkv_eq_skeleton]; unfold cc0_mla_dkv_skel
  rw [k0_part2_eq_skeleton]; unfold k0_part2_skel
  have hS0 : acc.IsWhole := Memref.isWhole_whole _
  have hS1 : bcc.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, ⟨%f7, %h7, H7⟩, ⟨%f8, %h8, H8⟩, ⟨%f9, %h9, H9⟩, HT0, HT1, ⟨%f10, %h10, H10⟩, ⟨%f11, %h11, H11⟩, ⟨%f12, %h12, H12⟩, ⟨%f13, %h13, H13⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := hS0.eq_unread h12
  obtain rfl := hS1.eq_unread h13
  sl_exec! (disch := first | (guard_target = ¬(Scalar.cmpi = _); exact hc1) | (guard_target = Scalar.cmpi = _; exact hc0) | (guard_target = ¬(k0_cond4 _ = _); exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [H7]; · iapply owned (F := F) c arg7 harg7; iexact H7
  isplitl [H8]; · iapply owned (F := F) c arg8 harg8; iexact H8
  isplitl [H9]; · iapply owned (F := F) c arg9 harg9; iexact H9
  isplitl [HT0]; · iexact HT0
  isplitl [HT1]; · iexact HT1
  isplitl [H10]; · iapply owned (F := F) c arg10 harg10; iexact H10
  isplitl [H11]; · iapply owned (F := F) c arg11 harg11; iexact H11
  isplitl [H12]; iexists _; isplitr; swap; iexact H12; rotate_left
  iexists _; isplitr; swap; iexact H13
  all_goals
    ipureintro
    sl_unfold_words
    rw [stored _ hz]
    simp only [View.readAt_eq_ld, hS0.read_unread, hS1.read_unread, Memref.IsWhole.read_unread, View.ld_unit_zero (S := S1024x128) hz, reread (S := S1024x128) _ hz, line, below, belowV, diag, diagV]

set_option maxHeartbeats 8000000 in
/-- A block past the diagonal, not the last: the accumulators gain the block's products. -/
theorem run_B (hc0 : ¬atDiag T0 T1 i) (hc1 : atBelow T0 T1 i) (hc3 : ¬k0_cond4 (iword T0 i) = 1#1) (K : PUnit → sProp 𝕄) :
    iprop(Held c arg4 arg5 arg6 arg7 arg8 arg9 arg10 arg11 T0 T1 q k v o l d y z a b
      ∗ (Held c arg4 arg5 arg6 arg7 arg8 arg9 arg10 arg11 T0 T1 q k v o l d y z (below q k v o l d a) (belowV q k l d b) -∗ K ⟨⟩))
      ⊢ wp frame (wpE (defs₀ (F := F)) Variants.none c none) Set.univ (call i arg4 harg4 arg5 harg5 arg6 harg6 arg7 harg7 arg8 harg8 arg9 harg9 arg10 harg10 arg11 harg11) K := by
  unfold call Held
  rw [cc0_mla_dkv_eq_skeleton]; unfold cc0_mla_dkv_skel
  rw [k0_part1_eq_skeleton]; unfold k0_part1_skel
  have hS0 : acc.IsWhole := Memref.isWhole_whole _
  have hS1 : bcc.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, ⟨%f7, %h7, H7⟩, ⟨%f8, %h8, H8⟩, ⟨%f9, %h9, H9⟩, HT0, HT1, ⟨%f10, %h10, H10⟩, ⟨%f11, %h11, H11⟩, ⟨%f12, %h12, H12⟩, ⟨%f13, %h13, H13⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := hS0.eq_unread h12
  obtain rfl := hS1.eq_unread h13
  sl_exec! (disch := first | (guard_target = ¬(Scalar.cmpi = _); exact hc0) | (guard_target = Scalar.cmpi = _; exact hc1) | (guard_target = ¬(k0_cond4 _ = _); exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [H7]; · iapply owned (F := F) c arg7 harg7; iexact H7
  isplitl [H8]; · iapply owned (F := F) c arg8 harg8; iexact H8
  isplitl [H9]; · iapply owned (F := F) c arg9 harg9; iexact H9
  isplitl [HT0]; · iexact HT0
  isplitl [HT1]; · iexact HT1
  isplitl [H10]; · iapply owned (F := F) c arg10 harg10; iexact H10
  isplitl [H11]; · iapply owned (F := F) c arg11 harg11; iexact H11
  isplitl [H12]; iexists _; isplitr; swap; iexact H12; rotate_left
  iexists _; isplitr; swap; iexact H13
  all_goals
    ipureintro
    sl_unfold_words
    rw [stored _ hz]
    simp only [View.readAt_eq_ld, hS0.read_unread, hS1.read_unread, Memref.IsWhole.read_unread, View.ld_unit_zero (S := S1024x128) hz, reread (S := S1024x128) _ hz, line, below, belowV, diag, diagV]

set_option maxHeartbeats 8000000 in
/-- A key block's only block, at the diagonal: the masked products are stored. -/
theorem run_C (hc0 : atDiag T0 T1 i) (hc1 : ¬atBelow T0 T1 i) (hc3 : k0_cond4 (iword T0 i) = 1#1) (K : PUnit → sProp 𝕄) :
    iprop(Held c arg4 arg5 arg6 arg7 arg8 arg9 arg10 arg11 T0 T1 q k v o l d y z a b
      ∗ (Held c arg4 arg5 arg6 arg7 arg8 arg9 arg10 arg11 T0 T1 q k v o l d (k0_pay5 (diag q k v o l d k0_pay1)) (diagV q k l d k0_pay2) (diag q k v o l d k0_pay1) (diagV q k l d k0_pay2) -∗ K ⟨⟩))
      ⊢ wp frame (wpE (defs₀ (F := F)) Variants.none c none) Set.univ (call i arg4 harg4 arg5 harg5 arg6 harg6 arg7 harg7 arg8 harg8 arg9 harg9 arg10 harg10 arg11 harg11) K := by
  unfold call Held
  rw [cc0_mla_dkv_eq_skeleton]; unfold cc0_mla_dkv_skel
  rw [k0_part2_eq_skeleton]; unfold k0_part2_skel
  have hS0 : acc.IsWhole := Memref.isWhole_whole _
  have hS1 : bcc.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, ⟨%f7, %h7, H7⟩, ⟨%f8, %h8, H8⟩, ⟨%f9, %h9, H9⟩, HT0, HT1, ⟨%f10, %h10, H10⟩, ⟨%f11, %h11, H11⟩, ⟨%f12, %h12, H12⟩, ⟨%f13, %h13, H13⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := hS0.eq_unread h12
  obtain rfl := hS1.eq_unread h13
  sl_exec! (disch := first | (guard_target = ¬(Scalar.cmpi = _); exact hc1) | (guard_target = Scalar.cmpi = _; exact hc0) | (guard_target = k0_cond4 _ = _; exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [H7]; · iapply owned (F := F) c arg7 harg7; iexact H7
  isplitl [H8]; · iapply owned (F := F) c arg8 harg8; iexact H8
  isplitl [H9]; · iapply owned (F := F) c arg9 harg9; iexact H9
  isplitl [HT0]; · iexact HT0
  isplitl [HT1]; · iexact HT1
  isplitl [H10]; iexists _; isplitr; swap; iexact H10; rotate_left
  isplitl [H11]; iexists _; isplitr; swap; iexact H11; rotate_left
  isplitl [H12]; iexists _; isplitr; swap; iexact H12; rotate_left
  iexists _; isplitr; swap; iexact H13
  all_goals
    ipureintro
    sl_unfold_words
    rw [stored _ hz]
    simp only [View.readAt_eq_ld, hS0.read_unread, hS1.read_unread, Memref.IsWhole.read_unread, View.ld_unit_zero (S := S1024x128) hz, reread (S := S1024x128) _ hz, line, below, belowV, diag, diagV]

set_option maxHeartbeats 8000000 in
/-- The last block of a key block, past the diagonal: the accumulators gain the block's products and are stored. -/
theorem run_D (hc0 : ¬atDiag T0 T1 i) (hc1 : atBelow T0 T1 i) (hc3 : k0_cond4 (iword T0 i) = 1#1) (K : PUnit → sProp 𝕄) :
    iprop(Held c arg4 arg5 arg6 arg7 arg8 arg9 arg10 arg11 T0 T1 q k v o l d y z a b
      ∗ (Held c arg4 arg5 arg6 arg7 arg8 arg9 arg10 arg11 T0 T1 q k v o l d (k0_pay5 (below q k v o l d a)) (belowV q k l d b) (below q k v o l d a) (belowV q k l d b) -∗ K ⟨⟩))
      ⊢ wp frame (wpE (defs₀ (F := F)) Variants.none c none) Set.univ (call i arg4 harg4 arg5 harg5 arg6 harg6 arg7 harg7 arg8 harg8 arg9 harg9 arg10 harg10 arg11 harg11) K := by
  unfold call Held
  rw [cc0_mla_dkv_eq_skeleton]; unfold cc0_mla_dkv_skel
  rw [k0_part1_eq_skeleton]; unfold k0_part1_skel
  have hS0 : acc.IsWhole := Memref.isWhole_whole _
  have hS1 : bcc.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, ⟨%f7, %h7, H7⟩, ⟨%f8, %h8, H8⟩, ⟨%f9, %h9, H9⟩, HT0, HT1, ⟨%f10, %h10, H10⟩, ⟨%f11, %h11, H11⟩, ⟨%f12, %h12, H12⟩, ⟨%f13, %h13, H13⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := hS0.eq_unread h12
  obtain rfl := hS1.eq_unread h13
  sl_exec! (disch := first | (guard_target = ¬(Scalar.cmpi = _); exact hc0) | (guard_target = Scalar.cmpi = _; exact hc1) | (guard_target = k0_cond4 _ = _; exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [H7]; · iapply owned (F := F) c arg7 harg7; iexact H7
  isplitl [H8]; · iapply owned (F := F) c arg8 harg8; iexact H8
  isplitl [H9]; · iapply owned (F := F) c arg9 harg9; iexact H9
  isplitl [HT0]; · iexact HT0
  isplitl [HT1]; · iexact HT1
  isplitl [H10]; iexists _; isplitr; swap; iexact H10; rotate_left
  isplitl [H11]; iexists _; isplitr; swap; iexact H11; rotate_left
  isplitl [H12]; iexists _; isplitr; swap; iexact H12; rotate_left
  iexists _; isplitr; swap; iexact H13
  all_goals
    ipureintro
    sl_unfold_words
    rw [stored _ hz]
    simp only [View.readAt_eq_ld, hS0.read_unread, hS1.read_unread, Memref.IsWhole.read_unread, View.ld_unit_zero (S := S1024x128) hz, reread (S := S1024x128) _ hz, line, below, belowV, diag, diagV]

end Runs

end Cert.DkvIdeal.Hand

end
-- ==== Proof.DkvFacts.lean ====
/-
  The schedule of the key- and value-gradient kernel of the attention: the two tables of block numbers are constants of the
  program, so which blocks a grid point reads, whether it is the first or the last of its key block, and when the
  outputs are written back are decided once, at every one of the forty points.
-/
module

public import proofs.«01_k».proof.Proof.DkvBody

@[expose] public section

set_option maxRecDepth 16384

noncomputable section

namespace Cert.DkvIdeal.Hand

open Cert.DkvIdeal Cert.DkvIdeal.Gen
open Idealize.ShloMosaic
open Idealize.ShloMosaic.TcCoe Idealize.ShloMosaic.Tactic
open Idealize.SL Idealize.SL.RA Idealize.SL.BI
open Idealize.ShloMosaic.Pipeline (Dat Cfg Window BodyObligation BodyObligationLoose cellOf)

variable {F : FTy → Type} [FloatOps F] [Named F]

/-- The query block's number at each of the ten pairs, and the key block's. -/
def rowBlock (n : ℕ) : ℕ := [0, 1, 2, 3, 1, 2, 3, 2, 3, 3].getD (n % 10) 0
def colBlock (n : ℕ) : ℕ := [0, 0, 0, 0, 1, 1, 1, 2, 2, 3].getD (n % 10) 0

/-- The two tables. -/
abbrev tabI : S10.Idx → Elt F .i32 := fun i => lit0 (S10.rowMajor i)
abbrev tabJ : S10.Idx → Elt F .i32 := fun i => lit1 (S10.rowMajor i)

set_option backward.proofsInPublic true in
/-- The tables' contents. -/
def pf : pre0.Contents (Elt F) := fun | ⟨0, _⟩ => tabI | ⟨1, _⟩ => tabJ | ⟨_ + 2, h⟩ => absurd h (by simp)

theorem inb0 : ∀ i : grid0.Coords, ∀ a, (cc0_transform_0 k0_off1_inb numel1_S1 (pf (F := F)) i a + 1) * S1024x128.size a ≤ S4096x512.size a :=
  of_decide_eq_true (by sl_kernel_rfl)
theorem inb1 : ∀ i : grid0.Coords, ∀ a, (cc0_transform_1 k0_off1_inb numel1_S1 (pf (F := F)) i a + 1) * S1024x128.size a ≤ S4096x512.size a :=
  of_decide_eq_true (by sl_kernel_rfl)
theorem inb2 : ∀ i : grid0.Coords, ∀ a, (cc0_transform_2 k0_off1_inb numel1_S1 (pf (F := F)) i a + 1) * S1024x128.size a ≤ S4096x512.size a :=
  of_decide_eq_true (by sl_kernel_rfl)
theorem inb3 : ∀ i : grid0.Coords, ∀ a, (cc0_transform_3 k0_off1_inb numel1_S1 (pf (F := F)) i a + 1) * S1024x128.size a ≤ S4096x512.size a :=
  of_decide_eq_true (by sl_kernel_rfl)
theorem inb4 : ∀ i : grid0.Coords, ∀ a, (cc0_transform_4 k0_off1_inb numel1_S1 (pf (F := F)) i a + 1) * S8x1024.size a ≤ S32x4096.size a :=
  of_decide_eq_true (by sl_kernel_rfl)
theorem inb5 : ∀ i : grid0.Coords, ∀ a, (cc0_transform_5 k0_off1_inb numel1_S1 (pf (F := F)) i a + 1) * S1024x128.size a ≤ S4096x1536.size a :=
  of_decide_eq_true (by sl_kernel_rfl)
theorem inb6 : ∀ i : grid0.Coords, ∀ a, (cc0_transform_6 k0_off1_inb numel1_S1 (pf (F := F)) i a + 1) * S1024x128.size a ≤ S4096x512.size a :=
  of_decide_eq_true (by sl_kernel_rfl)
theorem inb7 : ∀ i : grid0.Coords, ∀ a, (cc0_transform_7 k0_off1_inb numel1_S1 (pf (F := F)) i a + 1) * S1024x128.size a ≤ S4096x512.size a :=
  of_decide_eq_true (by sl_kernel_rfl)

/-- Every block lies in its array. -/
theorem pf_ok : ok0 (F := F) pf :=
  ⟨fun i => ⟨inb0 i, .inr (Affine.block_words_dvd (by decide) (by decide))⟩,
   fun i => ⟨inb1 i, .inr (Affine.block_words_dvd (by decide) (by decide))⟩,
   fun i => ⟨inb2 i, .inr (Affine.block_words_dvd (by decide) (by decide))⟩,
   fun i => ⟨inb3 i, .inl rfl⟩, fun i => ⟨inb4 i, .inl rfl⟩, fun i => ⟨inb5 i, .inl rfl⟩, fun i => ⟨inb6 i, .inl rfl⟩, fun i => ⟨inb7 i, .inl rfl⟩⟩

/-- The pipeline at these tables. -/
def adm : (pcfg0 (F := F)).Adm := ⟨pf, pf_ok⟩
abbrev cfgA : Pipeline.Cfg sig Λ₀ := cfg0 (F := F) adm
abbrev crd (t : Fin (cfgA (F := F)).N) : (cfgA (F := F)).grid.Coords := (cfgA (F := F)).grid.coords t

/-- What is decided at a point: the pair it works on, its position in its key block, the outputs' schedule. -/
abbrev FactsAt (t : Fin (cfgA (F := F)).N) : Prop :=
  (Scalar.cmpi .ne (Scalar.extui (Scalar.cmpi .eq (iword (F := F) tabI (crd t)) (jword (F := F) tabJ (crd t)))) 0#32 = 1#1 ↔ rowBlock t.val = colBlock t.val)
  ∧ (Scalar.cmpi .ne (Scalar.extui (Scalar.cmpi .sgt (iword (F := F) tabI (crd t)) (jword (F := F) tabJ (crd t)))) 0#32 = 1#1 ↔ ¬rowBlock t.val = colBlock t.val)
  ∧ (k0_cond4 (iword (F := F) tabI (crd t)) = 1#1 ↔ rowBlock t.val = 3)
  ∧ (cfgA (F := F)).idle (6 : Fin 8) (crd t) = !decide (rowBlock t.val = 3)
  ∧ ((cfgA (F := F)).win (6 : Fin 8)).flush t = decide (rowBlock t.val = 3)
  ∧ (cfgA (F := F)).idle (7 : Fin 8) (crd t) = !decide (rowBlock t.val = 3)
  ∧ ((cfgA (F := F)).win (7 : Fin 8)).flush t = decide (rowBlock t.val = 3)
  ∧ (t.val = 0 → rowBlock t.val = colBlock t.val)

theorem facts : ∀ t : Fin (cfgA (F := F)).N, FactsAt t := of_decide_eq_true (by sl_kernel_rfl)

end Cert.DkvIdeal.Hand

end
-- ==== Proof.DkvFrame.lean ====
/-
  The run of the key- and value-gradient kernel of the attention: the host lines, then the kernel's forty grid points with what
  the accumulators hold after each, then the written blocks. From any memory it ends with the arguments unchanged and
  every counter at zero.
-/
module

public import proofs.«01_k».proof.Proof.DkvFacts
public import Idealize.ShloMosaic.Lib.StableHlo.RunRead

@[expose] public section

set_option maxRecDepth 16384

noncomputable section

namespace Cert.DkvIdeal.Hand

open Cert.DkvIdeal Cert.DkvIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- A grid point. -/
abbrev Pt (F : FTy → Type) [FloatOps F] [Named F] := Fin (cfgA (F := F)).N

variable (m : (ℓ : Loc nD τ sig) → Buf (Elt F) ℓ) (ρ : Dev nD → PrngReg)

/-! ## The contents at the kernel's start -/

/-- The host lines, in their three stretches. -/
abbrev host : List (List (HloOp τ sig (Elt F))) := [hostOps0, hostOps0_1, hostOps0_2]

/-- What a buffer holds when the kernel starts. -/
def V (c : Dev nD) (b : Ref sig .tc) : Buf (Elt F) ((c.tc : Thread nD τ).loc b) :=
  StableHlo.after (host (F := F)).flatten (fun b => m (c, b)) b

theorem host_sub : (host (F := F)).Forall fun ops => ops.Forall fun op => op.bufs ⊆ StableHlo.tcRefs τ sig :=
  ⟨hostOps0_sub, hostOps0_1_sub, hostOps0_2_sub⟩

theorem host_fresh : (host (F := F)).Forall fun ops => ops.Forall fun op => op.fresh = ∅ := by
  refine ⟨?_, ?_, ?_⟩ <;> (repeat' first | exact rfl | constructor)

theorem V_main : Pipeline.HMainP (Ix := Unit) (Name := ℕ) (U := UR sig nD τ) (Lvl := ℕ) (pcfgs (F := F)) 0 defs₀ Variants.none m main (V m) :=
  Pipeline.hmainP_prefixes (pcfgs (F := F)) 0 defs₀ Variants.none m main host host_sub host_fresh main_chain

/-! ## What the accumulators hold -/

/-- Input `w`'s block at point `t`. -/
def iblk (c : Dev nD) (w : Fin 8) (t : Pt F) :
    Shape.Idx ((cfgA (F := F)).win w).block → Elt F ((cfgA (F := F)).win w).elt :=
  (((cfgA (F := F)).win w).blk t).view.read (Elt F) (V m c (Pipeline.arrRef spec0 w))

abbrev bq (c : Dev nD) (t : Pt F) : Vec F S1024x128 .bf16 := iblk m c 0 t
abbrev bk (c : Dev nD) (t : Pt F) : Vec F S1024x128 .bf16 := iblk m c 1 t
abbrev bv (c : Dev nD) (t : Pt F) : Vec F S1024x128 .bf16 := iblk m c 2 t
abbrev bo (c : Dev nD) (t : Pt F) : Vec F S1024x128 .f32 := iblk m c 3 t
abbrev bl (c : Dev nD) (t : Pt F) : Vec F S8x1024 .f32 := iblk m c 4 t
abbrev bd (c : Dev nD) (t : Pt F) : Vec F S1024x128 .f32 := iblk m c 5 t

/-- The accumulators after a point, from their values before. -/
def step (c : Dev nD) (t : Pt F) (a : Vec F S1024x128 .f32) : Vec F S1024x128 .f32 :=
  if rowBlock t.val = colBlock t.val then diag (bq m c t) (bk m c t) (bv m c t) (bo m c t) (bl m c t) (bd m c t) k0_pay1
  else below (bq m c t) (bk m c t) (bv m c t) (bo m c t) (bl m c t) (bd m c t) a
def stepV (c : Dev nD) (t : Pt F) (b : Vec F S1024x128 .f32) : Vec F S1024x128 .f32 :=
  if rowBlock t.val = colBlock t.val then diagV (bq m c t) (bk m c t) (bl m c t) (bd m c t) k0_pay2
  else belowV (bq m c t) (bk m c t) (bl m c t) (bd m c t) b

/-- The accumulators before point `n`. -/
def accAt (c : Dev nD) : ℕ → Vec F S1024x128 .f32
  | 0 => k0_pay1
  | n + 1 => if h : n < (cfgA (F := F)).N then step m c ⟨n, h⟩ (accAt c n) else accAt c n
def bccAt (c : Dev nD) : ℕ → Vec F S1024x128 .f32
  | 0 => k0_pay2
  | n + 1 => if h : n < (cfgA (F := F)).N then stepV m c ⟨n, h⟩ (bccAt c n) else bccAt c n

theorem accAt_succ (c : Dev nD) (t : Pt F) : accAt m c (t.val + 1) = step m c t (accAt m c t.val) := by
  rw [accAt]; exact dif_pos t.isLt
theorem bccAt_succ (c : Dev nD) (t : Pt F) : bccAt m c (t.val + 1) = stepV m c t (bccAt m c t.val) := by
  rw [bccAt]; exact dif_pos t.isLt

/-- The state carried between points: the accumulators, the generator's register, the kernel's halves of the tables. -/
def Phi (c : Dev nD) (t : Fin ((cfgA (F := F)).N + 1)) : sProp 𝕄 :=
  iprop((∃ a, ⌜t.val ≠ 0 → a = accAt m c t.val⌝ ∗ owns (c : Thread nD τ) acc fullShare a)
    ∗ (∃ b, ⌜t.val ≠ 0 → b = bccAt m c t.val⌝ ∗ owns (c : Thread nD τ) bcc fullShare b) ∗ (∃ r, prngReg c r)
    ∗ (tb0.view.loc (c : Thread nD τ) ↦{fullShare.right} tabI) ∗ (tb1.view.loc (c : Thread nD τ) ↦{fullShare.right} tabJ))

/-- The proof data of the pipeline. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay5 (accAt m c (t.val + 1))
    | ⟨7, _⟩ => bccAt m c (t.val + 1)
  Φ t := Phi m c t
  q _ := fullShare
  owed _ := 0

theorem A_eq (c : Dev nD) (w : Fin (cfgA (F := F)).W) : (dats m 0 c).A w = V m c (Pipeline.arrRef spec0 w) := by
  dsimp only [dats]

theorem after_0 (c : Dev nD) (t : Pt F) : (dats m 0 c).after (0 : Fin 8) t = iblk m c 0 t := by dsimp only [dats]
theorem before_0 (c : Dev nD) (t : Pt F) (d) : (dats m 0 c).before (0 : Fin 8) t d = iblk m c 0 t :=
  ((dats m 0 c).before_in_eq_fetched (0 : Fin 8) rfl (fun _ => rfl) (fun _ _ _ => rfl) (fun t => by rw [after_0]; unfold Dat.blockOf iblk; rw [A_eq]) t d).trans
    (by unfold Dat.fetched Dat.blockOf iblk; rw [A_eq]; rfl)

theorem after_1 (c : Dev nD) (t : Pt F) : (dats m 0 c).after (1 : Fin 8) t = iblk m c 1 t := by dsimp only [dats]
theorem before_1 (c : Dev nD) (t : Pt F) (d) : (dats m 0 c).before (1 : Fin 8) t d = iblk m c 1 t :=
  ((dats m 0 c).before_in_eq_fetched (1 : Fin 8) rfl (fun _ => rfl) (fun _ _ _ => rfl) (fun t => by rw [after_1]; unfold Dat.blockOf iblk; rw [A_eq]) t d).trans
    (by unfold Dat.fetched Dat.blockOf iblk; rw [A_eq]; rfl)

theorem after_2 (c : Dev nD) (t : Pt F) : (dats m 0 c).after (2 : Fin 8) t = iblk m c 2 t := by dsimp only [dats]
theorem before_2 (c : Dev nD) (t : Pt F) (d) : (dats m 0 c).before (2 : Fin 8) t d = iblk m c 2 t :=
  ((dats m 0 c).before_in_eq_fetched (2 : Fin 8) rfl (fun _ => rfl) (fun _ _ _ => rfl) (fun t => by rw [after_2]; unfold Dat.blockOf iblk; rw [A_eq]) t d).trans
    (by unfold Dat.fetched Dat.blockOf iblk; rw [A_eq]; rfl)

theorem after_3 (c : Dev nD) (t : Pt F) : (dats m 0 c).after (3 : Fin 8) t = iblk m c 3 t := by dsimp only [dats]
theorem before_3 (c : Dev nD) (t : Pt F) (d) : (dats m 0 c).before (3 : Fin 8) t d = iblk m c 3 t :=
  ((dats m 0 c).before_in_eq_fetched (3 : Fin 8) rfl (fun _ => rfl) (fun _ _ _ => rfl) (fun t => by rw [after_3]; unfold Dat.blockOf iblk; rw [A_eq]) t d).trans
    (by unfold Dat.fetched Dat.blockOf iblk; rw [A_eq]; rfl)

theorem after_4 (c : Dev nD) (t : Pt F) : (dats m 0 c).after (4 : Fin 8) t = iblk m c 4 t := by dsimp only [dats]
theorem before_4 (c : Dev nD) (t : Pt F) (d) : (dats m 0 c).before (4 : Fin 8) t d = iblk m c 4 t :=
  ((dats m 0 c).before_in_eq_fetched (4 : Fin 8) rfl (fun _ => rfl) (fun _ _ _ => rfl) (fun t => by rw [after_4]; unfold Dat.blockOf iblk; rw [A_eq]) t d).trans
    (by unfold Dat.fetched Dat.blockOf iblk; rw [A_eq]; rfl)

theorem after_5 (c : Dev nD) (t : Pt F) : (dats m 0 c).after (5 : Fin 8) t = iblk m c 5 t := by dsimp only [dats]
theorem before_5 (c : Dev nD) (t : Pt F) (d) : (dats m 0 c).before (5 : Fin 8) t d = iblk m c 5 t :=
  ((dats m 0 c).before_in_eq_fetched (5 : Fin 8) rfl (fun _ => rfl) (fun _ _ _ => rfl) (fun t => by rw [after_5]; unfold Dat.blockOf iblk; rw [A_eq]) t d).trans
    (by unfold Dat.fetched Dat.blockOf iblk; rw [A_eq]; rfl)

theorem after_6 (c : Dev nD) (t : Pt F) : (dats m 0 c).after (6 : Fin 8) t = k0_pay5 (accAt m c (t.val + 1)) := by dsimp only [dats]
theorem after_7 (c : Dev nD) (t : Pt F) : (dats m 0 c).after (7 : Fin 8) t = bccAt m c (t.val + 1) := by dsimp only [dats]

/-! ## A grid point -/

abbrev ms0 (t : Pt F) : Memref sig .tc .vmem S1024x128 .bf16 := spec0_0.stage ((cfgA (F := F)).slots t (0 : Fin 8))
abbrev hs0 (t : Pt F) : (ms0 t).IsWhole := hstage0_0 (((cfgA (F := F)).slots t (0 : Fin 8)).cast nbuf0_0)
abbrev ms1 (t : Pt F) : Memref sig .tc .vmem S1024x128 .bf16 := spec0_1.stage ((cfgA (F := F)).slots t (1 : Fin 8))
abbrev hs1 (t : Pt F) : (ms1 t).IsWhole := hstage0_1 (((cfgA (F := F)).slots t (1 : Fin 8)).cast nbuf0_1)
abbrev ms2 (t : Pt F) : Memref sig .tc .vmem S1024x128 .bf16 := spec0_2.stage ((cfgA (F := F)).slots t (2 : Fin 8))
abbrev hs2 (t : Pt F) : (ms2 t).IsWhole := hstage0_2 (((cfgA (F := F)).slots t (2 : Fin 8)).cast nbuf0_2)
abbrev ms3 (t : Pt F) : Memref sig .tc .vmem S1024x128 .f32 := spec0_3.stage ((cfgA (F := F)).slots t (3 : Fin 8))
abbrev hs3 (t : Pt F) : (ms3 t).IsWhole := hstage0_3 (((cfgA (F := F)).slots t (3 : Fin 8)).cast nbuf0_3)
abbrev ms4 (t : Pt F) : Memref sig .tc .vmem S8x1024 .f32 := spec0_4.stage ((cfgA (F := F)).slots t (4 : Fin 8))
abbrev hs4 (t : Pt F) : (ms4 t).IsWhole := hstage0_4 (((cfgA (F := F)).slots t (4 : Fin 8)).cast nbuf0_4)
abbrev ms5 (t : Pt F) : Memref sig .tc .vmem S1024x128 .f32 := spec0_5.stage ((cfgA (F := F)).slots t (5 : Fin 8))
abbrev hs5 (t : Pt F) : (ms5 t).IsWhole := hstage0_5 (((cfgA (F := F)).slots t (5 : Fin 8)).cast nbuf0_5)
abbrev ms6 (t : Pt F) : Memref sig .tc .vmem S1024x128 .f32 := spec0_6.stage ((cfgA (F := F)).slots t (6 : Fin 8))
abbrev hs6 (t : Pt F) : (ms6 t).IsWhole := hstage0_6 (((cfgA (F := F)).slots t (6 : Fin 8)).cast nbuf0_6)
abbrev ms7 (t : Pt F) : Memref sig .tc .vmem S1024x128 .f32 := spec0_7.stage ((cfgA (F := F)).slots t (7 : Fin 8))
abbrev hs7 (t : Pt F) : (ms7 t).IsWhole := hstage0_7 (((cfgA (F := F)).slots t (7 : Fin 8)).cast nbuf0_7)

/-- The body at point `t`. -/
abbrev bodyAt (t : Pt F) : Prog (TpuEff nD τ sig (Elt F) Λ₀ .tc) PUnit :=
  call (crd t) (ms0 t) (hs0 t) (ms1 t) (hs1 t) (ms2 t) (hs2 t) (ms3 t) (hs3 t) (ms4 t) (hs4 t) (ms5 t) (hs5 t) (ms6 t) (hs6 t) (ms7 t) (hs7 t)

set_option maxHeartbeats 4000000 in
/-- The body at a point takes the carried state and the staging buffers to what the proof data say. -/
theorem sound_body (c : Dev nD) (t : Pt F) :
    iprop((dats m 0 c).Φ t.castSucc ∗ (dats m 0 c).owesAt () t.castSucc
        ∗ (∃ d, owns (c : Thread nD τ) (ms0 t) fullShare ((dats m 0 c).before (0 : Fin 8) t d))
        ∗ (∃ d, owns (c : Thread nD τ) (ms1 t) fullShare ((dats m 0 c).before (1 : Fin 8) t d))
        ∗ (∃ d, owns (c : Thread nD τ) (ms2 t) fullShare ((dats m 0 c).before (2 : Fin 8) t d))
        ∗ (∃ d, owns (c : Thread nD τ) (ms3 t) fullShare ((dats m 0 c).before (3 : Fin 8) t d))
        ∗ (∃ d, owns (c : Thread nD τ) (ms4 t) fullShare ((dats m 0 c).before (4 : Fin 8) t d))
        ∗ (∃ d, owns (c : Thread nD τ) (ms5 t) fullShare ((dats m 0 c).before (5 : Fin 8) t d))
        ∗ (∃ d, owns (c : Thread nD τ) (ms6 t) fullShare ((dats m 0 c).before (6 : Fin 8) t d))
        ∗ (∃ d, owns (c : Thread nD τ) (ms7 t) fullShare ((dats m 0 c).before (7 : Fin 8) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  obtain ⟨c0, c1, c3, id6, fl6, id7, fl7, z⟩ := facts (F := F) t
  rewrite [id6, fl6, fl7]
  simp only [before_0, before_1, before_2, before_3, before_4, before_5, after_0, after_1, after_2, after_3, after_4, after_5, after_6, after_7]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi; simp only [Fin.val_castSucc, Fin.val_succ, accAt_succ, bccAt_succ]
  by_cases q0 : rowBlock t.val = colBlock t.val <;> by_cases q1 : rowBlock t.val = 3
  all_goals
    simp only [q1, decide_true, decide_false, Bool.not_true, Bool.not_false]
    iintro ⟨⟨⟨%a, %ha, HS⟩, ⟨%b, %hb, HB⟩, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    try (have e := ha (fun h => q0 (z h)); subst e)
    try (have e := hb (fun h => q0 (z h)); subst e)
    first
      | (have g := c0.mpr q0; have g := mt c3.mp q1
         iapply (run_A c (crd t) (ms0 t) (hs0 t) (ms1 t) (hs1 t) (ms2 t) (hs2 t) (ms3 t) (hs3 t) (ms4 t) (hs4 t) (ms5 t) (hs5 t) (ms6 t) (hs6 t) (ms7 t) (hs7 t) tabI tabJ (bq m c t) (bk m c t) (bv m c t) (bo m c t) (bl m c t) (bd m c t) _ _ _ _ (c0.mpr q0) (fun h => c1.mp h q0) (fun h => q1 (c3.mp h)) _))
      | (have g := c1.mpr q0; have g := mt c3.mp q1
         iapply (run_B c (crd t) (ms0 t) (hs0 t) (ms1 t) (hs1 t) (ms2 t) (hs2 t) (ms3 t) (hs3 t) (ms4 t) (hs4 t) (ms5 t) (hs5 t) (ms6 t) (hs6 t) (ms7 t) (hs7 t) tabI tabJ (bq m c t) (bk m c t) (bv m c t) (bo m c t) (bl m c t) (bd m c t) _ _ _ _ (fun h => q0 (c0.mp h)) (c1.mpr q0) (fun h => q1 (c3.mp h)) _))
      | (have g := c0.mpr q0; have g := c3.mpr q1
         iapply (run_C c (crd t) (ms0 t) (hs0 t) (ms1 t) (hs1 t) (ms2 t) (hs2 t) (ms3 t) (hs3 t) (ms4 t) (hs4 t) (ms5 t) (hs5 t) (ms6 t) (hs6 t) (ms7 t) (hs7 t) tabI tabJ (bq m c t) (bk m c t) (bv m c t) (bo m c t) (bl m c t) (bd m c t) _ _ _ _ (c0.mpr q0) (fun h => c1.mp h q0) (c3.mpr q1) _))
      | (have g := c1.mpr q0; have g := c3.mpr q1
         iapply (run_D c (crd t) (ms0 t) (hs0 t) (ms1 t) (hs1 t) (ms2 t) (hs2 t) (ms3 t) (hs3 t) (ms4 t) (hs4 t) (ms5 t) (hs5 t) (ms6 t) (hs6 t) (ms7 t) (hs7 t) tabI tabJ (bq m c t) (bk m c t) (bv m c t) (bo m c t) (bl m c t) (bd m c t) _ _ _ _ (fun h => q0 (c0.mp h)) (c1.mpr q0) (c3.mpr q1) _))
    unfold Held
    isplitl [H0 H1 H2 H3 H4 H5 HT0 HT1 H6 H7 HS HB]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      isplitl [HT1]; · iexact HT1
      isplitl [H6]; · iexact H6
      isplitl [H7]; · iexact H7
      isplitl [HS]; · iexact HS
      iexact HB
    iintro ⟨H0, H1, H2, H3, H4, H5, HT0, HT1, H6, H7, HS, HB⟩
    isplitl [HS HB Hg HT0 HT1]
    · isplitl [HS]
      · iexists _; isplitr; swap
        · iexact HS
        ipureintro; intro _; first | simp only [step, if_neg q0] | simp only [step, if_pos q0]
      isplitl [HB]
      · iexists _; isplitr; swap
        · iexact HB
        ipureintro; intro _; first | simp only [stepV, if_neg q0] | simp only [stepV, if_pos q0]
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    first
      | (isplitl [H6]; · iexists d6; iexact H6
         iexists d7; iexact H7)
      | (first | simp only [step, stepV, if_neg q0] | simp only [step, stepV, if_pos q0]
         isplitl [H6]; · iexact H6
         iexact H7)

theorem defs₀_row (t : Pt F) :
    defs₀ (F := F) .tc (cfgA (F := F)).body ((cfgA (F := F)).bodyArgs t ((cfgA (F := F)).slots t)) = bodyAt t := by
  unfold defs₀; rw [Defs.onTc_tc]

theorem body_obligation (c : Dev nD) : BodyObligation (dats (F := F) m 0 c) (defs₀ (F := F)) Variants.none () Set.univ := fun t => by
  rw [bigSep_W0, defs₀_row]
  exact triple_restated (sound_body m c t) rfl .rfl fun _ => .rfl

/-! ## The run -/

/-- The buffers the host lines write after the two tables, in order. -/
abbrev written : List (Ref sig .tc) := [main_v0, main_v1, main_v2, main_cst, main_v3, main_v4, main_v5, main_v6, main_v7, main_v8, main_v9, main_v10, main_cst_1, main_call0_v0, main_call0_v1, main_call0_v2, main_v11, main_cst_2, main_v12, main_v13, main_v14, main_v15, main_v16, main_cst_3, main_v17, main_v18, main_v19, main_v20, main_v21, main_v22, main_v23, main_v24, main_v25, main_v26, main_cst_4, main_v27, main_v28, main_v29, main_v30, main_v31, main_v32, main_cst_5, main_v33, main_v34, main_cst_6, main_v35, main_v36, main_v37, main_v38, main_v39, main_v40]

theorem V_tabI (c : Dev nD) : V m c main_c = tabI :=
  (StableHlo.after_last_write (ops := (host (F := F)).flatten) (i := 0) (main_c_0 :: written) (r := main_c) rfl rfl (by decide) _).trans (StableHlo.nullary_result' ..)
theorem V_tabJ (c : Dev nD) : V m c main_c_0 = tabJ :=
  (StableHlo.after_last_write (ops := (host (F := F)).flatten) (i := 1) written (r := main_c_0) rfl rfl (by decide) _).trans (StableHlo.nullary_result' ..)

theorem hpf (c : Dev nD) (k) : V m c ((pcfgs (F := F) 0).pre.ref k) = (adm (F := F)).1 k := by
  match k with
  | ⟨0, _⟩ => exact V_tabI m c
  | ⟨1, _⟩ => exact V_tabJ m c
  | ⟨n + 2, h⟩ => exact absurd (show n + 2 < 2 from h) (by omega)

/-- The tables' halves the launch hands the kernel. -/
theorem tables_eq (c : Dev nD) : (Pipeline.ΦT (pcfgs (F := F) 0).pre (adm (F := F)).1 c : sProp 𝕄)
    = iprop((tb0.view.loc (c : Thread nD τ) ↦{fullShare.right} tabI) ∗ (tb1.view.loc (c : Thread nD τ) ↦{fullShare.right} tabJ)) := by
  unfold Pipeline.ΦT Pipeline.prefHeld
  rw [show (Finset.univ : Finset (Fin 2)) = insert 0 {1} from by decide, bigSep_insert (show (0 : Fin 2) ∉ ({1} : Finset (Fin 2)) from by decide), bigSep_singleton]
  rfl

theorem hin (c : Dev nD) : iprop(Pipeline.ΦA spec0 c ∗ Pipeline.ΦT (pcfgs (F := F) 0).pre (adm (F := F)).1 c) ⊢ (dats m 0 c).Φ 0 := by
  rw [show (dats m 0 c).Φ 0 = Phi m c 0 from rfl, tables_eq]
  unfold Phi Pipeline.ΦA; rw [scopedRest0_eq]
  iintro ⟨⟨⟨⟨%f, HS⟩, ⟨%g, HB⟩⟩, Hg⟩, HT0, HT1⟩
  isplitl [HS]
  · iexists f; isplitr
    · ipureintro; intro h; exact absurd rfl h
    rw [owns_whole]; iexact HS
  isplitl [HB]
  · iexists g; isplitr
    · ipureintro; intro h; exact absurd rfl h
    rw [owns_whole]; iexact HB
  isplitl [Hg]; · iexact Hg
  isplitl [HT0]; · iexact HT0
  iexact HT1

theorem hout (c : Dev nD) : (dats m 0 c).Φ (Fin.last (cfgA (F := F)).N) ⊢ Pipeline.ΦA spec0 c := by
  rw [show (dats m 0 c).Φ (Fin.last (cfgA (F := F)).N) = Phi m c (Fin.last (cfgA (F := F)).N) from rfl]
  unfold Phi Pipeline.ΦA; rw [scopedRest0_eq]
  iintro ⟨⟨%a, %ha, HS⟩, ⟨%b, %hb, HB⟩, Hg, HT0, HT1⟩
  isplitl [HS HB]
  · isplitl [HS]
    · iexists a; rw [← owns_whole]; iexact HS
    iexists b; rw [← owns_whole]; iexact HB
  iexact Hg

set_option backward.isDefEq.respectTransparency.types false in
/-- Every run ends with the written blocks in their arrays, the other buffers as the kernel found them, and every
    counter at zero. -/
theorem run_main : θ_run defs (onTc (τ := τ) (main (F := F))) (s₀ m ρ)
    (fun r => Pipeline.FramePost (Pipeline.pin (pcfgs (F := F)) fun _ => adm) (dats m) 0 (V m) r ∧ r.2.sem = fun _ => 0) :=
  Pipeline.θ_run_frameP_track (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := V_main m) (hA := A_eq m) (hpf := hpf m) (hin := hin m) (hout := hout m)

end Cert.DkvIdeal.Hand

end
-- ==== Proof.AttnMath.lean ====
/-
  Masked softmax attention and its gradient on real numbers. Two ways to weigh a key are the same number: the exponential
  of the score from a row's level over the row's sum, and the power of two of the base-2 score from the row's base-2
  log-sum. Two ways to write the scores' gradient are the same number too.
-/
module

public import proofs.«01_k».proof.Proof.Reals
public import Mathlib.Analysis.SpecialFunctions.Log.Basic
public import Mathlib.Analysis.SpecialFunctions.Pow.Real

@[expose] public section

noncomputable section

namespace Cert.Attn

open Cert.Reals
open scoped BigOperators

variable (q k v d : Fin 4096 → Fin 4 → Fin 128 → ℝ) (μ : Fin 4 → Fin 4096 → ℝ)

/-- The score of a key for a query. -/
def S (h : Fin 4) (i j : Fin 4096) : ℝ := (∑ x : Fin 128, q i h x * k j h x) * c1

/-- The exponential of a score from the row's level, zero where the key is masked. -/
def E (h : Fin 4) (i j : Fin 4096) : ℝ := if j.val ≤ i.val then Real.exp (S q k h i j - μ h i) else 0

/-- A row's sum. -/
def Z (h : Fin 4) (i : Fin 4096) : ℝ := ∑ j : Fin 4096, E q k μ h i j

/-- A key's weight. -/
def P (h : Fin 4) (i j : Fin 4096) : ℝ := E q k μ h i j / Z q k μ h i

/-- The attention's output. -/
def O (i : Fin 4096) (h : Fin 4) (x : Fin 128) : ℝ := ∑ j : Fin 4096, v j h x * P q k μ h i j

/-- The weights' gradient. -/
def G (h : Fin 4) (i j : Fin 4096) : ℝ := ∑ x : Fin 128, d i h x * v j h x

/-- The output's gradient against the output. -/
def Dl (h : Fin 4) (i : Fin 4096) : ℝ := ∑ x : Fin 128, d i h x * O q k v μ i h x

/-- The scores' gradient. -/
def dS (h : Fin 4) (i j : Fin 4096) : ℝ := P q k μ h i j * (G v d h i j - Dl q k v d μ h i)

/-- The queries' gradient. -/
def dQ (i : Fin 4096) (h : Fin 4) (x : Fin 128) : ℝ := (∑ j : Fin 4096, dS q k v d μ h i j * k j h x) * c1

/-- The keys' gradient. -/
def dK (j : Fin 4096) (h : Fin 4) (x : Fin 128) : ℝ := (∑ i : Fin 4096, dS q k v d μ h i j * q i h x) * c1

/-- The values' gradient. -/
def dV (j : Fin 4096) (h : Fin 4) (x : Fin 128) : ℝ := ∑ i : Fin 4096, P q k μ h i j * d i h x

/-- The queries in base-2 units. -/
def q2 (i : Fin 4096) (h : Fin 4) (x : Fin 128) : ℝ := q i h x * c1 / Real.log 2

/-- The rows' base-2 log-sums. -/
def L2 (h : Fin 4) (i : Fin 4096) : ℝ := (μ h i + Real.log (Z q k μ h i)) / Real.log 2

theorem E_nonneg (h : Fin 4) (i j : Fin 4096) : 0 ≤ E q k μ h i j := by
  unfold E; split
  · exact (Real.exp_pos _).le
  · exact le_rfl

theorem Z_pos (h : Fin 4) (i : Fin 4096) : 0 < Z q k μ h i := by
  unfold Z
  refine Finset.sum_pos' (fun j _ => E_nonneg q k μ h i j) ⟨i, Finset.mem_univ _, ?_⟩
  unfold E
  rw [if_pos le_rfl]
  exact Real.exp_pos _

theorem log_two_ne : Real.log 2 ≠ 0 := (Real.log_pos (by norm_num)).ne'

/-- A visible key's weight as a power of two. -/
theorem weight (h : Fin 4) (i j : Fin 4096) (hji : j.val ≤ i.val) :
    Real.rpow 2 ((∑ x : Fin 128, q2 q i h x * k j h x) - L2 q k μ h i) = P q k μ h i j := by
  have e1 : (∑ x : Fin 128, q2 q i h x * k j h x) = S q k h i j / Real.log 2 := by
    unfold S q2
    rw [Finset.sum_mul, Finset.sum_div]
    exact Finset.sum_congr rfl fun x _ => by ring
  have hz := Z_pos q k μ h i
  show (2 : ℝ) ^ ((∑ x : Fin 128, q2 q i h x * k j h x) - L2 q k μ h i) = _
  rw [e1, Real.rpow_def_of_pos (by norm_num)]
  unfold L2
  rw [show Real.log 2 * (S q k h i j / Real.log 2 - (μ h i + Real.log (Z q k μ h i)) / Real.log 2)
      = (S q k h i j - μ h i) - Real.log (Z q k μ h i) by
    have := log_two_ne
    field_simp
    ring, Real.exp_sub, Real.exp_log hz]
  unfold P E
  rw [if_pos hji]

theorem P_masked (h : Fin 4) (i j : Fin 4096) (hji : ¬ j.val ≤ i.val) : P q k μ h i j = 0 := by
  unfold P E; rw [if_neg hji, zero_div]

theorem dS_masked (h : Fin 4) (i j : Fin 4096) (hji : ¬ j.val ≤ i.val) : dS q k v d μ h i j = 0 := by
  unfold dS; rw [P_masked q k μ h i j hji, zero_mul]

/-- The weights' gradients, weighed, are the output's gradient against the output. -/
theorem Dl_eq (h : Fin 4) (i : Fin 4096) : Dl q k v d μ h i = ∑ j : Fin 4096, G v d h i j * P q k μ h i j := by
  unfold Dl O G
  simp only [Finset.mul_sum, Finset.sum_mul]
  rw [Finset.sum_comm]
  exact Finset.sum_congr rfl fun j _ => Finset.sum_congr rfl fun x _ => by ring

/-- The scores' gradient through a quotient by the row's sum. -/
theorem dS_quotient (h : Fin 4) (i j : Fin 4096) :
    (G v d h i j / Z q k μ h i + -∑ j' : Fin 4096, G v d h i j' * (1 / (Z q k μ h i * Z q k μ h i)) * E q k μ h i j') * E q k μ h i j
      = dS q k v d μ h i j := by
  have hz := (Z_pos q k μ h i).ne'
  have e : ∑ j' : Fin 4096, G v d h i j' * (1 / (Z q k μ h i * Z q k μ h i)) * E q k μ h i j' = Dl q k v d μ h i / Z q k μ h i := by
    rw [Dl_eq, Finset.sum_div]
    refine Finset.sum_congr rfl fun j' _ => ?_
    unfold P
    field_simp
  rw [e]
  unfold dS P
  field_simp
  ring

end Cert.Attn

end
-- ==== Proof.AttnHost.lean ====
/-
  The attention's plain lines, stage by stage, on arrays of real numbers: what each stage holds at an index. The gradient
  of the attention and the values saved for it are made of these stages.
-/
module

public import proofs.«01_k».proof.Proof.Gen.DqRefIdeal.Run
public import proofs.«01_k».proof.Proof.Reals
public import proofs.«01_k».proof.Proof.AttnMath

@[expose] public section

noncomputable section

namespace Cert.Attn

open Cert.DqRefIdeal Cert.DqRefIdeal.Gen Idealize.ShloMosaic Cert.Reals
open Cert.DqRefIdeal.Facts
open scoped BigOperators

/-- Lane `x` of head `h`. -/
def col (h : Fin 4) (x : Fin 128) : Fin 512 := ⟨h.val * 128 + x.val, by omega⟩

theorem col_div (h : Fin 4) (x : Fin 128) (p : (col h x).val / 128 < 4) : (⟨(col h x).val / 128, p⟩ : Fin 4) = h :=
  Fin.ext (by show (h.val * 128 + x.val) / 128 = h.val; omega)

theorem col_mod (h : Fin 4) (x : Fin 128) (p : (col h x).val % 128 < 128) : (⟨(col h x).val % 128, p⟩ : Fin 128) = x :=
  Fin.ext (by show (h.val * 128 + x.val) % 128 = x.val; omega)

section Stages

variable (Q K V : FVec Ideal S4096x512 .f32) (D : FVec Ideal S4096x1536 .f32)

/-- An array's heads. -/
def heads : FVec Ideal S4096x4x128 .f32 := shapeCast S4096x4x128 Q shapeCasts_S4096x512_S4096x4x128

/-- Which keys a query sees. -/
def mask : IVec S4x4096x4096 1 :=
  broadcastInDim S4x4096x4096 ![1, 2] bcast_S4096x4096_S4x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The masked scores. -/
def scores : FVec Ideal S4x4096x4096 .f32 :=
  select mask (mulf (Host.dotGeneral dot_S4096x4x128_S4096x4x128_S4x4096x4096_2_2_0_0_1_1 none (heads Q) (heads K)) (broadcastInDim S4x4096x4096 ![] bcast_S_S4x4096x4096 (constant S_ .f32 0x3DD105EC#32))) (broadcastInDim S4x4096x4096 ![] bcast_S_S4x4096x4096 (id (constant S_ .f32 0xFF800000#32)))

/-- The largest score of each row. -/
def rowMax : FVec Ideal S4x4096 .f32 :=
  Host.reduce FloatOps.maximumf (scores Q K) (constant S_ .f32 0xFF800000#32) reducesTo_S4x4096x4096_S4x4096_d2 h_S_

/-- The exponentials of the scores from a row's level. -/
def expo (M : FVec Ideal S4x4096 .f32) : FVec Ideal S4x4096x4096 .f32 :=
  Host.exp (subf (scores Q K) (broadcastInDim S4x4096x4096 ![0, 1, 2] bcast_S4x4096x1_S4x4096x4096_0_1_2 (broadcastInDim S4x4096x1 ![0, 1] bcast_S4x4096_S4x4096x1_0_1 M)))

/-- A row's sum. -/
def rowSum (E : FVec Ideal S4x4096x4096 .f32) : FVec Ideal S4x4096 .f32 :=
  Host.reduceAdd E (constant S_ .f32 0x00000000#32) reducesTo_S4x4096x4096_S4x4096_d2 h_S_

/-- A value of each row, on every column. -/
def spread (Z : FVec Ideal S4x4096 .f32) : FVec Ideal S4x4096x4096 .f32 :=
  broadcastInDim S4x4096x4096 ![0, 1, 2] bcast_S4x4096x1_S4x4096x4096_0_1_2 (broadcastInDim S4x4096x1 ![0, 1] bcast_S4x4096_S4x4096x1_0_1 Z)

/-- The weighted values. -/
def mixed (P : FVec Ideal S4x4096x4096 .f32) : FVec Ideal S4096x512 .f32 :=
  shapeCast S4096x512 (transpose S4096x4x128 [2, 0, 1] (Host.dotGeneral dot_S4096x4x128_S4x4096x4096_S4x128x4096_0_2_2_1_1_0 none (heads V) P) transposes_S4x128x4096_S4096x4x128_2_0_1) shapeCasts_S4096x4x128_S4096x512

/-- The scores' gradient's factors: the weights' gradient. -/
def grads : FVec Ideal S4x4096x4096 .f32 :=
  Host.dotGeneral dot_S4x128x4096_S4096x4x128_S4x4096x4096_1_2_2_0_0_1 none (transpose S4x128x4096 [1, 2, 0] (shapeCast S4096x4x128 (extractStridedSlice S4096x512 ![0, 512] D slices_S4096x1536_S4096x512_0_512) shapeCasts_S4096x512_S4096x4x128) transposes_S4096x4x128_S4x128x4096_1_2_0) (heads V)

/-- A row's sum, on its own column. -/
def column (W : FVec Ideal S4x4096 .f32) : FVec Ideal S4x4096x1 .f32 := broadcastInDim S4x4096x1 ![0, 1] bcast_S4x4096_S4x4096x1_0_1 W

/-- The part of the scores' gradient that passes through the row's sum. -/
def through (Gr E : FVec Ideal S4x4096x4096 .f32) (W : FVec Ideal S4x4096 .f32) : FVec Ideal S4x4096 .f32 :=
  Host.reduceAdd (Host.negf (shapeCast S4x4096x1 (Host.reduceAdd (mulf (mulf Gr (broadcastInDim S4x4096x4096 ![0, 1, 2] bcast_S4x4096x1_S4x4096x4096_0_1_2 (Host.divf (broadcastInDim S4x4096x1 ![] bcast_S_S4x4096x1 (constant S_ .f32 0x3F800000#32)) (mulf (column W) (column W))))) E) (constant S_ .f32 0x00000000#32) reducesTo_S4x4096x4096_S4x4096_d2 h_S_) shapeCasts_S4x4096_S4x4096x1)) (constant S_ .f32 0x00000000#32) reducesTo_S4x4096x1_S4x4096_d2 h_S_

/-- The scaled scores' gradient. -/
def dscores (Gr E : FVec Ideal S4x4096x4096 .f32) (W : FVec Ideal S4x4096 .f32) : FVec Ideal S4x4096x4096 .f32 :=
  mulf (select mask (mulf (addf (Host.divf Gr (spread W)) (broadcastInDim S4x4096x4096 ![0, 1] bcast_S4x4096_S4x4096x4096_0_1 (through Gr E W))) E) (broadcastInDim S4x4096x4096 ![] bcast_S_S4x4096x4096 (constant S_ .f32 0x00000000#32))) (broadcastInDim S4x4096x4096 ![] bcast_S_S4x4096x4096 (constant S_ .f32 0x3DD105EC#32))

/-- The queries' gradient of the scores' gradient. -/
def ofRows (T : FVec Ideal S4x4096x4096 .f32) : FVec Ideal S4096x512 .f32 :=
  shapeCast S4096x512 (transpose S4096x4x128 [1, 0, 2] (Host.dotGeneral dot_S4x4096x4096_S4096x4x128_S4x4096x128_2_0_1_2_0_1 none T (heads K)) transposes_S4x4096x128_S4096x4x128_1_0_2) shapeCasts_S4096x4x128_S4096x512

/-- The keys' gradient of the scores' gradient. -/
def ofCols (T : FVec Ideal S4x4096x4096 .f32) : FVec Ideal S4096x512 .f32 :=
  shapeCast S4096x512 (transpose S4096x4x128 [1, 0, 2] (Host.dotGeneral dot_S4x4096x4096_S4096x4x128_S4x4096x128_1_0_2_2_0_1 none T (heads Q)) transposes_S4x4096x128_S4096x4x128_1_0_2) shapeCasts_S4096x4x128_S4096x512

/-- The values' gradient. -/
def ofWeights (P : FVec Ideal S4x4096x4096 .f32) : FVec Ideal S4096x512 .f32 :=
  shapeCast S4096x512 (transpose S4096x4x128 [2, 0, 1] (Host.dotGeneral dot_S4x128x4096_S4x4096x4096_S4x128x4096_2_1_1_2_0_0 none (transpose S4x128x4096 [1, 2, 0] (shapeCast S4096x4x128 (extractStridedSlice S4096x512 ![0, 512] D slices_S4096x1536_S4096x512_0_512) shapeCasts_S4096x512_S4096x4x128) transposes_S4096x4x128_S4x128x4096_1_2_0) P) transposes_S4x128x4096_S4096x4x128_2_0_1) shapeCasts_S4096x4x128_S4096x512

/-- A lane of the output's gradient, in the array it comes in. -/
def dcol (h : Fin 4) (x : Fin 128) : Fin 1536 := ⟨512 + (h.val * 128 + x.val), by omega⟩

theorem heads_apply (i : Fin 4096) (h : Fin 4) (x : Fin 128) : (heads Q (ix3 i h x) : EReal) = Q (ix2 i (col h x)) := by
  unfold heads
  pointwise
  rfl

theorem scores_apply (h : Fin 4) (i j : Fin 4096) :
    (scores Q K (ix3 h i j) : EReal) = if j.val ≤ i.val then (∑ x : Fin 128, (Q (ix2 i (col h x)) : EReal) * K (ix2 j (col h x))) * (c1 : EReal) else ⊥ := by
  unfold scores mask
  pointwise
  rw [select_le j.val i.val (by omega) (by omega), ofBits_c1]
  simp only [heads_apply]
  refine if_congr Iff.rfl rfl ?_
  exact ofBits_bot

theorem rowMax_apply (h : Fin 4) (i : Fin 4096) :
    (rowMax Q K (ix2 h i) : EReal) = Finset.univ.fold max ⊥ fun j : Fin 4096 => (scores Q K (ix3 h i j) : EReal) := by
  unfold rowMax
  pointwise
  rw [ofBits_bot]

theorem expo_apply (M : FVec Ideal S4x4096 .f32) (h : Fin 4) (i j : Fin 4096) :
    (expo Q K M (ix3 h i j) : EReal) = Ideal.exp ((scores Q K (ix3 h i j) : EReal) - M (ix2 h i)) := by
  unfold expo
  pointwise

theorem rowSum_apply (E : FVec Ideal S4x4096x4096 .f32) (h : Fin 4) (i : Fin 4096) :
    (rowSum E (ix2 h i) : EReal) = ∑ j : Fin 4096, (E (ix3 h i j) : EReal) := by
  unfold rowSum
  pointwise

theorem spread_apply (W : FVec Ideal S4x4096 .f32) (h : Fin 4) (i j : Fin 4096) : (spread W (ix3 h i j) : EReal) = W (ix2 h i) := by
  unfold spread
  pointwise

theorem mixed_apply (P : FVec Ideal S4x4096x4096 .f32) (h : Fin 4) (i : Fin 4096) (x : Fin 128) :
    (mixed V P (ix2 i (col h x)) : EReal) = ∑ j : Fin 4096, (V (ix2 j (col h x)) : EReal) * P (ix3 h i j) := by
  unfold mixed
  pointwise
  simp only [col_div, col_mod, heads_apply]

theorem grads_apply (h : Fin 4) (i j : Fin 4096) :
    (grads V D (ix3 h i j) : EReal) = ∑ x : Fin 128, (D (ix2 i (dcol h x)) : EReal) * V (ix2 j (col h x)) := by
  unfold grads
  pointwise
  simp only [heads_apply]
  rfl

theorem through_apply (Gr E : FVec Ideal S4x4096x4096 .f32) (W : FVec Ideal S4x4096 .f32) (h : Fin 4) (i : Fin 4096) :
    (through Gr E W (ix2 h i) : EReal)
      = -∑ j : Fin 4096, (Gr (ix3 h i j) : EReal) * Ideal.div 1 ((W (ix2 h i) : EReal) * W (ix2 h i)) * E (ix3 h i j) := by
  unfold through column
  pointwise
  exact Fin.sum_univ_one _

theorem dscores_apply (Gr E : FVec Ideal S4x4096x4096 .f32) (W : FVec Ideal S4x4096 .f32) (h : Fin 4) (i j : Fin 4096) :
    (dscores Gr E W (ix3 h i j) : EReal)
      = (if j.val ≤ i.val then (Ideal.div (Gr (ix3 h i j)) (W (ix2 h i)) + through Gr E W (ix2 h i)) * (E (ix3 h i j) : EReal) else 0) * (c1 : EReal) := by
  unfold dscores mask
  pointwise
  rw [select_le j.val i.val (by omega) (by omega), ofBits_c1, spread_apply, ite_mul, zero_mul]

theorem ofRows_apply (T : FVec Ideal S4x4096x4096 .f32) (i : Fin 4096) (h : Fin 4) (x : Fin 128) :
    (ofRows K T (ix2 i (col h x)) : EReal) = ∑ j : Fin 4096, (T (ix3 h i j) : EReal) * K (ix2 j (col h x)) := by
  unfold ofRows
  pointwise
  simp only [col_div, col_mod, heads_apply]

theorem ofCols_apply (T : FVec Ideal S4x4096x4096 .f32) (j : Fin 4096) (h : Fin 4) (x : Fin 128) :
    (ofCols Q T (ix2 j (col h x)) : EReal) = ∑ i : Fin 4096, (T (ix3 h i j) : EReal) * Q (ix2 i (col h x)) := by
  unfold ofCols
  pointwise
  simp only [col_div, col_mod, heads_apply]

theorem ofWeights_apply (P : FVec Ideal S4x4096x4096 .f32) (j : Fin 4096) (h : Fin 4) (x : Fin 128) :
    (ofWeights D P (ix2 j (col h x)) : EReal) = ∑ i : Fin 4096, (D (ix2 i (dcol h x)) : EReal) * P (ix3 h i j) := by
  unfold ofWeights
  pointwise
  simp only [col_div, col_mod]
  rfl

end Stages

end Cert.Attn

end
-- ==== Proof.AttnValue.lean ====
/-
  The attention's lines on arrays of real numbers hold the real numbers that the mathematics names: the weights, the
  output, the base-2 log-sums, and the three gradients.
-/
module

public import proofs.«01_k».proof.Proof.AttnHost

@[expose] public section

noncomputable section

namespace Cert.Attn

open Cert.DqRefIdeal Cert.DqRefIdeal.Gen Idealize.ShloMosaic Cert.Reals
open Cert.DqRefIdeal.Facts
open scoped BigOperators

/-- The level of a row: its largest score. -/
def lvl (Q K : FVec Ideal S4096x512 .f32) (h : Fin 4) (i : Fin 4096) : ℝ := (rowMax Q K (ix2 h i) : EReal).toReal

/-- The output of the attention. -/
def outAt (Q K V : FVec Ideal S4096x512 .f32) (M : FVec Ideal S4x4096 .f32) : FVec Ideal S4096x512 .f32 :=
  mixed V (Host.divf (expo Q K M) (spread (rowSum (expo Q K M))))

/-- A row's level as a gradient takes it: no smaller than minus infinity. -/
def atLeast (W : FVec Ideal S4x4096 .f32) : FVec Ideal S4x4096 .f32 :=
  maximumf (broadcastInDim S4x4096 ![] bcast_S_S4x4096 (constant S_ .f32 0xFF800000#32)) W

theorem atLeast_apply (W : FVec Ideal S4x4096 .f32) (h : Fin 4) (i : Fin 4096) : (atLeast W (ix2 h i) : EReal) = W (ix2 h i) := by
  unfold atLeast
  pointwise
  rw [ofBits_bot]
  exact max_eq_right bot_le

/-- The largest score as a gradient takes it. -/
def rowTop (Q K : FVec Ideal S4096x512 .f32) : FVec Ideal S4x4096 .f32 := atLeast (rowMax Q K)

/-- The queries' gradient. -/
def gradQ (Q K V : FVec Ideal S4096x512 .f32) (D : FVec Ideal S4096x1536 .f32) : FVec Ideal S4096x512 .f32 :=
  ofRows K (dscores (grads V D) (expo Q K (rowTop Q K)) (rowSum (expo Q K (rowTop Q K))))

/-- The keys' gradient. -/
def gradK (Q K V : FVec Ideal S4096x512 .f32) (D : FVec Ideal S4096x1536 .f32) : FVec Ideal S4096x512 .f32 :=
  ofCols Q (dscores (grads V D) (expo Q K (rowTop Q K)) (rowSum (expo Q K (rowTop Q K))))

/-- The values' gradient. -/
def gradV (Q K : FVec Ideal S4096x512 .f32) (D : FVec Ideal S4096x1536 .f32) : FVec Ideal S4096x512 .f32 :=
  ofWeights D (Host.divf (expo Q K (rowTop Q K)) (spread (rowSum (expo Q K (rowTop Q K)))))

/-- The rows' base-2 log-sums. -/
def lse2 (M R : FVec Ideal S4x4096 .f32) : FVec Ideal S4x4096 .f32 :=
  Host.divf (addf M (Host.log R)) (broadcastInDim S4x4096 ![] bcast_S_S4x4096 (Host.log (constant S_ .f32 0x40000000#32)))

theorem lse2_apply (M R : FVec Ideal S4x4096 .f32) (h : Fin 4) (i : Fin 4096) :
    (lse2 M R (ix2 h i) : EReal) = Ideal.div ((M (ix2 h i) : EReal) + Ideal.log (R (ix2 h i))) (Ideal.log ((2 : ℝ) : EReal)) := by
  unfold lse2
  pointwise
  rw [ofBits_two]

/-- The arrays hold the real numbers named. -/
structure Holds (Q K V : FVec Ideal S4096x512 .f32) (D : FVec Ideal S4096x1536 .f32) (q k v d : Fin 4096 → Fin 4 → Fin 128 → ℝ) : Prop where
  q : ∀ i h x, (Q (ix2 i (col h x)) : EReal) = (q i h x : EReal)
  k : ∀ i h x, (K (ix2 i (col h x)) : EReal) = (k i h x : EReal)
  v : ∀ i h x, (V (ix2 i (col h x)) : EReal) = (v i h x : EReal)
  d : ∀ i h x, (D (ix2 i (dcol h x)) : EReal) = (d i h x : EReal)

variable {Q K V : FVec Ideal S4096x512 .f32} {D : FVec Ideal S4096x1536 .f32} {q k v d : Fin 4096 → Fin 4 → Fin 128 → ℝ}

theorem scores_real (H : Holds Q K V D q k v d) (h : Fin 4) (i j : Fin 4096) :
    (scores Q K (ix3 h i j) : EReal) = if j.val ≤ i.val then (S q k h i j : EReal) else ⊥ := by
  rw [scores_apply]
  refine if_congr Iff.rfl ?_ rfl
  unfold S
  rw [EReal.coe_mul]
  exact congrArg (· * (c1 : EReal)) (sum_eq _ _ _ fun x _ => by rw [H.q, H.k, ← EReal.coe_mul])

theorem rowMax_real (H : Holds Q K V D q k v d) (h : Fin 4) (i : Fin 4096) : (rowMax Q K (ix2 h i) : EReal) = (lvl Q K h i : EReal) := by
  unfold lvl
  refine fold_max_real (fun j => (scores Q K (ix3 h i j) : EReal)) (fun j => ?_) i ?_ _ (rowMax_apply Q K h i)
  · rw [scores_real H]
    split
    · exact EReal.coe_lt_top _
    · exact bot_lt_top
  · rw [scores_real H, if_pos le_rfl]
    exact EReal.bot_lt_coe _

theorem rowTop_real (H : Holds Q K V D q k v d) (h : Fin 4) (i : Fin 4096) : (rowTop Q K (ix2 h i) : EReal) = (lvl Q K h i : EReal) := by
  unfold rowTop
  rw [atLeast_apply, rowMax_real H]

section Row
variable {M : FVec Ideal S4x4096 .f32} (hM : ∀ h i, (M (ix2 h i) : EReal) = (lvl Q K h i : EReal))
include hM

theorem expo_real (H : Holds Q K V D q k v d) (h : Fin 4) (i j : Fin 4096) :
    (expo Q K M (ix3 h i j) : EReal) = (E q k (lvl Q K) h i j : EReal) := by
  rw [expo_apply, scores_real H, hM]
  unfold E
  split
  · rw [← EReal.coe_sub]; rfl
  · rw [EReal.bot_sub]; rfl

theorem rowSum_real (H : Holds Q K V D q k v d) (h : Fin 4) (i : Fin 4096) :
    (rowSum (expo Q K M) (ix2 h i) : EReal) = (Z q k (lvl Q K) h i : EReal) := by
  rw [rowSum_apply]
  exact sum_eq _ _ _ fun j _ => expo_real hM H h i j

theorem weights_real (H : Holds Q K V D q k v d) (h : Fin 4) (i j : Fin 4096) :
    (Host.divf (expo Q K M) (spread (rowSum (expo Q K M))) (ix3 h i j) : EReal) = (P q k (lvl Q K) h i j : EReal) := by
  show Ideal.div (expo Q K M (ix3 h i j)) (spread (rowSum (expo Q K M)) (ix3 h i j)) = _
  rw [spread_apply, expo_real hM H, rowSum_real hM H, div_real _ _ (Z_pos q k (lvl Q K) h i).ne']
  rfl

theorem outAt_real (H : Holds Q K V D q k v d) (i : Fin 4096) (h : Fin 4) (x : Fin 128) :
    (outAt Q K V M (ix2 i (col h x)) : EReal) = (O q k v (lvl Q K) i h x : EReal) := by
  unfold outAt
  rw [mixed_apply]
  exact sum_eq _ _ _ fun j _ => by rw [weights_real hM H, H.v, ← EReal.coe_mul]

theorem logSum_real (H : Holds Q K V D q k v d) (h : Fin 4) (i : Fin 4096) :
    (lse2 M (rowSum (expo Q K M)) (ix2 h i) : EReal) = (L2 q k (lvl Q K) h i : EReal) := by
  rw [lse2_apply, rowSum_real hM H, hM, Ideal.log_coe, Ideal.log_coe, if_neg (not_le.2 (Z_pos q k (lvl Q K) h i)), if_neg (by norm_num), ← EReal.coe_add,
    div_real _ _ log_two_ne]
  rfl

end Row

theorem grads_real (H : Holds Q K V D q k v d) (h : Fin 4) (i j : Fin 4096) : (grads V D (ix3 h i j) : EReal) = (G v d h i j : EReal) := by
  rw [grads_apply]
  exact sum_eq _ _ _ fun x _ => by rw [H.d, H.v, ← EReal.coe_mul]

theorem dscores_real (H : Holds Q K V D q k v d) (h : Fin 4) (i j : Fin 4096) :
    (dscores (grads V D) (expo Q K (rowTop Q K)) (rowSum (expo Q K (rowTop Q K))) (ix3 h i j) : EReal)
      = ((dS q k v d (lvl Q K) h i j * c1 : ℝ) : EReal) := by
  have hM := rowTop_real H
  have hz := (Z_pos q k (lvl Q K) h i).ne'
  rw [dscores_apply, through_apply, rowSum_real hM H, grads_real H, expo_real hM H]
  rw [EReal.coe_mul]
  refine congrArg (· * (c1 : EReal)) ?_
  by_cases hji : j.val ≤ i.val
  · rw [if_pos hji, div_real _ _ hz, ← EReal.coe_mul, show (1 : EReal) = ((1 : ℝ) : EReal) from rfl,
      div_real _ _ (mul_ne_zero hz hz),
      sum_eq _ _ (fun j' => G v d h i j' * (1 / (Z q k (lvl Q K) h i * Z q k (lvl Q K) h i)) * E q k (lvl Q K) h i j') fun j' _ => by
        rw [grads_real H, expo_real hM H, EReal.coe_mul, EReal.coe_mul],
      ← EReal.coe_neg, ← EReal.coe_add, ← EReal.coe_mul, dS_quotient]
  · rw [if_neg hji, dS_masked q k v d (lvl Q K) h i j hji]; rfl

theorem gradQ_real (H : Holds Q K V D q k v d) (i : Fin 4096) (h : Fin 4) (x : Fin 128) :
    (gradQ Q K V D (ix2 i (col h x)) : EReal) = (dQ q k v d (lvl Q K) i h x : EReal) := by
  unfold gradQ dQ
  rw [ofRows_apply, Finset.sum_mul]
  exact sum_eq _ _ _ fun j _ => by rw [dscores_real H, H.k, ← EReal.coe_mul]; congr 1; ring

theorem gradK_real (H : Holds Q K V D q k v d) (j : Fin 4096) (h : Fin 4) (x : Fin 128) :
    (gradK Q K V D (ix2 j (col h x)) : EReal) = (dK q k v d (lvl Q K) j h x : EReal) := by
  unfold gradK dK
  rw [ofCols_apply, Finset.sum_mul]
  exact sum_eq _ _ _ fun i _ => by rw [dscores_real H, H.q, ← EReal.coe_mul]; congr 1; ring

theorem gradV_real (H : Holds Q K V D q k v d) (j : Fin 4096) (h : Fin 4) (x : Fin 128) :
    (gradV Q K D (ix2 j (col h x)) : EReal) = (dV q k d (lvl Q K) j h x : EReal) := by
  have hM := rowTop_real H
  unfold gradV dV
  rw [ofWeights_apply]
  exact sum_eq _ _ _ fun i _ => by rw [weights_real hM H, H.d, ← EReal.coe_mul]; congr 1; ring

/-- The queries' gradient, as the program's lines compose it. -/
theorem res_gradQ (m : (ℓ : Loc nD τ sig) → Buf (Elt Ideal) ℓ) (c : Dev nD) :
    Cert.DqRefIdeal.Value.res_out0 m c
      = gradQ (m ((c.tc : Thread nD τ).loc main_arg0)) (m ((c.tc : Thread nD τ).loc main_arg1)) (m ((c.tc : Thread nD τ).loc main_arg2)) (m ((c.tc : Thread nD τ).loc main_arg3)) := rfl

end Cert.Attn

end
-- ==== Proof.DkvHost.lean ====
/-
  What the key- and value-gradient kernel's array arguments hold: the plain lines before the call, stage by stage.
-/
module

public import proofs.«01_k».proof.Proof.DkvFrame
public import proofs.«01_k».proof.Proof.AttnValue

@[expose] public section

noncomputable section

namespace Cert.DkvIdeal.Hand

open Cert.DkvIdeal Cert.DkvIdeal.Gen Idealize.ShloMosaic Idealize.ShloMosaic.TcCoe

variable (m : (ℓ : Loc nD τ sig) → Buf (Elt Ideal) ℓ) (c : Dev nD)

abbrev aQ : FVec Ideal S4096x512 .f32 := m ((c.tc : Thread nD τ).loc main_arg0)
abbrev aK : FVec Ideal S4096x512 .f32 := m ((c.tc : Thread nD τ).loc main_arg1)
abbrev aV : FVec Ideal S4096x512 .f32 := m ((c.tc : Thread nD τ).loc main_arg2)
abbrev aD : FVec Ideal S4096x1536 .f32 := m ((c.tc : Thread nD τ).loc main_arg3)

open Idealize.ShloMosaic.StableHlo in
theorem V_arg3 : V m c main_arg3 = aD m c := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

open Idealize.ShloMosaic.StableHlo in
theorem V_q : V m c main_v38 = truncf .bf16 (Host.divf (mulf (aQ m c) (broadcastInDim S4096x512 ![] Facts₀.bcast_S_S4096x512 (constant S_ .f32 0x3DD105EC#32)))
    (broadcastInDim S4096x512 ![] Facts₀.bcast_S_S4096x512 (Host.log (constant S_ .f32 0x40000000#32)))) Facts₀.bitsLt_bf16_f32 := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

open Idealize.ShloMosaic.StableHlo in
theorem V_o : V m c main_v24 = Cert.Attn.outAt (aQ m c) (aK m c) (aV m c) (Cert.Attn.rowMax (aQ m c) (aK m c)) := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

/-- The queries in base-2 units. -/
def scaled (Q : FVec Ideal S4096x512 .f32) : FVec Ideal S4096x512 .bf16 :=
  truncf .bf16 (Host.divf (mulf Q (broadcastInDim S4096x512 ![] Facts₀.bcast_S_S4096x512 (constant S_ .f32 0x3DD105EC#32)))
    (broadcastInDim S4096x512 ![] Facts₀.bcast_S_S4096x512 (Host.log (constant S_ .f32 0x40000000#32)))) Facts₀.bitsLt_bf16_f32

/-- A value of each row and head, on eight rows of the head. -/
def rows (W : FVec Ideal S4x4096 .f32) : FVec Ideal S32x4096 .f32 :=
  shapeCast S32x4096 (broadcastInDim S4x8x4096 ![0, 1, 2] Facts₀.bcast_S4x1x4096_S4x8x4096_0_1_2 (broadcastInDim S4x1x4096 ![0, 2] Facts₀.bcast_S4x4096_S4x1x4096_0_2 W)) Facts₀.shapeCasts_S4x8x4096_S32x4096

/-- A head's first row. -/
def top (h : Fin 4) : Fin 32 := ⟨8 * h.val, by omega⟩

open Idealize.ShloMosaic.StableHlo in
theorem V_l : V m c main_v32 = rows (Cert.Attn.lse2 (Cert.Attn.rowMax (aQ m c) (aK m c)) (Cert.Attn.rowSum (Cert.Attn.expo (aQ m c) (aK m c) (Cert.Attn.rowMax (aQ m c) (aK m c))))) := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

open Idealize.ShloMosaic.StableHlo in
theorem V_k : V m c main_v39 = truncf .bf16 (aK m c) Facts₀.bitsLt_bf16_f32 := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

open Idealize.ShloMosaic.StableHlo in
theorem V_v : V m c main_v40 = truncf .bf16 (aV m c) Facts₀.bitsLt_bf16_f32 := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

theorem scaled_apply (Q : FVec Ideal S4096x512 .f32) (i : S4096x512.Idx) :
    (scaled Q i : EReal) = Ideal.div ((Q i : EReal) * (Cert.Reals.c1 : EReal)) (Ideal.log ((2 : ℝ) : EReal)) := by
  unfold scaled
  pointwise
  rw [Cert.Reals.ofBits_two, Cert.Reals.ofBits_c1]

theorem rows_apply (W : FVec Ideal S4x4096 .f32) (i : Fin 4096) (h : Fin 4) :
    (rows W (ix2 (top h) i) : EReal) = W (ix2 h i) := by
  unfold rows
  pointwise
  congr 2
  apply Fin.ext
  show 8 * h.val / 8 = h.val
  omega

section Real

variable {q k v d : Fin 4096 → Fin 4 → Fin 128 → ℝ} (H : Cert.Attn.Holds (aQ m c) (aK m c) (aV m c) (aD m c) q k v d)
include H

/-- The level of a row of the launch's scores. -/
abbrev level : Fin 4 → Fin 4096 → ℝ := Cert.Attn.lvl (aQ m c) (aK m c)

theorem hq (i : Fin 4096) (h : Fin 4) (x : Fin 128) : ((V m c main_v38 : S4096x512.Idx → EReal) (ix2 i (Cert.Attn.col h x))) = (Cert.Attn.q2 q i h x : EReal) := by
  rw [V_q]
  show (scaled (aQ m c) (ix2 i (Cert.Attn.col h x)) : EReal) = _
  rw [scaled_apply, H.q, ← EReal.coe_mul, Ideal.log_coe, if_neg (by norm_num), Cert.Reals.div_real _ _ Cert.Attn.log_two_ne]
  rfl

theorem hk (i : Fin 4096) (h : Fin 4) (x : Fin 128) : ((V m c main_v39 : S4096x512.Idx → EReal) (ix2 i (Cert.Attn.col h x))) = (k i h x : EReal) := by
  rw [V_k]
  exact H.k i h x

theorem hv (i : Fin 4096) (h : Fin 4) (x : Fin 128) : ((V m c main_v40 : S4096x512.Idx → EReal) (ix2 i (Cert.Attn.col h x))) = (v i h x : EReal) := by
  rw [V_v]
  exact H.v i h x

theorem ho (i : Fin 4096) (h : Fin 4) (x : Fin 128) : ((V m c main_v24 : S4096x512.Idx → EReal) (ix2 i (Cert.Attn.col h x)))
    = (Cert.Attn.O q k v (level m c) i h x : EReal) := by
  rw [V_o]
  exact Cert.Attn.outAt_real (Cert.Attn.rowMax_real H) H i h x

theorem hl (i : Fin 4096) (h : Fin 4) : ((V m c main_v32 : S32x4096.Idx → EReal) (ix2 (top h) i))
    = (Cert.Attn.L2 q k (level m c) h i : EReal) := by
  rw [V_l, rows_apply]
  exact Cert.Attn.logSum_real (Cert.Attn.rowMax_real H) H h i

theorem hd (i : Fin 4096) (h : Fin 4) (x : Fin 128) : ((V m c main_arg3 : S4096x1536.Idx → EReal) (ix2 i (Cert.Attn.dcol h x))) = (d i h x : EReal) := by
  rw [V_arg3]
  exact H.d i h x

end Real

end Cert.DkvIdeal.Hand

end
-- ==== Proof.DqBody.lean ====
/-
  What one grid point of the query-gradient kernel of the attention does to its buffers: the accumulator (a scratch) is
  cleared at the first key block of a query block, gains the product of the block's score gradient with the keys, and
  at the diagonal block — the last one — the scaled accumulator is stored.
-/
module

public import proofs.«01_k».proof.Proof.Gen.DqIdeal.Skeleton
public import proofs.«01_k».proof.Proof.Gen.DqIdeal.Launch
public import proofs.«01_k».proof.Proof.Stored

@[expose] public section

set_option maxRecDepth 16384

noncomputable section

namespace Cert.DqIdeal.Hand

open Cert.DqIdeal Cert.DqIdeal.Gen Cert.Stored
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables and the accumulator, whole. -/
abbrev tb0 : Memref sig .tc .smem S10 .i32 := Memref.whole main_c
abbrev tb1 : Memref sig .tc .smem S10 .i32 := Memref.whole main_c_0
abbrev acc : Memref sig .tc .vmem S1024x128 .f32 := Memref.whole cc0_scratch0

theorem hz : (![0, 0] : Fin 2 → Nat) = fun _ => 0 := funext fun a => by fin_cases a <;> rfl

/-- The word of a table the point reads: the query block's number, the key block's. -/
abbrev iword (T0 : S10.Idx → Elt F .i32) (i : grid0.Coords) : BitVec 32 :=
  View.readAt (Elt F) (tb0).view (Rect.unit (s := S10) (k0_off1 i) S1.size (k0_off1_inb i)).toLoadRect T0 (Shape.Idx.first (numel1_S1.symm ▸ Nat.one_pos))
abbrev jword (T1 : S10.Idx → Elt F .i32) (i : grid0.Coords) : BitVec 32 :=
  View.readAt (Elt F) (tb1).view (Rect.unit (s := S10) (k0_off1 i) S1.size (k0_off1_inb i)).toLoadRect T1 (Shape.Idx.first (numel1_S1.symm ▸ Nat.one_pos))

/-- The kernel's tests at a point: the first block of keys, a block below the diagonal, the diagonal's. -/
abbrev atFirst (T1 : S10.Idx → Elt F .i32) (i : grid0.Coords) : Prop := Scalar.cmpi .ne (Scalar.extui (Scalar.cmpi .eq (jword T1 i) 0#32)) 0#32 = 1#1
abbrev atBelow (T0 T1 : S10.Idx → Elt F .i32) (i : grid0.Coords) : Prop := Scalar.cmpi .ne (Scalar.extui (Scalar.cmpi .slt (jword T1 i) (iword T0 i))) 0#32 = 1#1
abbrev atDiag (T0 T1 : S10.Idx → Elt F .i32) (i : grid0.Coords) : Prop := Scalar.cmpi .ne (Scalar.extui (Scalar.cmpi .eq (jword T1 i) (iword T0 i))) 0#32 = 1#1

section Runs
variable (c : Dev nD) (i : grid0.Coords)
  (arg4 : Memref sig .tc .vmem S1024x128 .bf16) (harg4 : arg4.IsWhole) (arg5 : Memref sig .tc .vmem S1024x128 .bf16) (harg5 : arg5.IsWhole)
  (arg6 : Memref sig .tc .vmem S1024x128 .bf16) (harg6 : arg6.IsWhole) (arg7 : Memref sig .tc .vmem S1024x128 .f32) (harg7 : arg7.IsWhole)
  (arg8 : Memref sig .tc .vmem S1024x128 .f32) (harg8 : arg8.IsWhole) (arg9 : Memref sig .tc .vmem S1024x128 .f32) (harg9 : arg9.IsWhole)
  (arg10 : Memref sig .tc .vmem S1024x128 .f32) (harg10 : arg10.IsWhole)
  (T0 T1 : S10.Idx → Elt F .i32)
  (q k v : Vec F S1024x128 .bf16) (o l d y a : Vec F S1024x128 .f32)

/-- The buffers before and after a point: the inputs, the tables, the output at `y`, the accumulator at `a`. -/
def Held (y a : Vec F S1024x128 .f32) : sProp 𝕄 :=
  iprop(owns (c : Thread nD τ) arg4 fullShare q ∗ owns (c : Thread nD τ) arg5 fullShare k ∗ owns (c : Thread nD τ) arg6 fullShare v
    ∗ owns (c : Thread nD τ) arg7 fullShare o ∗ owns (c : Thread nD τ) arg8 fullShare l ∗ owns (c : Thread nD τ) arg9 fullShare d
    ∗ (tb0.view.loc (c : Thread nD τ) ↦{fullShare.right} T0) ∗ (tb1.view.loc (c : Thread nD τ) ↦{fullShare.right} T1)
    ∗ owns (c : Thread nD τ) arg10 fullShare y ∗ owns (c : Thread nD τ) acc fullShare a)

/-- The column of base-2 row log-sums a block reads. -/
def col (l : Vec F S1024x128 .f32) : Vec F S1024x1 .f32 :=
  View.ld l (Rect.unit (s := S1024x128) ![0, 0] S1024x1.size inb_S1024x128_S1024x1_0_0)

/-- The kernel's call at a point. -/
abbrev call : Prog (TpuEff nD τ sig (Elt F) Λ₀ .tc) PUnit :=
  cc0_mla_dq i tb0 (Memref.isWhole_whole _) tb1 (Memref.isWhole_whole _) arg4 harg4 arg5 harg5 arg6 harg6 arg7 harg7 arg8 harg8 arg9 harg9 arg10 harg10 acc (Memref.isWhole_whole _)

/-- A memref's buffer at the contents `x` is the memref owned at `x`. -/
theorem owned {sp : Space} {sh : Shape} {e : EltTy} (m : Memref sig .tc sp sh e) (h : m.IsWhole) (x : sh.Idx → Elt F e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; swap
  · iexact H
  ipureintro; exact h.read_unread _

set_option maxHeartbeats 8000000 in
/-- A block below the diagonal, not the first: the accumulator gains the block's product. -/
theorem run_B (hc0 : ¬atFirst T1 i) (hc1 : atBelow T0 T1 i) (hc2 : ¬atDiag T0 T1 i) (hc3 : ¬k0_cond4 (iword T0 i) (jword T1 i) = 1#1) (K : PUnit → sProp 𝕄) :
    iprop(Held c arg4 arg5 arg6 arg7 arg8 arg9 arg10 T0 T1 q k v o l d y a
      ∗ (Held c arg4 arg5 arg6 arg7 arg8 arg9 arg10 T0 T1 q k v o l d y (k0_pay2 k v q (col l) d o a) -∗ K ⟨⟩))
      ⊢ wp frame (wpE (defs₀ (F := F)) Variants.none c none) Set.univ (call i arg4 harg4 arg5 harg5 arg6 harg6 arg7 harg7 arg8 harg8 arg9 harg9 arg10 harg10) K := by
  unfold call Held
  rw [cc0_mla_dq_eq_skeleton]; unfold cc0_mla_dq_skel
  have hS0 : acc.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, ⟨%f7, %h7, H7⟩, ⟨%f8, %h8, H8⟩, ⟨%f9, %h9, H9⟩, HT0, HT1, ⟨%f10, %h10, H10⟩, ⟨%f11, %h11, H11⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := hS0.eq_unread h11
  sl_exec! (disch := first | (guard_target = ¬(Scalar.cmpi = _); first | exact hc0 | exact hc2) | (guard_target = Scalar.cmpi = _; first | exact hc1) | (guard_target = ¬(k0_cond4 _ _ = _); exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [H7]; · iapply owned (F := F) c arg7 harg7; iexact H7
  isplitl [H8]; · iapply owned (F := F) c arg8 harg8; iexact H8
  isplitl [H9]; · iapply owned (F := F) c arg9 harg9; iexact H9
  isplitl [HT0]; · iexact HT0
  isplitl [HT1]; · iexact HT1
  isplitl [H10]; · iapply owned (F := F) c arg10 harg10; iexact H10
  iexists _; isplitr; swap
  · iexact H11
  ipureintro
  sl_unfold_words
  rw [stored _ hz]
  simp only [View.readAt_eq_ld, hS0.read_unread, Memref.IsWhole.read_unread, View.ld_unit_zero (S := S1024x128) hz, reread (S := S1024x128) _ hz, col]

set_option maxHeartbeats 8000000 in
/-- The first block of a query block, below the diagonal: the accumulator starts at the block's product. -/
theorem run_A (hc0 : atFirst T1 i) (hc1 : atBelow T0 T1 i) (hc2 : ¬atDiag T0 T1 i) (hc3 : ¬k0_cond4 (iword T0 i) (jword T1 i) = 1#1) (K : PUnit → sProp 𝕄) :
    iprop(Held c arg4 arg5 arg6 arg7 arg8 arg9 arg10 T0 T1 q k v o l d y a
      ∗ (Held c arg4 arg5 arg6 arg7 arg8 arg9 arg10 T0 T1 q k v o l d y (k0_pay2 k v q (col l) d o k0_pay1) -∗ K ⟨⟩))
      ⊢ wp frame (wpE (defs₀ (F := F)) Variants.none c none) Set.univ (call i arg4 harg4 arg5 harg5 arg6 harg6 arg7 harg7 arg8 harg8 arg9 harg9 arg10 harg10) K := by
  unfold call Held
  rw [cc0_mla_dq_eq_skeleton]; unfold cc0_mla_dq_skel
  have hS0 : acc.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, ⟨%f7, %h7, H7⟩, ⟨%f8, %h8, H8⟩, ⟨%f9, %h9, H9⟩, HT0, HT1, ⟨%f10, %h10, H10⟩, ⟨%f11, %h11, H11⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := hS0.eq_unread h11
  sl_exec! (disch := first | (guard_target = ¬(Scalar.cmpi = _); first | exact hc2) | (guard_target = Scalar.cmpi = _; first | exact hc0 | exact hc1) | (guard_target = ¬(k0_cond4 _ _ = _); exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [H7]; · iapply owned (F := F) c arg7 harg7; iexact H7
  isplitl [H8]; · iapply owned (F := F) c arg8 harg8; iexact H8
  isplitl [H9]; · iapply owned (F := F) c arg9 harg9; iexact H9
  isplitl [HT0]; · iexact HT0
  isplitl [HT1]; · iexact HT1
  isplitl [H10]; · iapply owned (F := F) c arg10 harg10; iexact H10
  iexists _; isplitr; swap
  · iexact H11
  ipureintro
  sl_unfold_words
  rw [stored _ hz]
  simp only [View.readAt_eq_ld, hS0.read_unread, Memref.IsWhole.read_unread, View.ld_unit_zero (S := S1024x128) hz, reread (S := S1024x128) _ hz, col]

set_option maxHeartbeats 8000000 in
/-- The first block of a query block, at the diagonal: the masked product, scaled, is stored. -/
theorem run_C (hc0 : atFirst T1 i) (hc1 : ¬atBelow T0 T1 i) (hc2 : atDiag T0 T1 i) (hc3 : k0_cond4 (iword T0 i) (jword T1 i) = 1#1) (K : PUnit → sProp 𝕄) :
    iprop(Held c arg4 arg5 arg6 arg7 arg8 arg9 arg10 T0 T1 q k v o l d y a
      ∗ (Held c arg4 arg5 arg6 arg7 arg8 arg9 arg10 T0 T1 q k v o l d (k0_pay3 (k0_pay4 k v q (col l) d o k0_pay1)) (k0_pay4 k v q (col l) d o k0_pay1) -∗ K ⟨⟩))
      ⊢ wp frame (wpE (defs₀ (F := F)) Variants.none c none) Set.univ (call i arg4 harg4 arg5 harg5 arg6 harg6 arg7 harg7 arg8 harg8 arg9 harg9 arg10 harg10) K := by
  unfold call Held
  rw [cc0_mla_dq_eq_skeleton]; unfold cc0_mla_dq_skel
  rw [k0_part1_eq_skeleton]; unfold k0_part1_skel
  have hS0 : acc.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, ⟨%f7, %h7, H7⟩, ⟨%f8, %h8, H8⟩, ⟨%f9, %h9, H9⟩, HT0, HT1, ⟨%f10, %h10, H10⟩, ⟨%f11, %h11, H11⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := hS0.eq_unread h11
  sl_exec! (disch := first | (guard_target = ¬(Scalar.cmpi = _); first | exact hc1) | (guard_target = Scalar.cmpi = _; first | exact hc0 | exact hc2) | (guard_target = k0_cond4 _ _ = _; exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [H7]; · iapply owned (F := F) c arg7 harg7; iexact H7
  isplitl [H8]; · iapply owned (F := F) c arg8 harg8; iexact H8
  isplitl [H9]; · iapply owned (F := F) c arg9 harg9; iexact H9
  isplitl [HT0]; · iexact HT0
  isplitl [HT1]; · iexact HT1
  isplitl [H10]; iexists _; isplitr; swap; iexact H10; rotate_left
  iexists _; isplitr; swap; iexact H11
  all_goals
    ipureintro
    sl_unfold_words
    rw [stored _ hz]
    simp only [View.readAt_eq_ld, hS0.read_unread, Memref.IsWhole.read_unread, View.ld_unit_zero (S := S1024x128) hz, reread (S := S1024x128) _ hz, col]

set_option maxHeartbeats 8000000 in
/-- The diagonal block, not the first: the accumulator gains the masked product and is stored scaled. -/
theorem run_D (hc0 : ¬atFirst T1 i) (hc1 : ¬atBelow T0 T1 i) (hc2 : atDiag T0 T1 i) (hc3 : k0_cond4 (iword T0 i) (jword T1 i) = 1#1) (K : PUnit → sProp 𝕄) :
    iprop(Held c arg4 arg5 arg6 arg7 arg8 arg9 arg10 T0 T1 q k v o l d y a
      ∗ (Held c arg4 arg5 arg6 arg7 arg8 arg9 arg10 T0 T1 q k v o l d (k0_pay3 (k0_pay4 k v q (col l) d o a)) (k0_pay4 k v q (col l) d o a) -∗ K ⟨⟩))
      ⊢ wp frame (wpE (defs₀ (F := F)) Variants.none c none) Set.univ (call i arg4 harg4 arg5 harg5 arg6 harg6 arg7 harg7 arg8 harg8 arg9 harg9 arg10 harg10) K := by
  unfold call Held
  rw [cc0_mla_dq_eq_skeleton]; unfold cc0_mla_dq_skel
  rw [k0_part1_eq_skeleton]; unfold k0_part1_skel
  have hS0 : acc.IsWhole := Memref.isWhole_whole _
  have hT0 : tb0.IsWhole := Memref.isWhole_whole _
  have hT1 : tb1.IsWhole := Memref.isWhole_whole _
  unfold owns
  iintro ⟨⟨⟨%f4, %h4, H4⟩, ⟨%f5, %h5, H5⟩, ⟨%f6, %h6, H6⟩, ⟨%f7, %h7, H7⟩, ⟨%f8, %h8, H8⟩, ⟨%f9, %h9, H9⟩, HT0, HT1, ⟨%f10, %h10, H10⟩, ⟨%f11, %h11, H11⟩⟩, Hk⟩
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := hS0.eq_unread h11
  sl_exec! (disch := first | (guard_target = ¬(Scalar.cmpi = _); first | exact hc0 | exact hc1) | (guard_target = Scalar.cmpi = _; first | exact hc2) | (guard_target = k0_cond4 _ _ = _; exact hc3))
  sl_step
  iapply Hk
  isplitl [H4]; · iapply owned (F := F) c arg4 harg4; iexact H4
  isplitl [H5]; · iapply owned (F := F) c arg5 harg5; iexact H5
  isplitl [H6]; · iapply owned (F := F) c arg6 harg6; iexact H6
  isplitl [H7]; · iapply owned (F := F) c arg7 harg7; iexact H7
  isplitl [H8]; · iapply owned (F := F) c arg8 harg8; iexact H8
  isplitl [H9]; · iapply owned (F := F) c arg9 harg9; iexact H9
  isplitl [HT0]; · iexact HT0
  isplitl [HT1]; · iexact HT1
  isplitl [H10]; iexists _; isplitr; swap; iexact H10; rotate_left
  iexists _; isplitr; swap; iexact H11
  all_goals
    ipureintro
    sl_unfold_words
    rw [stored _ hz]
    simp only [View.readAt_eq_ld, hS0.read_unread, Memref.IsWhole.read_unread, View.ld_unit_zero (S := S1024x128) hz, reread (S := S1024x128) _ hz, col]

end Runs

end Cert.DqIdeal.Hand

end
-- ==== Proof.DqFacts.lean ====
/-
  The schedule of the query-gradient kernel of the attention: the two tables of block numbers are constants of the
  program, so which blocks a grid point reads, whether it is the first or the last of its query block, and when the
  output is written back are decided once, at every one of the forty points.
-/
module

public import proofs.«01_k».proof.Proof.DqBody

@[expose] public section

set_option maxRecDepth 16384

noncomputable section

namespace Cert.DqIdeal.Hand

open Cert.DqIdeal Cert.DqIdeal.Gen
open Idealize.ShloMosaic
open Idealize.ShloMosaic.TcCoe Idealize.ShloMosaic.Tactic
open Idealize.SL Idealize.SL.RA Idealize.SL.BI
open Idealize.ShloMosaic.Pipeline (Dat Cfg Window BodyObligation BodyObligationLoose cellOf)

variable {F : FTy → Type} [FloatOps F]

/-- The query block's number at each of the ten pairs, and the key block's. -/
def rowBlock (n : ℕ) : ℕ := [0, 1, 1, 2, 2, 2, 3, 3, 3, 3].getD (n % 10) 0
def colBlock (n : ℕ) : ℕ := [0, 0, 1, 0, 1, 2, 0, 1, 2, 3].getD (n % 10) 0

/-- The two tables. -/
abbrev tabI : S10.Idx → Elt F .i32 := fun i => lit0 (S10.rowMajor i)
abbrev tabJ : S10.Idx → Elt F .i32 := fun i => lit1 (S10.rowMajor i)

set_option backward.proofsInPublic true in
/-- The tables' contents. -/
def pf : pre0.Contents (Elt F) := fun | ⟨0, _⟩ => tabI | ⟨1, _⟩ => tabJ | ⟨_ + 2, h⟩ => absurd h (by simp)

theorem inb0 : ∀ i : grid0.Coords, ∀ a, (cc0_transform_0 k0_off1_inb numel1_S1 (pf (F := F)) i a + 1) * S1024x128.size a ≤ S4096x512.size a :=
  of_decide_eq_true (by sl_kernel_rfl)
theorem inb1 : ∀ i : grid0.Coords, ∀ a, (cc0_transform_1 k0_off1_inb numel1_S1 (pf (F := F)) i a + 1) * S1024x128.size a ≤ S4096x512.size a :=
  of_decide_eq_true (by sl_kernel_rfl)
theorem inb2 : ∀ i : grid0.Coords, ∀ a, (cc0_transform_2 k0_off1_inb numel1_S1 (pf (F := F)) i a + 1) * S1024x128.size a ≤ S4096x512.size a :=
  of_decide_eq_true (by sl_kernel_rfl)
theorem inb3 : ∀ i : grid0.Coords, ∀ a, (cc0_transform_3 k0_off1_inb numel1_S1 (pf (F := F)) i a + 1) * S1024x128.size a ≤ S4096x512.size a :=
  of_decide_eq_true (by sl_kernel_rfl)
theorem inb4 : ∀ i : grid0.Coords, ∀ a, (cc0_transform_4 k0_off1_inb numel1_S1 (pf (F := F)) i a + 1) * S1024x128.size a ≤ S4096x512.size a :=
  of_decide_eq_true (by sl_kernel_rfl)
theorem inb5 : ∀ i : grid0.Coords, ∀ a, (cc0_transform_5 k0_off1_inb numel1_S1 (pf (F := F)) i a + 1) * S1024x128.size a ≤ S4096x1536.size a :=
  of_decide_eq_true (by sl_kernel_rfl)
theorem inb6 : ∀ i : grid0.Coords, ∀ a, (cc0_transform_6 k0_off1_inb numel1_S1 (pf (F := F)) i a + 1) * S1024x128.size a ≤ S4096x512.size a :=
  of_decide_eq_true (by sl_kernel_rfl)

/-- Every block lies in its array. -/
theorem pf_ok : ok0 (F := F) pf :=
  ⟨fun i => ⟨inb0 i, .inr (Affine.block_words_dvd (by decide) (by decide))⟩,
   fun i => ⟨inb1 i, .inr (Affine.block_words_dvd (by decide) (by decide))⟩,
   fun i => ⟨inb2 i, .inr (Affine.block_words_dvd (by decide) (by decide))⟩,
   fun i => ⟨inb3 i, .inl rfl⟩, fun i => ⟨inb4 i, .inl rfl⟩, fun i => ⟨inb5 i, .inl rfl⟩, fun i => ⟨inb6 i, .inl rfl⟩⟩

/-- The pipeline at these tables. -/
def adm : (pcfg0 (F := F)).Adm := ⟨pf, pf_ok⟩
abbrev cfgA : Pipeline.Cfg sig Λ₀ := cfg0 (F := F) adm
abbrev crd (t : Fin (cfgA (F := F)).N) : (cfgA (F := F)).grid.Coords := (cfgA (F := F)).grid.coords t

/-- What is decided at a point: the pair it works on, its position in its query block, the output's schedule. -/
abbrev FactsAt (t : Fin (cfgA (F := F)).N) : Prop :=
  (Scalar.cmpi .ne (Scalar.extui (Scalar.cmpi .eq (jword (F := F) tabJ (crd t)) 0#32)) 0#32 = 1#1 ↔ colBlock t.val = 0)
  ∧ (Scalar.cmpi .ne (Scalar.extui (Scalar.cmpi .slt (jword (F := F) tabJ (crd t)) (iword (F := F) tabI (crd t)))) 0#32 = 1#1 ↔ colBlock t.val < rowBlock t.val)
  ∧ (Scalar.cmpi .ne (Scalar.extui (Scalar.cmpi .eq (jword (F := F) tabJ (crd t)) (iword (F := F) tabI (crd t)))) 0#32 = 1#1 ↔ colBlock t.val = rowBlock t.val)
  ∧ (k0_cond4 (iword (F := F) tabI (crd t)) (jword (F := F) tabJ (crd t)) = 1#1 ↔ colBlock t.val = rowBlock t.val)
  ∧ (cfgA (F := F)).idle (6 : Fin 7) (crd t) = !decide (colBlock t.val = rowBlock t.val)
  ∧ ((cfgA (F := F)).win (6 : Fin 7)).flush t = decide (colBlock t.val = rowBlock t.val)
  ∧ (t.val = 0 → colBlock t.val = 0)

theorem facts : ∀ t : Fin (cfgA (F := F)).N, FactsAt t := of_decide_eq_true (by sl_kernel_rfl)

end Cert.DqIdeal.Hand

end
-- ==== Proof.DqFrame.lean ====
/-
  The run of the query-gradient kernel of the attention: the host lines, then the kernel's forty grid points with what
  the accumulator holds after each, then the written blocks. From any memory it ends with the arguments unchanged and
  every counter at zero.
-/
module

public import proofs.«01_k».proof.Proof.DqFacts
public import Idealize.ShloMosaic.Lib.StableHlo.RunRead

@[expose] public section

set_option maxRecDepth 16384

noncomputable section

namespace Cert.DqIdeal.Hand

open Cert.DqIdeal Cert.DqIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A grid point. -/
abbrev Pt (F : FTy → Type) [FloatOps F] := Fin (cfgA (F := F)).N

variable (m : (ℓ : Loc nD τ sig) → Buf (Elt F) ℓ) (ρ : Dev nD → PrngReg)

/-! ## The contents at the kernel's start -/

/-- The host lines, in their three stretches. -/
abbrev host : List (List (HloOp τ sig (Elt F))) := [hostOps0, hostOps0_1, hostOps0_2]

/-- What a buffer holds when the kernel starts. -/
def V (c : Dev nD) (b : Ref sig .tc) : Buf (Elt F) ((c.tc : Thread nD τ).loc b) :=
  StableHlo.after (host (F := F)).flatten (fun b => m (c, b)) b

theorem host_sub : (host (F := F)).Forall fun ops => ops.Forall fun op => op.bufs ⊆ StableHlo.tcRefs τ sig :=
  ⟨hostOps0_sub, hostOps0_1_sub, hostOps0_2_sub⟩

theorem host_fresh : (host (F := F)).Forall fun ops => ops.Forall fun op => op.fresh = ∅ := by
  refine ⟨?_, ?_, ?_⟩ <;> (repeat' first | exact rfl | constructor)

theorem V_main : Pipeline.HMainP (Ix := Unit) (Name := ℕ) (U := UR sig nD τ) (Lvl := ℕ) (pcfgs (F := F)) 0 defs₀ Variants.none m main (V m) :=
  Pipeline.hmainP_prefixes (pcfgs (F := F)) 0 defs₀ Variants.none m main host host_sub host_fresh main_chain

/-! ## What the accumulator holds -/

/-- Input `w`'s block at point `t`. -/
def iblk (c : Dev nD) (w : Fin 7) (t : Pt F) :
    Shape.Idx ((cfgA (F := F)).win w).block → Elt F ((cfgA (F := F)).win w).elt :=
  (((cfgA (F := F)).win w).blk t).view.read (Elt F) (V m c (Pipeline.arrRef spec0 w))

abbrev bq (c : Dev nD) (t : Pt F) : Vec F S1024x128 .bf16 := iblk m c 0 t
abbrev bk (c : Dev nD) (t : Pt F) : Vec F S1024x128 .bf16 := iblk m c 1 t
abbrev bv (c : Dev nD) (t : Pt F) : Vec F S1024x128 .bf16 := iblk m c 2 t
abbrev bo (c : Dev nD) (t : Pt F) : Vec F S1024x128 .f32 := iblk m c 3 t
abbrev bl (c : Dev nD) (t : Pt F) : Vec F S1024x128 .f32 := iblk m c 4 t
abbrev bd (c : Dev nD) (t : Pt F) : Vec F S1024x128 .f32 := iblk m c 5 t

/-- The accumulator after a point, from its value before. -/
def step (c : Dev nD) (t : Pt F) (a : Vec F S1024x128 .f32) : Vec F S1024x128 .f32 :=
  if colBlock t.val < rowBlock t.val then
    k0_pay2 (bk m c t) (bv m c t) (bq m c t) (col (bl m c t)) (bd m c t) (bo m c t) (if colBlock t.val = 0 then k0_pay1 else a)
  else
    k0_pay4 (bk m c t) (bv m c t) (bq m c t) (col (bl m c t)) (bd m c t) (bo m c t) (if colBlock t.val = 0 then k0_pay1 else a)

/-- The accumulator before point `n`. -/
def accAt (c : Dev nD) : ℕ → Vec F S1024x128 .f32
  | 0 => k0_pay1
  | n + 1 => if h : n < (cfgA (F := F)).N then step m c ⟨n, h⟩ (accAt c n) else accAt c n

theorem accAt_succ (c : Dev nD) (t : Pt F) : accAt m c (t.val + 1) = step m c t (accAt m c t.val) := by
  rw [accAt]; exact dif_pos t.isLt

/-- The state carried between points: the accumulator, the generator's register, the kernel's halves of the tables. -/
def Phi (c : Dev nD) (t : Fin ((cfgA (F := F)).N + 1)) : sProp 𝕄 :=
  iprop((∃ a, ⌜t.val ≠ 0 → a = accAt m c t.val⌝ ∗ owns (c : Thread nD τ) acc fullShare a) ∗ (∃ r, prngReg c r)
    ∗ (tb0.view.loc (c : Thread nD τ) ↦{fullShare.right} tabI) ∗ (tb1.view.loc (c : Thread nD τ) ↦{fullShare.right} tabJ))

/-- The proof data of the pipeline. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (accAt m c (t.val + 1))
  Φ t := Phi m c t
  q _ := fullShare
  owed _ := 0

theorem A_eq (c : Dev nD) (w : Fin (cfgA (F := F)).W) : (dats m 0 c).A w = V m c (Pipeline.arrRef spec0 w) := by
  dsimp only [dats]

theorem after_0 (c : Dev nD) (t : Pt F) : (dats m 0 c).after (0 : Fin 7) t = iblk m c 0 t := by dsimp only [dats]
theorem before_0 (c : Dev nD) (t : Pt F) (d) : (dats m 0 c).before (0 : Fin 7) t d = iblk m c 0 t :=
  ((dats m 0 c).before_in_eq_fetched (0 : Fin 7) rfl (fun _ => rfl) (fun _ _ _ => rfl) (fun t => by rw [after_0]; unfold Dat.blockOf iblk; rw [A_eq]) t d).trans
    (by unfold Dat.fetched Dat.blockOf iblk; rw [A_eq]; rfl)

theorem after_1 (c : Dev nD) (t : Pt F) : (dats m 0 c).after (1 : Fin 7) t = iblk m c 1 t := by dsimp only [dats]
theorem before_1 (c : Dev nD) (t : Pt F) (d) : (dats m 0 c).before (1 : Fin 7) t d = iblk m c 1 t :=
  ((dats m 0 c).before_in_eq_fetched (1 : Fin 7) rfl (fun _ => rfl) (fun _ _ _ => rfl) (fun t => by rw [after_1]; unfold Dat.blockOf iblk; rw [A_eq]) t d).trans
    (by unfold Dat.fetched Dat.blockOf iblk; rw [A_eq]; rfl)

theorem after_2 (c : Dev nD) (t : Pt F) : (dats m 0 c).after (2 : Fin 7) t = iblk m c 2 t := by dsimp only [dats]
theorem before_2 (c : Dev nD) (t : Pt F) (d) : (dats m 0 c).before (2 : Fin 7) t d = iblk m c 2 t :=
  ((dats m 0 c).before_in_eq_fetched (2 : Fin 7) rfl (fun _ => rfl) (fun _ _ _ => rfl) (fun t => by rw [after_2]; unfold Dat.blockOf iblk; rw [A_eq]) t d).trans
    (by unfold Dat.fetched Dat.blockOf iblk; rw [A_eq]; rfl)

theorem after_3 (c : Dev nD) (t : Pt F) : (dats m 0 c).after (3 : Fin 7) t = iblk m c 3 t := by dsimp only [dats]
theorem before_3 (c : Dev nD) (t : Pt F) (d) : (dats m 0 c).before (3 : Fin 7) t d = iblk m c 3 t :=
  ((dats m 0 c).before_in_eq_fetched (3 : Fin 7) rfl (fun _ => rfl) (fun _ _ _ => rfl) (fun t => by rw [after_3]; unfold Dat.blockOf iblk; rw [A_eq]) t d).trans
    (by unfold Dat.fetched Dat.blockOf iblk; rw [A_eq]; rfl)

theorem after_4 (c : Dev nD) (t : Pt F) : (dats m 0 c).after (4 : Fin 7) t = iblk m c 4 t := by dsimp only [dats]
theorem before_4 (c : Dev nD) (t : Pt F) (d) : (dats m 0 c).before (4 : Fin 7) t d = iblk m c 4 t :=
  ((dats m 0 c).before_in_eq_fetched (4 : Fin 7) rfl (fun _ => rfl) (fun _ _ _ => rfl) (fun t => by rw [after_4]; unfold Dat.blockOf iblk; rw [A_eq]) t d).trans
    (by unfold Dat.fetched Dat.blockOf iblk; rw [A_eq]; rfl)

theorem after_5 (c : Dev nD) (t : Pt F) : (dats m 0 c).after (5 : Fin 7) t = iblk m c 5 t := by dsimp only [dats]
theorem before_5 (c : Dev nD) (t : Pt F) (d) : (dats m 0 c).before (5 : Fin 7) t d = iblk m c 5 t :=
  ((dats m 0 c).before_in_eq_fetched (5 : Fin 7) rfl (fun _ => rfl) (fun _ _ _ => rfl) (fun t => by rw [after_5]; unfold Dat.blockOf iblk; rw [A_eq]) t d).trans
    (by unfold Dat.fetched Dat.blockOf iblk; rw [A_eq]; rfl)

theorem after_6 (c : Dev nD) (t : Pt F) : (dats m 0 c).after (6 : Fin 7) t = k0_pay3 (accAt m c (t.val + 1)) := by dsimp only [dats]

/-! ## A grid point -/

abbrev ms0 (t : Pt F) : Memref sig .tc .vmem S1024x128 .bf16 := spec0_0.stage ((cfgA (F := F)).slots t (0 : Fin 7))
abbrev hs0 (t : Pt F) : (ms0 t).IsWhole := hstage0_0 (((cfgA (F := F)).slots t (0 : Fin 7)).cast nbuf0_0)
abbrev ms1 (t : Pt F) : Memref sig .tc .vmem S1024x128 .bf16 := spec0_1.stage ((cfgA (F := F)).slots t (1 : Fin 7))
abbrev hs1 (t : Pt F) : (ms1 t).IsWhole := hstage0_1 (((cfgA (F := F)).slots t (1 : Fin 7)).cast nbuf0_1)
abbrev ms2 (t : Pt F) : Memref sig .tc .vmem S1024x128 .bf16 := spec0_2.stage ((cfgA (F := F)).slots t (2 : Fin 7))
abbrev hs2 (t : Pt F) : (ms2 t).IsWhole := hstage0_2 (((cfgA (F := F)).slots t (2 : Fin 7)).cast nbuf0_2)
abbrev ms3 (t : Pt F) : Memref sig .tc .vmem S1024x128 .f32 := spec0_3.stage ((cfgA (F := F)).slots t (3 : Fin 7))
abbrev hs3 (t : Pt F) : (ms3 t).IsWhole := hstage0_3 (((cfgA (F := F)).slots t (3 : Fin 7)).cast nbuf0_3)
abbrev ms4 (t : Pt F) : Memref sig .tc .vmem S1024x128 .f32 := spec0_4.stage ((cfgA (F := F)).slots t (4 : Fin 7))
abbrev hs4 (t : Pt F) : (ms4 t).IsWhole := hstage0_4 (((cfgA (F := F)).slots t (4 : Fin 7)).cast nbuf0_4)
abbrev ms5 (t : Pt F) : Memref sig .tc .vmem S1024x128 .f32 := spec0_5.stage ((cfgA (F := F)).slots t (5 : Fin 7))
abbrev hs5 (t : Pt F) : (ms5 t).IsWhole := hstage0_5 (((cfgA (F := F)).slots t (5 : Fin 7)).cast nbuf0_5)
abbrev ms6 (t : Pt F) : Memref sig .tc .vmem S1024x128 .f32 := spec0_6.stage ((cfgA (F := F)).slots t (6 : Fin 7))
abbrev hs6 (t : Pt F) : (ms6 t).IsWhole := hstage0_6 (((cfgA (F := F)).slots t (6 : Fin 7)).cast nbuf0_6)

/-- The body at point `t`. -/
abbrev bodyAt (t : Pt F) : Prog (TpuEff nD τ sig (Elt F) Λ₀ .tc) PUnit :=
  call (crd t) (ms0 t) (hs0 t) (ms1 t) (hs1 t) (ms2 t) (hs2 t) (ms3 t) (hs3 t) (ms4 t) (hs4 t) (ms5 t) (hs5 t) (ms6 t) (hs6 t)

set_option maxHeartbeats 4000000 in
/-- The body at a point takes the carried state and the staging buffers to what the proof data say. -/
theorem sound_body (c : Dev nD) (t : Pt F) :
    iprop((dats m 0 c).Φ t.castSucc ∗ (dats m 0 c).owesAt () t.castSucc
        ∗ (∃ d, owns (c : Thread nD τ) (ms0 t) fullShare ((dats m 0 c).before (0 : Fin 7) t d))
        ∗ (∃ d, owns (c : Thread nD τ) (ms1 t) fullShare ((dats m 0 c).before (1 : Fin 7) t d))
        ∗ (∃ d, owns (c : Thread nD τ) (ms2 t) fullShare ((dats m 0 c).before (2 : Fin 7) t d))
        ∗ (∃ d, owns (c : Thread nD τ) (ms3 t) fullShare ((dats m 0 c).before (3 : Fin 7) t d))
        ∗ (∃ d, owns (c : Thread nD τ) (ms4 t) fullShare ((dats m 0 c).before (4 : Fin 7) t d))
        ∗ (∃ d, owns (c : Thread nD τ) (ms5 t) fullShare ((dats m 0 c).before (5 : Fin 7) t d))
        ∗ (∃ d, owns (c : Thread nD τ) (ms6 t) fullShare ((dats m 0 c).before (6 : Fin 7) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  obtain ⟨c0, c1, c2, c3, id6, fl6, z⟩ := facts (F := F) t
  rewrite [id6, fl6]
  simp only [before_0, before_1, before_2, before_3, before_4, before_5, after_0, after_1, after_2, after_3, after_4, after_5, after_6]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi; simp only [Fin.val_castSucc, Fin.val_succ, accAt_succ]
  have hle : ¬colBlock t.val < rowBlock t.val → colBlock t.val = rowBlock t.val := by
    have : ∀ n : ℕ, n < 10 → ¬([0, 0, 1, 0, 1, 2, 0, 1, 2, 3].getD n 0 < [0, 1, 1, 2, 2, 2, 3, 3, 3, 3].getD n 0)
        → [0, 0, 1, 0, 1, 2, 0, 1, 2, 3].getD n 0 = [0, 1, 1, 2, 2, 2, 3, 3, 3, 3].getD n 0 := by decide
    exact this _ (Nat.mod_lt _ (by decide))
  by_cases q0 : colBlock t.val = 0 <;> by_cases q1 : colBlock t.val < rowBlock t.val
  all_goals
    first | have q2 := hle q1 | have q2 : ¬colBlock t.val = rowBlock t.val := by omega
    simp only [q2, decide_true, decide_false, Bool.not_true, Bool.not_false]
    iintro ⟨⟨⟨%a, %ha, HS⟩, Hg, HT0, HT1⟩, Ho, ⟨%d0, H0⟩, ⟨%d1, H1⟩, ⟨%d2, H2⟩, ⟨%d3, H3⟩, ⟨%d4, H4⟩, ⟨%d5, H5⟩, ⟨%d6, H6⟩⟩
    try (have e := ha (fun h => q0 (z h)); subst e)
    first
      | (have g := c0.mpr q0; have g := c1.mpr q1
         iapply (run_A c (crd t) (ms0 t) (hs0 t) (ms1 t) (hs1 t) (ms2 t) (hs2 t) (ms3 t) (hs3 t) (ms4 t) (hs4 t) (ms5 t) (hs5 t) (ms6 t) (hs6 t) tabI tabJ (bq m c t) (bk m c t) (bv m c t) (bo m c t) (bl m c t) (bd m c t) _ _ (c0.mpr q0) (c1.mpr q1) (fun h => q2 (c2.mp h)) (fun h => q2 (c3.mp h)) _))
      | (have g := mt c0.mp q0; have g := c1.mpr q1
         iapply (run_B c (crd t) (ms0 t) (hs0 t) (ms1 t) (hs1 t) (ms2 t) (hs2 t) (ms3 t) (hs3 t) (ms4 t) (hs4 t) (ms5 t) (hs5 t) (ms6 t) (hs6 t) tabI tabJ (bq m c t) (bk m c t) (bv m c t) (bo m c t) (bl m c t) (bd m c t) _ _ (fun h => q0 (c0.mp h)) (c1.mpr q1) (fun h => q2 (c2.mp h)) (fun h => q2 (c3.mp h)) _))
      | (have g := c0.mpr q0; have g := mt c1.mp q1
         iapply (run_C c (crd t) (ms0 t) (hs0 t) (ms1 t) (hs1 t) (ms2 t) (hs2 t) (ms3 t) (hs3 t) (ms4 t) (hs4 t) (ms5 t) (hs5 t) (ms6 t) (hs6 t) tabI tabJ (bq m c t) (bk m c t) (bv m c t) (bo m c t) (bl m c t) (bd m c t) _ _ (c0.mpr q0) (fun h => q1 (c1.mp h)) (c2.mpr q2) (c3.mpr q2) _))
      | (have g := mt c0.mp q0; have g := mt c1.mp q1
         iapply (run_D c (crd t) (ms0 t) (hs0 t) (ms1 t) (hs1 t) (ms2 t) (hs2 t) (ms3 t) (hs3 t) (ms4 t) (hs4 t) (ms5 t) (hs5 t) (ms6 t) (hs6 t) tabI tabJ (bq m c t) (bk m c t) (bv m c t) (bo m c t) (bl m c t) (bd m c t) _ _ (fun h => q0 (c0.mp h)) (fun h => q1 (c1.mp h)) (c2.mpr q2) (c3.mpr q2) _))
    unfold Held
    isplitl [H0 H1 H2 H3 H4 H5 HT0 HT1 H6 HS]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      isplitl [HT1]; · iexact HT1
      isplitl [H6]; · iexact H6
      iexact HS
    iintro ⟨H0, H1, H2, H3, H4, H5, HT0, HT1, H6, HS⟩
    isplitl [HS Hg HT0 HT1]
    · isplitl [HS]
      · iexists _; isplitr; swap
        · iexact HS
        ipureintro; intro _; first | simp only [step, if_neg q0, if_neg q1] | simp only [step, if_neg q0, if_pos q1] | simp only [step, if_pos q0, if_neg q1] | simp only [step, if_pos q0, if_pos q1]
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    first
      | (iexists d6; iexact H6)
      | (first | simp only [step, if_neg q0, if_neg q1] | simp only [step, if_pos q0, if_neg q1]
         iexact H6)

theorem defs₀_row (t : Pt F) :
    defs₀ (F := F) .tc (cfgA (F := F)).body ((cfgA (F := F)).bodyArgs t ((cfgA (F := F)).slots t)) = bodyAt t := by
  unfold defs₀; rw [Defs.onTc_tc]

theorem body_obligation (c : Dev nD) : BodyObligation (dats (F := F) m 0 c) (defs₀ (F := F)) Variants.none () Set.univ := fun t => by
  rw [bigSep_W0, defs₀_row]
  exact triple_restated (sound_body m c t) rfl .rfl fun _ => .rfl

/-! ## The run -/

/-- The buffers the host lines write after the two tables, in order. -/
abbrev written : List (Ref sig .tc) := [main_v0, main_v1, main_v2, main_cst, main_v3, main_v4, main_v5, main_v6, main_v7, main_v8, main_v9, main_v10, main_cst_1, main_call0_v0, main_call0_v1, main_call0_v2, main_v11, main_cst_2, main_v12, main_v13, main_v14, main_v15, main_v16, main_cst_3, main_v17, main_v18, main_v19, main_v20, main_v21, main_v22, main_v23, main_v24, main_v25, main_v26, main_cst_4, main_v27, main_v28, main_v29, main_v30, main_v31, main_v32, main_v33, main_cst_5, main_v34, main_v35, main_cst_6, main_v36, main_v37, main_v38, main_v39, main_v40, main_v41]

theorem V_tabI (c : Dev nD) : V m c main_c = tabI :=
  (StableHlo.after_last_write (ops := (host (F := F)).flatten) (i := 0) (main_c_0 :: written) (r := main_c) rfl rfl (by decide) _).trans (StableHlo.nullary_result' ..)
theorem V_tabJ (c : Dev nD) : V m c main_c_0 = tabJ :=
  (StableHlo.after_last_write (ops := (host (F := F)).flatten) (i := 1) written (r := main_c_0) rfl rfl (by decide) _).trans (StableHlo.nullary_result' ..)

theorem hpf (c : Dev nD) (k) : V m c ((pcfgs (F := F) 0).pre.ref k) = (adm (F := F)).1 k := by
  match k with
  | ⟨0, _⟩ => exact V_tabI m c
  | ⟨1, _⟩ => exact V_tabJ m c
  | ⟨n + 2, h⟩ => exact absurd (show n + 2 < 2 from h) (by omega)

/-- The tables' halves the launch hands the kernel. -/
theorem tables_eq (c : Dev nD) : (Pipeline.ΦT (pcfgs (F := F) 0).pre (adm (F := F)).1 c : sProp 𝕄)
    = iprop((tb0.view.loc (c : Thread nD τ) ↦{fullShare.right} tabI) ∗ (tb1.view.loc (c : Thread nD τ) ↦{fullShare.right} tabJ)) := by
  unfold Pipeline.ΦT Pipeline.prefHeld
  rw [show (Finset.univ : Finset (Fin 2)) = insert 0 {1} from by decide, bigSep_insert (show (0 : Fin 2) ∉ ({1} : Finset (Fin 2)) from by decide), bigSep_singleton]
  rfl

theorem hin (c : Dev nD) : iprop(Pipeline.ΦA spec0 c ∗ Pipeline.ΦT (pcfgs (F := F) 0).pre (adm (F := F)).1 c) ⊢ (dats m 0 c).Φ 0 := by
  rw [show (dats m 0 c).Φ 0 = Phi m c 0 from rfl, tables_eq]
  unfold Phi Pipeline.ΦA; rw [scopedRest0_eq]
  iintro ⟨⟨⟨%f, HS⟩, Hg⟩, HT0, HT1⟩
  isplitl [HS]
  · iexists f; isplitr
    · ipureintro; intro h; exact absurd rfl h
    rw [owns_whole]; iexact HS
  isplitl [Hg]; · iexact Hg
  isplitl [HT0]; · iexact HT0
  iexact HT1

theorem hout (c : Dev nD) : (dats m 0 c).Φ (Fin.last (cfgA (F := F)).N) ⊢ Pipeline.ΦA spec0 c := by
  rw [show (dats m 0 c).Φ (Fin.last (cfgA (F := F)).N) = Phi m c (Fin.last (cfgA (F := F)).N) from rfl]
  unfold Phi Pipeline.ΦA; rw [scopedRest0_eq]
  iintro ⟨⟨%a, %ha, HS⟩, Hg, HT0, HT1⟩
  isplitl [HS]
  · iexists a; rw [← owns_whole]; iexact HS
  iexact Hg

set_option backward.isDefEq.respectTransparency.types false in
/-- Every run ends with the written blocks in their arrays, the other buffers as the kernel found them, and every
    counter at zero. -/
theorem run_main : θ_run defs (onTc (τ := τ) (main (F := F))) (s₀ m ρ)
    (fun r => Pipeline.FramePost (Pipeline.pin (pcfgs (F := F)) fun _ => adm) (dats m) 0 (V m) r ∧ r.2.sem = fun _ => 0) :=
  Pipeline.θ_run_frameP_track (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := V_main m) (hA := A_eq m) (hpf := hpf m) (hin := hin m) (hout := hout m)

end Cert.DqIdeal.Hand

end
-- ==== Proof.DqHost.lean ====
/-
  What the query-gradient kernel's array arguments hold: the plain lines before the call, stage by stage.
-/
module

public import proofs.«01_k».proof.Proof.DqFrame
public import proofs.«01_k».proof.Proof.AttnValue

@[expose] public section

noncomputable section

namespace Cert.DqIdeal.Hand

open Cert.DqIdeal Cert.DqIdeal.Gen Idealize.ShloMosaic Idealize.ShloMosaic.TcCoe

variable (m : (ℓ : Loc nD τ sig) → Buf (Elt Ideal) ℓ) (c : Dev nD)

abbrev aQ : FVec Ideal S4096x512 .f32 := m ((c.tc : Thread nD τ).loc main_arg0)
abbrev aK : FVec Ideal S4096x512 .f32 := m ((c.tc : Thread nD τ).loc main_arg1)
abbrev aV : FVec Ideal S4096x512 .f32 := m ((c.tc : Thread nD τ).loc main_arg2)
abbrev aD : FVec Ideal S4096x1536 .f32 := m ((c.tc : Thread nD τ).loc main_arg3)

open Idealize.ShloMosaic.StableHlo in
theorem V_arg3 : V m c main_arg3 = aD m c := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

open Idealize.ShloMosaic.StableHlo in
theorem V_q : V m c main_v39 = truncf .bf16 (Host.divf (mulf (aQ m c) (broadcastInDim S4096x512 ![] Facts₀.bcast_S_S4096x512 (constant S_ .f32 0x3DD105EC#32)))
    (broadcastInDim S4096x512 ![] Facts₀.bcast_S_S4096x512 (Host.log (constant S_ .f32 0x40000000#32)))) Facts₀.bitsLt_bf16_f32 := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

open Idealize.ShloMosaic.StableHlo in
theorem V_o : V m c main_v24 = Cert.Attn.outAt (aQ m c) (aK m c) (aV m c) (Cert.Attn.rowMax (aQ m c) (aK m c)) := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

/-- The queries in base-2 units. -/
def scaled (Q : FVec Ideal S4096x512 .f32) : FVec Ideal S4096x512 .bf16 :=
  truncf .bf16 (Host.divf (mulf Q (broadcastInDim S4096x512 ![] Facts₀.bcast_S_S4096x512 (constant S_ .f32 0x3DD105EC#32)))
    (broadcastInDim S4096x512 ![] Facts₀.bcast_S_S4096x512 (Host.log (constant S_ .f32 0x40000000#32)))) Facts₀.bitsLt_bf16_f32

/-- A value of each row and head, on every lane of the head. -/
def lanes (W : FVec Ideal S4x4096 .f32) : FVec Ideal S4096x512 .f32 :=
  shapeCast S4096x512 (broadcastInDim S4096x4x128 ![0, 1, 2] Facts₀.bcast_S4096x4x1_S4096x4x128_0_1_2 (broadcastInDim S4096x4x1 ![0, 1] Facts₀.bcast_S4096x4_S4096x4x1_0_1 (transpose S4096x4 [1, 0] W Facts₀.transposes_S4x4096_S4096x4_1_0))) Facts₀.shapeCasts_S4096x4x128_S4096x512

open Idealize.ShloMosaic.StableHlo in
theorem V_l : V m c main_v33 = lanes (Cert.Attn.lse2 (Cert.Attn.rowMax (aQ m c) (aK m c)) (Cert.Attn.rowSum (Cert.Attn.expo (aQ m c) (aK m c) (Cert.Attn.rowMax (aQ m c) (aK m c))))) := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

open Idealize.ShloMosaic.StableHlo in
theorem V_k : V m c main_v40 = truncf .bf16 (aK m c) Facts₀.bitsLt_bf16_f32 := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

open Idealize.ShloMosaic.StableHlo in
theorem V_v : V m c main_v41 = truncf .bf16 (aV m c) Facts₀.bitsLt_bf16_f32 := by
  unfold V
  simp only [host, hostOps0, hostOps0_1, hostOps0_2, List.flatten_cons, List.flatten_nil, List.append_nil, List.cons_append, List.nil_append, TRef.nullary, TRef.ternary, TRef.unary, TRef.toBuf, TRef.ofBuf, cast_eq]
  after_reads_simp <;> rfl

theorem scaled_apply (Q : FVec Ideal S4096x512 .f32) (i : S4096x512.Idx) :
    (scaled Q i : EReal) = Ideal.div ((Q i : EReal) * (Cert.Reals.c1 : EReal)) (Ideal.log ((2 : ℝ) : EReal)) := by
  unfold scaled
  pointwise
  rw [Cert.Reals.ofBits_two, Cert.Reals.ofBits_c1]

theorem lanes_apply (W : FVec Ideal S4x4096 .f32) (i : Fin 4096) (h : Fin 4) (x : Fin 128) :
    (lanes W (ix2 i (Cert.Attn.col h x)) : EReal) = W (ix2 h i) := by
  unfold lanes
  pointwise
  simp only [Cert.Attn.col_div]

section Real

variable {q k v d : Fin 4096 → Fin 4 → Fin 128 → ℝ} (H : Cert.Attn.Holds (aQ m c) (aK m c) (aV m c) (aD m c) q k v d)
include H

/-- The level of a row of the launch's scores. -/
abbrev level : Fin 4 → Fin 4096 → ℝ := Cert.Attn.lvl (aQ m c) (aK m c)

theorem hq (i : Fin 4096) (h : Fin 4) (x : Fin 128) : ((V m c main_v39 : S4096x512.Idx → EReal) (ix2 i (Cert.Attn.col h x))) = (Cert.Attn.q2 q i h x : EReal) := by
  rw [V_q]
  show (scaled (aQ m c) (ix2 i (Cert.Attn.col h x)) : EReal) = _
  rw [scaled_apply, H.q, ← EReal.coe_mul, Ideal.log_coe, if_neg (by norm_num), Cert.Reals.div_real _ _ Cert.Attn.log_two_ne]
  rfl

theorem hk (i : Fin 4096) (h : Fin 4) (x : Fin 128) : ((V m c main_v40 : S4096x512.Idx → EReal) (ix2 i (Cert.Attn.col h x))) = (k i h x : EReal) := by
  rw [V_k]
  exact H.k i h x

theorem hv (i : Fin 4096) (h : Fin 4) (x : Fin 128) : ((V m c main_v41 : S4096x512.Idx → EReal) (ix2 i (Cert.Attn.col h x))) = (v i h x : EReal) := by
  rw [V_v]
  exact H.v i h x

theorem ho (i : Fin 4096) (h : Fin 4) (x : Fin 128) : ((V m c main_v24 : S4096x512.Idx → EReal) (ix2 i (Cert.Attn.col h x)))
    = (Cert.Attn.O q k v (level m c) i h x : EReal) := by
  rw [V_o]
  exact Cert.Attn.outAt_real (Cert.Attn.rowMax_real H) H i h x

theorem hl (i : Fin 4096) (h : Fin 4) (x : Fin 128) : ((V m c main_v33 : S4096x512.Idx → EReal) (ix2 i (Cert.Attn.col h x)))
    = (Cert.Attn.L2 q k (level m c) h i : EReal) := by
  rw [V_l, lanes_apply]
  exact Cert.Attn.logSum_real (Cert.Attn.rowMax_real H) H h i

theorem hd (i : Fin 4096) (h : Fin 4) (x : Fin 128) : ((V m c main_arg3 : S4096x1536.Idx → EReal) (ix2 i (Cert.Attn.dcol h x))) = (d i h x : EReal) := by
  rw [V_arg3]
  exact H.d i h x

end Real

end Cert.DqIdeal.Hand

end
-- ==== Proof.MlaValue.lean ====
/-
  What the attention kernel's scratches hold after each pair of blocks: the largest score, the sum of the weights and the
  weighted values of every query over the keys so far. With the block on the diagonal every visible key has been taken.
-/
module

public import proofs.«01_k».proof.Proof.MlaFrame
public import proofs.«01_k».proof.Proof.MlaBlock
public import proofs.«01_k».proof.Proof.DkvHost
public import proofs.«01_k».proof.Proof.DqHost

@[expose] public section

noncomputable section

namespace Cert.MlaIdeal.Hand

open Cert.MlaIdeal Cert.MlaIdeal.Gen
open Idealize.ShloMosaic Idealize.ShloMosaic.TcCoe Idealize.ShloMosaic.Tactic Idealize.SL.Sem
open Idealize.ShloMosaic.Pipeline (Dat)
open Cert.Attn (col)
open scoped BigOperators

/-- Which block each window has at a point. -/
theorem idx_facts : ∀ t : Fin (cfgA (F := Ideal)).N,
    (((cfgA (F := Ideal)).win (0 : Fin 6)).index t (0 : Fin 2) = rowBlock t.val ∧ ((cfgA (F := Ideal)).win (0 : Fin 6)).index t (1 : Fin 2) = t.val / 10)
    ∧ (((cfgA (F := Ideal)).win (1 : Fin 6)).index t (0 : Fin 2) = colBlock t.val ∧ ((cfgA (F := Ideal)).win (1 : Fin 6)).index t (1 : Fin 2) = t.val / 10)
    ∧ (((cfgA (F := Ideal)).win (2 : Fin 6)).index t (0 : Fin 2) = t.val / 10 ∧ ((cfgA (F := Ideal)).win (2 : Fin 6)).index t (1 : Fin 2) = colBlock t.val)
    ∧ (((cfgA (F := Ideal)).win (3 : Fin 6)).index t (0 : Fin 2) = rowBlock t.val ∧ ((cfgA (F := Ideal)).win (3 : Fin 6)).index t (1 : Fin 2) = t.val / 10)
    ∧ (((cfgA (F := Ideal)).win (4 : Fin 6)).index t (0 : Fin 2) = rowBlock t.val ∧ ((cfgA (F := Ideal)).win (4 : Fin 6)).index t (1 : Fin 2) = t.val / 10)
    ∧ (((cfgA (F := Ideal)).win (5 : Fin 6)).index t (0 : Fin 2) = t.val / 10 ∧ ((cfgA (F := Ideal)).win (5 : Fin 6)).index t (1 : Fin 2) = rowBlock t.val) :=
  of_decide_eq_true (by sl_kernel_rfl)

theorem order : ∀ n : Fin 40, rowBlock n.val < 4 ∧ colBlock n.val ≤ rowBlock n.val
    ∧ (colBlock n.val ≠ 0 → 0 < n.val ∧ colBlock (n.val - 1) + 1 = colBlock n.val ∧ rowBlock (n.val - 1) = rowBlock n.val ∧ (n.val - 1) / 10 = n.val / 10) := by decide

theorem lt40 (t : Fin (cfgA (F := Ideal)).N) : t.val < 40 := t.isLt

/-- The head a point works on. -/
def headOf (n : ℕ) (h : n < 40) : Fin 4 := ⟨n / 10, by omega⟩

/-- Query `r` of the point's query block. -/
def row (n : ℕ) (h : n < 40) (r : Fin 1024) : Fin 4096 := ⟨1024 * rowBlock n + r.val, by have := (order ⟨n, h⟩).1; dsimp only at this; omega⟩

/-- Key `j` of the point's key block. -/
def key (n : ℕ) (h : n < 40) (j : Fin 1024) : Fin 4096 := ⟨1024 * colBlock n + j.val, by have := (order ⟨n, h⟩).1; have := (order ⟨n, h⟩).2.1; dsimp only at *; omega⟩

variable (m : (ℓ : Loc nD τ sig) → Buf (Elt Ideal) ℓ) (c : Dev nD)

abbrev aQ : FVec Ideal S4096x512 .f32 := m ((c.tc : Thread nD τ).loc main_arg0)
abbrev aK : FVec Ideal S4096x512 .f32 := m ((c.tc : Thread nD τ).loc main_arg1)
abbrev aV : FVec Ideal S4096x512 .f32 := m ((c.tc : Thread nD τ).loc main_arg2)

open Idealize.ShloMosaic.StableHlo in
/-- The arrays the host lines hand the kernel. -/
theorem V_in : V m c main_v5 = Cert.DqIdeal.Hand.scaled (aQ m c) ∧ V m c main_v6 = truncf .bf16 (aK m c) Facts₀.bitsLt_bf16_f32
    ∧ V m c main_v8 = truncf .bf16 (transpose S512x4096 [1, 0] (aV m c) Facts₀.transposes_S4096x512_S512x4096_1_0) Facts₀.bitsLt_bf16_f32 := by
  unfold V
  refine ⟨?_, ?_, ?_⟩ <;>
    (simp only [host, hostOps0, List.flatten_cons, List.flatten_nil, List.append_nil, List.cons_append, List.nil_append, TRef.nullary, TRef.ternary, TRef.unary, TRef.toBuf, TRef.ofBuf, cast_eq]
     after_reads_simp <;> rfl)

/-- A query's entries in base-2 units. -/
def qAt (i : Fin 4096) (h : Fin 4) (y : Fin 128) : EReal := Ideal.div ((aQ m c (ix2 i (col h y)) : EReal) * (Cert.Reals.c1 : EReal)) (Ideal.log ((2 : ℝ) : EReal))

/-- A query's scores by the key's number, minus infinity where masked; and the values. -/
def sc (h : Fin 4) (i : Fin 4096) (j : ℕ) : EReal :=
  if hj : j < 4096 then (if j ≤ i.val then ∑ y : Fin 128, (aK m c (ix2 ⟨j, hj⟩ (col h y)) : EReal) * qAt m c i h y else ⊥) else ⊥
def vl (h : Fin 4) (x : Fin 128) (j : ℕ) : EReal := if hj : j < 4096 then (aV m c (ix2 ⟨j, hj⟩ (col h x)) : EReal) else 0

section Blocks
variable (t : Fin (cfgA (F := Ideal)).N) (r : Fin 1024) (x : Fin 128)

theorem bq_apply : (bq m c t : S1024x128.Idx → EReal) (ix2 r x) = qAt m c (row t.val (lt40 t) r) (headOf t.val (lt40 t)) x := by
  obtain ⟨⟨e0, e1⟩, -⟩ := idx_facts t
  refine Eq.trans ?_ (Cert.DqIdeal.Hand.scaled_apply (aQ m c) (ix2 (row t.val (lt40 t) r) (col (headOf t.val (lt40 t)) x)))
  rw [← (V_in m c).1]
  show iblk m c 0 t (ix2 r x) = _
  unfold iblk
  rw [View.read_apply]
  show V m c main_v5 _ = V m c main_v5 _
  congr 1
  funext a
  apply Fin.ext
  match a with
  | ⟨0, _⟩ => show ((cfgA (F := Ideal)).win (0 : Fin 6)).index t (0 : Fin 2) * 1024 + 1 * r.val = 1024 * rowBlock t.val + r.val; rw [e0]; omega
  | ⟨1, _⟩ => show ((cfgA (F := Ideal)).win (0 : Fin 6)).index t (1 : Fin 2) * 128 + 1 * x.val = t.val / 10 * 128 + x.val; rw [e1]; omega

theorem bk_apply : (bk m c t : S1024x128.Idx → EReal) (ix2 r x) = (aK m c (ix2 (key t.val (lt40 t) r) (col (headOf t.val (lt40 t)) x)) : EReal) := by
  obtain ⟨-, ⟨e0, e1⟩, -⟩ := idx_facts t
  show iblk m c 1 t (ix2 r x) = _
  unfold iblk
  rw [View.read_apply]
  show V m c main_v6 _ = _
  rw [(V_in m c).2.1]
  show aK m c _ = aK m c _
  congr 1
  funext a
  apply Fin.ext
  match a with
  | ⟨0, _⟩ => show ((cfgA (F := Ideal)).win (1 : Fin 6)).index t (0 : Fin 2) * 1024 + 1 * r.val = 1024 * colBlock t.val + r.val; rw [e0]; omega
  | ⟨1, _⟩ => show ((cfgA (F := Ideal)).win (1 : Fin 6)).index t (1 : Fin 2) * 128 + 1 * x.val = t.val / 10 * 128 + x.val; rw [e1]; omega

theorem turned_apply (W : FVec Ideal S4096x512 .f32) (y : Fin 512) (j : Fin 4096) :
    (transpose S512x4096 [1, 0] W Facts₀.transposes_S4096x512_S512x4096_1_0 (ix2 y j) : EReal) = W (ix2 j y) := by
  pointwise

theorem bv_apply : (bv m c t : S128x1024.Idx → EReal) (ix2 x r) = (aV m c (ix2 (key t.val (lt40 t) r) (col (headOf t.val (lt40 t)) x)) : EReal) := by
  obtain ⟨-, -, ⟨e0, e1⟩, -⟩ := idx_facts t
  refine Eq.trans ?_ (turned_apply (aV m c) (col (headOf t.val (lt40 t)) x) (key t.val (lt40 t) r))
  show iblk m c 2 t (ix2 x r) = _
  unfold iblk
  rw [View.read_apply]
  show V m c main_v8 _ = _
  rw [(V_in m c).2.2]
  show transpose S512x4096 [1, 0] (aV m c) _ _ = transpose S512x4096 [1, 0] (aV m c) _ _
  congr 1
  funext a
  apply Fin.ext
  match a with
  | ⟨0, _⟩ => show ((cfgA (F := Ideal)).win (2 : Fin 6)).index t (0 : Fin 2) * 128 + 1 * x.val = t.val / 10 * 128 + x.val; rw [e0]; omega
  | ⟨1, _⟩ => show ((cfgA (F := Ideal)).win (2 : Fin 6)).index t (1 : Fin 2) * 1024 + 1 * r.val = 1024 * colBlock t.val + r.val; rw [e1]; omega

/-- One point takes in its key block. -/
theorem step_at (s : St Ideal) (h : colBlock t.val ≠ 0 → Block.At s r (sc m c (headOf t.val (lt40 t)) (row t.val (lt40 t) r)) (vl m c (headOf t.val (lt40 t))) (1024 * colBlock t.val)) :
    Block.At (step m c t s) r (sc m c (headOf t.val (lt40 t)) (row t.val (lt40 t) r)) (vl m c (headOf t.val (lt40 t))) (1024 * colBlock t.val + 1024) := by
  have ho := (order ⟨t.val, lt40 t⟩).2.1
  dsimp only at ho
  have hs : Block.At (if colBlock t.val = 0 then start else s) r (sc m c (headOf t.val (lt40 t)) (row t.val (lt40 t) r)) (vl m c (headOf t.val (lt40 t))) (1024 * colBlock t.val) := by
    by_cases h0 : colBlock t.val = 0
    · rw [if_pos h0, h0]; exact Block.start_at r _ _
    · rw [if_neg h0]; exact h h0
  have hU : ∀ (x : Fin 128) (j : Fin 1024), vl m c (headOf t.val (lt40 t)) x (1024 * colBlock t.val + j.val) = (bv m c t (ix2 x j) : EReal) := fun x j => by
    unfold vl
    rw [dif_pos (show 1024 * colBlock t.val + j.val < 4096 from (key t.val (lt40 t) j).isLt)]
    exact (bv_apply m c t j x).symm
  have hd (j : Fin 1024) : (∑ y : Fin 128, (bk m c t (ix2 j y) : EReal) * bq m c t (ix2 r y))
      = ∑ y : Fin 128, (aK m c (ix2 (key t.val (lt40 t) j) (col (headOf t.val (lt40 t)) y)) : EReal) * qAt m c (row t.val (lt40 t) r) (headOf t.val (lt40 t)) y :=
    Finset.sum_congr rfl fun y _ => congrArg₂ (fun a b : EReal => a * b) (bk_apply m c t j y) (bq_apply m c t r y)
  unfold step
  split
  · refine Block.below_at _ _ _ r hs (fun j => ?_) hU
    unfold sc
    rw [dif_pos (show 1024 * colBlock t.val + j.val < 4096 from (key t.val (lt40 t) j).isLt)]
    exact (if_pos (show 1024 * colBlock t.val + j.val ≤ 1024 * rowBlock t.val + r.val by omega)).trans (hd j).symm
  · refine Block.diag_at _ _ _ r hs (fun j => ?_) hU
    unfold sc
    rw [dif_pos (show 1024 * colBlock t.val + j.val < 4096 from (key t.val (lt40 t) j).isLt)]
    exact if_congr (show 1024 * colBlock t.val + j.val ≤ 1024 * rowBlock t.val + r.val ↔ _ by omega) (hd j).symm rfl

end Blocks

/-- The scratches after a point: the keys up to the end of its block. -/
theorem state_at (n : ℕ) (hn : n < 40) (r : Fin 1024) :
    Block.At (stAt m c (n + 1)) r (sc m c (headOf n hn) (row n hn r)) (vl m c (headOf n hn)) (1024 * colBlock n + 1024) := by
  induction n with
  | zero =>
    rw [stAt_succ m c (⟨0, hn⟩ : Fin (cfgA (F := Ideal)).N)]
    exact step_at m c (⟨0, hn⟩ : Fin (cfgA (F := Ideal)).N) r _ fun h => absurd (show colBlock 0 = 0 by decide) h
  | succ n ih =>
    rw [stAt_succ m c (⟨n + 1, hn⟩ : Fin (cfgA (F := Ideal)).N)]
    refine step_at m c (⟨n + 1, hn⟩ : Fin (cfgA (F := Ideal)).N) r _ fun h0 => ?_
    obtain ⟨-, e1, e2, e3⟩ := (order ⟨n + 1, hn⟩).2.2 h0
    simp only [Nat.add_sub_cancel] at e1 e2 e3
    have er : row n (by omega) r = row (n + 1) hn r := Fin.ext (by simp only [row, e2])
    have eh : headOf n (by omega) = headOf (n + 1) hn := Fin.ext (by simpa only [headOf] using e3)
    have := ih (by omega)
    rw [er, eh, show 1024 * colBlock n + 1024 = 1024 * colBlock (n + 1) by omega] at this
    exact this

/-- The reference's three results. -/
def refO : FVec Ideal S4096x512 .f32 := Cert.Attn.outAt (aQ m c) (aK m c) (aV m c) (Cert.Attn.rowMax (aQ m c) (aK m c))
def lse : FVec Ideal Cert.DqRefIdeal.S4x4096 .f32 :=
  Cert.Attn.lse2 (Cert.Attn.rowMax (aQ m c) (aK m c)) (Cert.Attn.rowSum (Cert.Attn.expo (aQ m c) (aK m c) (Cert.Attn.rowMax (aQ m c) (aK m c))))
def refL : FVec Ideal S4096x512 .f32 := Cert.DqIdeal.Hand.lanes (lse m c)
def refT : FVec Ideal S32x4096 .f32 := Cert.DkvIdeal.Hand.rows (lse m c)

/-- Row `e` of a head's eight. -/
def rowOf (h : Fin 4) (e : Fin 8) : Fin 32 := ⟨h.val * 8 + e.val, by omega⟩

theorem rows_apply (W : FVec Ideal Cert.DqRefIdeal.S4x4096 .f32) (i : Fin 4096) (h : Fin 4) (e : Fin 8) : (Cert.DkvIdeal.Hand.rows W (ix2 (rowOf h e) i) : EReal) = W (ix2 h i) := by
  unfold Cert.DkvIdeal.Hand.rows
  pointwise
  congr 2
  apply Fin.ext
  show (h.val * 8 + e.val) / 8 = h.val
  omega

/-- The queries and the keys are real. -/
structure Finite : Prop where
  q : ∀ i h x, (aQ m c (ix2 i (col h x)) : EReal) = ((aQ m c (ix2 i (col h x)) : EReal).toReal : EReal)
  k : ∀ i h x, (aK m c (ix2 i (col h x)) : EReal) = ((aK m c (ix2 i (col h x)) : EReal).toReal : EReal)

section Real
variable (H : Finite m c) (h : Fin 4) (i : Fin 4096)
include H

/-- A score, a real number. -/
def sr (j : ℕ) : ℝ := if hj : j < 4096 then (∑ y : Fin 128, (aQ m c (ix2 i (col h y)) : EReal).toReal * (aK m c (ix2 ⟨j, hj⟩ (col h y)) : EReal).toReal) * Cert.Reals.c1 else 0

theorem sc_real (j : ℕ) (hj : j < 4096) : sc m c h i j = if j ≤ i.val then ((sr m c h i j * (Real.log 2)⁻¹ : ℝ) : EReal) else ⊥ := by
  unfold sc sr qAt
  rw [dif_pos hj, dif_pos hj]
  refine if_congr Iff.rfl ?_ rfl
  rw [Cert.Reals.sum_eq _ _ (fun y : Fin 128 => (aK m c (ix2 ⟨j, hj⟩ (col h y)) : EReal).toReal * ((aQ m c (ix2 i (col h y)) : EReal).toReal * Cert.Reals.c1 / Real.log 2)) fun y _ => by
    rw [H.q, H.k, ← EReal.coe_mul, Ideal.log_coe, if_neg (by norm_num), Cert.Reals.div_real _ _ Cert.Attn.log_two_ne, ← EReal.coe_mul, EReal.toReal_coe, EReal.toReal_coe]]
  congr 1
  rw [Finset.sum_mul, Finset.sum_mul]
  exact Finset.sum_congr rfl fun y _ => by ring

theorem scores_real (j : Fin 4096) : (Cert.Attn.scores (aQ m c) (aK m c) (ix3 h i j) : EReal) = if j.val ≤ i.val then (sr m c h i j.val : EReal) else ⊥ := by
  rw [Cert.Attn.scores_apply]
  refine if_congr Iff.rfl ?_ rfl
  unfold sr
  rw [dif_pos j.isLt, EReal.coe_mul]
  exact congrArg (· * (Cert.Reals.c1 : EReal)) (Cert.Reals.sum_eq _ _ _ fun y _ => by rw [H.q, H.k, ← EReal.coe_mul, EReal.toReal_coe, EReal.toReal_coe])

variable {s : St Ideal} {r : Fin 1024} {N : ℕ} (hs : Block.At s r (sc m c h i) (vl m c h) N) (hi : i.val < N) (hN : N ≤ 4096)
include hs hi hN

theorem resO_apply (x : Fin 128) : (resO s (ix2 r x) : EReal) = refO m c (ix2 i (col h x)) := by
  unfold resO refO Cert.Attn.outAt
  rw [Block.pay5_apply, hs.a, hs.l, Cert.Running.quotient hi hN (fun j hj => sc_real m c H h i j (by omega)) (scores_real m c H h i), Cert.Attn.mixed_apply]
  refine Finset.sum_congr rfl fun j _ => ?_
  refine congrArg₂ (fun a b : EReal => a * b) (dif_pos j.isLt) ?_
  refine Eq.trans ?_ (congrArg₂ Ideal.div (Cert.Attn.expo_apply _ _ _ h i j).symm ((Cert.Attn.spread_apply _ h i j).trans (Cert.Attn.rowSum_apply _ h i)).symm)
  simp only [Cert.Attn.rowMax_apply, Cert.Attn.expo_apply]

theorem lse_eq : (s.m (ix2 0 r) : EReal) + Ideal.log (s.l (ix2 0 r)) * (((Real.log 2)⁻¹ : ℝ) : EReal) = lse m c (ix2 h i) := by
  unfold lse
  rw [hs.m, hs.l, Cert.Running.logSum hi hN (fun j hj => sc_real m c H h i j (by omega)) (scores_real m c H h i), Cert.Attn.lse2_apply, Cert.Attn.rowSum_apply]
  simp only [Cert.Attn.rowMax_apply, Cert.Attn.expo_apply]

theorem resL_apply (x : Fin 128) : (resL s (ix2 r x) : EReal) = refL m c (ix2 i (col h x)) := by
  unfold resL refL
  rw [Block.pay8_apply, Cert.DqIdeal.Hand.lanes_apply]
  exact lse_eq m c H h i hs hi hN

theorem resT_apply (e : Fin 8) : (resT s (ix2 e r) : EReal) = refT m c (ix2 (rowOf h e) i) := by
  unfold resT refT
  rw [Block.pay7_apply, rows_apply]
  exact lse_eq m c H h i hs hi hN

end Real

end Cert.MlaIdeal.Hand

end
-- ==== Proof.Finite.lean ====
/-
  The precondition, read: the queries', keys' and values' entries and the output gradient's entries for the attention's
  columns are neither infinity.
-/
module

public import proofs.«01_k».proof.Pre_finite
public import proofs.«01_k».proof.Proof.Reals
public import Idealize.ShloMosaic.Lib.Pointwise
public import Idealize.ShloMosaic.Lib.Tactic
public import Idealize.ShloMosaic.Lib.Affine

@[expose] public section

noncomputable section

namespace Cert.Pre_finite

open Idealize.ShloMosaic

theorem facts : Facts where
  bcast_S_S4096x512 := by decide
  slices_S4096x1536_S4096x512_0_512 := by decide

variable [Facts]

theorem ofBits_top : Ideal.ofBits .f32 2139095040#32 = ⊤ := by simp [Ideal.ofBits, Ideal.ieee]

/-- A value whose absolute value is below plus infinity is neither infinity. -/
theorem ne_of_below (x : EReal) (h : FloatOps.cmpf (F := Ideal) (φ := .f32) .olt (FloatOps.hostAbsf (F := Ideal) (φ := .f32) x) (FloatOps.ofBits (F := Ideal) .f32 2139095040#32) = 1#1) : x ≠ ⊤ ∧ x ≠ ⊥ := by
  change BitVec.ofBool (decide (max x (-x) < Ideal.ofBits .f32 2139095040#32)) = 1#1 at h
  rw [ofBits_top] at h
  have h' : max x (-x) < ⊤ := by
    by_contra hn
    rw [decide_eq_false hn] at h
    exact absurd h (by decide)
  constructor
  · rintro rfl; exact absurd h' (by simp)
  · rintro rfl; exact absurd h' (by simp)

theorem entries (q k v : S4096x512.Idx → EReal) (d : S4096x1536.Idx → EReal) (h : fn (F := Ideal) q k v d = fun _ => 1#1) (i : Fin 4096) (y : Fin 512) :
    (q (ix2 i y) ≠ ⊤ ∧ q (ix2 i y) ≠ ⊥) ∧ (k (ix2 i y) ≠ ⊤ ∧ k (ix2 i y) ≠ ⊥) ∧ (v (ix2 i y) ≠ ⊤ ∧ v (ix2 i y) ≠ ⊥)
      ∧ (d (ix2 i ⟨512 + y.val, by omega⟩) ≠ ⊤ ∧ d (ix2 i ⟨512 + y.val, by omega⟩) ≠ ⊥) := by
  have e := congrFun h (ix2 i y)
  unfold fn at e
  dsimp only at e
  simp only [andi, cmpf, Host.absf, broadcastInDim, constant, extractStridedSlice] at e
  obtain ⟨e, e4⟩ := IntOp.andi_eq_one.mp e
  obtain ⟨e, e3⟩ := IntOp.andi_eq_one.mp e
  obtain ⟨e1, e2⟩ := IntOp.andi_eq_one.mp e
  refine ⟨ne_of_below _ e1, ne_of_below _ e2, ne_of_below _ e3, ?_⟩
  have e5 := ne_of_below _ e4
  have hi : (fun a => ⟨![0, 512] a + (ix2 i y a).val, by
      match a with
      | ⟨0, _⟩ => show 0 + i.val < 4096; omega
      | ⟨1, _⟩ => show 512 + y.val < 1536; omega⟩ : S4096x1536.Idx) = ix2 i ⟨512 + y.val, by omega⟩ := by
    funext a
    apply Fin.ext
    match a with
    | ⟨0, _⟩ => exact Nat.zero_add _
    | ⟨1, _⟩ => rfl
  rw [← hi]
  exact e5

end Cert.Pre_finite

end
-- ==== Proof.MlaRun.lean ====
/-
  Every run of the attention's forward kernel ends with the written blocks in the results' arrays, the arguments as they were and
  every counter at zero.
-/
module

public import proofs.«01_k».proof.Proof.MlaFrame

@[expose] public section

noncomputable section

namespace Cert.MlaIdeal.Hand

open Cert.MlaIdeal Cert.MlaIdeal.Gen
open Idealize.ShloMosaic Idealize.ShloMosaic.TcCoe Idealize.ShloMosaic.Tactic Idealize.SL.Sem
open Idealize.ShloMosaic.Pipeline (Dat)

section Frame
variable {F : FTy → Type} [FloatOps F] [Named F]

open Idealize.ShloMosaic.StableHlo in
/-- The host code before the call changes no argument. -/
theorem V_arg (m : (ℓ : Loc nD τ sig) → Buf (Elt F) ℓ) (c : Dev nD) :
    V m c main_arg0 = m (c.tc.loc main_arg0) ∧ V m c main_arg1 = m (c.tc.loc main_arg1) ∧ V m c main_arg2 = m (c.tc.loc main_arg2) := by
  unfold V
  refine ⟨?_, ?_, ?_⟩ <;>
    (simp only [host, hostOps0, List.flatten_cons, List.flatten_nil, List.append_nil, List.cons_append, List.nil_append, TRef.nullary, TRef.ternary, TRef.unary, TRef.toBuf, TRef.ofBuf, cast_eq]
     after_reads_simp <;> rfl)

/-- Every run ends with the results' blocks in their arrays, the arguments as they were and every counter at zero. -/
theorem run_result (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v9_0) = (dats m 0 c).arrAt (3 : Fin 6) (cfgA (F := F)).N
      ∧ r.2.mem ((c.tc : Thread nD τ).loc main_v9_1) = (dats m 0 c).arrAt (4 : Fin 6) (cfgA (F := F)).N
      ∧ r.2.mem ((c.tc : Thread nD τ).loc main_v9_2) = (dats m 0 c).arrAt (5 : Fin 6) (cfgA (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h.1 c).1 (3 : Fin 6), (h.1 c).1 (4 : Fin 6), (h.1 c).1 (5 : Fin 6),
    ((h.1 c).2 main_arg0 (of_decide_eq_true (by sl_kernel_rfl))).trans (V_arg m c).1,
    ((h.1 c).2 main_arg1 (of_decide_eq_true (by sl_kernel_rfl))).trans (V_arg m c).2.1,
    ((h.1 c).2 main_arg2 (of_decide_eq_true (by sl_kernel_rfl))).trans (V_arg m c).2.2⟩, h.2⟩) (run_main m ρ)

end Frame

end Cert.MlaIdeal.Hand

end
-- ==== Proof.MlaFinal.lean ====
/-
  The attention kernel's claims: every run ends, changes no argument, and leaves in its three results the arrays the
  reference computes, where the queries and the keys are finite.
-/
module

public import proofs.«01_k».proof.Proof.MlaValue
public import proofs.«01_k».proof.Proof.Finite
public import proofs.«01_k».proof.Proof.MlaRun
public import proofs.«01_k».proof.Proof.MlaBitsRun
public import proofs.«01_k».proof.Proof.Gen.Mla
public import proofs.«01_k».proof.Proof.Gen.MlaRefIdeal.Run
public import proofs.«01_k».proof.Defs

@[expose] public section

noncomputable section

namespace Cert.Pre_finite_scores

open Idealize.ShloMosaic

theorem facts : Facts where
  bcast_S_S4096x512 := by decide

variable [Facts]

theorem entries (q k v : S4096x512.Idx → EReal) (h : fn (F := Ideal) q k v = fun _ => 1#1) (i : S4096x512.Idx) :
    (q i ≠ ⊤ ∧ q i ≠ ⊥) ∧ (k i ≠ ⊤ ∧ k i ≠ ⊥) := by
  have e := congrFun h i
  unfold fn at e
  dsimp only at e
  simp only [andi, cmpf, Host.absf, broadcastInDim, constant] at e
  obtain ⟨e1, e2⟩ := IntOp.andi_eq_one.mp e
  exact ⟨@Cert.Pre_finite.ne_of_below Cert.Pre_finite.facts _ e1, @Cert.Pre_finite.ne_of_below Cert.Pre_finite.facts _ e2⟩

end Cert.Pre_finite_scores

namespace Cert.MlaIdeal.Hand

open Cert.MlaIdeal Cert.MlaIdeal.Gen
open Idealize.ShloMosaic Idealize.ShloMosaic.TcCoe Idealize.ShloMosaic.Tactic Idealize.SL.Sem
open Idealize.ShloMosaic.Pipeline (Dat)

theorem flushes : ∀ t : Fin (cfgA (F := Ideal)).N, (((cfgA (F := Ideal)).win (3 : Fin 6)).flush t = true ↔ colBlock t.val = rowBlock t.val)
    ∧ (((cfgA (F := Ideal)).win (4 : Fin 6)).flush t = true ↔ colBlock t.val = rowBlock t.val)
    ∧ (((cfgA (F := Ideal)).win (5 : Fin 6)).flush t = true ↔ colBlock t.val = rowBlock t.val) :=
  of_decide_eq_true (by sl_kernel_rfl)

theorem diagonal : ∀ I h : Fin 4, ∃ t : Fin 40, rowBlock t.val = I.val ∧ colBlock t.val = I.val ∧ t.val / 10 = h.val := by decide

section Final
variable (m : (ℓ : Loc nD τ sig) → Buf (Elt Ideal) ℓ) (c : Dev nD)

theorem mem_blk3 (t : Fin (cfgA (F := Ideal)).N) (i : S4096x512.Idx) :
    i ∈ (((cfgA (F := Ideal)).win (3 : Fin 6)).blk t).view.set ↔ ∀ a : Fin 2, ((cfgA (F := Ideal)).win (3 : Fin 6)).index t a * S1024x128.size a ≤ (i a).val ∧ (i a).val < ((cfgA (F := Ideal)).win (3 : Fin 6)).index t a * S1024x128.size a + S1024x128.size a := by
  show i ∈ ((View.whole main_v9_0).slice (((cfgA (F := Ideal)).win (3 : Fin 6)).rect t)).set ↔ _
  rw [View.set_slice_whole, Rect.mem_set_unit]
  exact Iff.rfl

theorem mem_blk4 (t : Fin (cfgA (F := Ideal)).N) (i : S4096x512.Idx) :
    i ∈ (((cfgA (F := Ideal)).win (4 : Fin 6)).blk t).view.set ↔ ∀ a : Fin 2, ((cfgA (F := Ideal)).win (4 : Fin 6)).index t a * S1024x128.size a ≤ (i a).val ∧ (i a).val < ((cfgA (F := Ideal)).win (4 : Fin 6)).index t a * S1024x128.size a + S1024x128.size a := by
  show i ∈ ((View.whole main_v9_1).slice (((cfgA (F := Ideal)).win (4 : Fin 6)).rect t)).set ↔ _
  rw [View.set_slice_whole, Rect.mem_set_unit]
  exact Iff.rfl

theorem mem_blk5 (t : Fin (cfgA (F := Ideal)).N) (i : S32x4096.Idx) :
    i ∈ (((cfgA (F := Ideal)).win (5 : Fin 6)).blk t).view.set ↔ ∀ a : Fin 2, ((cfgA (F := Ideal)).win (5 : Fin 6)).index t a * S8x1024.size a ≤ (i a).val ∧ (i a).val < ((cfgA (F := Ideal)).win (5 : Fin 6)).index t a * S8x1024.size a + S8x1024.size a := by
  show i ∈ ((View.whole main_v9_2).slice (((cfgA (F := Ideal)).win (5 : Fin 6)).rect t)).set ↔ _
  rw [View.set_slice_whole, Rect.mem_set_unit]
  exact Iff.rfl

/-- On the diagonal a query's own key is taken, and no key past the last. -/
theorem seen (t : Fin (cfgA (F := Ideal)).N) (h : colBlock t.val = rowBlock t.val) (r : Fin 1024) :
    (row t.val (lt40 t) r).val < 1024 * colBlock t.val + 1024 ∧ 1024 * colBlock t.val + 1024 ≤ 4096 := by
  have := (order ⟨t.val, lt40 t⟩).1
  dsimp only at this
  constructor
  · show 1024 * rowBlock t.val + r.val < _; omega
  · omega

variable (H : Finite m c)
include H

/-- The result arrays after the run. -/
theorem final_3 : (dats m 0 c).arrAt (3 : Fin 6) (cfgA (F := Ideal)).N = (refO m c : Buf (Elt Ideal) ((c : Thread nD τ).loc main_v9_0)) := by
  refine (dats m 0 c).arrAt_eq_of_cover (3 : Fin 6) _ (fun t hf => ?_) (fun i => ?_)
  · have hl := (flushes t).1.mp hf
    obtain ⟨-, -, -, ⟨e0, e1⟩, -⟩ := idx_facts t
    show ((cfgA (F := Ideal)).win (3 : Fin 6)).cut ((cfgA (F := Ideal)).grid.coords t) ((dats m 0 c).after (3 : Fin 6) t) = _
    rw [after_3]
    funext y
    obtain ⟨r, x, rfl⟩ : ∃ (r : Fin 1024) (x : Fin 128), y = ix2 r x := ⟨y 0, y 1, ValueIdx.eq_ix2 y⟩
    refine (resO_apply m c H (headOf t.val (lt40 t)) (row t.val (lt40 t) r) (state_at m c t.val (lt40 t) r) (seen t hl r).1 (seen t hl r).2 x).trans ?_
    rw [View.read_apply]
    show refO m c _ = refO m c _
    congr 1
    funext a
    apply Fin.ext
    match a with
    | ⟨0, _⟩ => show 1024 * rowBlock t.val + r.val = ((cfgA (F := Ideal)).win (3 : Fin 6)).index t (0 : Fin 2) * 1024 + 1 * r.val; rw [e0]; omega
    | ⟨1, _⟩ => show t.val / 10 * 128 + x.val = ((cfgA (F := Ideal)).win (3 : Fin 6)).index t (1 : Fin 2) * 128 + 1 * x.val; rw [e1]; omega
  · have h0 : (i 0).val < 4096 := (i 0).isLt
    have h1 : (i 1).val < 512 := (i 1).isLt
    obtain ⟨t, ht, hc, hh⟩ := diagonal ⟨(i 0).val / 1024, by omega⟩ ⟨(i 1).val / 128, by omega⟩
    dsimp only at ht hc hh
    refine ⟨t, (flushes t).1.mpr (hc.trans ht.symm), (mem_blk3 t i).2 fun a => ?_⟩
    obtain ⟨-, -, -, ⟨e0, e1⟩, -⟩ := idx_facts t
    match a with
    | ⟨0, _⟩ =>
      show ((cfgA (F := Ideal)).win (3 : Fin 6)).index t (0 : Fin 2) * 1024 ≤ (i 0).val ∧ (i 0).val < ((cfgA (F := Ideal)).win (3 : Fin 6)).index t (0 : Fin 2) * 1024 + 1024
      rw [e0, ht]; omega
    | ⟨1, _⟩ =>
      show ((cfgA (F := Ideal)).win (3 : Fin 6)).index t (1 : Fin 2) * 128 ≤ (i 1).val ∧ (i 1).val < ((cfgA (F := Ideal)).win (3 : Fin 6)).index t (1 : Fin 2) * 128 + 128
      rw [e1, hh]; omega

theorem final_4 : (dats m 0 c).arrAt (4 : Fin 6) (cfgA (F := Ideal)).N = (refL m c : Buf (Elt Ideal) ((c : Thread nD τ).loc main_v9_1)) := by
  refine (dats m 0 c).arrAt_eq_of_cover (4 : Fin 6) _ (fun t hf => ?_) (fun i => ?_)
  · have hl := (flushes t).2.1.mp hf
    obtain ⟨-, -, -, -, ⟨e0, e1⟩, -⟩ := idx_facts t
    show ((cfgA (F := Ideal)).win (4 : Fin 6)).cut ((cfgA (F := Ideal)).grid.coords t) ((dats m 0 c).after (4 : Fin 6) t) = _
    rw [after_4]
    funext y
    obtain ⟨r, x, rfl⟩ : ∃ (r : Fin 1024) (x : Fin 128), y = ix2 r x := ⟨y 0, y 1, ValueIdx.eq_ix2 y⟩
    refine (resL_apply m c H (headOf t.val (lt40 t)) (row t.val (lt40 t) r) (state_at m c t.val (lt40 t) r) (seen t hl r).1 (seen t hl r).2 x).trans ?_
    rw [View.read_apply]
    show refL m c _ = refL m c _
    congr 1
    funext a
    apply Fin.ext
    match a with
    | ⟨0, _⟩ => show 1024 * rowBlock t.val + r.val = ((cfgA (F := Ideal)).win (4 : Fin 6)).index t (0 : Fin 2) * 1024 + 1 * r.val; rw [e0]; omega
    | ⟨1, _⟩ => show t.val / 10 * 128 + x.val = ((cfgA (F := Ideal)).win (4 : Fin 6)).index t (1 : Fin 2) * 128 + 1 * x.val; rw [e1]; omega
  · have h0 : (i 0).val < 4096 := (i 0).isLt
    have h1 : (i 1).val < 512 := (i 1).isLt
    obtain ⟨t, ht, hc, hh⟩ := diagonal ⟨(i 0).val / 1024, by omega⟩ ⟨(i 1).val / 128, by omega⟩
    dsimp only at ht hc hh
    refine ⟨t, (flushes t).2.1.mpr (hc.trans ht.symm), (mem_blk4 t i).2 fun a => ?_⟩
    obtain ⟨-, -, -, -, ⟨e0, e1⟩, -⟩ := idx_facts t
    match a with
    | ⟨0, _⟩ =>
      show ((cfgA (F := Ideal)).win (4 : Fin 6)).index t (0 : Fin 2) * 1024 ≤ (i 0).val ∧ (i 0).val < ((cfgA (F := Ideal)).win (4 : Fin 6)).index t (0 : Fin 2) * 1024 + 1024
      rw [e0, ht]; omega
    | ⟨1, _⟩ =>
      show ((cfgA (F := Ideal)).win (4 : Fin 6)).index t (1 : Fin 2) * 128 ≤ (i 1).val ∧ (i 1).val < ((cfgA (F := Ideal)).win (4 : Fin 6)).index t (1 : Fin 2) * 128 + 128
      rw [e1, hh]; omega

theorem final_5 : (dats m 0 c).arrAt (5 : Fin 6) (cfgA (F := Ideal)).N = (refT m c : Buf (Elt Ideal) ((c : Thread nD τ).loc main_v9_2)) := by
  refine (dats m 0 c).arrAt_eq_of_cover (5 : Fin 6) _ (fun t hf => ?_) (fun i => ?_)
  · have hl := (flushes t).2.2.mp hf
    obtain ⟨-, -, -, -, -, ⟨e0, e1⟩⟩ := idx_facts t
    show ((cfgA (F := Ideal)).win (5 : Fin 6)).cut ((cfgA (F := Ideal)).grid.coords t) ((dats m 0 c).after (5 : Fin 6) t) = _
    rw [after_5]
    funext y
    obtain ⟨x, r, rfl⟩ : ∃ (x : Fin 8) (r : Fin 1024), y = ix2 x r := ⟨y 0, y 1, ValueIdx.eq_ix2 y⟩
    refine (resT_apply m c H (headOf t.val (lt40 t)) (row t.val (lt40 t) r) (state_at m c t.val (lt40 t) r) (seen t hl r).1 (seen t hl r).2 x).trans ?_
    rw [View.read_apply]
    show refT m c _ = refT m c _
    congr 1
    funext a
    apply Fin.ext
    match a with
    | ⟨0, _⟩ => show t.val / 10 * 8 + x.val = ((cfgA (F := Ideal)).win (5 : Fin 6)).index t (0 : Fin 2) * 8 + 1 * x.val; rw [e0]; omega
    | ⟨1, _⟩ => show 1024 * rowBlock t.val + r.val = ((cfgA (F := Ideal)).win (5 : Fin 6)).index t (1 : Fin 2) * 1024 + 1 * r.val; rw [e1]; omega
  · have h0 : (i 0).val < 32 := (i 0).isLt
    have h1 : (i 1).val < 4096 := (i 1).isLt
    obtain ⟨t, ht, hc, hh⟩ := diagonal ⟨(i 1).val / 1024, by omega⟩ ⟨(i 0).val / 8, by omega⟩
    dsimp only at ht hc hh
    refine ⟨t, (flushes t).2.2.mpr (hc.trans ht.symm), (mem_blk5 t i).2 fun a => ?_⟩
    obtain ⟨-, -, -, -, -, ⟨e0, e1⟩⟩ := idx_facts t
    match a with
    | ⟨0, _⟩ =>
      show ((cfgA (F := Ideal)).win (5 : Fin 6)).index t (0 : Fin 2) * 8 ≤ (i 0).val ∧ (i 0).val < ((cfgA (F := Ideal)).win (5 : Fin 6)).index t (0 : Fin 2) * 8 + 8
      rw [e0, hh]; omega
    | ⟨1, _⟩ =>
      show ((cfgA (F := Ideal)).win (5 : Fin 6)).index t (1 : Fin 2) * 1024 ≤ (i 1).val ∧ (i 1).val < ((cfgA (F := Ideal)).win (5 : Fin 6)).index t (1 : Fin 2) * 1024 + 1024
      rw [e1, ht]; omega

end Final

/-- The precondition gives real queries and keys. -/
theorem finite [Cert.Pre_finite_scores.Facts] (m : (ℓ : Loc nD τ sig) → Buf (Elt Ideal) ℓ) (h : Cert.Pre_MlaIdeal_finite_scores m) (c : Dev nD) : Finite m c where
  q i h' x := have e := (Cert.Pre_finite_scores.entries _ _ _ (h c) (ix2 i (Cert.Attn.col h' x))).1; Cert.Reals.coe_of_abs_lt e.1 e.2
  k i h' x := have e := (Cert.Pre_finite_scores.entries _ _ _ (h c) (ix2 i (Cert.Attn.col h' x))).2; Cert.Reals.coe_of_abs_lt e.1 e.2

end Cert.MlaIdeal.Hand

namespace Cert.Proof

open Idealize.ShloMosaic Idealize.ShloMosaic.TcCoe Idealize.SL.Sem

theorem frame_Mla : Cert.quiescent_Mla := fun m ρ _ =>
  (θ_run Cert.Mla.defs _ _).mono (fun _ h => ⟨fun c => (h.1 c).2.2.2, h.2⟩) (Cert.Mla.Hand.run_result (F := Bits) m ρ)

theorem frame_MlaIdeal : Cert.quiescent_MlaIdeal := fun m ρ _ =>
  (θ_run Cert.MlaIdeal.defs _ _).mono (fun _ h => ⟨fun c => (h.1 c).2.2.2, h.2⟩) (Cert.MlaIdeal.Hand.run_result (F := Ideal) m ρ)

theorem frame_MlaRef : Cert.quiescent_MlaRefIdeal := fun m ρ _ =>
  (θ_run Cert.MlaRefIdeal.defs _ _).mono (fun r h => ⟨fun c => (h c).2.2.2, Idealize.ShloMosaic.sem_eq_zero_of_no_sems (by decide) r.2⟩)
    (Cert.MlaRefIdeal.Value.run (F := Ideal) m ρ)

/-- The reference's run, its results named. -/
theorem run_MlaRef (m : (ℓ : Loc Cert.MlaIdeal.nD Cert.MlaIdeal.τ Cert.MlaIdeal.sig) → Buf (Elt Ideal) ℓ)
    (m' : (ℓ : Loc Cert.MlaRefIdeal.nD Cert.MlaRefIdeal.τ Cert.MlaRefIdeal.sig) → Buf (Elt Ideal) ℓ) (c : Dev Cert.MlaIdeal.nD)
    (e0 : m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0))
    (e1 : m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1))
    (e2 : m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) :
    Cert.MlaRefIdeal.Value.res_main_v24 m' c = Cert.MlaIdeal.Hand.refO m c := by
  unfold Cert.MlaRefIdeal.Value.res_main_v24
  rw [e0, e1, e2]
  rfl

theorem algebraic_Mla [Cert.Pre_finite_scores.Facts] : Cert.algebraic_MlaIdeal_MlaRefIdeal_pre_finite_scores := by
  intro m ρ m' ρ' hpre hagree
  refine ⟨fun c => Cert.MlaIdeal.Hand.refO m c, fun c => Cert.MlaIdeal.Hand.refL m c, fun c => Cert.MlaIdeal.Hand.refT m c,
    (θ_run Cert.MlaIdeal.defs _ _).mono (fun _ h c => ⟨(h.1 c).1.trans (Cert.MlaIdeal.Hand.final_3 m c (Cert.MlaIdeal.Hand.finite m hpre c)),
      (h.1 c).2.1.trans (Cert.MlaIdeal.Hand.final_4 m c (Cert.MlaIdeal.Hand.finite m hpre c)),
      (h.1 c).2.2.1.trans (Cert.MlaIdeal.Hand.final_5 m c (Cert.MlaIdeal.Hand.finite m hpre c)), (h.1 c).2.2.2⟩) (Cert.MlaIdeal.Hand.run_result (F := Ideal) m ρ), ?_⟩
  refine (θ_run Cert.MlaRefIdeal.defs _ _).mono (fun _ h c => ?_) (Cert.MlaRefIdeal.Value.run (F := Ideal) m' ρ')
  obtain ⟨e0, e1, e2⟩ := hagree c
  refine ⟨(h c).1.trans (run_MlaRef m m' c e0 e1 e2), (h c).2.1.trans ?_, (h c).2.2.1.trans ?_, (h c).2.2.2⟩ <;>
    (rw [e0, e1]; rfl)

end Cert.Proof

end
-- ==== Proof.Sums.lean ====
/-
  Sums over an index split into equal runs: the sum over `a · b` consecutive positions is the sum, run by run, of the
  sums over the runs. It holds in every commutative additive monoid, so over the extended reals no finiteness enters.
-/
module

public import Mathlib.Algebra.BigOperators.Fin
public import Mathlib.Algebra.BigOperators.Intervals
public import Mathlib.Logic.Equiv.Fin.Basic

@[expose] public section

namespace Cert.Sums

open scoped BigOperators

variable {β : Type*} [AddCommMonoid β]

/-- A sum over `n` positions cut into `a` runs of `b`. -/
theorem sum_runs {a b n : ℕ} (h : n = a * b) (f : Fin n → β) :
    ∑ k : Fin n, f k = ∑ s : Fin a, ∑ k : Fin b, f ⟨b * s.val + k.val, by
      have := s.isLt; have := k.isLt; subst h
      calc b * s.val + k.val < b * s.val + b := by omega
        _ = b * (s.val + 1) := by rw [Nat.mul_add, Nat.mul_one]
        _ ≤ b * a := Nat.mul_le_mul_left _ (by omega)
        _ = a * b := Nat.mul_comm _ _⟩ := by
  subst h
  rw [← Equiv.sum_comp finProdFinEquiv, Fintype.sum_prod_type]
  refine Finset.sum_congr rfl fun s _ => Finset.sum_congr rfl fun k _ => congrArg f (Fin.ext ?_)
  simp [finProdFinEquiv, Nat.add_comm]

/-- The same, the runs counted by a range and their summands given for every natural number. -/
theorem sum_runs_range {a b n : ℕ} (h : n = a * b) (f : Fin n → β) (g : ℕ → Fin b → β)
    (hg : ∀ (s : ℕ) (k : Fin b) (hs : b * s + k.val < n), s < a → g s k = f ⟨b * s + k.val, hs⟩) :
    ∑ s ∈ Finset.range a, ∑ k : Fin b, g s k = ∑ k : Fin n, f k := by
  rw [sum_runs h f, ← Fin.sum_univ_eq_sum_range (fun s => ∑ k : Fin b, g s k) a]
  exact Finset.sum_congr rfl fun s _ => Finset.sum_congr rfl fun k _ => hg s.val k _ s.isLt

end Cert.Sums
-- ==== Proof.DwUp.lean ====
/-
  The gradient of the weight of the feed-forward's first product, `dupᵀ · h2`: the kernel walks the 4096 rows it
  contracts in four tiles of 1024, holding the partial sums of a [1408, 1024] block in a scratch and writing the block
  back after the fourth; the reference contracts them in one product. Ideal addition is commutative and associative on
  all extended reals, so the two sums are the same.
-/
module

public import proofs.«01_k».proof.Defs
public import proofs.«01_k».proof.Proof.Sums
public import proofs.«01_k».proof.Proof.Gen.DwUpIdeal.Value
public import proofs.«01_k».proof.Proof.Gen.DwUpRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DwUpIdeal.Product

open Cert.DwUpIdeal Cert.DwUpIdeal.Gen Cert.DwUpIdeal.Value

theorem hz : (![0, 0] : Fin 2 → Nat) = fun _ => 0 := funext fun a => by fin_cases a <;> rfl

section Cases
variable {F : FTy → Type} [FloatOps F]
variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .bf16) (h5 : a5.IsWhole)
  (a6 : Memref sig .tc .vmem S1408x1024 .f32) (h6 : a6.IsWhole)
  (x : Vec F S1024x1408 .bf16) (y : Vec F S1024x1024 .bf16) (s : Vec F S1408x1024 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S1024x1408) hz,
    View.ld_unit_zero (S := S1024x1024) hz, shapeCast_self]

/-- A later tile: the scratch ends at what it held plus the tile's product. -/
theorem sout_B (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S1024x1408) hz,
    View.ld_unit_zero (S := S1024x1024) hz, View.ld_unit_zero (S := S1408x1024) hz, shapeCast_self]

/-- The last tile: the scratch likewise, … -/
theorem sout_C (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S1024x1408) hz,
    View.ld_unit_zero (S := S1024x1024) hz, View.ld_unit_zero (S := S1408x1024) hz, shapeCast_self]

/-- … and the block written back is the scratch, rounded. -/
theorem out_C (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S1024x1408) hz,
    View.ld_unit_zero (S := S1024x1024) hz, View.ld_unit_zero (S := S1408x1024) hz, shapeCast_self]

end Cases

variable (m : (ℓ : Loc nD τ sig) → Buf (Elt Ideal) ℓ) (c : Dev nD)

/-- The two arguments, as arrays of extended reals. -/
abbrev A : S4096x5632.Idx → Elt Ideal .bf16 := m ((c : Thread nD τ).loc main_arg0)
abbrev B : S4096x1024.Idx → Elt Ideal .bf16 := m ((c : Thread nD τ).loc main_arg1)

theorem idx_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- An array read at natural-number coordinates, zero outside it. -/
def at2 {m n : ℕ} (f : (⟨2, ![m, n]⟩ : Shape).Idx → EReal) (r s : ℕ) : EReal :=
  if h : r < m ∧ s < n then f (ix2 ⟨r, h.1⟩ ⟨s, h.2⟩) else 0

theorem blkA (t : Fin cfg0.N) (k : Fin 1024) (r : Fin 1408) :
    (iblk m c 0 t : Vec Ideal S1024x1408 .bf16) (ix2 k r) = at2 (m := 4096) (n := 5632) (A m c) (1024 * (t.val % 4) + k.val) (1408 * (t.val / 4) + r.val) := by
  have hN : t.val < 16 := lt_of_lt_of_eq t.isLt N_0
  obtain ⟨e0, e1, -⟩ := idx_facts t
  have hk := k.isLt
  have hr := r.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * k.val = 1024 * (t.val % 4) + k.val; rw [e0]; omega
  | ⟨1, _⟩ => show win0_0.index t 1 * 1408 + 1 * r.val = 1408 * (t.val / 4) + r.val; rw [e1]; omega

theorem blkB (t : Fin cfg0.N) (k : Fin 1024) (r : Fin 1024) :
    (iblk m c 1 t : Vec Ideal S1024x1024 .bf16) (ix2 k r) = at2 (m := 4096) (n := 1024) (B m c) (1024 * (t.val % 4) + k.val) r.val := by
  have hN : t.val < 16 := lt_of_lt_of_eq t.isLt N_0
  obtain ⟨-, -, e0, e1, -⟩ := idx_facts t
  have hk := k.isLt
  have hr := r.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * k.val = 1024 * (t.val % 4) + k.val; rw [e0]; omega
  | ⟨1, _⟩ => show win0_1.index t 1 * 1024 + 1 * r.val = r.val; rw [e1]; omega

/-- A tile's product at an index: the sum over the tile's 1024 rows. -/
theorem pay1_apply (x : Vec Ideal S1024x1408 .bf16) (y : Vec Ideal S1024x1024 .bf16) (r : Fin 1408) (s : Fin 1024) :
    (k0_pay1 x y : S1408x1024.Idx → EReal) (ix2 r s) = ∑ k : Fin 1024, (x (ix2 k r) : EReal) * y (ix2 k s) := by
  unfold k0_pay1
  pointwise

/-- The product the block `t / 4` receives from tile `t % 4`, at an index. -/
def part (n : ℕ) (j : S1408x1024.Idx) : EReal :=
  ∑ k : Fin 1024, at2 (m := 4096) (n := 5632) (A m c) (1024 * (n % 4) + k.val) (1408 * (n / 4) + (j 0).val)
    * at2 (m := 4096) (n := 1024) (B m c) (1024 * (n % 4) + k.val) (j 1).val

theorem pay1_blk (t : Fin cfg0.N) (j : S1408x1024.Idx) :
    (k0_pay1 (iblk m c 0 t) (iblk m c 1 t) : S1408x1024.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S1408x1024.Idx) :
    ((outsAt0 m c t.val t.isLt).2 : S1408x1024.Idx → EReal) j = ∑ s ∈ Finset.range (t.val % 4 + 1), part m c (4 * (t.val / 4) + s) j := by
  have hN : t.val < 16 := lt_of_lt_of_eq t.isLt N_0
  rw [soutsAt0_0_eq]
  refine (Pipeline.accAt_add_apply (ι := S1408x1024.Idx) (β := EReal) _ _ (fun _ => 0) (part m c) (4 * (t.val / 4)) 3 ?_ ?_ (t.val % 4) (by omega) _ j).trans (by rw [zero_add])
  · intro h i
    have h0 : 4 * (t.val / 4) % 4 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_C]; exact congrArg (acc i + ·) (pay1_blk m c ⟨_, h⟩ i)
    · rw [sout_B]; exact congrArg (acc i + ·) (pay1_blk m c ⟨_, h⟩ i)

/-- What a block's last point leaves in the output's buffer: the sum over all four tiles. -/
theorem out_apply (t : Fin cfg0.N) (ht : t.val % 4 = 3) (j : S1408x1024.Idx) :
    ((outsAt0 m c t.val t.isLt).1 : S1408x1024.Idx → EReal) j = ∑ s ∈ Finset.range 4, part m c (4 * (t.val / 4) + s) j := by
  have e : (outsAt0 m c t.val t.isLt).1 = k0_pay4 (outsAt0 m c t.val t.isLt).2 := by
    rw [outsAt0_C m c t (by omega) (by omega) ht]
    dsimp only
    rw [out_C, sout_C]
  rw [e]
  have := scratch_apply m c t j
  rw [ht] at this
  rw [← this]
  unfold k0_pay4
  rfl

/-- The result array. -/
def result : S5632x1024.Idx → EReal := fun i =>
  ∑ k : Fin 4096, A m c (ix2 k (i 0)) * B m c (ix2 k (i 1))

theorem total (q : ℕ) (hq : q < 4) (j : S1408x1024.Idx) (i : S5632x1024.Idx) (h0 : (i 0).val = 1408 * q + (j 0).val) (h1 : (i 1).val = (j 1).val) :
    ∑ s ∈ Finset.range 4, part m c (4 * q + s) j = result m c i := by
  unfold result
  refine (Finset.sum_congr rfl fun s hs => ?_).trans (Cert.Sums.sum_runs_range (a := 4) (b := 1024) (by decide) _
    (fun s k => at2 (m := 4096) (n := 5632) (A m c) (1024 * s + k.val) (i 0).val * at2 (m := 4096) (n := 1024) (B m c) (1024 * s + k.val) (i 1).val) ?_)
  · have hs : s < 4 := Finset.mem_range.mp hs
    unfold part
    rw [show (4 * q + s) % 4 = s from by omega, show (4 * q + s) / 4 = q from by omega, h0, h1]
  · intro s k hs _
    have hi0 : (i 0).val < 5632 := (i 0).isLt
    have hi1 : (i 1).val < 1024 := (i 1).isLt
    unfold at2
    rw [dif_pos ⟨hs, hi0⟩, dif_pos ⟨hs, hi1⟩]
    rfl

/-- The result array after the run: each block is written back once, after its fourth tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 5632 := (i 0).isLt; have h1 : (i 1).val < 1024 := (i 1).isLt; omega))
  have hm : t.val % 4 = 3 := (flush0_2 t).mp hf
  have hN : t.val < 16 := lt_of_lt_of_eq t.isLt N_0
  obtain ⟨-, -, -, -, e0, e1⟩ := idx_facts t
  rw [flushed2]
  funext y
  refine (out_apply m c t hm _).trans (total m c (t.val / 4) (by omega) _ (((cfg0.win 2).blk t).view.emb y) ?_ ?_)
  · show win0_2.index t (0 : Fin 2) * 1408 + 1 * (y 0).val = 1408 * (t.val / 4) + (y 0).val
    rw [e0]; omega
  · show win0_2.index t (1 : Fin 2) * 1024 + 1 * (y 1).val = (y 1).val
    rw [e1]; omega

end Cert.DwUpIdeal.Product

namespace Cert.Proof

theorem algebraic_DwUp : Cert.algebraic_DwUpIdeal_DwUpRefIdeal := by
  intro m ρ m' ρ' _ hagree
  refine ⟨fun c => Cert.DwUpIdeal.Product.result m c, (θ_run Cert.DwUpIdeal.defs _ _).mono (fun _ h c => ⟨(h c).1.trans (Cert.DwUpIdeal.Product.final m c), (h c).2⟩) (Cert.DwUpIdeal.Value.run_blocks (F := Ideal) m ρ), ?_⟩
  refine (θ_run Cert.DwUpRefIdeal.defs _ _).mono (fun _ h c => ⟨(h c).1.trans ?_, (h c).2⟩) (Cert.DwUpRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DwUpIdeal.Product.result
  pointwise

theorem frame_DwUpRef : Cert.quiescent_DwUpRefIdeal := fun m ρ _ =>
  (θ_run Cert.DwUpRefIdeal.defs _ _).mono (fun r h => ⟨fun c => (h c).2, Idealize.ShloMosaic.sem_eq_zero_of_no_sems (by decide) r.2⟩)
    (Cert.DwUpRefIdeal.Value.run (F := Ideal) m ρ)

end Cert.Proof

end
-- ==== Proof.DqBlock.lean ====
/-
  What one block of the query-gradient kernel adds to the accumulator, at an index: the sum, over the block's keys, of the
  score's gradient times the key.
-/
module

public import proofs.«01_k».proof.Proof.Gen.DqIdeal.Skeleton
public import Idealize.ShloMosaic.Lib.Pointwise
public import Idealize.ShloMosaic.Lib.ValueIdx
public import proofs.«01_k».proof.Proof.Reals

@[expose] public section

noncomputable section

namespace Cert.DqIdeal.Block

open Cert.DqIdeal Cert.DqIdeal.Gen Idealize.ShloMosaic

variable (q k v : Vec Ideal S1024x128 .bf16) (o d a : Vec Ideal S1024x128 .f32) (l : Vec Ideal S1024x1 .f32)

/-- A block below the diagonal. -/
theorem pay2_apply (r : Fin 1024) (x : Fin 128) :
    (k0_pay2 k v q l d o a : S1024x128.Idx → EReal) (ix2 r x) = (a (ix2 r x) : EReal)
      + ∑ j : Fin 1024, (Ideal.exp2 ((∑ y : Fin 128, (q (ix2 r y) : EReal) * k (ix2 j y)) - l (ix2 r 0))
          * ((∑ y : Fin 128, (d (ix2 r y) : EReal) * v (ix2 j y)) - ∑ y : Fin 128, (d (ix2 r y) : EReal) * o (ix2 r y))) * k (ix2 j x) := by
  unfold k0_pay2
  pointwise
  rfl

theorem pay4_apply (r : Fin 1024) (x : Fin 128) :
    (k0_pay4 k v q l d o a : S1024x128.Idx → EReal) (ix2 r x) = (a (ix2 r x) : EReal)
      + ∑ j : Fin 1024, (Ideal.exp2 ((if j.val ≤ r.val then (∑ y : Fin 128, (q (ix2 r y) : EReal) * k (ix2 j y)) else ⊥) - l (ix2 r 0))
          * ((∑ y : Fin 128, (d (ix2 r y) : EReal) * v (ix2 j y)) - ∑ y : Fin 128, (d (ix2 r y) : EReal) * o (ix2 r y))) * k (ix2 j x) := by
  unfold k0_pay4
  pointwise
  refine congrArg _ (Finset.sum_congr rfl fun j _ => ?_)
  rw [Cert.Reals.select_le_zero_add j.val r.val (by omega) (by omega), Cert.Reals.ofBits_bot]
  rfl

end Cert.DqIdeal.Block

end
-- ==== Proof.DqValue.lean ====
/-
  What the query-gradient kernel computes: at each pair of blocks it adds the pair's part of the scores' gradient times the
  keys to an accumulator, which starts at zero with a query block's first pair and is scaled and written back with its
  last. The key blocks after a query block's own hold only masked keys, which contribute nothing.
-/
module

public import proofs.«01_k».proof.Proof.DqHost
public import proofs.«01_k».proof.Proof.DqBlock
public import proofs.«01_k».proof.Proof.Sums
public import proofs.«01_k».proof.Defs

@[expose] public section

noncomputable section

namespace Cert.DqIdeal.Hand

open Cert.DqIdeal Cert.DqIdeal.Gen
open Idealize.ShloMosaic Idealize.ShloMosaic.TcCoe Idealize.ShloMosaic.Tactic Idealize.SL.Sem
open Idealize.ShloMosaic.Pipeline (Dat)
open scoped BigOperators

/-- Which block each window reads at a point. -/
theorem idx_facts : ∀ t : Fin (cfgA (F := Ideal)).N,
    (((cfgA (F := Ideal)).win (0 : Fin 7)).index t (0 : Fin 2) = rowBlock t.val ∧ ((cfgA (F := Ideal)).win (0 : Fin 7)).index t (1 : Fin 2) = t.val / 10)
    ∧ (((cfgA (F := Ideal)).win (1 : Fin 7)).index t (0 : Fin 2) = colBlock t.val ∧ ((cfgA (F := Ideal)).win (1 : Fin 7)).index t (1 : Fin 2) = t.val / 10)
    ∧ (((cfgA (F := Ideal)).win (2 : Fin 7)).index t (0 : Fin 2) = colBlock t.val ∧ ((cfgA (F := Ideal)).win (2 : Fin 7)).index t (1 : Fin 2) = t.val / 10)
    ∧ (((cfgA (F := Ideal)).win (3 : Fin 7)).index t (0 : Fin 2) = rowBlock t.val ∧ ((cfgA (F := Ideal)).win (3 : Fin 7)).index t (1 : Fin 2) = t.val / 10)
    ∧ (((cfgA (F := Ideal)).win (4 : Fin 7)).index t (0 : Fin 2) = rowBlock t.val ∧ ((cfgA (F := Ideal)).win (4 : Fin 7)).index t (1 : Fin 2) = t.val / 10)
    ∧ (((cfgA (F := Ideal)).win (5 : Fin 7)).index t (0 : Fin 2) = rowBlock t.val ∧ ((cfgA (F := Ideal)).win (5 : Fin 7)).index t (1 : Fin 2) = 4 + t.val / 10)
    ∧ (((cfgA (F := Ideal)).win (6 : Fin 7)).index t (0 : Fin 2) = rowBlock t.val ∧ ((cfgA (F := Ideal)).win (6 : Fin 7)).index t (1 : Fin 2) = t.val / 10) :=
  of_decide_eq_true (by sl_kernel_rfl)

theorem order : ∀ n : Fin 40, rowBlock n.val < 4 ∧ colBlock n.val ≤ rowBlock n.val
    ∧ (colBlock n.val ≠ 0 → 0 < n.val ∧ colBlock (n.val - 1) + 1 = colBlock n.val ∧ rowBlock (n.val - 1) = rowBlock n.val ∧ (n.val - 1) / 10 = n.val / 10) := by decide

theorem lt40 (t : Fin (cfgA (F := Ideal)).N) : t.val < 40 := t.isLt

/-- The head a point works on. -/
def headOf (n : ℕ) (h : n < 40) : Fin 4 := ⟨n / 10, by omega⟩

/-- Query `r` of the point's query block. -/
def row (n : ℕ) (h : n < 40) (r : Fin 1024) : Fin 4096 := ⟨1024 * rowBlock n + r.val, by have := (order ⟨n, h⟩).1; dsimp only at this; omega⟩

/-- Key `j` of the point's key block. -/
def key (n : ℕ) (h : n < 40) (j : Fin 1024) : Fin 4096 := ⟨1024 * colBlock n + j.val, by have := (order ⟨n, h⟩).1; have := (order ⟨n, h⟩).2.1; dsimp only at *; omega⟩

variable (m : (ℓ : Loc nD τ sig) → Buf (Elt Ideal) ℓ) (c : Dev nD)

section Blocks
variable (t : Fin (cfgA (F := Ideal)).N) (r : Fin 1024) (x : Fin 128)

theorem bq_apply : (bq m c t : S1024x128.Idx → EReal) (ix2 r x) = (V m c main_v39 : S4096x512.Idx → EReal) (ix2 (row t.val (lt40 t) r) (Cert.Attn.col (headOf t.val (lt40 t)) x)) := by
  obtain ⟨⟨e0, e1⟩, -⟩ := idx_facts t
  show iblk m c 0 t (ix2 r x) = _
  unfold iblk
  rw [View.read_apply]
  show V m c main_v39 _ = V m c main_v39 _
  congr 1
  funext a
  apply Fin.ext
  match a with
  | ⟨0, _⟩ => show ((cfgA (F := Ideal)).win (0 : Fin 7)).index t (0 : Fin 2) * 1024 + 1 * r.val = 1024 * rowBlock t.val + r.val; rw [e0]; omega
  | ⟨1, _⟩ => show ((cfgA (F := Ideal)).win (0 : Fin 7)).index t (1 : Fin 2) * 128 + 1 * x.val = t.val / 10 * 128 + x.val; rw [e1]; omega

theorem bk_apply : (bk m c t : S1024x128.Idx → EReal) (ix2 r x) = (V m c main_v40 : S4096x512.Idx → EReal) (ix2 (key t.val (lt40 t) r) (Cert.Attn.col (headOf t.val (lt40 t)) x)) := by
  obtain ⟨-, ⟨e0, e1⟩, -⟩ := idx_facts t
  show iblk m c 1 t (ix2 r x) = _
  unfold iblk
  rw [View.read_apply]
  show V m c main_v40 _ = V m c main_v40 _
  congr 1
  funext a
  apply Fin.ext
  match a with
  | ⟨0, _⟩ => show ((cfgA (F := Ideal)).win (1 : Fin 7)).index t (0 : Fin 2) * 1024 + 1 * r.val = 1024 * colBlock t.val + r.val; rw [e0]; omega
  | ⟨1, _⟩ => show ((cfgA (F := Ideal)).win (1 : Fin 7)).index t (1 : Fin 2) * 128 + 1 * x.val = t.val / 10 * 128 + x.val; rw [e1]; omega

theorem bv_apply : (bv m c t : S1024x128.Idx → EReal) (ix2 r x) = (V m c main_v41 : S4096x512.Idx → EReal) (ix2 (key t.val (lt40 t) r) (Cert.Attn.col (headOf t.val (lt40 t)) x)) := by
  obtain ⟨-, -, ⟨e0, e1⟩, -⟩ := idx_facts t
  show iblk m c 2 t (ix2 r x) = _
  unfold iblk
  rw [View.read_apply]
  show V m c main_v41 _ = V m c main_v41 _
  congr 1
  funext a
  apply Fin.ext
  match a with
  | ⟨0, _⟩ => show ((cfgA (F := Ideal)).win (2 : Fin 7)).index t (0 : Fin 2) * 1024 + 1 * r.val = 1024 * colBlock t.val + r.val; rw [e0]; omega
  | ⟨1, _⟩ => show ((cfgA (F := Ideal)).win (2 : Fin 7)).index t (1 : Fin 2) * 128 + 1 * x.val = t.val / 10 * 128 + x.val; rw [e1]; omega

theorem bo_apply : (bo m c t : S1024x128.Idx → EReal) (ix2 r x) = (V m c main_v24 : S4096x512.Idx → EReal) (ix2 (row t.val (lt40 t) r) (Cert.Attn.col (headOf t.val (lt40 t)) x)) := by
  obtain ⟨-, -, -, ⟨e0, e1⟩, -⟩ := idx_facts t
  show iblk m c 3 t (ix2 r x) = _
  unfold iblk
  rw [View.read_apply]
  show V m c main_v24 _ = V m c main_v24 _
  congr 1
  funext a
  apply Fin.ext
  match a with
  | ⟨0, _⟩ => show ((cfgA (F := Ideal)).win (3 : Fin 7)).index t (0 : Fin 2) * 1024 + 1 * r.val = 1024 * rowBlock t.val + r.val; rw [e0]; omega
  | ⟨1, _⟩ => show ((cfgA (F := Ideal)).win (3 : Fin 7)).index t (1 : Fin 2) * 128 + 1 * x.val = t.val / 10 * 128 + x.val; rw [e1]; omega

theorem bl_apply : (bl m c t : S1024x128.Idx → EReal) (ix2 r x) = (V m c main_v33 : S4096x512.Idx → EReal) (ix2 (row t.val (lt40 t) r) (Cert.Attn.col (headOf t.val (lt40 t)) x)) := by
  obtain ⟨-, -, -, -, ⟨e0, e1⟩, -⟩ := idx_facts t
  show iblk m c 4 t (ix2 r x) = _
  unfold iblk
  rw [View.read_apply]
  show V m c main_v33 _ = V m c main_v33 _
  congr 1
  funext a
  apply Fin.ext
  match a with
  | ⟨0, _⟩ => show ((cfgA (F := Ideal)).win (4 : Fin 7)).index t (0 : Fin 2) * 1024 + 1 * r.val = 1024 * rowBlock t.val + r.val; rw [e0]; omega
  | ⟨1, _⟩ => show ((cfgA (F := Ideal)).win (4 : Fin 7)).index t (1 : Fin 2) * 128 + 1 * x.val = t.val / 10 * 128 + x.val; rw [e1]; omega

theorem bd_apply : (bd m c t : S1024x128.Idx → EReal) (ix2 r x) = (V m c main_arg3 : S4096x1536.Idx → EReal) (ix2 (row t.val (lt40 t) r) (Cert.Attn.dcol (headOf t.val (lt40 t)) x)) := by
  obtain ⟨-, -, -, -, -, ⟨e0, e1⟩, -⟩ := idx_facts t
  show iblk m c 5 t (ix2 r x) = _
  unfold iblk
  rw [View.read_apply]
  show V m c main_arg3 _ = V m c main_arg3 _
  congr 1
  funext a
  apply Fin.ext
  match a with
  | ⟨0, _⟩ => show ((cfgA (F := Ideal)).win (5 : Fin 7)).index t (0 : Fin 2) * 1024 + 1 * r.val = 1024 * rowBlock t.val + r.val; rw [e0]; omega
  | ⟨1, _⟩ => show ((cfgA (F := Ideal)).win (5 : Fin 7)).index t (1 : Fin 2) * 128 + 1 * x.val = 512 + (t.val / 10 * 128 + x.val); rw [e1]; omega

end Blocks

theorem col_apply (l : Vec Ideal S1024x128 .f32) (r : Fin 1024) : (col l : S1024x1.Idx → EReal) (ix2 r 0) = l (ix2 r 0) := by
  unfold col View.ld
  dsimp only
  congr 1
  funext a
  apply Fin.ext
  match a with
  | ⟨0, _⟩ => show 0 + 1 * r.val = r.val; omega
  | ⟨1, _⟩ => rfl

theorem pay1_apply (r : Fin 1024) (x : Fin 128) : (k0_pay1 (F := Ideal) : S1024x128.Idx → EReal) (ix2 r x) = 0 := by
  unfold k0_pay1
  pointwise

theorem pay3_apply (a : Vec Ideal S1024x128 .f32) (r : Fin 1024) (x : Fin 128) :
    (k0_pay3 a : S1024x128.Idx → EReal) (ix2 r x) = (a (ix2 r x) : EReal) * (Cert.Reals.c1 : EReal) := by
  unfold k0_pay3
  pointwise
  rw [Cert.Reals.ofBits_c1]

section Real

variable (q k v d : Fin 4096 → Fin 4 → Fin 128 → ℝ)
variable (H : Cert.Attn.Holds (aQ m c) (aK m c) (aV m c) (aD m c) q k v d)

/-- What key `j` of key block `s` contributes to a query's gradient. -/
def tm (h : Fin 4) (i : Fin 4096) (x : Fin 128) (s : ℕ) (j : Fin 1024) : ℝ :=
  if hs : 1024 * s + j.val < 4096 then
    Cert.Attn.dS q k v d (level m c) h i ⟨1024 * s + j.val, hs⟩ * k ⟨1024 * s + j.val, hs⟩ h x
  else 0

/-- What key block `s` contributes. -/
def part (h : Fin 4) (i : Fin 4096) (x : Fin 128) (s : ℕ) : ℝ := ∑ j : Fin 1024, tm m c q k v d h i x s j

theorem tm_masked (h : Fin 4) (i : Fin 4096) (x : Fin 128) (s : ℕ) (j : Fin 1024) (hm : i.val < 1024 * s + j.val) : tm m c q k v d h i x s j = 0 := by
  unfold tm
  split
  · rw [Cert.Attn.dS_masked _ _ _ _ _ _ _ _ (by dsimp only; omega), zero_mul]
  · rfl

include H

section Point
variable (t : Fin (cfgA (F := Ideal)).N) (r : Fin 1024)

theorem dot_q (j : Fin 1024) : (∑ y : Fin 128, (bq m c t : S1024x128.Idx → EReal) (ix2 r y) * (bk m c t : S1024x128.Idx → EReal) (ix2 j y))
    = ((∑ y : Fin 128, Cert.Attn.q2 q (row t.val (lt40 t) r) (headOf t.val (lt40 t)) y * k (key t.val (lt40 t) j) (headOf t.val (lt40 t)) y : ℝ) : EReal) :=
  Cert.Reals.sum_eq _ _ _ fun y _ => by rw [bq_apply, bk_apply, hq m c H, hk m c H, EReal.coe_mul]

theorem dot_v (j : Fin 1024) : (∑ y : Fin 128, (bd m c t : S1024x128.Idx → EReal) (ix2 r y) * (bv m c t : S1024x128.Idx → EReal) (ix2 j y))
    = (Cert.Attn.G v d (headOf t.val (lt40 t)) (row t.val (lt40 t) r) (key t.val (lt40 t) j) : EReal) :=
  Cert.Reals.sum_eq _ _ _ fun y _ => by rw [bd_apply, bv_apply, hd m c H, hv m c H, EReal.coe_mul]

theorem dot_o : (∑ y : Fin 128, (bd m c t : S1024x128.Idx → EReal) (ix2 r y) * (bo m c t : S1024x128.Idx → EReal) (ix2 r y))
    = (Cert.Attn.Dl q k v d (level m c) (headOf t.val (lt40 t)) (row t.val (lt40 t) r) : EReal) :=
  Cert.Reals.sum_eq _ _ _ fun y _ => by rw [bd_apply, bo_apply, hd m c H, ho m c H, EReal.coe_mul]

theorem lse_at : (col (bl m c t) : S1024x1.Idx → EReal) (ix2 r 0) = (Cert.Attn.L2 q k (level m c) (headOf t.val (lt40 t)) (row t.val (lt40 t) r) : EReal) := by
  rw [col_apply]
  refine (bl_apply m c t r 0).trans ?_
  rw [hl m c H]

/-- A visible key's summand. -/
theorem seen (x : Fin 128) (j : Fin 1024) (hji : 1024 * colBlock t.val + j.val ≤ 1024 * rowBlock t.val + r.val) :
    (Ideal.exp2 ((∑ y : Fin 128, (bq m c t : S1024x128.Idx → EReal) (ix2 r y) * (bk m c t : S1024x128.Idx → EReal) (ix2 j y)) - (col (bl m c t) : S1024x1.Idx → EReal) (ix2 r 0))
      * ((∑ y : Fin 128, (bd m c t : S1024x128.Idx → EReal) (ix2 r y) * (bv m c t : S1024x128.Idx → EReal) (ix2 j y))
          - ∑ y : Fin 128, (bd m c t : S1024x128.Idx → EReal) (ix2 r y) * (bo m c t : S1024x128.Idx → EReal) (ix2 r y)) : EReal) * (bk m c t : S1024x128.Idx → EReal) (ix2 j x)
    = (tm m c q k v d (headOf t.val (lt40 t)) (row t.val (lt40 t) r) x (colBlock t.val) j : EReal) := by
  rw [dot_q m c q k v d H, dot_v m c q k v d H, dot_o m c q k v d H, lse_at m c q k v d H, bk_apply, hk m c H, ← EReal.coe_sub, ← EReal.coe_sub, Ideal.exp2_coe,
    ← EReal.coe_mul, ← EReal.coe_mul]
  unfold tm
  rw [dif_pos (show 1024 * colBlock t.val + j.val < 4096 from (key t.val (lt40 t) j).isLt)]
  congr 2
  exact congrArg (· * _) (Cert.Attn.weight q k (level m c) _ _ _ hji)

/-- A masked key's summand. -/
theorem unseen (x : Fin 128) (j : Fin 1024) (hji : 1024 * rowBlock t.val + r.val < 1024 * colBlock t.val + j.val) :
    (Ideal.exp2 (⊥ - (col (bl m c t) : S1024x1.Idx → EReal) (ix2 r 0))
      * ((∑ y : Fin 128, (bd m c t : S1024x128.Idx → EReal) (ix2 r y) * (bv m c t : S1024x128.Idx → EReal) (ix2 j y))
          - ∑ y : Fin 128, (bd m c t : S1024x128.Idx → EReal) (ix2 r y) * (bo m c t : S1024x128.Idx → EReal) (ix2 r y)) : EReal) * (bk m c t : S1024x128.Idx → EReal) (ix2 j x)
    = (tm m c q k v d (headOf t.val (lt40 t)) (row t.val (lt40 t) r) x (colBlock t.val) j : EReal) := by
  rw [tm_masked m c q k v d _ _ _ _ _ (by exact hji), lse_at m c q k v d H, EReal.bot_sub]
  have : Ideal.exp2 ⊥ = 0 := by rfl
  rw [this, zero_mul, zero_mul, EReal.coe_zero]

/-- One point adds its key block's contribution. -/
theorem step_apply (a : Vec Ideal S1024x128 .f32) (x : Fin 128) : (step m c t a : S1024x128.Idx → EReal) (ix2 r x)
    = ((if colBlock t.val = 0 then k0_pay1 (F := Ideal) else a : Vec Ideal S1024x128 .f32) (ix2 r x) : EReal) + (part m c q k v d (headOf t.val (lt40 t)) (row t.val (lt40 t) r) x (colBlock t.val) : EReal) := by
  have ho := (order ⟨t.val, lt40 t⟩).2.1
  dsimp only at ho
  unfold step
  split
  · rw [Cert.DqIdeal.Block.pay2_apply]
    refine congrArg _ (Cert.Reals.sum_eq _ _ _ fun j _ => ?_)
    exact seen m c q k v d H t r x j (by omega)
  · rw [Cert.DqIdeal.Block.pay4_apply]
    refine congrArg _ (Cert.Reals.sum_eq _ _ _ fun j _ => ?_)
    split
    · exact seen m c q k v d H t r x j (by omega)
    · exact unseen m c q k v d H t r x j (by omega)

end Point

/-- The accumulator after a point: the contributions of the query block's key blocks so far. -/
theorem acc_apply (n : ℕ) (hn : n < 40) (r : Fin 1024) (x : Fin 128) : (accAt m c (n + 1) : S1024x128.Idx → EReal) (ix2 r x)
    = ((∑ s ∈ Finset.range (colBlock n + 1), part m c q k v d (headOf n hn) (row n hn r) x s : ℝ) : EReal) := by
  induction n with
  | zero =>
    refine (congrFun (accAt_succ m c (⟨0, hn⟩ : Fin (cfgA (F := Ideal)).N)) _).trans ?_
    rw [step_apply m c q k v d H]
    dsimp only
    rw [if_pos (by decide), pay1_apply, zero_add, show colBlock 0 = 0 by decide, Finset.sum_range_one]
  | succ n ih =>
    refine (congrFun (accAt_succ m c (⟨n + 1, hn⟩ : Fin (cfgA (F := Ideal)).N)) _).trans ?_
    rw [step_apply m c q k v d H]
    dsimp only
    by_cases h0 : colBlock (n + 1) = 0
    · rw [if_pos h0, pay1_apply, zero_add, h0, zero_add, Finset.sum_range_one]
    · obtain ⟨-, e1, e2, e3⟩ := (order ⟨n + 1, hn⟩).2.2 h0
      simp only [Nat.add_sub_cancel] at e1 e2 e3
      have er : row n (by omega) r = row (n + 1) hn r := Fin.ext (by simp only [row, e2])
      have eh : headOf n (by omega) = headOf (n + 1) hn := Fin.ext (by simpa only [headOf] using e3)
      rw [if_neg h0, ih (by omega), ← EReal.coe_add, Finset.sum_range_succ _ (colBlock (n + 1)), ← e1, er, eh]

/-- What a query block's last pair leaves: the whole gradient. -/
theorem out_apply (n : ℕ) (hn : n < 40) (hl : colBlock n = rowBlock n) (r : Fin 1024) (x : Fin 128) : (k0_pay3 (accAt m c (n + 1)) : S1024x128.Idx → EReal) (ix2 r x)
    = (Cert.Attn.dQ q k v d (level m c) (row n hn r) (headOf n hn) x : EReal) := by
  rw [pay3_apply, acc_apply m c q k v d H n hn, ← EReal.coe_mul]
  have ho := (order ⟨n, hn⟩).1
  dsimp only at ho
  unfold Cert.Attn.dQ
  congr 2
  rw [← Cert.Sums.sum_runs_range (a := 4) (b := 1024) (by decide)
    (fun j => Cert.Attn.dS q k v d (level m c) (headOf n hn) (row n hn r) j * k j (headOf n hn) x) (tm m c q k v d (headOf n hn) (row n hn r) x)
    (fun s j hs _ => by unfold tm; exact dif_pos hs)]
  refine Finset.sum_subset (Finset.range_subset_range.2 (by omega)) fun s _ hs => Finset.sum_eq_zero fun j _ => ?_
  have hs' : colBlock n + 1 ≤ s := by simpa using hs
  refine tm_masked m c q k v d _ _ _ _ _ ?_
  have := r.isLt
  show 1024 * rowBlock n + r.val < 1024 * s + j.val
  omega

end Real

end Cert.DqIdeal.Hand

end
-- ==== Proof.DqRun.lean ====
/-
  Every run of the query-gradient kernel ends with the written blocks in the result's array, the arguments as they were and
  every counter at zero.
-/
module

public import proofs.«01_k».proof.Proof.DqFrame

@[expose] public section

noncomputable section

namespace Cert.DqIdeal.Hand

open Cert.DqIdeal Cert.DqIdeal.Gen
open Idealize.ShloMosaic Idealize.ShloMosaic.TcCoe Idealize.ShloMosaic.Tactic Idealize.SL.Sem
open Idealize.ShloMosaic.Pipeline (Dat)

section Frame
variable {F : FTy → Type} [FloatOps F]

open Idealize.ShloMosaic.StableHlo in
/-- The host code before the call changes no argument. -/
theorem V_arg (m : (ℓ : Loc nD τ sig) → Buf (Elt F) ℓ) (c : Dev nD) :
    V m c main_arg0 = m (c.tc.loc main_arg0) ∧ V m c main_arg1 = m (c.tc.loc main_arg1) ∧ V m c main_arg2 = m (c.tc.loc main_arg2) ∧ V m c main_arg3 = m (c.tc.loc main_arg3) := by
  unfold V
  refine ⟨?_, ?_, ?_, ?_⟩ <;>
    (simp only [host, hostOps0, hostOps0_1, hostOps0_2, List.flatten_cons, List.flatten_nil, List.append_nil, List.cons_append, List.nil_append, TRef.nullary, TRef.ternary, TRef.unary, TRef.toBuf, TRef.ofBuf, cast_eq]
     after_reads_simp <;> rfl)

/-- Every run ends with the result's blocks in its array, the arguments as they were and every counter at zero. -/
theorem run_result (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v42) = (dats m 0 c).arrAt (6 : Fin 7) (cfgA (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨(h.1 c).1 (6 : Fin 7),
    ((h.1 c).2 main_arg0 (of_decide_eq_true (by sl_kernel_rfl))).trans (V_arg m c).1,
    ((h.1 c).2 main_arg1 (of_decide_eq_true (by sl_kernel_rfl))).trans (V_arg m c).2.1,
    ((h.1 c).2 main_arg2 (of_decide_eq_true (by sl_kernel_rfl))).trans (V_arg m c).2.2.1,
    ((h.1 c).1 (5 : Fin 7)).trans (((dats m 0 c).arrAt_in (5 : Fin 7) rfl _).trans (V_arg m c).2.2.2)⟩, h.2⟩) (run_main m ρ)

end Frame

end Cert.DqIdeal.Hand

end
-- ==== Proof.DqFinal.lean ====
/-
  The query-gradient kernel's claims: every run ends, changes no argument, and leaves in its result the array the reference
  computes.
-/
module

public import proofs.«01_k».proof.Proof.DqValue
public import proofs.«01_k».proof.Proof.Finite
public import proofs.«01_k».proof.Proof.DqRun
public import proofs.«01_k».proof.Proof.DqBitsRun
public import proofs.«01_k».proof.Proof.Gen.Dq
public import proofs.«01_k».proof.Defs

@[expose] public section

noncomputable section

namespace Cert.DqIdeal.Hand

open Cert.DqIdeal Cert.DqIdeal.Gen
open Idealize.ShloMosaic Idealize.ShloMosaic.TcCoe Idealize.ShloMosaic.Tactic Idealize.SL.Sem
open Idealize.ShloMosaic.Pipeline (Dat)
open scoped BigOperators

theorem flush_6 : ∀ t : Fin (cfgA (F := Ideal)).N, (((cfgA (F := Ideal)).win (6 : Fin 7)).flush t = true ↔ colBlock t.val = rowBlock t.val) :=
  of_decide_eq_true (by sl_kernel_rfl)

theorem diagonal : ∀ I h : Fin 4, ∃ t : Fin 40, rowBlock t.val = I.val ∧ colBlock t.val = I.val ∧ t.val / 10 = h.val := by decide

section Final
variable (m : (ℓ : Loc nD τ sig) → Buf (Elt Ideal) ℓ) (c : Dev nD)
variable {q k v d : Fin 4096 → Fin 4 → Fin 128 → ℝ}
variable (H : Cert.Attn.Holds (aQ m c) (aK m c) (aV m c) (aD m c) q k v d)

theorem mem_blk6 (t : Fin (cfgA (F := Ideal)).N) (i : S4096x512.Idx) :
    i ∈ (((cfgA (F := Ideal)).win (6 : Fin 7)).blk t).view.set ↔ ∀ a : Fin 2, ((cfgA (F := Ideal)).win (6 : Fin 7)).index t a * S1024x128.size a ≤ (i a).val ∧ (i a).val < ((cfgA (F := Ideal)).win (6 : Fin 7)).index t a * S1024x128.size a + S1024x128.size a := by
  show i ∈ ((View.whole main_v42).slice (((cfgA (F := Ideal)).win (6 : Fin 7)).rect t)).set ↔ _
  rw [View.set_slice_whole, Rect.mem_set_unit]
  exact Iff.rfl

include H

/-- The result array after the run. -/
theorem final : (dats m 0 c).arrAt (6 : Fin 7) (cfgA (F := Ideal)).N
    = (Cert.Attn.gradQ (aQ m c) (aK m c) (aV m c) (aD m c) : Buf (Elt Ideal) ((c : Thread nD τ).loc main_v42)) := by
  refine (dats m 0 c).arrAt_eq_of_cover (6 : Fin 7) _ (fun t hf => ?_) (fun i => ?_)
  · have hl := (flush_6 t).mp hf
    obtain ⟨-, -, -, -, -, -, e0, e1⟩ := idx_facts t
    show ((cfgA (F := Ideal)).win (6 : Fin 7)).cut ((cfgA (F := Ideal)).grid.coords t) ((dats m 0 c).after (6 : Fin 7) t) = _
    funext y
    obtain ⟨r, x, rfl⟩ : ∃ (r : Fin 1024) (x : Fin 128), y = ix2 r x := ⟨y 0, y 1, ValueIdx.eq_ix2 y⟩
    refine (out_apply m c q k v d H t.val (lt40 t) hl r x).trans ?_
    refine (Cert.Attn.gradQ_real H _ _ _).symm.trans ?_
    rw [View.read_apply]
    show Cert.Attn.gradQ _ _ _ _ _ = Cert.Attn.gradQ _ _ _ _ _
    congr 1
    funext a
    apply Fin.ext
    match a with
    | ⟨0, _⟩ => show 1024 * rowBlock t.val + r.val = ((cfgA (F := Ideal)).win (6 : Fin 7)).index t (0 : Fin 2) * 1024 + 1 * r.val; rw [e0]; omega
    | ⟨1, _⟩ => show t.val / 10 * 128 + x.val = ((cfgA (F := Ideal)).win (6 : Fin 7)).index t (1 : Fin 2) * 128 + 1 * x.val; rw [e1]; omega
  · have h0 : (i 0).val < 4096 := (i 0).isLt
    have h1 : (i 1).val < 512 := (i 1).isLt
    obtain ⟨t, ht, hc, hh⟩ := diagonal ⟨(i 0).val / 1024, by omega⟩ ⟨(i 1).val / 128, by omega⟩
    dsimp only at ht hc hh
    refine ⟨t, (flush_6 t).mpr (hc.trans ht.symm), (mem_blk6 t i).2 fun a => ?_⟩
    obtain ⟨-, -, -, -, -, -, e0, e1⟩ := idx_facts t
    match a with
    | ⟨0, _⟩ =>
      show ((cfgA (F := Ideal)).win (6 : Fin 7)).index t (0 : Fin 2) * 1024 ≤ (i 0).val ∧ (i 0).val < ((cfgA (F := Ideal)).win (6 : Fin 7)).index t (0 : Fin 2) * 1024 + 1024
      rw [e0, ht]; omega
    | ⟨1, _⟩ =>
      show ((cfgA (F := Ideal)).win (6 : Fin 7)).index t (1 : Fin 2) * 128 ≤ (i 1).val ∧ (i 1).val < ((cfgA (F := Ideal)).win (6 : Fin 7)).index t (1 : Fin 2) * 128 + 128
      rw [e1, hh]; omega

end Final

/-- The precondition gives real arrays. -/
theorem holds [Cert.Pre_finite.Facts] (m : (ℓ : Loc nD τ sig) → Buf (Elt Ideal) ℓ) (h : Cert.Pre_DqIdeal_finite m) (c : Dev nD) :
    Cert.Attn.Holds (aQ m c) (aK m c) (aV m c) (aD m c)
      (fun i h x => ((aQ m c) (ix2 i (Cert.Attn.col h x))).toReal) (fun i h x => ((aK m c) (ix2 i (Cert.Attn.col h x))).toReal)
      (fun i h x => ((aV m c) (ix2 i (Cert.Attn.col h x))).toReal) (fun i h x => ((aD m c) (ix2 i (Cert.Attn.dcol h x))).toReal) where
  q i h' x := have e := (Cert.Pre_finite.entries _ _ _ _ (h c) i (Cert.Attn.col h' x)).1; Cert.Reals.coe_of_abs_lt e.1 e.2
  k i h' x := have e := (Cert.Pre_finite.entries _ _ _ _ (h c) i (Cert.Attn.col h' x)).2.1; Cert.Reals.coe_of_abs_lt e.1 e.2
  v i h' x := have e := (Cert.Pre_finite.entries _ _ _ _ (h c) i (Cert.Attn.col h' x)).2.2.1; Cert.Reals.coe_of_abs_lt e.1 e.2
  d i h' x := have e := (Cert.Pre_finite.entries _ _ _ _ (h c) i (Cert.Attn.col h' x)).2.2.2; Cert.Reals.coe_of_abs_lt e.1 e.2

end Cert.DqIdeal.Hand

namespace Cert.Proof

open Idealize.ShloMosaic Idealize.ShloMosaic.TcCoe Idealize.SL.Sem

theorem frame_Dq : Cert.quiescent_Dq := fun m ρ _ =>
  (θ_run Cert.Dq.defs _ _).mono (fun _ h => ⟨fun c => (h.1 c).2, h.2⟩) (Cert.Dq.Hand.run_result (F := Bits) m ρ)

theorem frame_DqIdeal : Cert.quiescent_DqIdeal := fun m ρ _ =>
  (θ_run Cert.DqIdeal.defs _ _).mono (fun _ h => ⟨fun c => (h.1 c).2, h.2⟩) (Cert.DqIdeal.Hand.run_result (F := Ideal) m ρ)

theorem frame_DqRef : Cert.quiescent_DqRefIdeal := fun m ρ _ =>
  (θ_run Cert.DqRefIdeal.defs _ _).mono (fun r h => ⟨fun c => (h c).2, Idealize.ShloMosaic.sem_eq_zero_of_no_sems (by decide) r.2⟩)
    (Cert.DqRefIdeal.Value.run (F := Ideal) m ρ)

theorem algebraic_Dq [Cert.Pre_finite.Facts] : Cert.algebraic_DqIdeal_DqRefIdeal_pre_finite := by
  intro m ρ m' ρ' hpre hagree
  refine ⟨fun c => Cert.Attn.gradQ (Cert.DqIdeal.Hand.aQ m c) (Cert.DqIdeal.Hand.aK m c) (Cert.DqIdeal.Hand.aV m c) (Cert.DqIdeal.Hand.aD m c),
    (θ_run Cert.DqIdeal.defs _ _).mono (fun _ h c => ⟨(h.1 c).1.trans (Cert.DqIdeal.Hand.final m c (Cert.DqIdeal.Hand.holds m hpre c)), (h.1 c).2⟩) (Cert.DqIdeal.Hand.run_result (F := Ideal) m ρ), ?_⟩
  refine (θ_run Cert.DqRefIdeal.defs _ _).mono (fun _ h c => ⟨(h c).1.trans ?_, (h c).2⟩) (Cert.DqRefIdeal.Value.run (F := Ideal) m' ρ')
  obtain ⟨e0, e1, e2, e3⟩ := hagree c
  refine (Cert.Attn.res_gradQ m' c).trans ?_
  rw [e0, e1, e2, e3]

end Cert.Proof

end
-- ==== Proof.DkvBlock.lean ====
/-
  What one block of the key- and value-gradient kernel adds to its accumulators, at an index: the sums, over the block's
  queries, of the score's gradient times the query and of the weight times the output's gradient.
-/
module

public import proofs.«01_k».proof.Proof.DkvBody
public import Idealize.ShloMosaic.Lib.Pointwise
public import Idealize.ShloMosaic.Lib.ValueIdx
public import proofs.«01_k».proof.Proof.Reals

@[expose] public section

noncomputable section

namespace Cert.DkvIdeal.Block

open Cert.DkvIdeal Cert.DkvIdeal.Gen Idealize.ShloMosaic

theorem select_add_zero_le {α : Type} (a b : ℕ) (ha : a < 2 ^ 31) (hb : b < 2 ^ 31) (x y : α) :
    Scalar.select (IntOp.cmpi .sle (IntOp.addi (0#32) (BitVec.ofNat 32 a)) (BitVec.ofNat 32 b)) x y = if a ≤ b then x else y := by
  have e : IntOp.addi (0#32) (BitVec.ofNat 32 a) = BitVec.ofNat 32 a := by unfold IntOp.addi; simp
  rw [e, Cert.Reals.select_le a b ha hb]

variable (q k v : Vec Ideal S1024x128 .bf16) (o d a : Vec Ideal S1024x128 .f32) (l : Vec Ideal S1x1024 .f32)

/-- The output's gradient against the output, of a query. -/
theorem pay11_apply (i : Fin 1024) :
    (k0_pay11 d o : S1x1024.Idx → EReal) (ix2 0 i) = ∑ y : Fin 128, (d (ix2 i y) : EReal) * o (ix2 i y) := by
  unfold k0_pay11
  pointwise

theorem pay7_apply (j i : Fin 1024) :
    (k0_pay7 q l k : S1024x1024.Idx → EReal) (ix2 j i) = Ideal.exp2 ((∑ y : Fin 128, (k (ix2 j y) : EReal) * q (ix2 i y)) - l (ix2 0 i)) := by
  unfold k0_pay7 k0_pay6
  pointwise
  rfl

theorem pay12_apply (j i : Fin 1024) :
    (k0_pay12 q l k : S1024x1024.Idx → EReal) (ix2 j i)
      = Ideal.exp2 ((if j.val ≤ i.val then (∑ y : Fin 128, (k (ix2 j y) : EReal) * q (ix2 i y)) else ⊥) - l (ix2 0 i)) := by
  unfold k0_pay12 k0_pay10
  pointwise
  rw [select_add_zero_le j.val i.val (by omega) (by omega), Cert.Reals.ofBits_bot]
  rfl

/-- The values' accumulator after a block past the diagonal, and after a diagonal block. -/
theorem pay8_apply (j : Fin 1024) (x : Fin 128) :
    (k0_pay8 q d l k a : S1024x128.Idx → EReal) (ix2 j x) = (a (ix2 j x) : EReal)
      + ∑ i : Fin 1024, Ideal.exp2 ((∑ y : Fin 128, (k (ix2 j y) : EReal) * q (ix2 i y)) - l (ix2 0 i)) * d (ix2 i x) := by
  unfold k0_pay8
  pointwise
  exact congrArg _ (Finset.sum_congr rfl fun i _ => congrArg (· * (d (ix2 i x) : EReal)) (pay7_apply q k l j i))

theorem pay13_apply (j : Fin 1024) (x : Fin 128) :
    (k0_pay13 q d l k a : S1024x128.Idx → EReal) (ix2 j x) = (a (ix2 j x) : EReal)
      + ∑ i : Fin 1024, Ideal.exp2 ((if j.val ≤ i.val then (∑ y : Fin 128, (k (ix2 j y) : EReal) * q (ix2 i y)) else ⊥) - l (ix2 0 i)) * d (ix2 i x) := by
  unfold k0_pay13
  pointwise
  exact congrArg _ (Finset.sum_congr rfl fun i _ => congrArg (· * (d (ix2 i x) : EReal)) (pay12_apply q k l j i))

/-- The keys' accumulator after a block past the diagonal, and after a diagonal block. -/
theorem pay3_pay9_apply (j : Fin 1024) (x : Fin 128) :
    (k0_pay3 a (k0_pay9 q d o l k v) : S1024x128.Idx → EReal) (ix2 j x) = (a (ix2 j x) : EReal)
      + ∑ i : Fin 1024, (Ideal.exp2 ((∑ y : Fin 128, (k (ix2 j y) : EReal) * q (ix2 i y)) - l (ix2 0 i))
          * ((∑ y : Fin 128, (v (ix2 j y) : EReal) * d (ix2 i y)) - ∑ y : Fin 128, (d (ix2 i y) : EReal) * o (ix2 i y))) * q (ix2 i x) := by
  unfold k0_pay3 k0_pay9 k0_pay6
  pointwise
  exact congrArg _ (Finset.sum_congr rfl fun i _ => congrArg (fun z : EReal => z * _ * (q (ix2 i x) : EReal)) (pay7_apply q k l j i))

theorem pay4_apply (j : Fin 1024) (x : Fin 128) :
    (k0_pay4 (k0_pay10 q) (k0_pay11 d o) (k0_pay12 q l k) (k0_pay14 d v) a : S1024x128.Idx → EReal) (ix2 j x) = (a (ix2 j x) : EReal)
      + ∑ i : Fin 1024, (Ideal.exp2 ((if j.val ≤ i.val then (∑ y : Fin 128, (k (ix2 j y) : EReal) * q (ix2 i y)) else ⊥) - l (ix2 0 i))
          * ((∑ y : Fin 128, (v (ix2 j y) : EReal) * d (ix2 i y)) - ∑ y : Fin 128, (d (ix2 i y) : EReal) * o (ix2 i y))) * q (ix2 i x) := by
  unfold k0_pay4 k0_pay10 k0_pay14
  pointwise
  exact congrArg _ (Finset.sum_congr rfl fun i _ => by rw [pay12_apply, pay11_apply])

theorem pay5_apply (j : Fin 1024) (x : Fin 128) :
    (k0_pay5 a : S1024x128.Idx → EReal) (ix2 j x) = (a (ix2 j x) : EReal) * ((Real.log 2 : ℝ) : EReal) := by
  unfold k0_pay5
  pointwise
  rfl

end Cert.DkvIdeal.Block

end
-- ==== Proof.DkvValue.lean ====
/-
  What the key- and value-gradient kernel computes: at each pair of blocks it adds the pair's part of the scores' gradient
  times the queries, and of the weights times the output's gradient, to two accumulators, which start at zero with a key
  block's first pair and are written back with its last. The query blocks before a key block's own see none of its keys.
-/
module

public import proofs.«01_k».proof.Proof.DkvHost
public import proofs.«01_k».proof.Proof.DkvBlock
public import proofs.«01_k».proof.Proof.Sums
public import proofs.«01_k».proof.Defs

@[expose] public section

noncomputable section

namespace Cert.DkvIdeal.Hand

open Cert.DkvIdeal Cert.DkvIdeal.Gen
open Idealize.ShloMosaic Idealize.ShloMosaic.TcCoe Idealize.ShloMosaic.Tactic Idealize.SL.Sem
open Idealize.ShloMosaic.Pipeline (Dat)
open scoped BigOperators

/-- Which block each window reads at a point. -/
theorem idx_facts : ∀ t : Fin (cfgA (F := Ideal)).N,
    (((cfgA (F := Ideal)).win (0 : Fin 8)).index t (0 : Fin 2) = rowBlock t.val ∧ ((cfgA (F := Ideal)).win (0 : Fin 8)).index t (1 : Fin 2) = t.val / 10)
    ∧ (((cfgA (F := Ideal)).win (1 : Fin 8)).index t (0 : Fin 2) = colBlock t.val ∧ ((cfgA (F := Ideal)).win (1 : Fin 8)).index t (1 : Fin 2) = t.val / 10)
    ∧ (((cfgA (F := Ideal)).win (2 : Fin 8)).index t (0 : Fin 2) = colBlock t.val ∧ ((cfgA (F := Ideal)).win (2 : Fin 8)).index t (1 : Fin 2) = t.val / 10)
    ∧ (((cfgA (F := Ideal)).win (3 : Fin 8)).index t (0 : Fin 2) = rowBlock t.val ∧ ((cfgA (F := Ideal)).win (3 : Fin 8)).index t (1 : Fin 2) = t.val / 10)
    ∧ (((cfgA (F := Ideal)).win (4 : Fin 8)).index t (0 : Fin 2) = t.val / 10 ∧ ((cfgA (F := Ideal)).win (4 : Fin 8)).index t (1 : Fin 2) = rowBlock t.val)
    ∧ (((cfgA (F := Ideal)).win (5 : Fin 8)).index t (0 : Fin 2) = rowBlock t.val ∧ ((cfgA (F := Ideal)).win (5 : Fin 8)).index t (1 : Fin 2) = 4 + t.val / 10)
    ∧ (((cfgA (F := Ideal)).win (6 : Fin 8)).index t (0 : Fin 2) = colBlock t.val ∧ ((cfgA (F := Ideal)).win (6 : Fin 8)).index t (1 : Fin 2) = t.val / 10)
    ∧ (((cfgA (F := Ideal)).win (7 : Fin 8)).index t (0 : Fin 2) = colBlock t.val ∧ ((cfgA (F := Ideal)).win (7 : Fin 8)).index t (1 : Fin 2) = t.val / 10) :=
  of_decide_eq_true (by sl_kernel_rfl)

theorem order : ∀ n : Fin 40, rowBlock n.val < 4 ∧ colBlock n.val ≤ rowBlock n.val
    ∧ (¬rowBlock n.val = colBlock n.val → 0 < n.val ∧ rowBlock (n.val - 1) + 1 = rowBlock n.val ∧ colBlock (n.val - 1) = colBlock n.val ∧ (n.val - 1) / 10 = n.val / 10) := by decide

theorem lt40 (t : Fin (cfgA (F := Ideal)).N) : t.val < 40 := t.isLt

/-- The head a point works on. -/
def headOf (n : ℕ) (h : n < 40) : Fin 4 := ⟨n / 10, by omega⟩

/-- Query `r` of the point's query block. -/
def row (n : ℕ) (h : n < 40) (r : Fin 1024) : Fin 4096 := ⟨1024 * rowBlock n + r.val, by have := (order ⟨n, h⟩).1; dsimp only at this; omega⟩

/-- Key `j` of the point's key block. -/
def key (n : ℕ) (h : n < 40) (j : Fin 1024) : Fin 4096 := ⟨1024 * colBlock n + j.val, by have := (order ⟨n, h⟩).1; have := (order ⟨n, h⟩).2.1; dsimp only at *; omega⟩

variable (m : (ℓ : Loc nD τ sig) → Buf (Elt Ideal) ℓ) (c : Dev nD)

section Blocks
variable (t : Fin (cfgA (F := Ideal)).N) (r : Fin 1024) (x : Fin 128)

theorem bq_apply : (bq m c t : S1024x128.Idx → EReal) (ix2 r x) = (V m c main_v38 : S4096x512.Idx → EReal) (ix2 (row t.val (lt40 t) r) (Cert.Attn.col (headOf t.val (lt40 t)) x)) := by
  obtain ⟨⟨e0, e1⟩, -⟩ := idx_facts t
  show iblk m c 0 t (ix2 r x) = _
  unfold iblk
  rw [View.read_apply]
  show V m c main_v38 _ = V m c main_v38 _
  congr 1
  funext a
  apply Fin.ext
  match a with
  | ⟨0, _⟩ => show ((cfgA (F := Ideal)).win (0 : Fin 8)).index t (0 : Fin 2) * 1024 + 1 * r.val = 1024 * rowBlock t.val + r.val; rw [e0]; omega
  | ⟨1, _⟩ => show ((cfgA (F := Ideal)).win (0 : Fin 8)).index t (1 : Fin 2) * 128 + 1 * x.val = t.val / 10 * 128 + x.val; rw [e1]; omega

theorem bk_apply : (bk m c t : S1024x128.Idx → EReal) (ix2 r x) = (V m c main_v39 : S4096x512.Idx → EReal) (ix2 (key t.val (lt40 t) r) (Cert.Attn.col (headOf t.val (lt40 t)) x)) := by
  obtain ⟨-, ⟨e0, e1⟩, -⟩ := idx_facts t
  show iblk m c 1 t (ix2 r x) = _
  unfold iblk
  rw [View.read_apply]
  show V m c main_v39 _ = V m c main_v39 _
  congr 1
  funext a
  apply Fin.ext
  match a with
  | ⟨0, _⟩ => show ((cfgA (F := Ideal)).win (1 : Fin 8)).index t (0 : Fin 2) * 1024 + 1 * r.val = 1024 * colBlock t.val + r.val; rw [e0]; omega
  | ⟨1, _⟩ => show ((cfgA (F := Ideal)).win (1 : Fin 8)).index t (1 : Fin 2) * 128 + 1 * x.val = t.val / 10 * 128 + x.val; rw [e1]; omega

theorem bv_apply : (bv m c t : S1024x128.Idx → EReal) (ix2 r x) = (V m c main_v40 : S4096x512.Idx → EReal) (ix2 (key t.val (lt40 t) r) (Cert.Attn.col (headOf t.val (lt40 t)) x)) := by
  obtain ⟨-, -, ⟨e0, e1⟩, -⟩ := idx_facts t
  show iblk m c 2 t (ix2 r x) = _
  unfold iblk
  rw [View.read_apply]
  show V m c main_v40 _ = V m c main_v40 _
  congr 1
  funext a
  apply Fin.ext
  match a with
  | ⟨0, _⟩ => show ((cfgA (F := Ideal)).win (2 : Fin 8)).index t (0 : Fin 2) * 1024 + 1 * r.val = 1024 * colBlock t.val + r.val; rw [e0]; omega
  | ⟨1, _⟩ => show ((cfgA (F := Ideal)).win (2 : Fin 8)).index t (1 : Fin 2) * 128 + 1 * x.val = t.val / 10 * 128 + x.val; rw [e1]; omega

theorem bo_apply : (bo m c t : S1024x128.Idx → EReal) (ix2 r x) = (V m c main_v24 : S4096x512.Idx → EReal) (ix2 (row t.val (lt40 t) r) (Cert.Attn.col (headOf t.val (lt40 t)) x)) := by
  obtain ⟨-, -, -, ⟨e0, e1⟩, -⟩ := idx_facts t
  show iblk m c 3 t (ix2 r x) = _
  unfold iblk
  rw [View.read_apply]
  show V m c main_v24 _ = V m c main_v24 _
  congr 1
  funext a
  apply Fin.ext
  match a with
  | ⟨0, _⟩ => show ((cfgA (F := Ideal)).win (3 : Fin 8)).index t (0 : Fin 2) * 1024 + 1 * r.val = 1024 * rowBlock t.val + r.val; rw [e0]; omega
  | ⟨1, _⟩ => show ((cfgA (F := Ideal)).win (3 : Fin 8)).index t (1 : Fin 2) * 128 + 1 * x.val = t.val / 10 * 128 + x.val; rw [e1]; omega

theorem bl_apply : (bl m c t : S8x1024.Idx → EReal) (ix2 0 r) = (V m c main_v32 : S32x4096.Idx → EReal) (ix2 (top (headOf t.val (lt40 t))) (row t.val (lt40 t) r)) := by
  obtain ⟨-, -, -, -, ⟨e0, e1⟩, -⟩ := idx_facts t
  show iblk m c 4 t (ix2 0 r) = _
  unfold iblk
  rw [View.read_apply]
  show V m c main_v32 _ = V m c main_v32 _
  congr 1
  funext a
  apply Fin.ext
  match a with
  | ⟨0, _⟩ => show ((cfgA (F := Ideal)).win (4 : Fin 8)).index t (0 : Fin 2) * 8 + 1 * 0 = 8 * (t.val / 10); rw [e0]; omega
  | ⟨1, _⟩ => show ((cfgA (F := Ideal)).win (4 : Fin 8)).index t (1 : Fin 2) * 1024 + 1 * r.val = 1024 * rowBlock t.val + r.val; rw [e1]; omega

theorem bd_apply : (bd m c t : S1024x128.Idx → EReal) (ix2 r x) = (V m c main_arg3 : S4096x1536.Idx → EReal) (ix2 (row t.val (lt40 t) r) (Cert.Attn.dcol (headOf t.val (lt40 t)) x)) := by
  obtain ⟨-, -, -, -, -, ⟨e0, e1⟩, -⟩ := idx_facts t
  show iblk m c 5 t (ix2 r x) = _
  unfold iblk
  rw [View.read_apply]
  show V m c main_arg3 _ = V m c main_arg3 _
  congr 1
  funext a
  apply Fin.ext
  match a with
  | ⟨0, _⟩ => show ((cfgA (F := Ideal)).win (5 : Fin 8)).index t (0 : Fin 2) * 1024 + 1 * r.val = 1024 * rowBlock t.val + r.val; rw [e0]; omega
  | ⟨1, _⟩ => show ((cfgA (F := Ideal)).win (5 : Fin 8)).index t (1 : Fin 2) * 128 + 1 * x.val = 512 + (t.val / 10 * 128 + x.val); rw [e1]; omega

end Blocks

theorem line_apply (l : Vec Ideal S8x1024 .f32) (i : Fin 1024) : (line l : S1x1024.Idx → EReal) (ix2 0 i) = l (ix2 0 i) := by
  unfold line View.ld
  dsimp only
  congr 1
  funext a
  apply Fin.ext
  match a with
  | ⟨0, _⟩ => rfl
  | ⟨1, _⟩ => show 0 + 1 * i.val = i.val; omega

theorem pay1_apply (r : Fin 1024) (x : Fin 128) : (k0_pay1 (F := Ideal) : S1024x128.Idx → EReal) (ix2 r x) = 0 := by
  unfold k0_pay1
  pointwise

theorem pay2_apply (r : Fin 1024) (x : Fin 128) : (k0_pay2 (F := Ideal) : S1024x128.Idx → EReal) (ix2 r x) = 0 := by
  unfold k0_pay2
  pointwise

section Real

variable (q k v d : Fin 4096 → Fin 4 → Fin 128 → ℝ)
variable (H : Cert.Attn.Holds (aQ m c) (aK m c) (aV m c) (aD m c) q k v d)

/-- What query `i` of query block `s` contributes to a key's gradient, in base-2 units, and to a value's. -/
def tm (h : Fin 4) (j : Fin 4096) (x : Fin 128) (s : ℕ) (i : Fin 1024) : ℝ :=
  if hs : 1024 * s + i.val < 4096 then
    Cert.Attn.dS q k v d (level m c) h ⟨1024 * s + i.val, hs⟩ j * Cert.Attn.q2 q ⟨1024 * s + i.val, hs⟩ h x
  else 0
def tv (h : Fin 4) (j : Fin 4096) (x : Fin 128) (s : ℕ) (i : Fin 1024) : ℝ :=
  if hs : 1024 * s + i.val < 4096 then
    Cert.Attn.P q k (level m c) h ⟨1024 * s + i.val, hs⟩ j * d ⟨1024 * s + i.val, hs⟩ h x
  else 0

/-- What query block `s` contributes. -/
def part (h : Fin 4) (j : Fin 4096) (x : Fin 128) (s : ℕ) : ℝ := ∑ i : Fin 1024, tm m c q k v d h j x s i
def partV (h : Fin 4) (j : Fin 4096) (x : Fin 128) (s : ℕ) : ℝ := ∑ i : Fin 1024, tv m c q k d h j x s i

theorem tm_masked (h : Fin 4) (j : Fin 4096) (x : Fin 128) (s : ℕ) (i : Fin 1024) (hm : 1024 * s + i.val < j.val) : tm m c q k v d h j x s i = 0 := by
  unfold tm
  split
  · rw [Cert.Attn.dS_masked _ _ _ _ _ _ _ _ (by dsimp only; omega), zero_mul]
  · rfl

theorem tv_masked (h : Fin 4) (j : Fin 4096) (x : Fin 128) (s : ℕ) (i : Fin 1024) (hm : 1024 * s + i.val < j.val) : tv m c q k d h j x s i = 0 := by
  unfold tv
  split
  · rw [Cert.Attn.P_masked _ _ _ _ _ _ (by dsimp only; omega), zero_mul]
  · rfl

theorem part_whole (h : Fin 4) (n : ℕ) (hn : n < 40) (hl : rowBlock n = 3) (r : Fin 1024) (x : Fin 128) :
    ∑ s ∈ Finset.Ico (colBlock n) (rowBlock n + 1), part m c q k v d h (key n hn r) x s = ∑ i : Fin 4096, Cert.Attn.dS q k v d (level m c) h i (key n hn r) * Cert.Attn.q2 q i h x := by
  have ho := (order ⟨n, hn⟩).2.1
  dsimp only at ho
  rw [← Cert.Sums.sum_runs_range (a := 4) (b := 1024) (by decide) (fun i => Cert.Attn.dS q k v d (level m c) h i (key n hn r) * Cert.Attn.q2 q i h x) (tm m c q k v d h (key n hn r) x)
    (fun s j hs _ => by unfold tm; exact dif_pos hs), hl]
  refine Finset.sum_subset (fun s hs => by simp at hs ⊢; omega) fun s hs hs' => Finset.sum_eq_zero fun j _ => ?_
  have : s < colBlock n := by simp at hs hs'; omega
  refine tm_masked m c q k v d _ _ _ _ _ ?_
  have := j.isLt
  show 1024 * s + j.val < 1024 * colBlock n + r.val
  omega

theorem partV_whole (h : Fin 4) (n : ℕ) (hn : n < 40) (hl : rowBlock n = 3) (r : Fin 1024) (x : Fin 128) :
    ∑ s ∈ Finset.Ico (colBlock n) (rowBlock n + 1), partV m c q k d h (key n hn r) x s = ∑ i : Fin 4096, Cert.Attn.P q k (level m c) h i (key n hn r) * d i h x := by
  have ho := (order ⟨n, hn⟩).2.1
  dsimp only at ho
  rw [← Cert.Sums.sum_runs_range (a := 4) (b := 1024) (by decide) (fun i => Cert.Attn.P q k (level m c) h i (key n hn r) * d i h x) (tv m c q k d h (key n hn r) x)
    (fun s j hs _ => by unfold tv; exact dif_pos hs), hl]
  refine Finset.sum_subset (fun s hs => by simp at hs ⊢; omega) fun s hs hs' => Finset.sum_eq_zero fun j _ => ?_
  have : s < colBlock n := by simp at hs hs'; omega
  refine tv_masked m c q k d _ _ _ _ _ ?_
  have := j.isLt
  show 1024 * s + j.val < 1024 * colBlock n + r.val
  omega

include H

section Point
variable (t : Fin (cfgA (F := Ideal)).N)

theorem dot_q (j i : Fin 1024) : (∑ y : Fin 128, (bk m c t : S1024x128.Idx → EReal) (ix2 j y) * (bq m c t : S1024x128.Idx → EReal) (ix2 i y))
    = ((∑ y : Fin 128, Cert.Attn.q2 q (row t.val (lt40 t) i) (headOf t.val (lt40 t)) y * k (key t.val (lt40 t) j) (headOf t.val (lt40 t)) y : ℝ) : EReal) :=
  Cert.Reals.sum_eq _ _ _ fun y _ => by rw [bq_apply, bk_apply, hq m c H, hk m c H, EReal.coe_mul, mul_comm]

theorem dot_v (j i : Fin 1024) : (∑ y : Fin 128, (bv m c t : S1024x128.Idx → EReal) (ix2 j y) * (bd m c t : S1024x128.Idx → EReal) (ix2 i y))
    = (Cert.Attn.G v d (headOf t.val (lt40 t)) (row t.val (lt40 t) i) (key t.val (lt40 t) j) : EReal) :=
  Cert.Reals.sum_eq _ _ _ fun y _ => by rw [bd_apply, bv_apply, hd m c H, hv m c H, EReal.coe_mul, mul_comm]

theorem dot_o (i : Fin 1024) : (∑ y : Fin 128, (bd m c t : S1024x128.Idx → EReal) (ix2 i y) * (bo m c t : S1024x128.Idx → EReal) (ix2 i y))
    = (Cert.Attn.Dl q k v d (level m c) (headOf t.val (lt40 t)) (row t.val (lt40 t) i) : EReal) :=
  Cert.Reals.sum_eq _ _ _ fun y _ => by rw [bd_apply, bo_apply, hd m c H, ho m c H, EReal.coe_mul]

theorem lse_at (i : Fin 1024) : (line (bl m c t) : S1x1024.Idx → EReal) (ix2 0 i) = (Cert.Attn.L2 q k (level m c) (headOf t.val (lt40 t)) (row t.val (lt40 t) i) : EReal) := by
  rw [line_apply]
  refine (bl_apply m c t i).trans ?_
  rw [hl m c H]

/-- The weight of a visible key. -/
theorem weight_at (j i : Fin 1024) (hji : 1024 * colBlock t.val + j.val ≤ 1024 * rowBlock t.val + i.val) :
    Ideal.exp2 ((∑ y : Fin 128, (bk m c t : S1024x128.Idx → EReal) (ix2 j y) * (bq m c t : S1024x128.Idx → EReal) (ix2 i y)) - (line (bl m c t) : S1x1024.Idx → EReal) (ix2 0 i))
      = (Cert.Attn.P q k (level m c) (headOf t.val (lt40 t)) (row t.val (lt40 t) i) (key t.val (lt40 t) j) : EReal) := by
  rw [dot_q m c q k v d H, lse_at m c q k v d H, ← EReal.coe_sub, Ideal.exp2_coe]
  exact congrArg _ (Cert.Attn.weight q k (level m c) _ _ _ hji)

/-- The weight of a masked one. -/
theorem weight_masked (i : Fin 1024) : Ideal.exp2 (⊥ - (line (bl m c t) : S1x1024.Idx → EReal) (ix2 0 i)) = 0 := by
  rw [lse_at m c q k v d H, EReal.bot_sub]
  rfl

theorem seen (x : Fin 128) (j i : Fin 1024) (w : EReal) (hw : w = (Cert.Attn.P q k (level m c) (headOf t.val (lt40 t)) (row t.val (lt40 t) i) (key t.val (lt40 t) j) : EReal)) :
    (w * ((∑ y : Fin 128, (bv m c t : S1024x128.Idx → EReal) (ix2 j y) * (bd m c t : S1024x128.Idx → EReal) (ix2 i y))
          - ∑ y : Fin 128, (bd m c t : S1024x128.Idx → EReal) (ix2 i y) * (bo m c t : S1024x128.Idx → EReal) (ix2 i y)) : EReal) * (bq m c t : S1024x128.Idx → EReal) (ix2 i x)
    = (tm m c q k v d (headOf t.val (lt40 t)) (key t.val (lt40 t) j) x (rowBlock t.val) i : EReal) := by
  rw [hw, dot_v m c q k v d H, dot_o m c q k v d H, bq_apply, hq m c H, ← EReal.coe_sub, ← EReal.coe_mul, ← EReal.coe_mul]
  unfold tm
  rw [dif_pos (show 1024 * rowBlock t.val + i.val < 4096 from (row t.val (lt40 t) i).isLt)]
  rfl

theorem seenV (x : Fin 128) (j i : Fin 1024) (w : EReal) (hw : w = (Cert.Attn.P q k (level m c) (headOf t.val (lt40 t)) (row t.val (lt40 t) i) (key t.val (lt40 t) j) : EReal)) :
    w * (bd m c t : S1024x128.Idx → EReal) (ix2 i x) = (tv m c q k d (headOf t.val (lt40 t)) (key t.val (lt40 t) j) x (rowBlock t.val) i : EReal) := by
  rw [hw, bd_apply, hd m c H, ← EReal.coe_mul]
  unfold tv
  rw [dif_pos (show 1024 * rowBlock t.val + i.val < 4096 from (row t.val (lt40 t) i).isLt)]
  rfl

/-- A diagonal block's weight, masked or not. -/
theorem weight_diag (hd' : rowBlock t.val = colBlock t.val) (j i : Fin 1024) :
    Ideal.exp2 ((if j.val ≤ i.val then (∑ y : Fin 128, (bk m c t : S1024x128.Idx → EReal) (ix2 j y) * (bq m c t : S1024x128.Idx → EReal) (ix2 i y)) else ⊥) - (line (bl m c t) : S1x1024.Idx → EReal) (ix2 0 i))
      = (Cert.Attn.P q k (level m c) (headOf t.val (lt40 t)) (row t.val (lt40 t) i) (key t.val (lt40 t) j) : EReal) := by
  split
  · exact weight_at m c q k v d H t j i (by omega)
  · rw [weight_masked m c q k v d H, Cert.Attn.P_masked _ _ _ _ _ _ (by show ¬(1024 * colBlock t.val + j.val ≤ 1024 * rowBlock t.val + i.val); omega)]
    rfl

/-- One point adds its query block's contribution. -/
theorem step_apply (a : Vec Ideal S1024x128 .f32) (j : Fin 1024) (x : Fin 128) : (step m c t a : S1024x128.Idx → EReal) (ix2 j x)
    = ((if rowBlock t.val = colBlock t.val then k0_pay1 (F := Ideal) else a : Vec Ideal S1024x128 .f32) (ix2 j x) : EReal) + (part m c q k v d (headOf t.val (lt40 t)) (key t.val (lt40 t) j) x (rowBlock t.val) : EReal) := by
  have ho := (order ⟨t.val, lt40 t⟩).2.1
  dsimp only at ho
  unfold step
  split
  next hd' =>
    unfold diag
    rw [Cert.DkvIdeal.Block.pay4_apply]
    refine congrArg _ (Cert.Reals.sum_eq _ _ _ fun i _ => ?_)
    exact seen m c q k v d H t x j i _ (weight_diag m c q k v d H t hd' j i)
  next hd' =>
    unfold below
    rw [Cert.DkvIdeal.Block.pay3_pay9_apply]
    refine congrArg _ (Cert.Reals.sum_eq _ _ _ fun i _ => ?_)
    exact seen m c q k v d H t x j i _ (weight_at m c q k v d H t j i (by omega))

theorem stepV_apply (b : Vec Ideal S1024x128 .f32) (j : Fin 1024) (x : Fin 128) : (stepV m c t b : S1024x128.Idx → EReal) (ix2 j x)
    = ((if rowBlock t.val = colBlock t.val then k0_pay2 (F := Ideal) else b : Vec Ideal S1024x128 .f32) (ix2 j x) : EReal) + (partV m c q k d (headOf t.val (lt40 t)) (key t.val (lt40 t) j) x (rowBlock t.val) : EReal) := by
  have ho := (order ⟨t.val, lt40 t⟩).2.1
  dsimp only at ho
  unfold stepV
  split
  next hd' =>
    unfold diagV
    rw [Cert.DkvIdeal.Block.pay13_apply]
    refine congrArg _ (Cert.Reals.sum_eq _ _ _ fun i _ => ?_)
    exact seenV m c q k v d H t x j i _ (weight_diag m c q k v d H t hd' j i)
  next hd' =>
    unfold belowV
    rw [Cert.DkvIdeal.Block.pay8_apply]
    refine congrArg _ (Cert.Reals.sum_eq _ _ _ fun i _ => ?_)
    exact seenV m c q k v d H t x j i _ (weight_at m c q k v d H t j i (by omega))

end Point

/-- The keys' accumulator after a point: the contributions of the key block's query blocks so far. -/
theorem acc_apply (n : ℕ) (hn : n < 40) (r : Fin 1024) (x : Fin 128) : (accAt m c (n + 1) : S1024x128.Idx → EReal) (ix2 r x)
    = ((∑ s ∈ Finset.Ico (colBlock n) (rowBlock n + 1), part m c q k v d (headOf n hn) (key n hn r) x s : ℝ) : EReal) := by
  induction n with
  | zero =>
    refine (congrFun (accAt_succ m c (⟨0, hn⟩ : Fin (cfgA (F := Ideal)).N)) _).trans ?_
    rw [step_apply m c q k v d H]
    dsimp only
    rw [if_pos (by decide), pay1_apply, zero_add, show colBlock 0 = 0 by decide, show rowBlock 0 = 0 by decide, Nat.Ico_succ_singleton, Finset.sum_singleton]
  | succ n ih =>
    refine (congrFun (accAt_succ m c (⟨n + 1, hn⟩ : Fin (cfgA (F := Ideal)).N)) _).trans ?_
    rw [step_apply m c q k v d H]
    dsimp only
    by_cases h0 : rowBlock (n + 1) = colBlock (n + 1)
    · rw [if_pos h0, pay1_apply, zero_add, h0, Nat.Ico_succ_singleton, Finset.sum_singleton]
    · have ho := (order ⟨n + 1, hn⟩).2.1
      obtain ⟨-, e1, e2, e3⟩ := (order ⟨n + 1, hn⟩).2.2 h0
      simp only [Nat.add_sub_cancel] at e1 e2 e3 ho
      have er : key n (by omega) r = key (n + 1) hn r := Fin.ext (by simp only [key, e2])
      have eh : headOf n (by omega) = headOf (n + 1) hn := Fin.ext (by simpa only [headOf] using e3)
      rw [if_neg h0, ih (by omega), ← EReal.coe_add, Finset.sum_Ico_succ_top ho, ← e1, e2, er, eh]

/-- The values' one. -/
theorem bcc_apply (n : ℕ) (hn : n < 40) (r : Fin 1024) (x : Fin 128) : (bccAt m c (n + 1) : S1024x128.Idx → EReal) (ix2 r x)
    = ((∑ s ∈ Finset.Ico (colBlock n) (rowBlock n + 1), partV m c q k d (headOf n hn) (key n hn r) x s : ℝ) : EReal) := by
  induction n with
  | zero =>
    refine (congrFun (bccAt_succ m c (⟨0, hn⟩ : Fin (cfgA (F := Ideal)).N)) _).trans ?_
    rw [stepV_apply m c q k v d H]
    dsimp only
    rw [if_pos (by decide), pay2_apply, zero_add, show colBlock 0 = 0 by decide, show rowBlock 0 = 0 by decide, Nat.Ico_succ_singleton, Finset.sum_singleton]
  | succ n ih =>
    refine (congrFun (bccAt_succ m c (⟨n + 1, hn⟩ : Fin (cfgA (F := Ideal)).N)) _).trans ?_
    rw [stepV_apply m c q k v d H]
    dsimp only
    by_cases h0 : rowBlock (n + 1) = colBlock (n + 1)
    · rw [if_pos h0, pay2_apply, zero_add, h0, Nat.Ico_succ_singleton, Finset.sum_singleton]
    · have ho := (order ⟨n + 1, hn⟩).2.1
      obtain ⟨-, e1, e2, e3⟩ := (order ⟨n + 1, hn⟩).2.2 h0
      simp only [Nat.add_sub_cancel] at e1 e2 e3 ho
      have er : key n (by omega) r = key (n + 1) hn r := Fin.ext (by simp only [key, e2])
      have eh : headOf n (by omega) = headOf (n + 1) hn := Fin.ext (by simpa only [headOf] using e3)
      rw [if_neg h0, ih (by omega), ← EReal.coe_add, Finset.sum_Ico_succ_top ho, ← e1, e2, er, eh]

/-- What a key block's last pair leaves: the whole gradients. -/
theorem out_apply (n : ℕ) (hn : n < 40) (hl : rowBlock n = 3) (r : Fin 1024) (x : Fin 128) : (k0_pay5 (accAt m c (n + 1)) : S1024x128.Idx → EReal) (ix2 r x)
    = (Cert.Attn.dK q k v d (level m c) (key n hn r) (headOf n hn) x : EReal) := by
  rw [Cert.DkvIdeal.Block.pay5_apply, acc_apply m c q k v d H n hn, part_whole m c q k v d _ n hn hl, ← EReal.coe_mul]
  congr 1
  unfold Cert.Attn.dK Cert.Attn.q2
  rw [Finset.sum_mul, Finset.sum_mul]
  refine Finset.sum_congr rfl fun i _ => ?_
  have := Cert.Attn.log_two_ne
  field_simp

theorem outV_apply (n : ℕ) (hn : n < 40) (hl : rowBlock n = 3) (r : Fin 1024) (x : Fin 128) : (bccAt m c (n + 1) : S1024x128.Idx → EReal) (ix2 r x)
    = (Cert.Attn.dV q k d (level m c) (key n hn r) (headOf n hn) x : EReal) := by
  rw [bcc_apply m c q k v d H n hn, partV_whole m c q k d _ n hn hl]
  rfl

end Real

end Cert.DkvIdeal.Hand

end
-- ==== Proof.DkvRun.lean ====
/-
  Every run of the key- and value-gradient kernel ends with the written blocks in the results' array, the arguments as they were and
  every counter at zero.
-/
module

public import proofs.«01_k».proof.Proof.DkvFrame

@[expose] public section

noncomputable section

namespace Cert.DkvIdeal.Hand

open Cert.DkvIdeal Cert.DkvIdeal.Gen
open Idealize.ShloMosaic Idealize.ShloMosaic.TcCoe Idealize.ShloMosaic.Tactic Idealize.SL.Sem
open Idealize.ShloMosaic.Pipeline (Dat)

section Frame
variable {F : FTy → Type} [FloatOps F] [Named F]

open Idealize.ShloMosaic.StableHlo in
/-- The host code before the call changes no argument. -/
theorem V_arg (m : (ℓ : Loc nD τ sig) → Buf (Elt F) ℓ) (c : Dev nD) :
    V m c main_arg0 = m (c.tc.loc main_arg0) ∧ V m c main_arg1 = m (c.tc.loc main_arg1) ∧ V m c main_arg2 = m (c.tc.loc main_arg2) ∧ V m c main_arg3 = m (c.tc.loc main_arg3) := by
  unfold V
  refine ⟨?_, ?_, ?_, ?_⟩ <;>
    (simp only [host, hostOps0, hostOps0_1, hostOps0_2, List.flatten_cons, List.flatten_nil, List.append_nil, List.cons_append, List.nil_append, TRef.nullary, TRef.ternary, TRef.unary, TRef.toBuf, TRef.ofBuf, cast_eq]
     after_reads_simp <;> rfl)

/-- Every run ends with the results' blocks in their arrays, the arguments as they were and every counter at zero. -/
theorem run_result (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v41_0) = (dats m 0 c).arrAt (6 : Fin 8) (cfgA (F := F)).N
      ∧ r.2.mem ((c.tc : Thread nD τ).loc main_v41_1) = (dats m 0 c).arrAt (7 : Fin 8) (cfgA (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨(h.1 c).1 (6 : Fin 8), (h.1 c).1 (7 : Fin 8),
    ((h.1 c).2 main_arg0 (of_decide_eq_true (by sl_kernel_rfl))).trans (V_arg m c).1,
    ((h.1 c).2 main_arg1 (of_decide_eq_true (by sl_kernel_rfl))).trans (V_arg m c).2.1,
    ((h.1 c).2 main_arg2 (of_decide_eq_true (by sl_kernel_rfl))).trans (V_arg m c).2.2.1,
    ((h.1 c).1 (5 : Fin 8)).trans (((dats m 0 c).arrAt_in (5 : Fin 8) rfl _).trans (V_arg m c).2.2.2)⟩, h.2⟩) (run_main m ρ)

end Frame

end Cert.DkvIdeal.Hand

end
-- ==== Proof.DkvFinal.lean ====
/-
  The key- and value-gradient kernel's claims: every run ends, changes no argument, and leaves in its results the arrays the
  reference computes.
-/
module

public import proofs.«01_k».proof.Proof.DkvValue
public import proofs.«01_k».proof.Proof.Finite
public import proofs.«01_k».proof.Proof.Gen.DkvRefIdeal.Run
public import proofs.«01_k».proof.Proof.DkvRun
public import proofs.«01_k».proof.Proof.DkvBitsRun
public import proofs.«01_k».proof.Proof.Gen.Dkv
public import proofs.«01_k».proof.Defs

@[expose] public section

noncomputable section

namespace Cert.DkvIdeal.Hand

open Cert.DkvIdeal Cert.DkvIdeal.Gen
open Idealize.ShloMosaic Idealize.ShloMosaic.TcCoe Idealize.ShloMosaic.Tactic Idealize.SL.Sem
open Idealize.ShloMosaic.Pipeline (Dat)
open scoped BigOperators

theorem flush_6 : ∀ t : Fin (cfgA (F := Ideal)).N, (((cfgA (F := Ideal)).win (6 : Fin 8)).flush t = true ↔ rowBlock t.val = 3) :=
  of_decide_eq_true (by sl_kernel_rfl)
theorem flush_7 : ∀ t : Fin (cfgA (F := Ideal)).N, (((cfgA (F := Ideal)).win (7 : Fin 8)).flush t = true ↔ rowBlock t.val = 3) :=
  of_decide_eq_true (by sl_kernel_rfl)

theorem last : ∀ J h : Fin 4, ∃ t : Fin 40, rowBlock t.val = 3 ∧ colBlock t.val = J.val ∧ t.val / 10 = h.val := by decide

section Final
variable (m : (ℓ : Loc nD τ sig) → Buf (Elt Ideal) ℓ) (c : Dev nD)
variable {q k v d : Fin 4096 → Fin 4 → Fin 128 → ℝ}
variable (H : Cert.Attn.Holds (aQ m c) (aK m c) (aV m c) (aD m c) q k v d)

theorem mem_blk6 (t : Fin (cfgA (F := Ideal)).N) (i : S4096x512.Idx) :
    i ∈ (((cfgA (F := Ideal)).win (6 : Fin 8)).blk t).view.set ↔ ∀ a : Fin 2, ((cfgA (F := Ideal)).win (6 : Fin 8)).index t a * S1024x128.size a ≤ (i a).val ∧ (i a).val < ((cfgA (F := Ideal)).win (6 : Fin 8)).index t a * S1024x128.size a + S1024x128.size a := by
  show i ∈ ((View.whole main_v41_0).slice (((cfgA (F := Ideal)).win (6 : Fin 8)).rect t)).set ↔ _
  rw [View.set_slice_whole, Rect.mem_set_unit]
  exact Iff.rfl

theorem mem_blk7 (t : Fin (cfgA (F := Ideal)).N) (i : S4096x512.Idx) :
    i ∈ (((cfgA (F := Ideal)).win (7 : Fin 8)).blk t).view.set ↔ ∀ a : Fin 2, ((cfgA (F := Ideal)).win (7 : Fin 8)).index t a * S1024x128.size a ≤ (i a).val ∧ (i a).val < ((cfgA (F := Ideal)).win (7 : Fin 8)).index t a * S1024x128.size a + S1024x128.size a := by
  show i ∈ ((View.whole main_v41_1).slice (((cfgA (F := Ideal)).win (7 : Fin 8)).rect t)).set ↔ _
  rw [View.set_slice_whole, Rect.mem_set_unit]
  exact Iff.rfl

include H

/-- The keys' gradient's array after the run. -/
theorem final : (dats m 0 c).arrAt (6 : Fin 8) (cfgA (F := Ideal)).N
    = (Cert.Attn.gradK (aQ m c) (aK m c) (aV m c) (aD m c) : Buf (Elt Ideal) ((c : Thread nD τ).loc main_v41_0)) := by
  refine (dats m 0 c).arrAt_eq_of_cover (6 : Fin 8) _ (fun t hf => ?_) (fun i => ?_)
  · have hl := (flush_6 t).mp hf
    obtain ⟨-, -, -, -, -, -, ⟨e0, e1⟩, -⟩ := idx_facts t
    show ((cfgA (F := Ideal)).win (6 : Fin 8)).cut ((cfgA (F := Ideal)).grid.coords t) ((dats m 0 c).after (6 : Fin 8) t) = _
    funext y
    obtain ⟨r, x, rfl⟩ : ∃ (r : Fin 1024) (x : Fin 128), y = ix2 r x := ⟨y 0, y 1, ValueIdx.eq_ix2 y⟩
    refine (out_apply m c q k v d H t.val (lt40 t) hl r x).trans ?_
    refine (Cert.Attn.gradK_real H _ _ _).symm.trans ?_
    rw [View.read_apply]
    show Cert.Attn.gradK _ _ _ _ _ = Cert.Attn.gradK _ _ _ _ _
    congr 1
    funext a
    apply Fin.ext
    match a with
    | ⟨0, _⟩ => show 1024 * colBlock t.val + r.val = ((cfgA (F := Ideal)).win (6 : Fin 8)).index t (0 : Fin 2) * 1024 + 1 * r.val; rw [e0]; omega
    | ⟨1, _⟩ => show t.val / 10 * 128 + x.val = ((cfgA (F := Ideal)).win (6 : Fin 8)).index t (1 : Fin 2) * 128 + 1 * x.val; rw [e1]; omega
  · have h0 : (i 0).val < 4096 := (i 0).isLt
    have h1 : (i 1).val < 512 := (i 1).isLt
    obtain ⟨t, ht, hc, hh⟩ := last ⟨(i 0).val / 1024, by omega⟩ ⟨(i 1).val / 128, by omega⟩
    dsimp only at ht hc hh
    refine ⟨t, (flush_6 t).mpr ht, (mem_blk6 t i).2 fun a => ?_⟩
    obtain ⟨-, -, -, -, -, -, ⟨e0, e1⟩, -⟩ := idx_facts t
    match a with
    | ⟨0, _⟩ =>
      show ((cfgA (F := Ideal)).win (6 : Fin 8)).index t (0 : Fin 2) * 1024 ≤ (i 0).val ∧ (i 0).val < ((cfgA (F := Ideal)).win (6 : Fin 8)).index t (0 : Fin 2) * 1024 + 1024
      rw [e0, hc]; omega
    | ⟨1, _⟩ =>
      show ((cfgA (F := Ideal)).win (6 : Fin 8)).index t (1 : Fin 2) * 128 ≤ (i 1).val ∧ (i 1).val < ((cfgA (F := Ideal)).win (6 : Fin 8)).index t (1 : Fin 2) * 128 + 128
      rw [e1, hh]; omega

/-- The values' gradient's array after the run. -/
theorem finalV : (dats m 0 c).arrAt (7 : Fin 8) (cfgA (F := Ideal)).N
    = (Cert.Attn.gradV (aQ m c) (aK m c) (aD m c) : Buf (Elt Ideal) ((c : Thread nD τ).loc main_v41_1)) := by
  refine (dats m 0 c).arrAt_eq_of_cover (7 : Fin 8) _ (fun t hf => ?_) (fun i => ?_)
  · have hl := (flush_7 t).mp hf
    obtain ⟨-, -, -, -, -, -, -, e0, e1⟩ := idx_facts t
    show ((cfgA (F := Ideal)).win (7 : Fin 8)).cut ((cfgA (F := Ideal)).grid.coords t) ((dats m 0 c).after (7 : Fin 8) t) = _
    funext y
    obtain ⟨r, x, rfl⟩ : ∃ (r : Fin 1024) (x : Fin 128), y = ix2 r x := ⟨y 0, y 1, ValueIdx.eq_ix2 y⟩
    refine (outV_apply m c q k v d H t.val (lt40 t) hl r x).trans ?_
    refine (Cert.Attn.gradV_real H _ _ _).symm.trans ?_
    rw [View.read_apply]
    show Cert.Attn.gradV _ _ _ _ = Cert.Attn.gradV _ _ _ _
    congr 1
    funext a
    apply Fin.ext
    match a with
    | ⟨0, _⟩ => show 1024 * colBlock t.val + r.val = ((cfgA (F := Ideal)).win (7 : Fin 8)).index t (0 : Fin 2) * 1024 + 1 * r.val; rw [e0]; omega
    | ⟨1, _⟩ => show t.val / 10 * 128 + x.val = ((cfgA (F := Ideal)).win (7 : Fin 8)).index t (1 : Fin 2) * 128 + 1 * x.val; rw [e1]; omega
  · have h0 : (i 0).val < 4096 := (i 0).isLt
    have h1 : (i 1).val < 512 := (i 1).isLt
    obtain ⟨t, ht, hc, hh⟩ := last ⟨(i 0).val / 1024, by omega⟩ ⟨(i 1).val / 128, by omega⟩
    dsimp only at ht hc hh
    refine ⟨t, (flush_7 t).mpr ht, (mem_blk7 t i).2 fun a => ?_⟩
    obtain ⟨-, -, -, -, -, -, -, e0, e1⟩ := idx_facts t
    match a with
    | ⟨0, _⟩ =>
      show ((cfgA (F := Ideal)).win (7 : Fin 8)).index t (0 : Fin 2) * 1024 ≤ (i 0).val ∧ (i 0).val < ((cfgA (F := Ideal)).win (7 : Fin 8)).index t (0 : Fin 2) * 1024 + 1024
      rw [e0, hc]; omega
    | ⟨1, _⟩ =>
      show ((cfgA (F := Ideal)).win (7 : Fin 8)).index t (1 : Fin 2) * 128 ≤ (i 1).val ∧ (i 1).val < ((cfgA (F := Ideal)).win (7 : Fin 8)).index t (1 : Fin 2) * 128 + 128
      rw [e1, hh]; omega

end Final

/-- The precondition gives real arrays. -/
theorem holds [Cert.Pre_finite.Facts] (m : (ℓ : Loc nD τ sig) → Buf (Elt Ideal) ℓ) (h : Cert.Pre_DkvIdeal_finite m) (c : Dev nD) :
    Cert.Attn.Holds (aQ m c) (aK m c) (aV m c) (aD m c)
      (fun i h x => ((aQ m c) (ix2 i (Cert.Attn.col h x))).toReal) (fun i h x => ((aK m c) (ix2 i (Cert.Attn.col h x))).toReal)
      (fun i h x => ((aV m c) (ix2 i (Cert.Attn.col h x))).toReal) (fun i h x => ((aD m c) (ix2 i (Cert.Attn.dcol h x))).toReal) where
  q i h' x := have e := (Cert.Pre_finite.entries _ _ _ _ (h c) i (Cert.Attn.col h' x)).1; Cert.Reals.coe_of_abs_lt e.1 e.2
  k i h' x := have e := (Cert.Pre_finite.entries _ _ _ _ (h c) i (Cert.Attn.col h' x)).2.1; Cert.Reals.coe_of_abs_lt e.1 e.2
  v i h' x := have e := (Cert.Pre_finite.entries _ _ _ _ (h c) i (Cert.Attn.col h' x)).2.2.1; Cert.Reals.coe_of_abs_lt e.1 e.2
  d i h' x := have e := (Cert.Pre_finite.entries _ _ _ _ (h c) i (Cert.Attn.col h' x)).2.2.2; Cert.Reals.coe_of_abs_lt e.1 e.2

end Cert.DkvIdeal.Hand

namespace Cert.Proof

open Idealize.ShloMosaic Idealize.ShloMosaic.TcCoe Idealize.SL.Sem

theorem frame_Dkv : Cert.quiescent_Dkv := fun m ρ _ =>
  (θ_run Cert.Dkv.defs _ _).mono (fun _ h => ⟨fun c => (h.1 c).2.2, h.2⟩) (Cert.Dkv.Hand.run_result (F := Bits) m ρ)

theorem frame_DkvIdeal : Cert.quiescent_DkvIdeal := fun m ρ _ =>
  (θ_run Cert.DkvIdeal.defs _ _).mono (fun _ h => ⟨fun c => (h.1 c).2.2, h.2⟩) (Cert.DkvIdeal.Hand.run_result (F := Ideal) m ρ)

theorem frame_DkvRef : Cert.quiescent_DkvRefIdeal := fun m ρ _ =>
  (θ_run Cert.DkvRefIdeal.defs _ _).mono (fun r h => ⟨fun c => (h c).2.2, Idealize.ShloMosaic.sem_eq_zero_of_no_sems (by decide) r.2⟩)
    (Cert.DkvRefIdeal.Value.run (F := Ideal) m ρ)

/-- The two gradients, as the reference's lines compose them. -/
theorem res_gradK (m : (ℓ : Loc Cert.DkvRefIdeal.nD Cert.DkvRefIdeal.τ Cert.DkvRefIdeal.sig) → Buf (Elt Ideal) ℓ) (c : Dev Cert.DkvRefIdeal.nD) :
    Cert.DkvRefIdeal.Value.res_out0 m c
      = Cert.Attn.gradK (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1))
          (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3)) := rfl

theorem res_gradV (m : (ℓ : Loc Cert.DkvRefIdeal.nD Cert.DkvRefIdeal.τ Cert.DkvRefIdeal.sig) → Buf (Elt Ideal) ℓ) (c : Dev Cert.DkvRefIdeal.nD) :
    Cert.DkvRefIdeal.Value.res_out1 m c
      = Cert.Attn.gradV (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1))
          (m ((c.tc : Thread Cert.DkvRefIdeal.nD Cert.DkvRefIdeal.τ).loc Cert.DkvRefIdeal.main_arg3)) := rfl

theorem algebraic_Dkv [Cert.Pre_finite.Facts] : Cert.algebraic_DkvIdeal_DkvRefIdeal_pre_finite := by
  intro m ρ m' ρ' hpre hagree
  refine ⟨fun c => Cert.Attn.gradK (Cert.DkvIdeal.Hand.aQ m c) (Cert.DkvIdeal.Hand.aK m c) (Cert.DkvIdeal.Hand.aV m c) (Cert.DkvIdeal.Hand.aD m c),
    fun c => Cert.Attn.gradV (Cert.DkvIdeal.Hand.aQ m c) (Cert.DkvIdeal.Hand.aK m c) (Cert.DkvIdeal.Hand.aD m c),
    (θ_run Cert.DkvIdeal.defs _ _).mono (fun _ h c => ⟨(h.1 c).1.trans (Cert.DkvIdeal.Hand.final m c (Cert.DkvIdeal.Hand.holds m hpre c)),
      (h.1 c).2.1.trans (Cert.DkvIdeal.Hand.finalV m c (Cert.DkvIdeal.Hand.holds m hpre c)), (h.1 c).2.2⟩) (Cert.DkvIdeal.Hand.run_result (F := Ideal) m ρ), ?_⟩
  refine (θ_run Cert.DkvRefIdeal.defs _ _).mono (fun _ h c => ⟨(h c).1.trans ?_, (h c).2.1.trans ?_, (h c).2.2⟩) (Cert.DkvRefIdeal.Value.run (F := Ideal) m' ρ')
  · obtain ⟨e0, e1, e2, e3⟩ := hagree c
    refine (res_gradK m' c).trans ?_
    rw [e0, e1, e2, e3]
  · obtain ⟨e0, e1, e2, e3⟩ := hagree c
    refine (res_gradV m' c).trans ?_
    rw [e0, e1, e3]

end Cert.Proof

end
-- ==== Proof.Tiles.lean ====
/-
  Arrays of extended reals read at natural-number coordinates: the tiles of a blocked product are stated with them.
-/
module

public import proofs.«01_k».proof.Defs
public import Idealize.ShloMosaic.Lib.Pointwise

@[expose] public section

noncomputable section

open Idealize.ShloMosaic

namespace Cert.Tiles

/-- An array read at natural-number coordinates, zero outside it. -/
def at2 {m n : ℕ} (f : (⟨2, ![m, n]⟩ : Shape).Idx → EReal) (r s : ℕ) : EReal :=
  if h : r < m ∧ s < n then f (ix2 ⟨r, h.1⟩ ⟨s, h.2⟩) else 0

theorem offsets_zero : (![0, 0] : Fin 2 → Nat) = fun _ => 0 := funext fun a => by fin_cases a <;> rfl

end Cert.Tiles

end
-- ==== Proof.Dh2.lean ====
/-
  The gradient of the first feed-forward product's argument, `dup · w_up` (the weight held transposed): the kernel walks the 5632 positions
  it contracts in four tiles of 1408, holding the partial sums of a [1024, 1024] block in a scratch and writing the block back
  after the last; the reference contracts them in one product. Ideal addition is commutative and associative on all extended
  reals, so the two sums are the same.
-/
module

public import proofs.«01_k».proof.Defs
public import proofs.«01_k».proof.Proof.Sums
public import proofs.«01_k».proof.Proof.Tiles
public import proofs.«01_k».proof.Proof.Gen.Dh2Ideal.Value
public import proofs.«01_k».proof.Proof.Gen.Dh2RefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Dh2Ideal.Product

open Cert.Dh2Ideal Cert.Dh2Ideal.Gen Cert.Dh2Ideal.Value
open Cert.Tiles (at2 offsets_zero)

section Cases
variable {F : FTy → Type} [FloatOps F]
variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1024x1024 .f32) (h6 : a6.IsWhole)
  (x : Vec F S1024x1408 .bf16) (y : Vec F S1408x1024 .bf16) (s : Vec F S1024x1024 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero offsets_zero]
  unfold k0_pay2
  simp only [View.readAt_eq_ld, h3.read_unread, h4.read_unread, View.ld_unit_zero (S := S1024x1408) offsets_zero,
    View.ld_unit_zero (S := S1408x1024) offsets_zero, shapeCast_self]

/-- A later tile: the scratch ends at what it held plus the tile's product. -/
theorem sout_B (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero offsets_zero]
  unfold k0_pay3
  simp only [View.readAt_eq_ld, h3.read_unread, h4.read_unread, h6.read_unread, View.ld_unit_zero (S := S1024x1408) offsets_zero,
    View.ld_unit_zero (S := S1408x1024) offsets_zero, View.ld_unit_zero (S := S1024x1024) offsets_zero, shapeCast_self]

/-- The last tile: the scratch likewise, … -/
theorem sout_C (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero offsets_zero]
  unfold k0_pay3
  simp only [View.readAt_eq_ld, h3.read_unread, h4.read_unread, h6.read_unread, View.ld_unit_zero (S := S1024x1408) offsets_zero,
    View.ld_unit_zero (S := S1408x1024) offsets_zero, View.ld_unit_zero (S := S1024x1024) offsets_zero, shapeCast_self]

/-- … and the block written back is the scratch. -/
theorem out_C (hc0 : ¬cond0_0 i) (hc1 : cond0_1 i) (hc2 : cond0_2 i) :
    out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S1024x1408) offsets_zero,
    View.ld_unit_zero (S := S1408x1024) offsets_zero, View.ld_unit_zero (S := S1024x1024) offsets_zero, shapeCast_self]

end Cases

variable (m : (ℓ : Loc nD τ sig) → Buf (Elt Ideal) ℓ) (c : Dev nD)

/-- The two arguments, as arrays of extended reals. -/
abbrev A : S4096x5632.Idx → Elt Ideal .bf16 := m ((c : Thread nD τ).loc main_arg0)
abbrev B : S5632x1024.Idx → Elt Ideal .bf16 := m ((c : Thread nD τ).loc main_arg1)

theorem idx_facts : ∀ t : Fin cfg0.N, win0_0.index t (0 : Fin 2) = (t.val / 4) ∧ win0_0.index t (1 : Fin 2) = (t.val % 4)
    ∧ win0_1.index t (0 : Fin 2) = (t.val % 4) ∧ win0_1.index t (1 : Fin 2) = 0
    ∧ win0_2.index t (0 : Fin 2) = (t.val / 4) ∧ win0_2.index t (1 : Fin 2) = 0 :=
  (by decide +kernel : ∀ t : Fin grid0.N, _)

theorem blkA (t : Fin cfg0.N) (r : Fin 1024) (s : Fin 1408) :
    (iblk m c 0 t : Vec Ideal S1024x1408 .bf16) (ix2 r s)
      = at2 (m := 4096) (n := 5632) (A m c) (1024 * (t.val / 4) + r.val) (1408 * (t.val % 4) + s.val) := by
  have hN : t.val < 16 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 4) + r.val; rw [e0]; omega
  | ⟨1, _⟩ => show win0_0.index t 1 * 1408 + 1 * s.val = 1408 * (t.val % 4) + s.val; rw [e1]; omega

theorem blkB (t : Fin cfg0.N) (r : Fin 1408) (s : Fin 1024) :
    (iblk m c 1 t : Vec Ideal S1408x1024 .bf16) (ix2 r s)
      = at2 (m := 5632) (n := 1024) (B m c) (1408 * (t.val % 4) + r.val) (s.val) := by
  have hN : t.val < 16 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1408 + 1 * r.val = 1408 * (t.val % 4) + r.val; rw [e0]; omega
  | ⟨1, _⟩ => show win0_1.index t 1 * 1024 + 1 * s.val = s.val; rw [e1]; omega

/-- A tile's product at an index: the sum over the tile's 1408 positions. -/
theorem pay1_apply (x : Vec Ideal S1024x1408 .bf16) (y : Vec Ideal S1408x1024 .bf16) (r : Fin 1024) (s : Fin 1024) :
    (k0_pay1 x y : S1024x1024.Idx → EReal) (ix2 r s) = ∑ k : Fin 1408, (x (ix2 r k) : EReal) * y (ix2 k s) := by
  unfold k0_pay1
  pointwise

/-- The product the block `t / 4` receives from tile `t % 4`, at an index. -/
def part (n : ℕ) (j : S1024x1024.Idx) : EReal :=
  ∑ k : Fin 1408, at2 (m := 4096) (n := 5632) (A m c) (1024 * (n / 4) + (j 0).val) (1408 * (n % 4) + k.val)
    * at2 (m := 5632) (n := 1024) (B m c) (1408 * (n % 4) + k.val) (j 1).val

theorem pay1_blk (t : Fin cfg0.N) (j : S1024x1024.Idx) :
    (k0_pay1 (iblk m c 0 t) (iblk m c 1 t) : S1024x1024.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S1024x1024.Idx) :
    ((outsAt0 m c t.val t.isLt).2 : S1024x1024.Idx → EReal) j = ∑ s ∈ Finset.range (t.val % 4 + 1), part m c (4 * (t.val / 4) + s) j := by
  have hN : t.val < 16 := lt_of_lt_of_eq t.isLt N_0
  rw [soutsAt0_0_eq]
  refine (Pipeline.accAt_add_apply (ι := S1024x1024.Idx) (β := EReal) _ _ (fun _ => 0) (part m c) (4 * (t.val / 4)) 3 ?_ ?_ (t.val % 4) (by omega) _ j).trans (by rw [zero_add])
  · intro h i
    have h0 : 4 * (t.val / 4) % 4 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_C]; exact congrArg (acc i + ·) (pay1_blk m c ⟨_, h⟩ i)
    · rw [sout_B]; exact congrArg (acc i + ·) (pay1_blk m c ⟨_, h⟩ i)

/-- What a block's last point leaves in the output's buffer: the sum over all four tiles. -/
theorem out_apply (t : Fin cfg0.N) (ht : t.val % 4 = 3) (j : S1024x1024.Idx) :
    ((outsAt0 m c t.val t.isLt).1 : S1024x1024.Idx → EReal) j = ∑ s ∈ Finset.range 4, part m c (4 * (t.val / 4) + s) j := by
  have e : (outsAt0 m c t.val t.isLt).1 = (outsAt0 m c t.val t.isLt).2 := by
    rw [outsAt0_C m c t (by omega) (by omega) ht]
    dsimp only
    rw [out_C, sout_C]
  rw [e]
  have := scratch_apply m c t j
  rw [ht] at this
  exact this

/-- The result array. -/
def result : S4096x1024.Idx → EReal := fun i =>
  ∑ k : Fin 5632, A m c (ix2 (i 0) k) * B m c (ix2 k (i 1))

theorem total (q : ℕ) (hq : q < 4) (j : S1024x1024.Idx) (i : S4096x1024.Idx) (h0 : (i 0).val = 1024 * q + (j 0).val) (h1 : (i 1).val = (j 1).val) :
    ∑ s ∈ Finset.range 4, part m c (4 * q + s) j = result m c i := by
  unfold result
  refine (Finset.sum_congr rfl fun s hs => ?_).trans (Cert.Sums.sum_runs_range (a := 4) (b := 1408) rfl _
    (fun s k => at2 (m := 4096) (n := 5632) (A m c) ((i 0).val) (1408 * s + k.val) * at2 (m := 5632) (n := 1024) (B m c) (1408 * s + k.val) (i 1).val) ?_)
  · have hs : s < 4 := Finset.mem_range.mp hs
    unfold part
    rw [show (4 * q + s) % 4 = s from by omega, show (4 * q + s) / 4 = q from by omega, h0, h1]
  · intro s k hs _
    have hi0 : (i 0).val < 4096 := (i 0).isLt
    have hi1 : (i 1).val < 1024 := (i 1).isLt
    unfold at2
    rw [dif_pos ⟨hi0, hs⟩, dif_pos ⟨hs, hi1⟩]
    rfl

attribute [local irreducible] result in
/-- The result array after the run: each block is written back once, after its last tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 4096 := (i 0).isLt; have h1 : (i 1).val < 1024 := (i 1).isLt; omega))
  have hm : t.val % 4 = 3 := (flush0_2 t).mp hf
  have hN : t.val < 16 := lt_of_lt_of_eq t.isLt N_0
  obtain ⟨-, -, -, -, e0, e1⟩ := idx_facts t
  rw [flushed2]
  funext y
  refine (out_apply m c t hm _).trans (total m c (t.val / 4) (by omega) _ (((cfg0.win 2).blk t).view.emb y) ?_ ?_)
  · show win0_2.index t (0 : Fin 2) * 1024 + 1 * (y 0).val = 1024 * (t.val / 4) + (y 0).val
    rw [e0]; omega
  · show win0_2.index t (1 : Fin 2) * 1024 + 1 * (y 1).val = (y 1).val
    rw [e1]; omega

end Cert.Dh2Ideal.Product

namespace Cert.Proof

theorem algebraic_Dh2 : Cert.algebraic_Dh2Ideal_Dh2RefIdeal := by
  intro m ρ m' ρ' _ hagree
  refine ⟨fun c => Cert.Dh2Ideal.Product.result m c, (θ_run Cert.Dh2Ideal.defs _ _).mono (fun _ h c => ⟨(h c).1.trans (Cert.Dh2Ideal.Product.final m c), (h c).2⟩) (Cert.Dh2Ideal.Value.run_blocks (F := Ideal) m ρ), ?_⟩
  refine (θ_run Cert.Dh2RefIdeal.defs _ _).mono (fun _ h c => ⟨(h c).1.trans ?_, (h c).2⟩) (Cert.Dh2RefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.Dh2Ideal.Product.result
  pointwise

theorem frame_Dh2Ref : Cert.quiescent_Dh2RefIdeal := fun m ρ _ =>
  (θ_run Cert.Dh2RefIdeal.defs _ _).mono (fun r h => ⟨fun c => (h c).2, Idealize.ShloMosaic.sem_eq_zero_of_no_sems (by decide) r.2⟩)
    (Cert.Dh2RefIdeal.Value.run (F := Ideal) m ρ)

end Cert.Proof

end
-- ==== Proof.Dact.lean ====
/-
  The gradient of the second feed-forward product's argument, `df · w_downᵀ`: the kernel computes it block by block, a [2048, 1408] block
  of the result at a time, each from whole rows; the reference in one product.
-/
module

public import proofs.«01_k».proof.Defs
public import proofs.«01_k».proof.Proof.Sums
public import proofs.«01_k».proof.Proof.Tiles
public import proofs.«01_k».proof.Proof.Gen.DactIdeal.Value
public import proofs.«01_k».proof.Proof.Gen.DactRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DactIdeal.Product

open Cert.DactIdeal Cert.DactIdeal.Gen Cert.DactIdeal.Value
open Cert.Tiles (at2 offsets_zero)

/-- What a point writes back: its blocks' product. -/
theorem out_eq {F : FTy → Type} [FloatOps F] (x : Vec F S2048x1024 .bf16) (y : Vec F S1408x1024 .bf16) : out0_2 x y = k0_pay1 x y := by
  unfold out0_2
  rw [View.canon_unit_zero offsets_zero, View.ld_unit_zero (S := S2048x1024) offsets_zero, View.ld_unit_zero (S := S1408x1024) offsets_zero]

variable (m : (ℓ : Loc nD τ sig) → Buf (Elt Ideal) ℓ) (c : Dev nD)

/-- The two arguments, as arrays of extended reals. -/
abbrev A : S4096x1024.Idx → Elt Ideal .bf16 := m ((c : Thread nD τ).loc main_arg0)
abbrev B : S2816x1024.Idx → Elt Ideal .bf16 := m ((c : Thread nD τ).loc main_arg1)

theorem idx_facts : ∀ t : Fin cfg0.N, win0_0.index t (0 : Fin 2) = (t.val / 2) ∧ win0_0.index t (1 : Fin 2) = 0
    ∧ win0_1.index t (0 : Fin 2) = (t.val % 2) ∧ win0_1.index t (1 : Fin 2) = 0
    ∧ win0_2.index t (0 : Fin 2) = (t.val / 2) ∧ win0_2.index t (1 : Fin 2) = (t.val % 2) :=
  (by decide +kernel : ∀ t : Fin grid0.N, _)

theorem blkA (t : Fin cfg0.N) (r : Fin 2048) (s : Fin 1024) :
    (iblk m c 0 t : Vec Ideal S2048x1024 .bf16) (ix2 r s)
      = at2 (m := 4096) (n := 1024) (A m c) (2048 * (t.val / 2) + r.val) (s.val) := by
  have hN : t.val < 4 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * (t.val / 2) + r.val; rw [e0]; omega
  | ⟨1, _⟩ => show win0_0.index t 1 * 1024 + 1 * s.val = s.val; rw [e1]; omega

theorem blkB (t : Fin cfg0.N) (r : Fin 1408) (s : Fin 1024) :
    (iblk m c 1 t : Vec Ideal S1408x1024 .bf16) (ix2 r s)
      = at2 (m := 2816) (n := 1024) (B m c) (1408 * (t.val % 2) + r.val) (s.val) := by
  have hN : t.val < 4 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1408 + 1 * r.val = 1408 * (t.val % 2) + r.val; rw [e0]; omega
  | ⟨1, _⟩ => show win0_1.index t 1 * 1024 + 1 * s.val = s.val; rw [e1]; omega

/-- A tile's product at an index: the sum over the tile's 1024 positions. -/
theorem pay1_apply (x : Vec Ideal S2048x1024 .bf16) (y : Vec Ideal S1408x1024 .bf16) (r : Fin 2048) (s : Fin 1408) :
    (k0_pay1 x y : S2048x1408.Idx → EReal) (ix2 r s) = ∑ k : Fin 1024, (x (ix2 r k) : EReal) * y (ix2 s k) := by
  unfold k0_pay1
  pointwise

/-- The result array. -/
def result : S4096x2816.Idx → EReal := fun i =>
  ∑ k : Fin 1024, A m c (ix2 (i 0) k) * B m c (ix2 (i 1) k)

/-- Every index of the result is in the block some point writes back. -/
theorem covered (i : S4096x2816.Idx) : ∃ t : Fin cfg0.N, (cfg0.win 2).flush t = true ∧ i ∈ ((cfg0.win 2).blk t).view.set := by
  have h0 : (i 0).val < 4096 := (i 0).isLt
  have h1 : (i 1).val < 2816 := (i 1).isLt
  obtain ⟨t, ht⟩ : ∃ t : Fin cfg0.N, t.val = 2 * ((i 0).val / 2048) + (i 1).val / 1408 :=
    ⟨⟨2 * ((i 0).val / 2048) + (i 1).val / 1408, lt_of_lt_of_eq (by omega) N_0.symm⟩, rfl⟩
  obtain ⟨-, -, -, -, e0, e1⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 1408 ≤ (i 1).val ∧ (i 1).val < win0_2.index t (1 : Fin 2) * 1408 + 1408
    rw [e1]; omega

/-- A point's product at an index is the result's entry there. -/
theorem total (t : Fin cfg0.N) (r : Fin 2048) (s : Fin 1408) (i : S4096x2816.Idx) (h0 : (i 0).val = 2048 * (t.val / 2) + r.val) (h1 : (i 1).val = 1408 * (t.val % 2) + s.val) :
    (k0_pay1 (iblk m c 0 t) (iblk m c 1 t) : S2048x1408.Idx → EReal) (ix2 r s) = result m c i := by
  have hi0 : (i 0).val < 4096 := (i 0).isLt
  have hi1 : (i 1).val < 2816 := (i 1).isLt
  rw [pay1_apply]
  unfold result
  refine Finset.sum_congr rfl fun k _ => ?_
  rw [blkA, blkB, ← h0, ← h1]
  unfold at2
  rw [dif_pos ⟨hi0, k.isLt⟩, dif_pos ⟨hi1, k.isLt⟩]
  rfl

/-- The result array after the run: each point writes its block back. -/
theorem final : (dats m 0 c).arrAt 2 cfg0.N = (result m c : Buf (Elt Ideal) ((c : Thread nD τ).loc main_v0)) := by
  refine (dats m 0 c).arrAt_eq_of_cover 2 _ (fun t _ => ?_) covered
  obtain ⟨-, -, -, -, e0, e1⟩ := idx_facts t
  rw [flushed2, out_eq]
  funext y
  obtain ⟨r, s, rfl⟩ : ∃ (r : Fin 2048) (s : Fin 1408), y = ix2 r s := ⟨y 0, y 1, ValueIdx.eq_ix2 y⟩
  refine total m c t r s (((cfg0.win 2).blk t).view.emb (ix2 r s)) ?_ ?_
  · show win0_2.index t (0 : Fin 2) * 2048 + 1 * r.val = 2048 * (t.val / 2) + r.val
    rw [e0]; omega
  · show win0_2.index t (1 : Fin 2) * 1408 + 1 * s.val = 1408 * (t.val % 2) + s.val
    rw [e1]; omega

end Cert.DactIdeal.Product

namespace Cert.Proof

theorem algebraic_Dact : Cert.algebraic_DactIdeal_DactRefIdeal := by
  intro m ρ m' ρ' _ hagree
  refine ⟨fun c => Cert.DactIdeal.Product.result m c, (θ_run Cert.DactIdeal.defs _ _).mono (fun _ h c => ⟨(h c).1.trans (Cert.DactIdeal.Product.final m c), (h c).2⟩) (Cert.DactIdeal.Value.run_blocks (F := Ideal) m ρ), ?_⟩
  refine (θ_run Cert.DactRefIdeal.defs _ _).mono (fun _ h c => ⟨(h c).1.trans ?_, (h c).2⟩) (Cert.DactRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DactIdeal.Product.result
  pointwise

theorem frame_DactRef : Cert.quiescent_DactRefIdeal := fun m ρ _ =>
  (θ_run Cert.DactRefIdeal.defs _ _).mono (fun r h => ⟨fun c => (h c).2, Idealize.ShloMosaic.sem_eq_zero_of_no_sems (by decide) r.2⟩)
    (Cert.DactRefIdeal.Value.run (F := Ideal) m ρ)

end Cert.Proof

end
-- ==== Proof.DwDown.lean ====
/-
  The gradient of the weight of the second feed-forward product, `actᵀ · df`: the kernel walks the 4096 positions
  it contracts in four tiles of 1024, holding the partial sums of a [1408, 1024] block in a scratch and writing the block back
  after the last; the reference contracts them in one product. Ideal addition is commutative and associative on all extended
  reals, so the two sums are the same.
-/
module

public import proofs.«01_k».proof.Defs
public import proofs.«01_k».proof.Proof.Sums
public import proofs.«01_k».proof.Proof.Tiles
public import proofs.«01_k».proof.Proof.Gen.DwDownIdeal.Value
public import proofs.«01_k».proof.Proof.Gen.DwDownRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DwDownIdeal.Product

open Cert.DwDownIdeal Cert.DwDownIdeal.Gen Cert.DwDownIdeal.Value
open Cert.Tiles (at2 offsets_zero)

section Cases
variable {F : FTy → Type} [FloatOps F]
variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .bf16) (h5 : a5.IsWhole)
  (a6 : Memref sig .tc .vmem S1408x1024 .f32) (h6 : a6.IsWhole)
  (x : Vec F S1024x1408 .bf16) (y : Vec F S1024x1024 .bf16) (s : Vec F S1408x1024 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero offsets_zero]
  unfold k0_pay2
  simp only [View.readAt_eq_ld, h3.read_unread, h4.read_unread, View.ld_unit_zero (S := S1024x1408) offsets_zero,
    View.ld_unit_zero (S := S1024x1024) offsets_zero, shapeCast_self]

/-- A later tile: the scratch ends at what it held plus the tile's product. -/
theorem sout_B (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero offsets_zero]
  unfold k0_pay3
  simp only [View.readAt_eq_ld, h3.read_unread, h4.read_unread, h6.read_unread, View.ld_unit_zero (S := S1024x1408) offsets_zero,
    View.ld_unit_zero (S := S1024x1024) offsets_zero, View.ld_unit_zero (S := S1408x1024) offsets_zero, shapeCast_self]

/-- The last tile: the scratch likewise, … -/
theorem sout_C (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero offsets_zero]
  unfold k0_pay3
  simp only [View.readAt_eq_ld, h3.read_unread, h4.read_unread, h6.read_unread, View.ld_unit_zero (S := S1024x1408) offsets_zero,
    View.ld_unit_zero (S := S1024x1024) offsets_zero, View.ld_unit_zero (S := S1408x1024) offsets_zero, shapeCast_self]

/-- … and the block written back is the scratch, rounded. -/
theorem out_C (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero offsets_zero, View.readCov_unit_zero (S := S1408x1024) _ offsets_zero]
  unfold k0_pay3
  simp only [View.readAt_eq_ld, h3.read_unread, h4.read_unread, h6.read_unread, View.ld_unit_zero (S := S1024x1408) offsets_zero,
    View.ld_unit_zero (S := S1024x1024) offsets_zero, View.ld_unit_zero (S := S1408x1024) offsets_zero, shapeCast_self]

end Cases

variable (m : (ℓ : Loc nD τ sig) → Buf (Elt Ideal) ℓ) (c : Dev nD)

/-- The two arguments, as arrays of extended reals. -/
abbrev A : S4096x2816.Idx → Elt Ideal .bf16 := m ((c : Thread nD τ).loc main_arg0)
abbrev B : S4096x1024.Idx → Elt Ideal .bf16 := m ((c : Thread nD τ).loc main_arg1)

theorem idx_facts : ∀ t : Fin cfg0.N, win0_0.index t (0 : Fin 2) = (t.val % 4) ∧ win0_0.index t (1 : Fin 2) = (t.val / 4)
    ∧ win0_1.index t (0 : Fin 2) = (t.val % 4) ∧ win0_1.index t (1 : Fin 2) = 0
    ∧ win0_2.index t (0 : Fin 2) = (t.val / 4) ∧ win0_2.index t (1 : Fin 2) = 0 :=
  (by decide +kernel : ∀ t : Fin grid0.N, _)

theorem blkA (t : Fin cfg0.N) (r : Fin 1024) (s : Fin 1408) :
    (iblk m c 0 t : Vec Ideal S1024x1408 .bf16) (ix2 r s)
      = at2 (m := 4096) (n := 2816) (A m c) (1024 * (t.val % 4) + r.val) (1408 * (t.val / 4) + s.val) := by
  have hN : t.val < 8 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val % 4) + r.val; rw [e0]; omega
  | ⟨1, _⟩ => show win0_0.index t 1 * 1408 + 1 * s.val = 1408 * (t.val / 4) + s.val; rw [e1]; omega

theorem blkB (t : Fin cfg0.N) (r : Fin 1024) (s : Fin 1024) :
    (iblk m c 1 t : Vec Ideal S1024x1024 .bf16) (ix2 r s)
      = at2 (m := 4096) (n := 1024) (B m c) (1024 * (t.val % 4) + r.val) (s.val) := by
  have hN : t.val < 8 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * r.val = 1024 * (t.val % 4) + r.val; rw [e0]; omega
  | ⟨1, _⟩ => show win0_1.index t 1 * 1024 + 1 * s.val = s.val; rw [e1]; omega

/-- A tile's product at an index: the sum over the tile's 1024 positions. -/
theorem pay1_apply (x : Vec Ideal S1024x1408 .bf16) (y : Vec Ideal S1024x1024 .bf16) (r : Fin 1408) (s : Fin 1024) :
    (k0_pay1 x y : S1408x1024.Idx → EReal) (ix2 r s) = ∑ k : Fin 1024, (x (ix2 k r) : EReal) * y (ix2 k s) := by
  unfold k0_pay1
  pointwise

/-- The product the block `t / 4` receives from tile `t % 4`, at an index. -/
def part (n : ℕ) (j : S1408x1024.Idx) : EReal :=
  ∑ k : Fin 1024, at2 (m := 4096) (n := 2816) (A m c) (1024 * (n % 4) + k.val) (1408 * (n / 4) + (j 0).val)
    * at2 (m := 4096) (n := 1024) (B m c) (1024 * (n % 4) + k.val) (j 1).val

theorem pay1_blk (t : Fin cfg0.N) (j : S1408x1024.Idx) :
    (k0_pay1 (iblk m c 0 t) (iblk m c 1 t) : S1408x1024.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S1408x1024.Idx) :
    ((outsAt0 m c t.val t.isLt).2 : S1408x1024.Idx → EReal) j = ∑ s ∈ Finset.range (t.val % 4 + 1), part m c (4 * (t.val / 4) + s) j := by
  have hN : t.val < 8 := lt_of_lt_of_eq t.isLt N_0
  rw [soutsAt0_0_eq]
  refine (Pipeline.accAt_add_apply (ι := S1408x1024.Idx) (β := EReal) _ _ (fun _ => 0) (part m c) (4 * (t.val / 4)) 3 ?_ ?_ (t.val % 4) (by omega) _ j).trans (by rw [zero_add])
  · intro h i
    have h0 : 4 * (t.val / 4) % 4 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_C]; exact congrArg (acc i + ·) (pay1_blk m c ⟨_, h⟩ i)
    · rw [sout_B]; exact congrArg (acc i + ·) (pay1_blk m c ⟨_, h⟩ i)

/-- What a block's last point leaves in the output's buffer: the sum over all four tiles. -/
theorem out_apply (t : Fin cfg0.N) (ht : t.val % 4 = 3) (j : S1408x1024.Idx) :
    ((outsAt0 m c t.val t.isLt).1 : S1408x1024.Idx → EReal) j = ∑ s ∈ Finset.range 4, part m c (4 * (t.val / 4) + s) j := by
  have e : (outsAt0 m c t.val t.isLt).1 = k0_pay4 (outsAt0 m c t.val t.isLt).2 := by
    rw [outsAt0_C m c t (by omega) (by omega) ht]
    dsimp only
    rw [out_C, sout_C]
  rw [e]
  have := scratch_apply m c t j
  rw [ht] at this
  rw [← this]
  unfold k0_pay4
  rfl

/-- The result array. -/
def result : S2816x1024.Idx → EReal := fun i =>
  ∑ k : Fin 4096, A m c (ix2 k (i 0)) * B m c (ix2 k (i 1))

theorem total (q : ℕ) (hq : q < 2) (j : S1408x1024.Idx) (i : S2816x1024.Idx) (h0 : (i 0).val = 1408 * q + (j 0).val) (h1 : (i 1).val = (j 1).val) :
    ∑ s ∈ Finset.range 4, part m c (4 * q + s) j = result m c i := by
  unfold result
  refine (Finset.sum_congr rfl fun s hs => ?_).trans (Cert.Sums.sum_runs_range (a := 4) (b := 1024) rfl _
    (fun s k => at2 (m := 4096) (n := 2816) (A m c) (1024 * s + k.val) ((i 0).val) * at2 (m := 4096) (n := 1024) (B m c) (1024 * s + k.val) (i 1).val) ?_)
  · have hs : s < 4 := Finset.mem_range.mp hs
    unfold part
    rw [show (4 * q + s) % 4 = s from by omega, show (4 * q + s) / 4 = q from by omega, h0, h1]
  · intro s k hs _
    have hi0 : (i 0).val < 2816 := (i 0).isLt
    have hi1 : (i 1).val < 1024 := (i 1).isLt
    unfold at2
    rw [dif_pos ⟨hs, hi0⟩, dif_pos ⟨hs, hi1⟩]
    rfl

/-- The result array after the run: each block is written back once, after its last tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 2816 := (i 0).isLt; have h1 : (i 1).val < 1024 := (i 1).isLt; omega))
  have hm : t.val % 4 = 3 := (flush0_2 t).mp hf
  have hN : t.val < 8 := lt_of_lt_of_eq t.isLt N_0
  obtain ⟨-, -, -, -, e0, e1⟩ := idx_facts t
  rw [flushed2]
  funext y
  refine (out_apply m c t hm _).trans (total m c (t.val / 4) (by omega) _ (((cfg0.win 2).blk t).view.emb y) ?_ ?_)
  · show win0_2.index t (0 : Fin 2) * 1408 + 1 * (y 0).val = 1408 * (t.val / 4) + (y 0).val
    rw [e0]; omega
  · show win0_2.index t (1 : Fin 2) * 1024 + 1 * (y 1).val = (y 1).val
    rw [e1]; omega

end Cert.DwDownIdeal.Product

namespace Cert.Proof

theorem algebraic_DwDown : Cert.algebraic_DwDownIdeal_DwDownRefIdeal := by
  intro m ρ m' ρ' _ hagree
  refine ⟨fun c => Cert.DwDownIdeal.Product.result m c, (θ_run Cert.DwDownIdeal.defs _ _).mono (fun _ h c => ⟨(h c).1.trans (Cert.DwDownIdeal.Product.final m c), (h c).2⟩) (Cert.DwDownIdeal.Value.run_blocks (F := Ideal) m ρ), ?_⟩
  refine (θ_run Cert.DwDownRefIdeal.defs _ _).mono (fun _ h c => ⟨(h c).1.trans ?_, (h c).2⟩) (Cert.DwDownRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DwDownIdeal.Product.result
  refine Eq.trans ?_ (Finset.sum_congr rfl fun k _ => mul_comm _ _)
  pointwise

theorem frame_DwDownRef : Cert.quiescent_DwDownRefIdeal := fun m ρ _ =>
  (θ_run Cert.DwDownRefIdeal.defs _ _).mono (fun r h => ⟨fun c => (h c).2, Idealize.ShloMosaic.sem_eq_zero_of_no_sems (by decide) r.2⟩)
    (Cert.DwDownRefIdeal.Value.run (F := Ideal) m ρ)

end Cert.Proof

end
-- ==== Proof.DwIn.lean ====
/-
  The gradient of the weight of the input projection (held transposed), `dprojᵀ · h1`: the kernel walks the 4096 positions
  it contracts in four tiles of 1024, holding the partial sums of a [1536, 1024] block in a scratch and writing the block back
  after the last; the reference contracts them in one product. Ideal addition is commutative and associative on all extended
  reals, so the two sums are the same.
-/
module

public import proofs.«01_k».proof.Defs
public import proofs.«01_k».proof.Proof.Sums
public import proofs.«01_k».proof.Proof.Tiles
public import proofs.«01_k».proof.Proof.Gen.DwInIdeal.Value
public import proofs.«01_k».proof.Proof.Gen.DwInRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DwInIdeal.Product

open Cert.DwInIdeal Cert.DwInIdeal.Gen Cert.DwInIdeal.Value
open Cert.Tiles (at2 offsets_zero)

section Cases
variable {F : FTy → Type} [FloatOps F]
variable (c : Dev nD) (i : grid0.Coords) (a3 : Memref sig .tc .vmem S1024x1536 .bf16) (h3 : a3.IsWhole)
  (a4 : Memref sig .tc .vmem S1024x1024 .bf16) (h4 : a4.IsWhole) (a5 : Memref sig .tc .vmem S1536x1024 .bf16) (h5 : a5.IsWhole)
  (a6 : Memref sig .tc .vmem S1536x1024 .f32) (h6 : a6.IsWhole)
  (x : Vec F S1024x1536 .bf16) (y : Vec F S1024x1024 .bf16) (s : Vec F S1536x1024 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero offsets_zero]
  unfold k0_pay2
  simp only [View.readAt_eq_ld, h3.read_unread, h4.read_unread, View.ld_unit_zero (S := S1024x1536) offsets_zero,
    View.ld_unit_zero (S := S1024x1024) offsets_zero, shapeCast_self]

/-- A later tile: the scratch ends at what it held plus the tile's product. -/
theorem sout_B (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero offsets_zero]
  unfold k0_pay3
  simp only [View.readAt_eq_ld, h3.read_unread, h4.read_unread, h6.read_unread, View.ld_unit_zero (S := S1024x1536) offsets_zero,
    View.ld_unit_zero (S := S1024x1024) offsets_zero, View.ld_unit_zero (S := S1536x1024) offsets_zero, shapeCast_self]

/-- The last tile: the scratch likewise, … -/
theorem sout_C (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero offsets_zero]
  unfold k0_pay3
  simp only [View.readAt_eq_ld, h3.read_unread, h4.read_unread, h6.read_unread, View.ld_unit_zero (S := S1024x1536) offsets_zero,
    View.ld_unit_zero (S := S1024x1024) offsets_zero, View.ld_unit_zero (S := S1536x1024) offsets_zero, shapeCast_self]

/-- … and the block written back is the scratch, rounded. -/
theorem out_C (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero offsets_zero, View.readCov_unit_zero (S := S1536x1024) _ offsets_zero]
  unfold k0_pay3
  simp only [View.readAt_eq_ld, h3.read_unread, h4.read_unread, h6.read_unread, View.ld_unit_zero (S := S1024x1536) offsets_zero,
    View.ld_unit_zero (S := S1024x1024) offsets_zero, View.ld_unit_zero (S := S1536x1024) offsets_zero, shapeCast_self]

end Cases

variable (m : (ℓ : Loc nD τ sig) → Buf (Elt Ideal) ℓ) (c : Dev nD)

/-- The two arguments, as arrays of extended reals. -/
abbrev A : S4096x3072.Idx → Elt Ideal .bf16 := m ((c : Thread nD τ).loc main_arg0)
abbrev B : S4096x1024.Idx → Elt Ideal .bf16 := m ((c : Thread nD τ).loc main_arg1)

theorem idx_facts : ∀ t : Fin cfg0.N, win0_0.index t (0 : Fin 2) = (t.val % 4) ∧ win0_0.index t (1 : Fin 2) = (t.val / 4)
    ∧ win0_1.index t (0 : Fin 2) = (t.val % 4) ∧ win0_1.index t (1 : Fin 2) = 0
    ∧ win0_2.index t (0 : Fin 2) = (t.val / 4) ∧ win0_2.index t (1 : Fin 2) = 0 :=
  (by decide +kernel : ∀ t : Fin grid0.N, _)

theorem blkA (t : Fin cfg0.N) (r : Fin 1024) (s : Fin 1536) :
    (iblk m c 0 t : Vec Ideal S1024x1536 .bf16) (ix2 r s)
      = at2 (m := 4096) (n := 3072) (A m c) (1024 * (t.val % 4) + r.val) (1536 * (t.val / 4) + s.val) := by
  have hN : t.val < 8 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val % 4) + r.val; rw [e0]; omega
  | ⟨1, _⟩ => show win0_0.index t 1 * 1536 + 1 * s.val = 1536 * (t.val / 4) + s.val; rw [e1]; omega

theorem blkB (t : Fin cfg0.N) (r : Fin 1024) (s : Fin 1024) :
    (iblk m c 1 t : Vec Ideal S1024x1024 .bf16) (ix2 r s)
      = at2 (m := 4096) (n := 1024) (B m c) (1024 * (t.val % 4) + r.val) (s.val) := by
  have hN : t.val < 8 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * r.val = 1024 * (t.val % 4) + r.val; rw [e0]; omega
  | ⟨1, _⟩ => show win0_1.index t 1 * 1024 + 1 * s.val = s.val; rw [e1]; omega

/-- A tile's product at an index: the sum over the tile's 1024 positions. -/
theorem pay1_apply (x : Vec Ideal S1024x1536 .bf16) (y : Vec Ideal S1024x1024 .bf16) (r : Fin 1536) (s : Fin 1024) :
    (k0_pay1 x y : S1536x1024.Idx → EReal) (ix2 r s) = ∑ k : Fin 1024, (x (ix2 k r) : EReal) * y (ix2 k s) := by
  unfold k0_pay1
  pointwise

/-- The product the block `t / 4` receives from tile `t % 4`, at an index. -/
def part (n : ℕ) (j : S1536x1024.Idx) : EReal :=
  ∑ k : Fin 1024, at2 (m := 4096) (n := 3072) (A m c) (1024 * (n % 4) + k.val) (1536 * (n / 4) + (j 0).val)
    * at2 (m := 4096) (n := 1024) (B m c) (1024 * (n % 4) + k.val) (j 1).val

theorem pay1_blk (t : Fin cfg0.N) (j : S1536x1024.Idx) :
    (k0_pay1 (iblk m c 0 t) (iblk m c 1 t) : S1536x1024.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S1536x1024.Idx) :
    ((outsAt0 m c t.val t.isLt).2 : S1536x1024.Idx → EReal) j = ∑ s ∈ Finset.range (t.val % 4 + 1), part m c (4 * (t.val / 4) + s) j := by
  have hN : t.val < 8 := lt_of_lt_of_eq t.isLt N_0
  rw [soutsAt0_0_eq]
  refine (Pipeline.accAt_add_apply (ι := S1536x1024.Idx) (β := EReal) _ _ (fun _ => 0) (part m c) (4 * (t.val / 4)) 3 ?_ ?_ (t.val % 4) (by omega) _ j).trans (by rw [zero_add])
  · intro h i
    have h0 : 4 * (t.val / 4) % 4 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_C]; exact congrArg (acc i + ·) (pay1_blk m c ⟨_, h⟩ i)
    · rw [sout_B]; exact congrArg (acc i + ·) (pay1_blk m c ⟨_, h⟩ i)

/-- What a block's last point leaves in the output's buffer: the sum over all four tiles. -/
theorem out_apply (t : Fin cfg0.N) (ht : t.val % 4 = 3) (j : S1536x1024.Idx) :
    ((outsAt0 m c t.val t.isLt).1 : S1536x1024.Idx → EReal) j = ∑ s ∈ Finset.range 4, part m c (4 * (t.val / 4) + s) j := by
  have e : (outsAt0 m c t.val t.isLt).1 = k0_pay4 (outsAt0 m c t.val t.isLt).2 := by
    rw [outsAt0_C m c t (by omega) (by omega) ht]
    dsimp only
    rw [out_C, sout_C]
  rw [e]
  have := scratch_apply m c t j
  rw [ht] at this
  rw [← this]
  unfold k0_pay4
  rfl

/-- The result array. -/
def result : S3072x1024.Idx → EReal := fun i =>
  ∑ k : Fin 4096, A m c (ix2 k (i 0)) * B m c (ix2 k (i 1))

theorem total (q : ℕ) (hq : q < 2) (j : S1536x1024.Idx) (i : S3072x1024.Idx) (h0 : (i 0).val = 1536 * q + (j 0).val) (h1 : (i 1).val = (j 1).val) :
    ∑ s ∈ Finset.range 4, part m c (4 * q + s) j = result m c i := by
  unfold result
  refine (Finset.sum_congr rfl fun s hs => ?_).trans (Cert.Sums.sum_runs_range (a := 4) (b := 1024) rfl _
    (fun s k => at2 (m := 4096) (n := 3072) (A m c) (1024 * s + k.val) ((i 0).val) * at2 (m := 4096) (n := 1024) (B m c) (1024 * s + k.val) (i 1).val) ?_)
  · have hs : s < 4 := Finset.mem_range.mp hs
    unfold part
    rw [show (4 * q + s) % 4 = s from by omega, show (4 * q + s) / 4 = q from by omega, h0, h1]
  · intro s k hs _
    have hi0 : (i 0).val < 3072 := (i 0).isLt
    have hi1 : (i 1).val < 1024 := (i 1).isLt
    unfold at2
    rw [dif_pos ⟨hs, hi0⟩, dif_pos ⟨hs, hi1⟩]
    rfl

/-- The result array after the run: each block is written back once, after its last tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 3072 := (i 0).isLt; have h1 : (i 1).val < 1024 := (i 1).isLt; omega))
  have hm : t.val % 4 = 3 := (flush0_2 t).mp hf
  have hN : t.val < 8 := lt_of_lt_of_eq t.isLt N_0
  obtain ⟨-, -, -, -, e0, e1⟩ := idx_facts t
  rw [flushed2]
  funext y
  refine (out_apply m c t hm _).trans (total m c (t.val / 4) (by omega) _ (((cfg0.win 2).blk t).view.emb y) ?_ ?_)
  · show win0_2.index t (0 : Fin 2) * 1536 + 1 * (y 0).val = 1536 * (t.val / 4) + (y 0).val
    rw [e0]; omega
  · show win0_2.index t (1 : Fin 2) * 1024 + 1 * (y 1).val = (y 1).val
    rw [e1]; omega

end Cert.DwInIdeal.Product

namespace Cert.Proof

theorem algebraic_DwIn : Cert.algebraic_DwInIdeal_DwInRefIdeal := by
  intro m ρ m' ρ' _ hagree
  refine ⟨fun c => Cert.DwInIdeal.Product.result m c, (θ_run Cert.DwInIdeal.defs _ _).mono (fun _ h c => ⟨(h c).1.trans (Cert.DwInIdeal.Product.final m c), (h c).2⟩) (Cert.DwInIdeal.Value.run_blocks (F := Ideal) m ρ), ?_⟩
  refine (θ_run Cert.DwInRefIdeal.defs _ _).mono (fun _ h c => ⟨(h c).1.trans ?_, (h c).2⟩) (Cert.DwInRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DwInIdeal.Product.result
  pointwise

theorem frame_DwInRef : Cert.quiescent_DwInRefIdeal := fun m ρ _ =>
  (θ_run Cert.DwInRefIdeal.defs _ _).mono (fun r h => ⟨fun c => (h c).2, Idealize.ShloMosaic.sem_eq_zero_of_no_sems (by decide) r.2⟩)
    (Cert.DwInRefIdeal.Value.run (F := Ideal) m ρ)

end Cert.Proof

end
-- ==== Proof.Dh1.lean ====
/-
  The gradient of the argument of the input projection, `dproj · w_in` (the weight held transposed): the kernel walks the 3072 positions
  it contracts in two tiles of 1536, holding the partial sums of a [1024, 1024] block in a scratch and writing the block back
  after the last; the reference contracts them in one product. Ideal addition is commutative and associative on all extended
  reals, so the two sums are the same.
-/
module

public import proofs.«01_k».proof.Defs
public import proofs.«01_k».proof.Proof.Sums
public import proofs.«01_k».proof.Proof.Tiles
public import proofs.«01_k».proof.Proof.Gen.Dh1Ideal.Value
public import proofs.«01_k».proof.Proof.Gen.Dh1RefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Dh1Ideal.Product

open Cert.Dh1Ideal Cert.Dh1Ideal.Gen Cert.Dh1Ideal.Value
open Cert.Tiles (at2 offsets_zero)

section Cases
variable {F : FTy → Type} [FloatOps F]
variable (c : Dev nD) (i : grid0.Coords) (a3 : Memref sig .tc .vmem S1024x1536 .bf16) (h3 : a3.IsWhole)
  (a4 : Memref sig .tc .vmem S1536x1024 .bf16) (h4 : a4.IsWhole) (a5 : Memref sig .tc .vmem S1024x1024 .f32) (h5 : a5.IsWhole)
  (a6 : Memref sig .tc .vmem S1024x1024 .f32) (h6 : a6.IsWhole)
  (x : Vec F S1024x1536 .bf16) (y : Vec F S1536x1024 .bf16) (s : Vec F S1024x1024 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero offsets_zero]
  unfold k0_pay2
  simp only [View.readAt_eq_ld, h3.read_unread, h4.read_unread, View.ld_unit_zero (S := S1024x1536) offsets_zero,
    View.ld_unit_zero (S := S1536x1024) offsets_zero, shapeCast_self]

/-- The last tile: the scratch likewise, … -/
theorem sout_B (hc0 : ¬cond0_0 i) (hc1 : cond0_1 i) (hc2 : cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero offsets_zero]
  unfold k0_pay3
  simp only [View.readAt_eq_ld, h3.read_unread, h4.read_unread, h6.read_unread, View.ld_unit_zero (S := S1024x1536) offsets_zero,
    View.ld_unit_zero (S := S1536x1024) offsets_zero, View.ld_unit_zero (S := S1024x1024) offsets_zero, shapeCast_self]

/-- … and the block written back is the scratch. -/
theorem out_B (hc0 : ¬cond0_0 i) (hc1 : cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S1024x1536) offsets_zero,
    View.ld_unit_zero (S := S1536x1024) offsets_zero, View.ld_unit_zero (S := S1024x1024) offsets_zero, shapeCast_self]

end Cases

variable (m : (ℓ : Loc nD τ sig) → Buf (Elt Ideal) ℓ) (c : Dev nD)

/-- The two arguments, as arrays of extended reals. -/
abbrev A : S4096x3072.Idx → Elt Ideal .bf16 := m ((c : Thread nD τ).loc main_arg0)
abbrev B : S3072x1024.Idx → Elt Ideal .bf16 := m ((c : Thread nD τ).loc main_arg1)

theorem idx_facts : ∀ t : Fin cfg0.N, win0_0.index t (0 : Fin 2) = (t.val / 2) ∧ win0_0.index t (1 : Fin 2) = (t.val % 2)
    ∧ win0_1.index t (0 : Fin 2) = (t.val % 2) ∧ win0_1.index t (1 : Fin 2) = 0
    ∧ win0_2.index t (0 : Fin 2) = (t.val / 2) ∧ win0_2.index t (1 : Fin 2) = 0 :=
  (by decide +kernel : ∀ t : Fin grid0.N, _)

theorem blkA (t : Fin cfg0.N) (r : Fin 1024) (s : Fin 1536) :
    (iblk m c 0 t : Vec Ideal S1024x1536 .bf16) (ix2 r s)
      = at2 (m := 4096) (n := 3072) (A m c) (1024 * (t.val / 2) + r.val) (1536 * (t.val % 2) + s.val) := by
  have hN : t.val < 8 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 2) + r.val; rw [e0]; omega
  | ⟨1, _⟩ => show win0_0.index t 1 * 1536 + 1 * s.val = 1536 * (t.val % 2) + s.val; rw [e1]; omega

theorem blkB (t : Fin cfg0.N) (r : Fin 1536) (s : Fin 1024) :
    (iblk m c 1 t : Vec Ideal S1536x1024 .bf16) (ix2 r s)
      = at2 (m := 3072) (n := 1024) (B m c) (1536 * (t.val % 2) + r.val) (s.val) := by
  have hN : t.val < 8 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1536 + 1 * r.val = 1536 * (t.val % 2) + r.val; rw [e0]; omega
  | ⟨1, _⟩ => show win0_1.index t 1 * 1024 + 1 * s.val = s.val; rw [e1]; omega

/-- A tile's product at an index: the sum over the tile's 1536 positions. -/
theorem pay1_apply (x : Vec Ideal S1024x1536 .bf16) (y : Vec Ideal S1536x1024 .bf16) (r : Fin 1024) (s : Fin 1024) :
    (k0_pay1 x y : S1024x1024.Idx → EReal) (ix2 r s) = ∑ k : Fin 1536, (x (ix2 r k) : EReal) * y (ix2 k s) := by
  unfold k0_pay1
  pointwise

/-- The product the block `t / 2` receives from tile `t % 2`, at an index. -/
def part (n : ℕ) (j : S1024x1024.Idx) : EReal :=
  ∑ k : Fin 1536, at2 (m := 4096) (n := 3072) (A m c) (1024 * (n / 2) + (j 0).val) (1536 * (n % 2) + k.val)
    * at2 (m := 3072) (n := 1024) (B m c) (1536 * (n % 2) + k.val) (j 1).val

theorem pay1_blk (t : Fin cfg0.N) (j : S1024x1024.Idx) :
    (k0_pay1 (iblk m c 0 t) (iblk m c 1 t) : S1024x1024.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S1024x1024.Idx) :
    ((outsAt0 m c t.val t.isLt).2 : S1024x1024.Idx → EReal) j = ∑ s ∈ Finset.range (t.val % 2 + 1), part m c (2 * (t.val / 2) + s) j := by
  have hN : t.val < 8 := lt_of_lt_of_eq t.isLt N_0
  rw [soutsAt0_0_eq]
  refine (Pipeline.accAt_add_apply (ι := S1024x1024.Idx) (β := EReal) _ _ (fun _ => 0) (part m c) (2 * (t.val / 2)) 1 ?_ ?_ (t.val % 2) (by omega) _ j).trans (by rw [zero_add])
  · intro h i
    have h0 : 2 * (t.val / 2) % 2 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_B]; exact congrArg (acc i + ·) (pay1_blk m c ⟨_, h⟩ i)
    · omega

/-- What a block's last point leaves in the output's buffer: the sum over all two tiles. -/
theorem out_apply (t : Fin cfg0.N) (ht : t.val % 2 = 1) (j : S1024x1024.Idx) :
    ((outsAt0 m c t.val t.isLt).1 : S1024x1024.Idx → EReal) j = ∑ s ∈ Finset.range 2, part m c (2 * (t.val / 2) + s) j := by
  have e : (outsAt0 m c t.val t.isLt).1 = (outsAt0 m c t.val t.isLt).2 := by
    rw [outsAt0_B m c t (by omega) (by omega) ht]
    dsimp only
    rw [out_B, sout_B]
  rw [e]
  have := scratch_apply m c t j
  rw [ht] at this
  exact this

/-- The result array. -/
def result : S4096x1024.Idx → EReal := fun i =>
  ∑ k : Fin 3072, A m c (ix2 (i 0) k) * B m c (ix2 k (i 1))

theorem total (q : ℕ) (hq : q < 4) (j : S1024x1024.Idx) (i : S4096x1024.Idx) (h0 : (i 0).val = 1024 * q + (j 0).val) (h1 : (i 1).val = (j 1).val) :
    ∑ s ∈ Finset.range 2, part m c (2 * q + s) j = result m c i := by
  unfold result
  refine (Finset.sum_congr rfl fun s hs => ?_).trans (Cert.Sums.sum_runs_range (a := 2) (b := 1536) rfl _
    (fun s k => at2 (m := 4096) (n := 3072) (A m c) ((i 0).val) (1536 * s + k.val) * at2 (m := 3072) (n := 1024) (B m c) (1536 * s + k.val) (i 1).val) ?_)
  · have hs : s < 2 := Finset.mem_range.mp hs
    unfold part
    rw [show (2 * q + s) % 2 = s from by omega, show (2 * q + s) / 2 = q from by omega, h0, h1]
  · intro s k hs _
    have hi0 : (i 0).val < 4096 := (i 0).isLt
    have hi1 : (i 1).val < 1024 := (i 1).isLt
    unfold at2
    rw [dif_pos ⟨hi0, hs⟩, dif_pos ⟨hs, hi1⟩]
    rfl

/-- The result array after the run: each block is written back once, after its last tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 4096 := (i 0).isLt; have h1 : (i 1).val < 1024 := (i 1).isLt; omega))
  have hm : t.val % 2 = 1 := (flush0_2 t).mp hf
  have hN : t.val < 8 := lt_of_lt_of_eq t.isLt N_0
  obtain ⟨-, -, -, -, e0, e1⟩ := idx_facts t
  rw [flushed2]
  funext y
  refine (out_apply m c t hm _).trans (total m c (t.val / 2) (by omega) _ (((cfg0.win 2).blk t).view.emb y) ?_ ?_)
  · show win0_2.index t (0 : Fin 2) * 1024 + 1 * (y 0).val = 1024 * (t.val / 2) + (y 0).val
    rw [e0]; omega
  · show win0_2.index t (1 : Fin 2) * 1024 + 1 * (y 1).val = (y 1).val
    rw [e1]; omega

end Cert.Dh1Ideal.Product

namespace Cert.Proof

theorem algebraic_Dh1 : Cert.algebraic_Dh1Ideal_Dh1RefIdeal := by
  intro m ρ m' ρ' _ hagree
  refine ⟨fun c => Cert.Dh1Ideal.Product.result m c, (θ_run Cert.Dh1Ideal.defs _ _).mono (fun _ h c => ⟨(h c).1.trans (Cert.Dh1Ideal.Product.final m c), (h c).2⟩) (Cert.Dh1Ideal.Value.run_blocks (F := Ideal) m ρ), ?_⟩
  refine (θ_run Cert.Dh1RefIdeal.defs _ _).mono (fun _ h c => ⟨(h c).1.trans ?_, (h c).2⟩) (Cert.Dh1RefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.Dh1Ideal.Product.result
  pointwise

theorem frame_Dh1Ref : Cert.quiescent_Dh1RefIdeal := fun m ρ _ =>
  (θ_run Cert.Dh1RefIdeal.defs _ _).mono (fun r h => ⟨fun c => (h c).2, Idealize.ShloMosaic.sem_eq_zero_of_no_sems (by decide) r.2⟩)
    (Cert.Dh1RefIdeal.Value.run (F := Ideal) m ρ)

end Cert.Proof

end
-- ==== Proof.Dycat.lean ====
/-
  The gradient of the mixers' concatenated outputs, `dy · w_outᵀ`: the kernel computes it block by block, a [2048, 1536] block
  of the result at a time, each from whole rows; the reference in one product.
-/
module

public import proofs.«01_k».proof.Defs
public import proofs.«01_k».proof.Proof.Sums
public import proofs.«01_k».proof.Proof.Tiles
public import proofs.«01_k».proof.Proof.Gen.DycatIdeal.Value
public import proofs.«01_k».proof.Proof.Gen.DycatRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DycatIdeal.Product

open Cert.DycatIdeal Cert.DycatIdeal.Gen Cert.DycatIdeal.Value
open Cert.Tiles (at2 offsets_zero)

/-- What a point writes back: its blocks' product. -/
theorem out_eq {F : FTy → Type} [FloatOps F] (x : Vec F S2048x1024 .bf16) (y : Vec F S1536x1024 .bf16) : out0_2 x y = k0_pay1 x y := by
  unfold out0_2
  rw [View.canon_unit_zero offsets_zero, View.ld_unit_zero (S := S2048x1024) offsets_zero, View.ld_unit_zero (S := S1536x1024) offsets_zero]

variable (m : (ℓ : Loc nD τ sig) → Buf (Elt Ideal) ℓ) (c : Dev nD)

/-- The two arguments, as arrays of extended reals. -/
abbrev A : S4096x1024.Idx → Elt Ideal .bf16 := m ((c : Thread nD τ).loc main_arg0)
abbrev B : S1536x1024.Idx → Elt Ideal .bf16 := m ((c : Thread nD τ).loc main_arg1)

theorem idx_facts : ∀ t : Fin cfg0.N, win0_0.index t (0 : Fin 2) = (t.val / 1) ∧ win0_0.index t (1 : Fin 2) = 0
    ∧ win0_1.index t (0 : Fin 2) = (t.val % 1) ∧ win0_1.index t (1 : Fin 2) = 0
    ∧ win0_2.index t (0 : Fin 2) = (t.val / 1) ∧ win0_2.index t (1 : Fin 2) = (t.val % 1) :=
  (by decide +kernel : ∀ t : Fin grid0.N, _)

theorem blkA (t : Fin cfg0.N) (r : Fin 2048) (s : Fin 1024) :
    (iblk m c 0 t : Vec Ideal S2048x1024 .bf16) (ix2 r s)
      = at2 (m := 4096) (n := 1024) (A m c) (2048 * (t.val / 1) + r.val) (s.val) := by
  have hN : t.val < 2 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * (t.val / 1) + r.val; rw [e0]; omega
  | ⟨1, _⟩ => show win0_0.index t 1 * 1024 + 1 * s.val = s.val; rw [e1]; omega

theorem blkB (t : Fin cfg0.N) (r : Fin 1536) (s : Fin 1024) :
    (iblk m c 1 t : Vec Ideal S1536x1024 .bf16) (ix2 r s)
      = at2 (m := 1536) (n := 1024) (B m c) (1536 * (t.val % 1) + r.val) (s.val) := by
  have hN : t.val < 2 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1536 + 1 * r.val = 1536 * (t.val % 1) + r.val; rw [e0]; omega
  | ⟨1, _⟩ => show win0_1.index t 1 * 1024 + 1 * s.val = s.val; rw [e1]; omega

/-- A tile's product at an index: the sum over the tile's 1024 positions. -/
theorem pay1_apply (x : Vec Ideal S2048x1024 .bf16) (y : Vec Ideal S1536x1024 .bf16) (r : Fin 2048) (s : Fin 1536) :
    (k0_pay1 x y : S2048x1536.Idx → EReal) (ix2 r s) = ∑ k : Fin 1024, (x (ix2 r k) : EReal) * y (ix2 s k) := by
  unfold k0_pay1
  pointwise

/-- The result array. -/
def result : S4096x1536.Idx → EReal := fun i =>
  ∑ k : Fin 1024, A m c (ix2 (i 0) k) * B m c (ix2 (i 1) k)

/-- Every index of the result is in the block some point writes back. -/
theorem covered (i : S4096x1536.Idx) : ∃ t : Fin cfg0.N, (cfg0.win 2).flush t = true ∧ i ∈ ((cfg0.win 2).blk t).view.set := by
  have h0 : (i 0).val < 4096 := (i 0).isLt
  have h1 : (i 1).val < 1536 := (i 1).isLt
  obtain ⟨t, ht⟩ : ∃ t : Fin cfg0.N, t.val = 1 * ((i 0).val / 2048) + (i 1).val / 1536 :=
    ⟨⟨1 * ((i 0).val / 2048) + (i 1).val / 1536, lt_of_lt_of_eq (by omega) N_0.symm⟩, rfl⟩
  obtain ⟨-, -, -, -, e0, e1⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 1536 ≤ (i 1).val ∧ (i 1).val < win0_2.index t (1 : Fin 2) * 1536 + 1536
    rw [e1]; omega

/-- A point's product at an index is the result's entry there. -/
theorem total (t : Fin cfg0.N) (r : Fin 2048) (s : Fin 1536) (i : S4096x1536.Idx) (h0 : (i 0).val = 2048 * (t.val / 1) + r.val) (h1 : (i 1).val = 1536 * (t.val % 1) + s.val) :
    (k0_pay1 (iblk m c 0 t) (iblk m c 1 t) : S2048x1536.Idx → EReal) (ix2 r s) = result m c i := by
  have hi0 : (i 0).val < 4096 := (i 0).isLt
  have hi1 : (i 1).val < 1536 := (i 1).isLt
  rw [pay1_apply]
  unfold result
  refine Finset.sum_congr rfl fun k _ => ?_
  rw [blkA, blkB, ← h0, ← h1]
  unfold at2
  rw [dif_pos ⟨hi0, k.isLt⟩, dif_pos ⟨hi1, k.isLt⟩]
  rfl

/-- The result array after the run: each point writes its block back. -/
theorem final : (dats m 0 c).arrAt 2 cfg0.N = (result m c : Buf (Elt Ideal) ((c : Thread nD τ).loc main_v0)) := by
  refine (dats m 0 c).arrAt_eq_of_cover 2 _ (fun t _ => ?_) covered
  obtain ⟨-, -, -, -, e0, e1⟩ := idx_facts t
  rw [flushed2, out_eq]
  funext y
  obtain ⟨r, s, rfl⟩ : ∃ (r : Fin 2048) (s : Fin 1536), y = ix2 r s := ⟨y 0, y 1, ValueIdx.eq_ix2 y⟩
  refine total m c t r s (((cfg0.win 2).blk t).view.emb (ix2 r s)) ?_ ?_
  · show win0_2.index t (0 : Fin 2) * 2048 + 1 * r.val = 2048 * (t.val / 1) + r.val
    rw [e0]; omega
  · show win0_2.index t (1 : Fin 2) * 1536 + 1 * s.val = 1536 * (t.val % 1) + s.val
    rw [e1]; omega

end Cert.DycatIdeal.Product

namespace Cert.Proof

theorem algebraic_Dycat : Cert.algebraic_DycatIdeal_DycatRefIdeal := by
  intro m ρ m' ρ' _ hagree
  refine ⟨fun c => Cert.DycatIdeal.Product.result m c, (θ_run Cert.DycatIdeal.defs _ _).mono (fun _ h c => ⟨(h c).1.trans (Cert.DycatIdeal.Product.final m c), (h c).2⟩) (Cert.DycatIdeal.Value.run_blocks (F := Ideal) m ρ), ?_⟩
  refine (θ_run Cert.DycatRefIdeal.defs _ _).mono (fun _ h c => ⟨(h c).1.trans ?_, (h c).2⟩) (Cert.DycatRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DycatIdeal.Product.result
  pointwise

theorem frame_DycatRef : Cert.quiescent_DycatRefIdeal := fun m ρ _ =>
  (θ_run Cert.DycatRefIdeal.defs _ _).mono (fun r h => ⟨fun c => (h c).2, Idealize.ShloMosaic.sem_eq_zero_of_no_sems (by decide) r.2⟩)
    (Cert.DycatRefIdeal.Value.run (F := Ideal) m ρ)

end Cert.Proof

end
-- ==== Proof.DwOut.lean ====
/-
  The gradient of the weight of the output projection, `ycatᵀ · dy`: the kernel walks the 4096 positions
  it contracts in four tiles of 1024, holding the partial sums of a [1536, 1024] block in a scratch and writing the block back
  after the last; the reference contracts them in one product. Ideal addition is commutative and associative on all extended
  reals, so the two sums are the same.
-/
module

public import proofs.«01_k».proof.Defs
public import proofs.«01_k».proof.Proof.Sums
public import proofs.«01_k».proof.Proof.Tiles
public import proofs.«01_k».proof.Proof.Gen.DwOutIdeal.Value
public import proofs.«01_k».proof.Proof.Gen.DwOutRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DwOutIdeal.Product

open Cert.DwOutIdeal Cert.DwOutIdeal.Gen Cert.DwOutIdeal.Value
open Cert.Tiles (at2 offsets_zero)

section Cases
variable {F : FTy → Type} [FloatOps F]
variable (c : Dev nD) (i : grid0.Coords) (a3 : Memref sig .tc .vmem S1024x1536 .bf16) (h3 : a3.IsWhole)
  (a4 : Memref sig .tc .vmem S1024x1024 .bf16) (h4 : a4.IsWhole) (a5 : Memref sig .tc .vmem S1536x1024 .bf16) (h5 : a5.IsWhole)
  (a6 : Memref sig .tc .vmem S1536x1024 .f32) (h6 : a6.IsWhole)
  (x : Vec F S1024x1536 .bf16) (y : Vec F S1024x1024 .bf16) (s : Vec F S1536x1024 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero offsets_zero]
  unfold k0_pay2
  simp only [View.readAt_eq_ld, h3.read_unread, h4.read_unread, View.ld_unit_zero (S := S1024x1536) offsets_zero,
    View.ld_unit_zero (S := S1024x1024) offsets_zero, shapeCast_self]

/-- A later tile: the scratch ends at what it held plus the tile's product. -/
theorem sout_B (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero offsets_zero]
  unfold k0_pay3
  simp only [View.readAt_eq_ld, h3.read_unread, h4.read_unread, h6.read_unread, View.ld_unit_zero (S := S1024x1536) offsets_zero,
    View.ld_unit_zero (S := S1024x1024) offsets_zero, View.ld_unit_zero (S := S1536x1024) offsets_zero, shapeCast_self]

/-- The last tile: the scratch likewise, … -/
theorem sout_C (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero offsets_zero]
  unfold k0_pay3
  simp only [View.readAt_eq_ld, h3.read_unread, h4.read_unread, h6.read_unread, View.ld_unit_zero (S := S1024x1536) offsets_zero,
    View.ld_unit_zero (S := S1024x1024) offsets_zero, View.ld_unit_zero (S := S1536x1024) offsets_zero, shapeCast_self]

/-- … and the block written back is the scratch, rounded. -/
theorem out_C (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero offsets_zero, View.readCov_unit_zero (S := S1536x1024) _ offsets_zero]
  unfold k0_pay3
  simp only [View.readAt_eq_ld, h3.read_unread, h4.read_unread, h6.read_unread, View.ld_unit_zero (S := S1024x1536) offsets_zero,
    View.ld_unit_zero (S := S1024x1024) offsets_zero, View.ld_unit_zero (S := S1536x1024) offsets_zero, shapeCast_self]

end Cases

variable (m : (ℓ : Loc nD τ sig) → Buf (Elt Ideal) ℓ) (c : Dev nD)

/-- The two arguments, as arrays of extended reals. -/
abbrev A : S4096x1536.Idx → Elt Ideal .bf16 := m ((c : Thread nD τ).loc main_arg0)
abbrev B : S4096x1024.Idx → Elt Ideal .bf16 := m ((c : Thread nD τ).loc main_arg1)

theorem idx_facts : ∀ t : Fin cfg0.N, win0_0.index t (0 : Fin 2) = (t.val % 4) ∧ win0_0.index t (1 : Fin 2) = (t.val / 4)
    ∧ win0_1.index t (0 : Fin 2) = (t.val % 4) ∧ win0_1.index t (1 : Fin 2) = 0
    ∧ win0_2.index t (0 : Fin 2) = (t.val / 4) ∧ win0_2.index t (1 : Fin 2) = 0 :=
  (by decide +kernel : ∀ t : Fin grid0.N, _)

theorem blkA (t : Fin cfg0.N) (r : Fin 1024) (s : Fin 1536) :
    (iblk m c 0 t : Vec Ideal S1024x1536 .bf16) (ix2 r s)
      = at2 (m := 4096) (n := 1536) (A m c) (1024 * (t.val % 4) + r.val) (1536 * (t.val / 4) + s.val) := by
  have hN : t.val < 4 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val % 4) + r.val; rw [e0]; omega
  | ⟨1, _⟩ => show win0_0.index t 1 * 1536 + 1 * s.val = 1536 * (t.val / 4) + s.val; rw [e1]; omega

theorem blkB (t : Fin cfg0.N) (r : Fin 1024) (s : Fin 1024) :
    (iblk m c 1 t : Vec Ideal S1024x1024 .bf16) (ix2 r s)
      = at2 (m := 4096) (n := 1024) (B m c) (1024 * (t.val % 4) + r.val) (s.val) := by
  have hN : t.val < 4 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * r.val = 1024 * (t.val % 4) + r.val; rw [e0]; omega
  | ⟨1, _⟩ => show win0_1.index t 1 * 1024 + 1 * s.val = s.val; rw [e1]; omega

/-- A tile's product at an index: the sum over the tile's 1024 positions. -/
theorem pay1_apply (x : Vec Ideal S1024x1536 .bf16) (y : Vec Ideal S1024x1024 .bf16) (r : Fin 1536) (s : Fin 1024) :
    (k0_pay1 x y : S1536x1024.Idx → EReal) (ix2 r s) = ∑ k : Fin 1024, (x (ix2 k r) : EReal) * y (ix2 k s) := by
  unfold k0_pay1
  pointwise

/-- The product the block `t / 4` receives from tile `t % 4`, at an index. -/
def part (n : ℕ) (j : S1536x1024.Idx) : EReal :=
  ∑ k : Fin 1024, at2 (m := 4096) (n := 1536) (A m c) (1024 * (n % 4) + k.val) (1536 * (n / 4) + (j 0).val)
    * at2 (m := 4096) (n := 1024) (B m c) (1024 * (n % 4) + k.val) (j 1).val

theorem pay1_blk (t : Fin cfg0.N) (j : S1536x1024.Idx) :
    (k0_pay1 (iblk m c 0 t) (iblk m c 1 t) : S1536x1024.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S1536x1024.Idx) :
    ((outsAt0 m c t.val t.isLt).2 : S1536x1024.Idx → EReal) j = ∑ s ∈ Finset.range (t.val % 4 + 1), part m c (4 * (t.val / 4) + s) j := by
  have hN : t.val < 4 := lt_of_lt_of_eq t.isLt N_0
  rw [soutsAt0_0_eq]
  refine (Pipeline.accAt_add_apply (ι := S1536x1024.Idx) (β := EReal) _ _ (fun _ => 0) (part m c) (4 * (t.val / 4)) 3 ?_ ?_ (t.val % 4) (by omega) _ j).trans (by rw [zero_add])
  · intro h i
    have h0 : 4 * (t.val / 4) % 4 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_C]; exact congrArg (acc i + ·) (pay1_blk m c ⟨_, h⟩ i)
    · rw [sout_B]; exact congrArg (acc i + ·) (pay1_blk m c ⟨_, h⟩ i)

/-- What a block's last point leaves in the output's buffer: the sum over all four tiles. -/
theorem out_apply (t : Fin cfg0.N) (ht : t.val % 4 = 3) (j : S1536x1024.Idx) :
    ((outsAt0 m c t.val t.isLt).1 : S1536x1024.Idx → EReal) j = ∑ s ∈ Finset.range 4, part m c (4 * (t.val / 4) + s) j := by
  have e : (outsAt0 m c t.val t.isLt).1 = k0_pay4 (outsAt0 m c t.val t.isLt).2 := by
    rw [outsAt0_C m c t (by omega) (by omega) ht]
    dsimp only
    rw [out_C, sout_C]
  rw [e]
  have := scratch_apply m c t j
  rw [ht] at this
  rw [← this]
  unfold k0_pay4
  rfl

/-- The result array. -/
def result : S1536x1024.Idx → EReal := fun i =>
  ∑ k : Fin 4096, A m c (ix2 k (i 0)) * B m c (ix2 k (i 1))

theorem total (q : ℕ) (hq : q < 1) (j : S1536x1024.Idx) (i : S1536x1024.Idx) (h0 : (i 0).val = 1536 * q + (j 0).val) (h1 : (i 1).val = (j 1).val) :
    ∑ s ∈ Finset.range 4, part m c (4 * q + s) j = result m c i := by
  unfold result
  refine (Finset.sum_congr rfl fun s hs => ?_).trans (Cert.Sums.sum_runs_range (a := 4) (b := 1024) rfl _
    (fun s k => at2 (m := 4096) (n := 1536) (A m c) (1024 * s + k.val) ((i 0).val) * at2 (m := 4096) (n := 1024) (B m c) (1024 * s + k.val) (i 1).val) ?_)
  · have hs : s < 4 := Finset.mem_range.mp hs
    unfold part
    rw [show (4 * q + s) % 4 = s from by omega, show (4 * q + s) / 4 = q from by omega, h0, h1]
  · intro s k hs _
    have hi0 : (i 0).val < 1536 := (i 0).isLt
    have hi1 : (i 1).val < 1024 := (i 1).isLt
    unfold at2
    rw [dif_pos ⟨hs, hi0⟩, dif_pos ⟨hs, hi1⟩]
    rfl

/-- The result array after the run: each block is written back once, after its last tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 1536 := (i 0).isLt; have h1 : (i 1).val < 1024 := (i 1).isLt; omega))
  have hm : t.val % 4 = 3 := (flush0_2 t).mp hf
  have hN : t.val < 4 := lt_of_lt_of_eq t.isLt N_0
  obtain ⟨-, -, -, -, e0, e1⟩ := idx_facts t
  rw [flushed2]
  funext y
  refine (out_apply m c t hm _).trans (total m c (t.val / 4) (by omega) _ (((cfg0.win 2).blk t).view.emb y) ?_ ?_)
  · show win0_2.index t (0 : Fin 2) * 1536 + 1 * (y 0).val = 1536 * (t.val / 4) + (y 0).val
    rw [e0]; omega
  · show win0_2.index t (1 : Fin 2) * 1024 + 1 * (y 1).val = (y 1).val
    rw [e1]; omega

end Cert.DwOutIdeal.Product

namespace Cert.Proof

theorem algebraic_DwOut : Cert.algebraic_DwOutIdeal_DwOutRefIdeal := by
  intro m ρ m' ρ' _ hagree
  refine ⟨fun c => Cert.DwOutIdeal.Product.result m c, (θ_run Cert.DwOutIdeal.defs _ _).mono (fun _ h c => ⟨(h c).1.trans (Cert.DwOutIdeal.Product.final m c), (h c).2⟩) (Cert.DwOutIdeal.Value.run_blocks (F := Ideal) m ρ), ?_⟩
  refine (θ_run Cert.DwOutRefIdeal.defs _ _).mono (fun _ h c => ⟨(h c).1.trans ?_, (h c).2⟩) (Cert.DwOutRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DwOutIdeal.Product.result
  refine Eq.trans ?_ (Finset.sum_congr rfl fun k _ => mul_comm _ _)
  pointwise

theorem frame_DwOutRef : Cert.quiescent_DwOutRefIdeal := fun m ρ _ =>
  (θ_run Cert.DwOutRefIdeal.defs _ _).mono (fun r h => ⟨fun c => (h c).2, Idealize.ShloMosaic.sem_eq_zero_of_no_sems (by decide) r.2⟩)
    (Cert.DwOutRefIdeal.Value.run (F := Ideal) m ρ)

end Cert.Proof

end
-- ==== Proof.DwUq.lean ====
/-
  The gradient of the weight of the queries' second product, `qnᵀ · dqh`: the kernel walks the 4096 positions
  it contracts in four tiles of 1024, holding the partial sums of a [256, 512] block in a scratch and writing the block back
  after the last; the reference contracts them in one product. Ideal addition is commutative and associative on all extended
  reals, so the two sums are the same.
-/
module

public import proofs.«01_k».proof.Defs
public import proofs.«01_k».proof.Proof.Sums
public import proofs.«01_k».proof.Proof.Tiles
public import proofs.«01_k».proof.Proof.Gen.DwUqIdeal.Value
public import proofs.«01_k».proof.Proof.Gen.DwUqRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DwUqIdeal.Product

open Cert.DwUqIdeal Cert.DwUqIdeal.Gen Cert.DwUqIdeal.Value
open Cert.Tiles (at2 offsets_zero)

section Cases
variable {F : FTy → Type} [FloatOps F]
variable (c : Dev nD) (i : grid0.Coords) (a3 : Memref sig .tc .vmem S1024x256 .bf16) (h3 : a3.IsWhole)
  (a4 : Memref sig .tc .vmem S1024x512 .bf16) (h4 : a4.IsWhole) (a5 : Memref sig .tc .vmem S256x512 .bf16) (h5 : a5.IsWhole)
  (a6 : Memref sig .tc .vmem S256x512 .f32) (h6 : a6.IsWhole)
  (x : Vec F S1024x256 .bf16) (y : Vec F S1024x512 .bf16) (s : Vec F S256x512 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero offsets_zero]
  unfold k0_pay2
  simp only [View.readAt_eq_ld, h3.read_unread, h4.read_unread, View.ld_unit_zero (S := S1024x256) offsets_zero,
    View.ld_unit_zero (S := S1024x512) offsets_zero, shapeCast_self]

/-- A later tile: the scratch ends at what it held plus the tile's product. -/
theorem sout_B (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero offsets_zero]
  unfold k0_pay3
  simp only [View.readAt_eq_ld, h3.read_unread, h4.read_unread, h6.read_unread, View.ld_unit_zero (S := S1024x256) offsets_zero,
    View.ld_unit_zero (S := S1024x512) offsets_zero, View.ld_unit_zero (S := S256x512) offsets_zero, shapeCast_self]

/-- The last tile: the scratch likewise, … -/
theorem sout_C (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero offsets_zero]
  unfold k0_pay3
  simp only [View.readAt_eq_ld, h3.read_unread, h4.read_unread, h6.read_unread, View.ld_unit_zero (S := S1024x256) offsets_zero,
    View.ld_unit_zero (S := S1024x512) offsets_zero, View.ld_unit_zero (S := S256x512) offsets_zero, shapeCast_self]

/-- … and the block written back is the scratch, rounded. -/
theorem out_C (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero offsets_zero, View.readCov_unit_zero (S := S256x512) _ offsets_zero]
  unfold k0_pay3
  simp only [View.readAt_eq_ld, h3.read_unread, h4.read_unread, h6.read_unread, View.ld_unit_zero (S := S1024x256) offsets_zero,
    View.ld_unit_zero (S := S1024x512) offsets_zero, View.ld_unit_zero (S := S256x512) offsets_zero, shapeCast_self]

end Cases

variable (m : (ℓ : Loc nD τ sig) → Buf (Elt Ideal) ℓ) (c : Dev nD)

/-- The two arguments, as arrays of extended reals. -/
abbrev A : S4096x256.Idx → Elt Ideal .bf16 := m ((c : Thread nD τ).loc main_arg0)
abbrev B : S4096x512.Idx → Elt Ideal .bf16 := m ((c : Thread nD τ).loc main_arg1)

theorem idx_facts : ∀ t : Fin cfg0.N, win0_0.index t (0 : Fin 2) = (t.val % 4) ∧ win0_0.index t (1 : Fin 2) = (t.val / 4)
    ∧ win0_1.index t (0 : Fin 2) = (t.val % 4) ∧ win0_1.index t (1 : Fin 2) = 0
    ∧ win0_2.index t (0 : Fin 2) = (t.val / 4) ∧ win0_2.index t (1 : Fin 2) = 0 :=
  (by decide +kernel : ∀ t : Fin grid0.N, _)

theorem blkA (t : Fin cfg0.N) (r : Fin 1024) (s : Fin 256) :
    (iblk m c 0 t : Vec Ideal S1024x256 .bf16) (ix2 r s)
      = at2 (m := 4096) (n := 256) (A m c) (1024 * (t.val % 4) + r.val) (256 * (t.val / 4) + s.val) := by
  have hN : t.val < 4 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val % 4) + r.val; rw [e0]; omega
  | ⟨1, _⟩ => show win0_0.index t 1 * 256 + 1 * s.val = 256 * (t.val / 4) + s.val; rw [e1]; omega

theorem blkB (t : Fin cfg0.N) (r : Fin 1024) (s : Fin 512) :
    (iblk m c 1 t : Vec Ideal S1024x512 .bf16) (ix2 r s)
      = at2 (m := 4096) (n := 512) (B m c) (1024 * (t.val % 4) + r.val) (s.val) := by
  have hN : t.val < 4 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * r.val = 1024 * (t.val % 4) + r.val; rw [e0]; omega
  | ⟨1, _⟩ => show win0_1.index t 1 * 512 + 1 * s.val = s.val; rw [e1]; omega

/-- A tile's product at an index: the sum over the tile's 1024 positions. -/
theorem pay1_apply (x : Vec Ideal S1024x256 .bf16) (y : Vec Ideal S1024x512 .bf16) (r : Fin 256) (s : Fin 512) :
    (k0_pay1 x y : S256x512.Idx → EReal) (ix2 r s) = ∑ k : Fin 1024, (x (ix2 k r) : EReal) * y (ix2 k s) := by
  unfold k0_pay1
  pointwise

/-- The product the block `t / 4` receives from tile `t % 4`, at an index. -/
def part (n : ℕ) (j : S256x512.Idx) : EReal :=
  ∑ k : Fin 1024, at2 (m := 4096) (n := 256) (A m c) (1024 * (n % 4) + k.val) (256 * (n / 4) + (j 0).val)
    * at2 (m := 4096) (n := 512) (B m c) (1024 * (n % 4) + k.val) (j 1).val

theorem pay1_blk (t : Fin cfg0.N) (j : S256x512.Idx) :
    (k0_pay1 (iblk m c 0 t) (iblk m c 1 t) : S256x512.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S256x512.Idx) :
    ((outsAt0 m c t.val t.isLt).2 : S256x512.Idx → EReal) j = ∑ s ∈ Finset.range (t.val % 4 + 1), part m c (4 * (t.val / 4) + s) j := by
  have hN : t.val < 4 := lt_of_lt_of_eq t.isLt N_0
  rw [soutsAt0_0_eq]
  refine (Pipeline.accAt_add_apply (ι := S256x512.Idx) (β := EReal) _ _ (fun _ => 0) (part m c) (4 * (t.val / 4)) 3 ?_ ?_ (t.val % 4) (by omega) _ j).trans (by rw [zero_add])
  · intro h i
    have h0 : 4 * (t.val / 4) % 4 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_C]; exact congrArg (acc i + ·) (pay1_blk m c ⟨_, h⟩ i)
    · rw [sout_B]; exact congrArg (acc i + ·) (pay1_blk m c ⟨_, h⟩ i)

/-- What a block's last point leaves in the output's buffer: the sum over all four tiles. -/
theorem out_apply (t : Fin cfg0.N) (ht : t.val % 4 = 3) (j : S256x512.Idx) :
    ((outsAt0 m c t.val t.isLt).1 : S256x512.Idx → EReal) j = ∑ s ∈ Finset.range 4, part m c (4 * (t.val / 4) + s) j := by
  have e : (outsAt0 m c t.val t.isLt).1 = k0_pay4 (outsAt0 m c t.val t.isLt).2 := by
    rw [outsAt0_C m c t (by omega) (by omega) ht]
    dsimp only
    rw [out_C, sout_C]
  rw [e]
  have := scratch_apply m c t j
  rw [ht] at this
  rw [← this]
  unfold k0_pay4
  rfl

/-- The result array. -/
def result : S256x512.Idx → EReal := fun i =>
  ∑ k : Fin 4096, A m c (ix2 k (i 0)) * B m c (ix2 k (i 1))

theorem total (q : ℕ) (hq : q < 1) (j : S256x512.Idx) (i : S256x512.Idx) (h0 : (i 0).val = 256 * q + (j 0).val) (h1 : (i 1).val = (j 1).val) :
    ∑ s ∈ Finset.range 4, part m c (4 * q + s) j = result m c i := by
  unfold result
  refine (Finset.sum_congr rfl fun s hs => ?_).trans (Cert.Sums.sum_runs_range (a := 4) (b := 1024) rfl _
    (fun s k => at2 (m := 4096) (n := 256) (A m c) (1024 * s + k.val) ((i 0).val) * at2 (m := 4096) (n := 512) (B m c) (1024 * s + k.val) (i 1).val) ?_)
  · have hs : s < 4 := Finset.mem_range.mp hs
    unfold part
    rw [show (4 * q + s) % 4 = s from by omega, show (4 * q + s) / 4 = q from by omega, h0, h1]
  · intro s k hs _
    have hi0 : (i 0).val < 256 := (i 0).isLt
    have hi1 : (i 1).val < 512 := (i 1).isLt
    unfold at2
    rw [dif_pos ⟨hs, hi0⟩, dif_pos ⟨hs, hi1⟩]
    rfl

/-- The result array after the run: each block is written back once, after its last tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 256 := (i 0).isLt; have h1 : (i 1).val < 512 := (i 1).isLt; omega))
  have hm : t.val % 4 = 3 := (flush0_2 t).mp hf
  have hN : t.val < 4 := lt_of_lt_of_eq t.isLt N_0
  obtain ⟨-, -, -, -, e0, e1⟩ := idx_facts t
  rw [flushed2]
  funext y
  refine (out_apply m c t hm _).trans (total m c (t.val / 4) (by omega) _ (((cfg0.win 2).blk t).view.emb y) ?_ ?_)
  · show win0_2.index t (0 : Fin 2) * 256 + 1 * (y 0).val = 256 * (t.val / 4) + (y 0).val
    rw [e0]; omega
  · show win0_2.index t (1 : Fin 2) * 512 + 1 * (y 1).val = (y 1).val
    rw [e1]; omega

end Cert.DwUqIdeal.Product

namespace Cert.Proof

theorem algebraic_DwUq : Cert.algebraic_DwUqIdeal_DwUqRefIdeal := by
  intro m ρ m' ρ' _ hagree
  refine ⟨fun c => Cert.DwUqIdeal.Product.result m c, (θ_run Cert.DwUqIdeal.defs _ _).mono (fun _ h c => ⟨(h c).1.trans (Cert.DwUqIdeal.Product.final m c), (h c).2⟩) (Cert.DwUqIdeal.Value.run_blocks (F := Ideal) m ρ), ?_⟩
  refine (θ_run Cert.DwUqRefIdeal.defs _ _).mono (fun _ h c => ⟨(h c).1.trans ?_, (h c).2⟩) (Cert.DwUqRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DwUqIdeal.Product.result
  refine Eq.trans ?_ (Finset.sum_congr rfl fun k _ => mul_comm _ _)
  pointwise

theorem frame_DwUqRef : Cert.quiescent_DwUqRefIdeal := fun m ρ _ =>
  (θ_run Cert.DwUqRefIdeal.defs _ _).mono (fun r h => ⟨fun c => (h c).2, Idealize.ShloMosaic.sem_eq_zero_of_no_sems (by decide) r.2⟩)
    (Cert.DwUqRefIdeal.Value.run (F := Ideal) m ρ)

end Cert.Proof

end
-- ==== Proof.DwUkv.lean ====
/-
  The gradient of the weight of the keys' and values' second product, `kvnᵀ · dkv`: the kernel walks the 4096 positions
  it contracts in four tiles of 1024, holding the partial sums of a [128, 1024] block in a scratch and writing the block back
  after the last; the reference contracts them in one product. Ideal addition is commutative and associative on all extended
  reals, so the two sums are the same.
-/
module

public import proofs.«01_k».proof.Defs
public import proofs.«01_k».proof.Proof.Sums
public import proofs.«01_k».proof.Proof.Tiles
public import proofs.«01_k».proof.Proof.Gen.DwUkvIdeal.Value
public import proofs.«01_k».proof.Proof.Gen.DwUkvRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DwUkvIdeal.Product

open Cert.DwUkvIdeal Cert.DwUkvIdeal.Gen Cert.DwUkvIdeal.Value
open Cert.Tiles (at2 offsets_zero)

section Cases
variable {F : FTy → Type} [FloatOps F]
variable (c : Dev nD) (i : grid0.Coords) (a3 : Memref sig .tc .vmem S1024x128 .bf16) (h3 : a3.IsWhole)
  (a4 : Memref sig .tc .vmem S1024x1024 .bf16) (h4 : a4.IsWhole) (a5 : Memref sig .tc .vmem S128x1024 .bf16) (h5 : a5.IsWhole)
  (a6 : Memref sig .tc .vmem S128x1024 .f32) (h6 : a6.IsWhole)
  (x : Vec F S1024x128 .bf16) (y : Vec F S1024x1024 .bf16) (s : Vec F S128x1024 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero offsets_zero]
  unfold k0_pay2
  simp only [View.readAt_eq_ld, h3.read_unread, h4.read_unread, View.ld_unit_zero (S := S1024x128) offsets_zero,
    View.ld_unit_zero (S := S1024x1024) offsets_zero, shapeCast_self]

/-- A later tile: the scratch ends at what it held plus the tile's product. -/
theorem sout_B (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero offsets_zero]
  unfold k0_pay3
  simp only [View.readAt_eq_ld, h3.read_unread, h4.read_unread, h6.read_unread, View.ld_unit_zero (S := S1024x128) offsets_zero,
    View.ld_unit_zero (S := S1024x1024) offsets_zero, View.ld_unit_zero (S := S128x1024) offsets_zero, shapeCast_self]

/-- The last tile: the scratch likewise, … -/
theorem sout_C (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero offsets_zero]
  unfold k0_pay3
  simp only [View.readAt_eq_ld, h3.read_unread, h4.read_unread, h6.read_unread, View.ld_unit_zero (S := S1024x128) offsets_zero,
    View.ld_unit_zero (S := S1024x1024) offsets_zero, View.ld_unit_zero (S := S128x1024) offsets_zero, shapeCast_self]

/-- … and the block written back is the scratch, rounded. -/
theorem out_C (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero offsets_zero, View.readCov_unit_zero (S := S128x1024) _ offsets_zero]
  unfold k0_pay3
  simp only [View.readAt_eq_ld, h3.read_unread, h4.read_unread, h6.read_unread, View.ld_unit_zero (S := S1024x128) offsets_zero,
    View.ld_unit_zero (S := S1024x1024) offsets_zero, View.ld_unit_zero (S := S128x1024) offsets_zero, shapeCast_self]

end Cases

variable (m : (ℓ : Loc nD τ sig) → Buf (Elt Ideal) ℓ) (c : Dev nD)

/-- The two arguments, as arrays of extended reals. -/
abbrev A : S4096x128.Idx → Elt Ideal .bf16 := m ((c : Thread nD τ).loc main_arg0)
abbrev B : S4096x1024.Idx → Elt Ideal .bf16 := m ((c : Thread nD τ).loc main_arg1)

theorem idx_facts : ∀ t : Fin cfg0.N, win0_0.index t (0 : Fin 2) = (t.val % 4) ∧ win0_0.index t (1 : Fin 2) = (t.val / 4)
    ∧ win0_1.index t (0 : Fin 2) = (t.val % 4) ∧ win0_1.index t (1 : Fin 2) = 0
    ∧ win0_2.index t (0 : Fin 2) = (t.val / 4) ∧ win0_2.index t (1 : Fin 2) = 0 :=
  (by decide +kernel : ∀ t : Fin grid0.N, _)

theorem blkA (t : Fin cfg0.N) (r : Fin 1024) (s : Fin 128) :
    (iblk m c 0 t : Vec Ideal S1024x128 .bf16) (ix2 r s)
      = at2 (m := 4096) (n := 128) (A m c) (1024 * (t.val % 4) + r.val) (128 * (t.val / 4) + s.val) := by
  have hN : t.val < 4 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val % 4) + r.val; rw [e0]; omega
  | ⟨1, _⟩ => show win0_0.index t 1 * 128 + 1 * s.val = 128 * (t.val / 4) + s.val; rw [e1]; omega

theorem blkB (t : Fin cfg0.N) (r : Fin 1024) (s : Fin 1024) :
    (iblk m c 1 t : Vec Ideal S1024x1024 .bf16) (ix2 r s)
      = at2 (m := 4096) (n := 1024) (B m c) (1024 * (t.val % 4) + r.val) (s.val) := by
  have hN : t.val < 4 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * r.val = 1024 * (t.val % 4) + r.val; rw [e0]; omega
  | ⟨1, _⟩ => show win0_1.index t 1 * 1024 + 1 * s.val = s.val; rw [e1]; omega

/-- A tile's product at an index: the sum over the tile's 1024 positions. -/
theorem pay1_apply (x : Vec Ideal S1024x128 .bf16) (y : Vec Ideal S1024x1024 .bf16) (r : Fin 128) (s : Fin 1024) :
    (k0_pay1 x y : S128x1024.Idx → EReal) (ix2 r s) = ∑ k : Fin 1024, (x (ix2 k r) : EReal) * y (ix2 k s) := by
  unfold k0_pay1
  pointwise

/-- The product the block `t / 4` receives from tile `t % 4`, at an index. -/
def part (n : ℕ) (j : S128x1024.Idx) : EReal :=
  ∑ k : Fin 1024, at2 (m := 4096) (n := 128) (A m c) (1024 * (n % 4) + k.val) (128 * (n / 4) + (j 0).val)
    * at2 (m := 4096) (n := 1024) (B m c) (1024 * (n % 4) + k.val) (j 1).val

theorem pay1_blk (t : Fin cfg0.N) (j : S128x1024.Idx) :
    (k0_pay1 (iblk m c 0 t) (iblk m c 1 t) : S128x1024.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S128x1024.Idx) :
    ((outsAt0 m c t.val t.isLt).2 : S128x1024.Idx → EReal) j = ∑ s ∈ Finset.range (t.val % 4 + 1), part m c (4 * (t.val / 4) + s) j := by
  have hN : t.val < 4 := lt_of_lt_of_eq t.isLt N_0
  rw [soutsAt0_0_eq]
  refine (Pipeline.accAt_add_apply (ι := S128x1024.Idx) (β := EReal) _ _ (fun _ => 0) (part m c) (4 * (t.val / 4)) 3 ?_ ?_ (t.val % 4) (by omega) _ j).trans (by rw [zero_add])
  · intro h i
    have h0 : 4 * (t.val / 4) % 4 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_C]; exact congrArg (acc i + ·) (pay1_blk m c ⟨_, h⟩ i)
    · rw [sout_B]; exact congrArg (acc i + ·) (pay1_blk m c ⟨_, h⟩ i)

/-- What a block's last point leaves in the output's buffer: the sum over all four tiles. -/
theorem out_apply (t : Fin cfg0.N) (ht : t.val % 4 = 3) (j : S128x1024.Idx) :
    ((outsAt0 m c t.val t.isLt).1 : S128x1024.Idx → EReal) j = ∑ s ∈ Finset.range 4, part m c (4 * (t.val / 4) + s) j := by
  have e : (outsAt0 m c t.val t.isLt).1 = k0_pay4 (outsAt0 m c t.val t.isLt).2 := by
    rw [outsAt0_C m c t (by omega) (by omega) ht]
    dsimp only
    rw [out_C, sout_C]
  rw [e]
  have := scratch_apply m c t j
  rw [ht] at this
  rw [← this]
  unfold k0_pay4
  rfl

/-- The result array. -/
def result : S128x1024.Idx → EReal := fun i =>
  ∑ k : Fin 4096, A m c (ix2 k (i 0)) * B m c (ix2 k (i 1))

theorem total (q : ℕ) (hq : q < 1) (j : S128x1024.Idx) (i : S128x1024.Idx) (h0 : (i 0).val = 128 * q + (j 0).val) (h1 : (i 1).val = (j 1).val) :
    ∑ s ∈ Finset.range 4, part m c (4 * q + s) j = result m c i := by
  unfold result
  refine (Finset.sum_congr rfl fun s hs => ?_).trans (Cert.Sums.sum_runs_range (a := 4) (b := 1024) rfl _
    (fun s k => at2 (m := 4096) (n := 128) (A m c) (1024 * s + k.val) ((i 0).val) * at2 (m := 4096) (n := 1024) (B m c) (1024 * s + k.val) (i 1).val) ?_)
  · have hs : s < 4 := Finset.mem_range.mp hs
    unfold part
    rw [show (4 * q + s) % 4 = s from by omega, show (4 * q + s) / 4 = q from by omega, h0, h1]
  · intro s k hs _
    have hi0 : (i 0).val < 128 := (i 0).isLt
    have hi1 : (i 1).val < 1024 := (i 1).isLt
    unfold at2
    rw [dif_pos ⟨hs, hi0⟩, dif_pos ⟨hs, hi1⟩]
    rfl

/-- The result array after the run: each block is written back once, after its last tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 128 := (i 0).isLt; have h1 : (i 1).val < 1024 := (i 1).isLt; omega))
  have hm : t.val % 4 = 3 := (flush0_2 t).mp hf
  have hN : t.val < 4 := lt_of_lt_of_eq t.isLt N_0
  obtain ⟨-, -, -, -, e0, e1⟩ := idx_facts t
  rw [flushed2]
  funext y
  refine (out_apply m c t hm _).trans (total m c (t.val / 4) (by omega) _ (((cfg0.win 2).blk t).view.emb y) ?_ ?_)
  · show win0_2.index t (0 : Fin 2) * 128 + 1 * (y 0).val = 128 * (t.val / 4) + (y 0).val
    rw [e0]; omega
  · show win0_2.index t (1 : Fin 2) * 1024 + 1 * (y 1).val = (y 1).val
    rw [e1]; omega

end Cert.DwUkvIdeal.Product

namespace Cert.Proof

theorem algebraic_DwUkv : Cert.algebraic_DwUkvIdeal_DwUkvRefIdeal := by
  intro m ρ m' ρ' _ hagree
  refine ⟨fun c => Cert.DwUkvIdeal.Product.result m c, (θ_run Cert.DwUkvIdeal.defs _ _).mono (fun _ h c => ⟨(h c).1.trans (Cert.DwUkvIdeal.Product.final m c), (h c).2⟩) (Cert.DwUkvIdeal.Value.run_blocks (F := Ideal) m ρ), ?_⟩
  refine (θ_run Cert.DwUkvRefIdeal.defs _ _).mono (fun _ h c => ⟨(h c).1.trans ?_, (h c).2⟩) (Cert.DwUkvRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DwUkvIdeal.Product.result
  refine Eq.trans ?_ (Finset.sum_congr rfl fun k _ => mul_comm _ _)
  pointwise

theorem frame_DwUkvRef : Cert.quiescent_DwUkvRefIdeal := fun m ρ _ =>
  (θ_run Cert.DwUkvRefIdeal.defs _ _).mono (fun r h => ⟨fun c => (h c).2, Idealize.ShloMosaic.sem_eq_zero_of_no_sems (by decide) r.2⟩)
    (Cert.DwUkvRefIdeal.Value.run (F := Ideal) m ρ)

end Cert.Proof

end
-- ==== Proof.Up.lean ====
/-
  The first feed-forward product, `h2 · w_upᵀ` (the weight held transposed): the kernel computes it block by block, a [2048, 1408] block
  of the result at a time, each from whole rows; the reference in one product.
-/
module

public import proofs.«01_k».proof.Defs
public import proofs.«01_k».proof.Proof.Sums
public import proofs.«01_k».proof.Proof.Tiles
public import proofs.«01_k».proof.Proof.Gen.UpIdeal.Value
public import proofs.«01_k».proof.Proof.Gen.UpRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.UpIdeal.Product

open Cert.UpIdeal Cert.UpIdeal.Gen Cert.UpIdeal.Value
open Cert.Tiles (at2 offsets_zero)

/-- What a point writes back: its blocks' product. -/
theorem out_eq {F : FTy → Type} [FloatOps F] (x : Vec F S2048x1024 .bf16) (y : Vec F S1408x1024 .bf16) : out0_2 x y = k0_pay1 x y := by
  unfold out0_2
  rw [View.canon_unit_zero offsets_zero, View.ld_unit_zero (S := S2048x1024) offsets_zero, View.ld_unit_zero (S := S1408x1024) offsets_zero]

variable (m : (ℓ : Loc nD τ sig) → Buf (Elt Ideal) ℓ) (c : Dev nD)

/-- The two arguments, as arrays of extended reals. -/
abbrev A : S4096x1024.Idx → Elt Ideal .bf16 := m ((c : Thread nD τ).loc main_arg0)
abbrev B : S5632x1024.Idx → Elt Ideal .bf16 := m ((c : Thread nD τ).loc main_arg1)

theorem idx_facts : ∀ t : Fin cfg0.N, win0_0.index t (0 : Fin 2) = (t.val / 4) ∧ win0_0.index t (1 : Fin 2) = 0
    ∧ win0_1.index t (0 : Fin 2) = (t.val % 4) ∧ win0_1.index t (1 : Fin 2) = 0
    ∧ win0_2.index t (0 : Fin 2) = (t.val / 4) ∧ win0_2.index t (1 : Fin 2) = (t.val % 4) :=
  (by decide +kernel : ∀ t : Fin grid0.N, _)

theorem blkA (t : Fin cfg0.N) (r : Fin 2048) (s : Fin 1024) :
    (iblk m c 0 t : Vec Ideal S2048x1024 .bf16) (ix2 r s)
      = at2 (m := 4096) (n := 1024) (A m c) (2048 * (t.val / 4) + r.val) (s.val) := by
  have hN : t.val < 8 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * (t.val / 4) + r.val; rw [e0]; omega
  | ⟨1, _⟩ => show win0_0.index t 1 * 1024 + 1 * s.val = s.val; rw [e1]; omega

theorem blkB (t : Fin cfg0.N) (r : Fin 1408) (s : Fin 1024) :
    (iblk m c 1 t : Vec Ideal S1408x1024 .bf16) (ix2 r s)
      = at2 (m := 5632) (n := 1024) (B m c) (1408 * (t.val % 4) + r.val) (s.val) := by
  have hN : t.val < 8 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1408 + 1 * r.val = 1408 * (t.val % 4) + r.val; rw [e0]; omega
  | ⟨1, _⟩ => show win0_1.index t 1 * 1024 + 1 * s.val = s.val; rw [e1]; omega

/-- A tile's product at an index: the sum over the tile's 1024 positions. -/
theorem pay1_apply (x : Vec Ideal S2048x1024 .bf16) (y : Vec Ideal S1408x1024 .bf16) (r : Fin 2048) (s : Fin 1408) :
    (k0_pay1 x y : S2048x1408.Idx → EReal) (ix2 r s) = ∑ k : Fin 1024, (x (ix2 r k) : EReal) * y (ix2 s k) := by
  unfold k0_pay1
  pointwise

/-- The result array. -/
def result : S4096x5632.Idx → EReal := fun i =>
  ∑ k : Fin 1024, A m c (ix2 (i 0) k) * B m c (ix2 (i 1) k)

/-- Every index of the result is in the block some point writes back. -/
theorem covered (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  obtain ⟨t, ht⟩ : ∃ t : Fin cfg0.N, t.val = 4 * ((i 0).val / 2048) + (i 1).val / 1408 :=
    ⟨⟨4 * ((i 0).val / 2048) + (i 1).val / 1408, lt_of_lt_of_eq (by omega) N_0.symm⟩, rfl⟩
  obtain ⟨-, -, -, -, e0, e1⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 1408 ≤ (i 1).val ∧ (i 1).val < win0_2.index t (1 : Fin 2) * 1408 + 1408
    rw [e1]; omega

/-- A point's product at an index is the result's entry there. -/
theorem total (t : Fin cfg0.N) (r : Fin 2048) (s : Fin 1408) (i : S4096x5632.Idx) (h0 : (i 0).val = 2048 * (t.val / 4) + r.val) (h1 : (i 1).val = 1408 * (t.val % 4) + s.val) :
    (k0_pay1 (iblk m c 0 t) (iblk m c 1 t) : S2048x1408.Idx → EReal) (ix2 r s) = result m c i := by
  have hi0 : (i 0).val < 4096 := (i 0).isLt
  have hi1 : (i 1).val < 5632 := (i 1).isLt
  rw [pay1_apply]
  unfold result
  refine Finset.sum_congr rfl fun k _ => ?_
  rw [blkA, blkB, ← h0, ← h1]
  unfold at2
  rw [dif_pos ⟨hi0, k.isLt⟩, dif_pos ⟨hi1, k.isLt⟩]
  rfl

/-- The result array after the run: each point writes its block back. -/
theorem final : (dats m 0 c).arrAt 2 cfg0.N = (result m c : Buf (Elt Ideal) ((c : Thread nD τ).loc main_v0)) := by
  refine (dats m 0 c).arrAt_eq_of_cover 2 _ (fun t _ => ?_) covered
  obtain ⟨-, -, -, -, e0, e1⟩ := idx_facts t
  rw [flushed2, out_eq]
  funext y
  obtain ⟨r, s, rfl⟩ : ∃ (r : Fin 2048) (s : Fin 1408), y = ix2 r s := ⟨y 0, y 1, ValueIdx.eq_ix2 y⟩
  refine total m c t r s (((cfg0.win 2).blk t).view.emb (ix2 r s)) ?_ ?_
  · show win0_2.index t (0 : Fin 2) * 2048 + 1 * r.val = 2048 * (t.val / 4) + r.val
    rw [e0]; omega
  · show win0_2.index t (1 : Fin 2) * 1408 + 1 * s.val = 1408 * (t.val % 4) + s.val
    rw [e1]; omega

end Cert.UpIdeal.Product

namespace Cert.Proof

theorem algebraic_Up : Cert.algebraic_UpIdeal_UpRefIdeal := by
  intro m ρ m' ρ' _ hagree
  refine ⟨fun c => Cert.UpIdeal.Product.result m c, (θ_run Cert.UpIdeal.defs _ _).mono (fun _ h c => ⟨(h c).1.trans (Cert.UpIdeal.Product.final m c), (h c).2⟩) (Cert.UpIdeal.Value.run_blocks (F := Ideal) m ρ), ?_⟩
  refine (θ_run Cert.UpRefIdeal.defs _ _).mono (fun _ h c => ⟨(h c).1.trans ?_, (h c).2⟩) (Cert.UpRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.UpIdeal.Product.result
  pointwise

theorem frame_UpRef : Cert.quiescent_UpRefIdeal := fun m ρ _ =>
  (θ_run Cert.UpRefIdeal.defs _ _).mono (fun r h => ⟨fun c => (h c).2, Idealize.ShloMosaic.sem_eq_zero_of_no_sems (by decide) r.2⟩)
    (Cert.UpRefIdeal.Value.run (F := Ideal) m ρ)

end Cert.Proof

end
-- ==== Proof.Down.lean ====
/-
  The second feed-forward product, `act · w_down`: the kernel walks the 2816 positions
  it contracts in two tiles of 1408, holding the partial sums of a [1024, 1024] block in a scratch and writing the block back
  after the last; the reference contracts them in one product. Ideal addition is commutative and associative on all extended
  reals, so the two sums are the same.
-/
module

public import proofs.«01_k».proof.Defs
public import proofs.«01_k».proof.Proof.Sums
public import proofs.«01_k».proof.Proof.Tiles
public import proofs.«01_k».proof.Proof.Gen.DownIdeal.Value
public import proofs.«01_k».proof.Proof.Gen.DownRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.DownIdeal.Product

open Cert.DownIdeal Cert.DownIdeal.Gen Cert.DownIdeal.Value
open Cert.Tiles (at2 offsets_zero)

section Cases
variable {F : FTy → Type} [FloatOps F]
variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1024x1024 .f32) (h6 : a6.IsWhole)
  (x : Vec F S1024x1408 .bf16) (y : Vec F S1408x1024 .bf16) (s : Vec F S1024x1024 .f32)

/-- The first tile of a block's run: the scratch ends at the tile's product. -/
theorem sout_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero offsets_zero]
  unfold k0_pay2
  simp only [View.readAt_eq_ld, h3.read_unread, h4.read_unread, View.ld_unit_zero (S := S1024x1408) offsets_zero,
    View.ld_unit_zero (S := S1408x1024) offsets_zero, shapeCast_self]

/-- The last tile: the scratch likewise, … -/
theorem sout_B (hc0 : ¬cond0_0 i) (hc1 : cond0_1 i) (hc2 : cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero offsets_zero]
  unfold k0_pay3
  simp only [View.readAt_eq_ld, h3.read_unread, h4.read_unread, h6.read_unread, View.ld_unit_zero (S := S1024x1408) offsets_zero,
    View.ld_unit_zero (S := S1408x1024) offsets_zero, View.ld_unit_zero (S := S1024x1024) offsets_zero, shapeCast_self]

/-- … and the block written back is the scratch. -/
theorem out_B (hc0 : ¬cond0_0 i) (hc1 : cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero offsets_zero, View.readCov_unit_zero (S := S1024x1024) _ offsets_zero]
  unfold k0_pay3
  simp only [View.readAt_eq_ld, h3.read_unread, h4.read_unread, h6.read_unread, View.ld_unit_zero (S := S1024x1408) offsets_zero,
    View.ld_unit_zero (S := S1408x1024) offsets_zero, View.ld_unit_zero (S := S1024x1024) offsets_zero, shapeCast_self]

end Cases

variable (m : (ℓ : Loc nD τ sig) → Buf (Elt Ideal) ℓ) (c : Dev nD)

/-- The two arguments, as arrays of extended reals. -/
abbrev A : S4096x2816.Idx → Elt Ideal .bf16 := m ((c : Thread nD τ).loc main_arg0)
abbrev B : S2816x1024.Idx → Elt Ideal .bf16 := m ((c : Thread nD τ).loc main_arg1)

theorem idx_facts : ∀ t : Fin cfg0.N, win0_0.index t (0 : Fin 2) = (t.val / 2) ∧ win0_0.index t (1 : Fin 2) = (t.val % 2)
    ∧ win0_1.index t (0 : Fin 2) = (t.val % 2) ∧ win0_1.index t (1 : Fin 2) = 0
    ∧ win0_2.index t (0 : Fin 2) = (t.val / 2) ∧ win0_2.index t (1 : Fin 2) = 0 :=
  (by decide +kernel : ∀ t : Fin grid0.N, _)

theorem blkA (t : Fin cfg0.N) (r : Fin 1024) (s : Fin 1408) :
    (iblk m c 0 t : Vec Ideal S1024x1408 .bf16) (ix2 r s)
      = at2 (m := 4096) (n := 2816) (A m c) (1024 * (t.val / 2) + r.val) (1408 * (t.val % 2) + s.val) := by
  have hN : t.val < 8 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 2) + r.val; rw [e0]; omega
  | ⟨1, _⟩ => show win0_0.index t 1 * 1408 + 1 * s.val = 1408 * (t.val % 2) + s.val; rw [e1]; omega

theorem blkB (t : Fin cfg0.N) (r : Fin 1408) (s : Fin 1024) :
    (iblk m c 1 t : Vec Ideal S1408x1024 .bf16) (ix2 r s)
      = at2 (m := 2816) (n := 1024) (B m c) (1408 * (t.val % 2) + r.val) (s.val) := by
  have hN : t.val < 8 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1408 + 1 * r.val = 1408 * (t.val % 2) + r.val; rw [e0]; omega
  | ⟨1, _⟩ => show win0_1.index t 1 * 1024 + 1 * s.val = s.val; rw [e1]; omega

/-- A tile's product at an index: the sum over the tile's 1408 positions. -/
theorem pay1_apply (x : Vec Ideal S1024x1408 .bf16) (y : Vec Ideal S1408x1024 .bf16) (r : Fin 1024) (s : Fin 1024) :
    (k0_pay1 x y : S1024x1024.Idx → EReal) (ix2 r s) = ∑ k : Fin 1408, (x (ix2 r k) : EReal) * y (ix2 k s) := by
  unfold k0_pay1
  pointwise

/-- The product the block `t / 2` receives from tile `t % 2`, at an index. -/
def part (n : ℕ) (j : S1024x1024.Idx) : EReal :=
  ∑ k : Fin 1408, at2 (m := 4096) (n := 2816) (A m c) (1024 * (n / 2) + (j 0).val) (1408 * (n % 2) + k.val)
    * at2 (m := 2816) (n := 1024) (B m c) (1408 * (n % 2) + k.val) (j 1).val

theorem pay1_blk (t : Fin cfg0.N) (j : S1024x1024.Idx) :
    (k0_pay1 (iblk m c 0 t) (iblk m c 1 t) : S1024x1024.Idx → EReal) j = part m c t.val j := by
  obtain ⟨r, s, rfl⟩ : ∃ r s, j = ix2 r s := ⟨j 0, j 1, ValueIdx.eq_ix2 j⟩
  rw [pay1_apply]
  refine Finset.sum_congr rfl fun k _ => ?_
  rw [blkA, blkB]
  rfl

/-- The scratch after point `t`: the sum of the products of the tiles of its block's run so far. -/
theorem scratch_apply (t : Fin cfg0.N) (j : S1024x1024.Idx) :
    ((outsAt0 m c t.val t.isLt).2 : S1024x1024.Idx → EReal) j = ∑ s ∈ Finset.range (t.val % 2 + 1), part m c (2 * (t.val / 2) + s) j := by
  have hN : t.val < 8 := lt_of_lt_of_eq t.isLt N_0
  rw [soutsAt0_0_eq]
  refine (Pipeline.accAt_add_apply (ι := S1024x1024.Idx) (β := EReal) _ _ (fun _ => 0) (part m c) (2 * (t.val / 2)) 1 ?_ ?_ (t.val % 2) (by omega) _ j).trans (by rw [zero_add])
  · intro h i
    have h0 : 2 * (t.val / 2) % 2 = 0 := by omega
    unfold scAt0_0
    rw [dif_pos h0, dif_neg (by omega), dif_neg (by omega), sout_A, zero_add]
    exact pay1_blk m c ⟨_, h⟩ i
  · intro n h acc i hn hn'
    unfold scAt0_0
    rw [dif_neg (by omega), dif_pos (by omega)]
    split
    · rw [sout_B]; exact congrArg (acc i + ·) (pay1_blk m c ⟨_, h⟩ i)
    · omega

/-- What a block's last point leaves in the output's buffer: the sum over all two tiles. -/
theorem out_apply (t : Fin cfg0.N) (ht : t.val % 2 = 1) (j : S1024x1024.Idx) :
    ((outsAt0 m c t.val t.isLt).1 : S1024x1024.Idx → EReal) j = ∑ s ∈ Finset.range 2, part m c (2 * (t.val / 2) + s) j := by
  have e : (outsAt0 m c t.val t.isLt).1 = (outsAt0 m c t.val t.isLt).2 := by
    rw [outsAt0_B m c t (by omega) (by omega) ht]
    dsimp only
    rw [out_B, sout_B]
  rw [e]
  have := scratch_apply m c t j
  rw [ht] at this
  exact this

/-- The result array. -/
def result : S4096x1024.Idx → EReal := fun i =>
  ∑ k : Fin 2816, A m c (ix2 (i 0) k) * B m c (ix2 k (i 1))

theorem total (q : ℕ) (hq : q < 4) (j : S1024x1024.Idx) (i : S4096x1024.Idx) (h0 : (i 0).val = 1024 * q + (j 0).val) (h1 : (i 1).val = (j 1).val) :
    ∑ s ∈ Finset.range 2, part m c (2 * q + s) j = result m c i := by
  unfold result
  refine (Finset.sum_congr rfl fun s hs => ?_).trans (Cert.Sums.sum_runs_range (a := 2) (b := 1408) rfl _
    (fun s k => at2 (m := 4096) (n := 2816) (A m c) ((i 0).val) (1408 * s + k.val) * at2 (m := 2816) (n := 1024) (B m c) (1408 * s + k.val) (i 1).val) ?_)
  · have hs : s < 2 := Finset.mem_range.mp hs
    unfold part
    rw [show (2 * q + s) % 2 = s from by omega, show (2 * q + s) / 2 = q from by omega, h0, h1]
  · intro s k hs _
    have hi0 : (i 0).val < 4096 := (i 0).isLt
    have hi1 : (i 1).val < 1024 := (i 1).isLt
    unfold at2
    rw [dif_pos ⟨hi0, hs⟩, dif_pos ⟨hs, hi1⟩]
    rfl

/-- The result array after the run: each block is written back once, after its last tile. -/
theorem final : (dats m 0 c).arrAt 2 cfg0.N = (result m c : Buf (Elt Ideal) ((c : Thread nD τ).loc main_v0)) := by
  refine (dats m 0 c).arrAt_eq_of_cover 2 _ (fun t hf => ?_) (fun i => (covered_iff2 i).2 (by
    have h0 : (i 0).val < 4096 := (i 0).isLt; have h1 : (i 1).val < 1024 := (i 1).isLt; omega))
  have hm : t.val % 2 = 1 := (flush0_2 t).mp hf
  have hN : t.val < 8 := lt_of_lt_of_eq t.isLt N_0
  obtain ⟨-, -, -, -, e0, e1⟩ := idx_facts t
  rw [flushed2]
  funext y
  refine (out_apply m c t hm _).trans (total m c (t.val / 2) (by omega) _ (((cfg0.win 2).blk t).view.emb y) ?_ ?_)
  · show win0_2.index t (0 : Fin 2) * 1024 + 1 * (y 0).val = 1024 * (t.val / 2) + (y 0).val
    rw [e0]; omega
  · show win0_2.index t (1 : Fin 2) * 1024 + 1 * (y 1).val = (y 1).val
    rw [e1]; omega

end Cert.DownIdeal.Product

namespace Cert.Proof

theorem algebraic_Down : Cert.algebraic_DownIdeal_DownRefIdeal := by
  intro m ρ m' ρ' _ hagree
  refine ⟨fun c => Cert.DownIdeal.Product.result m c, (θ_run Cert.DownIdeal.defs _ _).mono (fun _ h c => ⟨(h c).1.trans (Cert.DownIdeal.Product.final m c), (h c).2⟩) (Cert.DownIdeal.Value.run_blocks (F := Ideal) m ρ), ?_⟩
  refine (θ_run Cert.DownRefIdeal.defs _ _).mono (fun _ h c => ⟨(h c).1.trans ?_, (h c).2⟩) (Cert.DownRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.DownIdeal.Product.result
  pointwise

theorem frame_DownRef : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

end Cert.Proof

end
-- ==== Proof.Proj.lean ====
/-
  The input projection, `h1 · w_inᵀ` (the weight held transposed): the kernel computes it block by block, a [2048, 1536] block
  of the result at a time, each from whole rows; the reference in one product.
-/
module

public import proofs.«01_k».proof.Defs
public import proofs.«01_k».proof.Proof.Sums
public import proofs.«01_k».proof.Proof.Tiles
public import proofs.«01_k».proof.Proof.Gen.ProjIdeal.Value
public import proofs.«01_k».proof.Proof.Gen.ProjRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.ProjIdeal.Product

open Cert.ProjIdeal Cert.ProjIdeal.Gen Cert.ProjIdeal.Value
open Cert.Tiles (at2 offsets_zero)

/-- What a point writes back: its blocks' product. -/
theorem out_eq {F : FTy → Type} [FloatOps F] (x : Vec F S2048x1024 .bf16) (y : Vec F S1536x1024 .bf16) : out0_2 x y = k0_pay1 x y := by
  unfold out0_2
  rw [View.canon_unit_zero offsets_zero, View.ld_unit_zero (S := S2048x1024) offsets_zero, View.ld_unit_zero (S := S1536x1024) offsets_zero]

variable (m : (ℓ : Loc nD τ sig) → Buf (Elt Ideal) ℓ) (c : Dev nD)

/-- The two arguments, as arrays of extended reals. -/
abbrev A : S4096x1024.Idx → Elt Ideal .bf16 := m ((c : Thread nD τ).loc main_arg0)
abbrev B : S3072x1024.Idx → Elt Ideal .bf16 := m ((c : Thread nD τ).loc main_arg1)

theorem idx_facts : ∀ t : Fin cfg0.N, win0_0.index t (0 : Fin 2) = (t.val / 2) ∧ win0_0.index t (1 : Fin 2) = 0
    ∧ win0_1.index t (0 : Fin 2) = (t.val % 2) ∧ win0_1.index t (1 : Fin 2) = 0
    ∧ win0_2.index t (0 : Fin 2) = (t.val / 2) ∧ win0_2.index t (1 : Fin 2) = (t.val % 2) :=
  (by decide +kernel : ∀ t : Fin grid0.N, _)

theorem blkA (t : Fin cfg0.N) (r : Fin 2048) (s : Fin 1024) :
    (iblk m c 0 t : Vec Ideal S2048x1024 .bf16) (ix2 r s)
      = at2 (m := 4096) (n := 1024) (A m c) (2048 * (t.val / 2) + r.val) (s.val) := by
  have hN : t.val < 4 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * (t.val / 2) + r.val; rw [e0]; omega
  | ⟨1, _⟩ => show win0_0.index t 1 * 1024 + 1 * s.val = s.val; rw [e1]; omega

theorem blkB (t : Fin cfg0.N) (r : Fin 1536) (s : Fin 1024) :
    (iblk m c 1 t : Vec Ideal S1536x1024 .bf16) (ix2 r s)
      = at2 (m := 3072) (n := 1024) (B m c) (1536 * (t.val % 2) + r.val) (s.val) := by
  have hN : t.val < 4 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1536 + 1 * r.val = 1536 * (t.val % 2) + r.val; rw [e0]; omega
  | ⟨1, _⟩ => show win0_1.index t 1 * 1024 + 1 * s.val = s.val; rw [e1]; omega

/-- A tile's product at an index: the sum over the tile's 1024 positions. -/
theorem pay1_apply (x : Vec Ideal S2048x1024 .bf16) (y : Vec Ideal S1536x1024 .bf16) (r : Fin 2048) (s : Fin 1536) :
    (k0_pay1 x y : S2048x1536.Idx → EReal) (ix2 r s) = ∑ k : Fin 1024, (x (ix2 r k) : EReal) * y (ix2 s k) := by
  unfold k0_pay1
  pointwise

/-- The result array. -/
def result : S4096x3072.Idx → EReal := fun i =>
  ∑ k : Fin 1024, A m c (ix2 (i 0) k) * B m c (ix2 (i 1) k)

/-- Every index of the result is in the block some point writes back. -/
theorem covered (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  obtain ⟨t, ht⟩ : ∃ t : Fin cfg0.N, t.val = 2 * ((i 0).val / 2048) + (i 1).val / 1536 :=
    ⟨⟨2 * ((i 0).val / 2048) + (i 1).val / 1536, lt_of_lt_of_eq (by omega) N_0.symm⟩, rfl⟩
  obtain ⟨-, -, -, -, e0, e1⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 1536 ≤ (i 1).val ∧ (i 1).val < win0_2.index t (1 : Fin 2) * 1536 + 1536
    rw [e1]; omega

/-- A point's product at an index is the result's entry there. -/
theorem total (t : Fin cfg0.N) (r : Fin 2048) (s : Fin 1536) (i : S4096x3072.Idx) (h0 : (i 0).val = 2048 * (t.val / 2) + r.val) (h1 : (i 1).val = 1536 * (t.val % 2) + s.val) :
    (k0_pay1 (iblk m c 0 t) (iblk m c 1 t) : S2048x1536.Idx → EReal) (ix2 r s) = result m c i := by
  have hi0 : (i 0).val < 4096 := (i 0).isLt
  have hi1 : (i 1).val < 3072 := (i 1).isLt
  rw [pay1_apply]
  unfold result
  refine Finset.sum_congr rfl fun k _ => ?_
  rw [blkA, blkB, ← h0, ← h1]
  unfold at2
  rw [dif_pos ⟨hi0, k.isLt⟩, dif_pos ⟨hi1, k.isLt⟩]
  rfl

/-- The result array after the run: each point writes its block back. -/
theorem final : (dats m 0 c).arrAt 2 cfg0.N = (result m c : Buf (Elt Ideal) ((c : Thread nD τ).loc main_v0)) := by
  refine (dats m 0 c).arrAt_eq_of_cover 2 _ (fun t _ => ?_) covered
  obtain ⟨-, -, -, -, e0, e1⟩ := idx_facts t
  rw [flushed2, out_eq]
  funext y
  obtain ⟨r, s, rfl⟩ : ∃ (r : Fin 2048) (s : Fin 1536), y = ix2 r s := ⟨y 0, y 1, ValueIdx.eq_ix2 y⟩
  refine total m c t r s (((cfg0.win 2).blk t).view.emb (ix2 r s)) ?_ ?_
  · show win0_2.index t (0 : Fin 2) * 2048 + 1 * r.val = 2048 * (t.val / 2) + r.val
    rw [e0]; omega
  · show win0_2.index t (1 : Fin 2) * 1536 + 1 * s.val = 1536 * (t.val % 2) + s.val
    rw [e1]; omega

end Cert.ProjIdeal.Product

namespace Cert.Proof

theorem algebraic_Proj : Cert.algebraic_ProjIdeal_ProjRefIdeal := by
  intro m ρ m' ρ' _ hagree
  refine ⟨fun c => Cert.ProjIdeal.Product.result m c, (θ_run Cert.ProjIdeal.defs _ _).mono (fun _ h c => ⟨(h c).1.trans (Cert.ProjIdeal.Product.final m c), (h c).2⟩) (Cert.ProjIdeal.Value.run_blocks (F := Ideal) m ρ), ?_⟩
  refine (θ_run Cert.ProjRefIdeal.defs _ _).mono (fun _ h c => ⟨(h c).1.trans ?_, (h c).2⟩) (Cert.ProjRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.ProjIdeal.Product.result
  pointwise

theorem frame_ProjRef : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

end Cert.Proof

end
-- ==== Proof.Out.lean ====
/-
  The output projection, `ycat · w_out`: the kernel computes it block by block, a [2048, 1024] block
  of the result at a time, each from whole rows; the reference in one product.
-/
module

public import proofs.«01_k».proof.Defs
public import proofs.«01_k».proof.Proof.Sums
public import proofs.«01_k».proof.Proof.Tiles
public import proofs.«01_k».proof.Proof.Gen.OutIdeal.Value
public import proofs.«01_k».proof.Proof.Gen.OutRefIdeal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.OutIdeal.Product

open Cert.OutIdeal Cert.OutIdeal.Gen Cert.OutIdeal.Value
open Cert.Tiles (at2 offsets_zero)

/-- What a point writes back: its blocks' product. -/
theorem out_eq {F : FTy → Type} [FloatOps F] (x : Vec F S2048x1536 .bf16) (y : Vec F S1536x1024 .bf16) : out0_2 x y = k0_pay1 x y := by
  unfold out0_2
  rw [View.canon_unit_zero offsets_zero, View.ld_unit_zero (S := S2048x1536) offsets_zero, View.ld_unit_zero (S := S1536x1024) offsets_zero]

variable (m : (ℓ : Loc nD τ sig) → Buf (Elt Ideal) ℓ) (c : Dev nD)

/-- The two arguments, as arrays of extended reals. -/
abbrev A : S4096x1536.Idx → Elt Ideal .bf16 := m ((c : Thread nD τ).loc main_arg0)
abbrev B : S1536x1024.Idx → Elt Ideal .bf16 := m ((c : Thread nD τ).loc main_arg1)

theorem idx_facts : ∀ t : Fin cfg0.N, win0_0.index t (0 : Fin 2) = (t.val / 1) ∧ win0_0.index t (1 : Fin 2) = 0
    ∧ win0_1.index t (0 : Fin 2) = 0 ∧ win0_1.index t (1 : Fin 2) = (t.val % 1)
    ∧ win0_2.index t (0 : Fin 2) = (t.val / 1) ∧ win0_2.index t (1 : Fin 2) = (t.val % 1) :=
  (by decide +kernel : ∀ t : Fin grid0.N, _)

theorem blkA (t : Fin cfg0.N) (r : Fin 2048) (s : Fin 1536) :
    (iblk m c 0 t : Vec Ideal S2048x1536 .bf16) (ix2 r s)
      = at2 (m := 4096) (n := 1536) (A m c) (2048 * (t.val / 1) + r.val) (s.val) := by
  have hN : t.val < 2 := lt_of_lt_of_eq t.isLt N_0
  obtain ⟨e0, e1, -⟩ := idx_facts t
  have hr := r.isLt
  have hs := s.isLt
  unfold at2
  rw [dif_pos (by omega)]
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * (t.val / 1) + r.val; rw [e0]; omega
  | ⟨1, _⟩ => show win0_0.index t 1 * 1536 + 1 * s.val = s.val; rw [e1]; omega

theorem blkB (t : Fin cfg0.N) (r : Fin 1536) (s : Fin 1024) :
    (iblk m c 1 t : Vec Ideal S1536x1024 .bf16) (ix2 r s)
      = at2 (m := 1536) (n := 1024) (B m c) (r.val) (1024 * (t.val % 1) + s.val) := by
  have hN : t.val < 2 := lt_of_lt_of_eq t.isLt N_0
  obtain ⟨-, -, e0, e1, -⟩ := idx_facts t
  have hr := r.isLt
  have hs := s.isLt
  unfold at2
  rw [dif_pos (by omega)]
  unfold iblk
  rw [View.read_apply]
  show V m c main_arg1 _ = m (c.tc.loc main_arg1) _
  unfold V
  congr 1
  funext a
  apply Fin.ext
  match a with
  | ⟨0, _⟩ => show win0_1.index t 0 * 1536 + 1 * r.val = r.val; rw [e0]; omega
  | ⟨1, _⟩ => show win0_1.index t 1 * 1024 + 1 * s.val = 1024 * (t.val % 1) + s.val; rw [e1]; omega

/-- A tile's product at an index: the sum over the tile's 1536 positions. -/
theorem pay1_apply (x : Vec Ideal S2048x1536 .bf16) (y : Vec Ideal S1536x1024 .bf16) (r : Fin 2048) (s : Fin 1024) :
    (k0_pay1 x y : S2048x1024.Idx → EReal) (ix2 r s) = ∑ k : Fin 1536, (x (ix2 r k) : EReal) * y (ix2 k s) := by
  unfold k0_pay1
  pointwise

/-- The result array. -/
def result : S4096x1024.Idx → EReal := fun i =>
  ∑ k : Fin 1536, A m c (ix2 (i 0) k) * B m c (ix2 k (i 1))

/-- Every index of the result is in the block some point writes back. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, ht⟩ : ∃ t : Fin cfg0.N, t.val = 1 * ((i 0).val / 2048) + (i 1).val / 1024 :=
    ⟨⟨1 * ((i 0).val / 2048) + (i 1).val / 1024, lt_of_lt_of_eq (by omega) N_0.symm⟩, rfl⟩
  obtain ⟨-, -, -, -, e0, e1⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 1024 ≤ (i 1).val ∧ (i 1).val < win0_2.index t (1 : Fin 2) * 1024 + 1024
    rw [e1]; omega

/-- A point's product at an index is the result's entry there. -/
theorem total (t : Fin cfg0.N) (r : Fin 2048) (s : Fin 1024) (i : S4096x1024.Idx) (h0 : (i 0).val = 2048 * (t.val / 1) + r.val) (h1 : (i 1).val = 1024 * (t.val % 1) + s.val) :
    (k0_pay1 (iblk m c 0 t) (iblk m c 1 t) : S2048x1024.Idx → EReal) (ix2 r s) = result m c i := by
  have hi0 : (i 0).val < 4096 := (i 0).isLt
  have hi1 : (i 1).val < 1024 := (i 1).isLt
  rw [pay1_apply]
  unfold result
  refine Finset.sum_congr rfl fun k _ => ?_
  rw [blkA, blkB, ← h0, ← h1]
  unfold at2
  rw [dif_pos ⟨hi0, k.isLt⟩, dif_pos ⟨k.isLt, hi1⟩]
  rfl

/-- The result array after the run: each point writes its block back. -/
theorem final : (dats m 0 c).arrAt 2 cfg0.N = (result m c : Buf (Elt Ideal) ((c : Thread nD τ).loc main_v0)) := by
  refine (dats m 0 c).arrAt_eq_of_cover 2 _ (fun t _ => ?_) covered
  obtain ⟨-, -, -, -, e0, e1⟩ := idx_facts t
  rw [flushed2, out_eq]
  funext y
  obtain ⟨r, s, rfl⟩ : ∃ (r : Fin 2048) (s : Fin 1024), y = ix2 r s := ⟨y 0, y 1, ValueIdx.eq_ix2 y⟩
  refine total m c t r s (((cfg0.win 2).blk t).view.emb (ix2 r s)) ?_ ?_
  · show win0_2.index t (0 : Fin 2) * 2048 + 1 * r.val = 2048 * (t.val / 1) + r.val
    rw [e0]; omega
  · show win0_2.index t (1 : Fin 2) * 1024 + 1 * s.val = 1024 * (t.val % 1) + s.val
    rw [e1]; omega

end Cert.OutIdeal.Product

namespace Cert.Proof

theorem algebraic_Out : Cert.algebraic_OutIdeal_OutRefIdeal := by
  intro m ρ m' ρ' _ hagree
  refine ⟨fun c => Cert.OutIdeal.Product.result m c, (θ_run Cert.OutIdeal.defs _ _).mono (fun _ h c => ⟨(h c).1.trans (Cert.OutIdeal.Product.final m c), (h c).2⟩) (Cert.OutIdeal.Value.run_blocks (F := Ideal) m ρ), ?_⟩
  refine (θ_run Cert.OutRefIdeal.defs _ _).mono (fun _ h c => ⟨(h c).1.trans ?_, (h c).2⟩) (Cert.OutRefIdeal.Value.run (F := Ideal) m' ρ')
  obtain rfl : c = 0 := Subsingleton.elim _ _
  rw [(hagree 0).1, (hagree 0).2]
  funext i
  obtain ⟨r, s, rfl⟩ : ∃ r s, i = ix2 r s := ⟨i 0, i 1, ValueIdx.eq_ix2 i⟩
  unfold Cert.OutIdeal.Product.result
  pointwise

theorem frame_OutRef : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

end Cert.Proof

end
-- ==== Proof.NormBlock.lean ====
/-
  The backward pass of a norm, point by point: a point's blocks of 512 rows of the two wide results, and the sums over the rows of
  the four narrow ones, which the first point starts at zero and every point adds to.
-/
module

public import proofs.«01_k».proof.Proof.Gen.NormIdeal.Value
public import Idealize.ShloMosaic.Lib.Pointwise
public import Idealize.ShloMosaic.Lib.Tactic

@[expose] public section

noncomputable section

open Idealize.ShloMosaic Idealize.ShloMosaic.TcCoe Idealize.SL.Sem

namespace Cert.NormIdeal.Rows

open Cert.NormIdeal Cert.NormIdeal.Gen Cert.NormIdeal.Value

theorem hz : (![0, 0] : Fin 2 → Nat) = fun _ => 0 := funext fun a => by fin_cases a <;> rfl

section Cases
variable {F : FTy → Type} [FloatOps F]
variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x1024 .f32) (h3 : a3.IsWhole)
  (a4 : Memref sig .tc .vmem S1x1024 .f32) (h4 : a4.IsWhole)
  (a5 : Memref sig .tc .vmem S1x1024 .f32) (h5 : a5.IsWhole)
  (a6 : Memref sig .tc .vmem S512x1024 .f32) (h6 : a6.IsWhole)
  (a7 : Memref sig .tc .vmem S1x1024 .f32) (h7 : a7.IsWhole)
  (a8 : Memref sig .tc .vmem S512x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1x1024 .f32) (h11 : a11.IsWhole)
  (a12 : Memref sig .tc .vmem S512x1024 .bf16) (h12 : a12.IsWhole)
  (a13 : Memref sig .tc .vmem S1x1024 .f32) (h13 : a13.IsWhole)
  (d x e : Vec F S512x1024 .f32) (g s : Vec F S1x1024 .f32) (f : Vec F S512x1024 .f32) (t p q r u : Vec F S1x1024 .f32)

/-- The first point: the results and the sums started at zero. -/
theorem out_A (hc : cond0_0 i) :
    out0_A_7 c i a1 h1 a2 h2 a3 h3 a4 h4 a5 h5 a6 h6 a7 h7 a8 h8 a9 h9 a10 h10 a11 h11 a12 h12 a13 h13 hc d x e g s f t = k0_pay6 x d s g e
    ∧ out0_A_8 c i a1 h1 a2 h2 a3 h3 a4 h4 a5 h5 a6 h6 a7 h7 a8 h8 a9 h9 a10 h10 a11 h11 a12 h12 a13 h13 hc d x e g s f t = k0_pay11 (k0_pay3 x) (k0_pay5 d s) k0_pay7
    ∧ out0_A_9 c i a1 h1 a2 h2 a3 h3 a4 h4 a5 h5 a6 h6 a7 h7 a8 h8 a9 h9 a10 h10 a11 h11 a12 h12 a13 h13 hc d x e g s f t = k0_pay12 d (k0_pay4 x g) k0_pay8
    ∧ out0_A_10 c i a1 h1 a2 h2 a3 h3 a4 h4 a5 h5 a6 h6 a7 h7 a8 h8 a9 h9 a10 h10 a11 h11 a12 h12 a13 h13 hc d x e g s f t = k0_pay13 d k0_pay9
    ∧ out0_A_11 c i a1 h1 a2 h2 a3 h3 a4 h4 a5 h5 a6 h6 a7 h7 a8 h8 a9 h9 a10 h10 a11 h11 a12 h12 a13 h13 hc d x e g s f t = k0_pay14 (k0_pay6 x d s g e) t
    ∧ out0_A_12 c i a1 h1 a2 h2 a3 h3 a4 h4 a5 h5 a6 h6 a7 h7 a8 h8 a9 h9 a10 h10 a11 h11 a12 h12 a13 h13 hc d x e g s f t = k0_pay1 (k0_pay15 k0_pay10) (k0_pay16 (k0_pay6 x d s g e) f) := by
  refine ⟨?_, ?_, ?_, ?_, ?_, ?_⟩
  on_goal 1 => rw [out0_A_7, View.read_writes_eq_canon _ _ _ (fun y => cover0_A_7 (y := y) ..)]
  on_goal 2 => rw [out0_A_8, View.read_writes_eq_canon _ _ _ (fun y => cover0_A_8 (y := y) ..)]
  on_goal 3 => rw [out0_A_9, View.read_writes_eq_canon _ _ _ (fun y => cover0_A_9 (y := y) ..)]
  on_goal 4 => rw [out0_A_10, View.read_writes_eq_canon _ _ _ (fun y => cover0_A_10 (y := y) ..)]
  on_goal 5 => rw [out0_A_11, View.read_writes_eq_canon _ _ _ (fun y => cover0_A_11 (y := y) ..)]
  on_goal 6 => rw [out0_A_12, View.read_writes_eq_canon _ _ _ (fun y => cover0_A_12 (y := y) ..)]
  all_goals
    unfold kernelRun0_A
    dsimp only
    sl_unfold_words
    rw [View.canon_cons_unit_zero hz]
    simp only [View.readAt_eq_ld, Memref.IsWhole.read_unread, View.readCov_unit_zero (S := S1x1024) _ hz, View.ld_unit_zero (S := S512x1024) hz, View.ld_unit_zero (S := S1x1024) hz]

/-- A later point: the sums take in what they held. -/
theorem out_B (hc : ¬cond0_0 i) :
    out0_B_7 c i a1 h1 a2 h2 a3 h3 a4 h4 a5 h5 a6 h6 a7 h7 a8 h8 a9 h9 a10 h10 a11 h11 a12 h12 a13 h13 hc d x e g s f t p q r u = k0_pay6 x d s g e
    ∧ out0_B_8 c i a1 h1 a2 h2 a3 h3 a4 h4 a5 h5 a6 h6 a7 h7 a8 h8 a9 h9 a10 h10 a11 h11 a12 h12 a13 h13 hc d x e g s f t p q r u = k0_pay11 (k0_pay3 x) (k0_pay5 d s) p
    ∧ out0_B_9 c i a1 h1 a2 h2 a3 h3 a4 h4 a5 h5 a6 h6 a7 h7 a8 h8 a9 h9 a10 h10 a11 h11 a12 h12 a13 h13 hc d x e g s f t p q r u = k0_pay12 d (k0_pay4 x g) q
    ∧ out0_B_10 c i a1 h1 a2 h2 a3 h3 a4 h4 a5 h5 a6 h6 a7 h7 a8 h8 a9 h9 a10 h10 a11 h11 a12 h12 a13 h13 hc d x e g s f t p q r u = k0_pay13 d r
    ∧ out0_B_11 c i a1 h1 a2 h2 a3 h3 a4 h4 a5 h5 a6 h6 a7 h7 a8 h8 a9 h9 a10 h10 a11 h11 a12 h12 a13 h13 hc d x e g s f t p q r u = k0_pay14 (k0_pay6 x d s g e) t
    ∧ out0_B_12 c i a1 h1 a2 h2 a3 h3 a4 h4 a5 h5 a6 h6 a7 h7 a8 h8 a9 h9 a10 h10 a11 h11 a12 h12 a13 h13 hc d x e g s f t p q r u = k0_pay1 (k0_pay15 u) (k0_pay16 (k0_pay6 x d s g e) f) := by
  refine ⟨?_, ?_, ?_, ?_, ?_, ?_⟩
  on_goal 1 => rw [out0_B_7, View.read_writes_eq_canon _ _ _ (fun y => cover0_B_7 (y := y) ..)]
  on_goal 2 => rw [out0_B_8, View.read_writes_eq_canon _ _ _ (fun y => cover0_B_8 (y := y) ..)]
  on_goal 3 => rw [out0_B_9, View.read_writes_eq_canon _ _ _ (fun y => cover0_B_9 (y := y) ..)]
  on_goal 4 => rw [out0_B_10, View.read_writes_eq_canon _ _ _ (fun y => cover0_B_10 (y := y) ..)]
  on_goal 5 => rw [out0_B_11, View.read_writes_eq_canon _ _ _ (fun y => cover0_B_11 (y := y) ..)]
  on_goal 6 => rw [out0_B_12, View.read_writes_eq_canon _ _ _ (fun y => cover0_B_12 (y := y) ..)]
  all_goals
    unfold kernelRun0_B
    dsimp only
    sl_unfold_words
    rw [View.canon_cons_unit_zero hz]
    simp only [View.readAt_eq_ld, Memref.IsWhole.read_unread, View.readCov_unit_zero (S := S1x1024) _ hz, View.ld_unit_zero (S := S512x1024) hz, View.ld_unit_zero (S := S1x1024) hz]

end Cases

end Cert.NormIdeal.Rows

end
-- ==== Proof.NormMath.lean ====
/-
  The gradient of a norm, in two ways to write it: as the kernel does, through the normed row's mean with the gradient, and as
  differentiation gives it, through the derivative of the reciprocal square root. They agree on all extended reals: a row with an
  infinite entry has a zero reciprocal square root, and otherwise the row and its reciprocal square root are real, so that the
  products with them distribute over whatever the gradient holds.
-/
module

public import proofs.«01_k».proof.Proof.Running

@[expose] public section

noncomputable section

namespace Cert.Norm

open Idealize.ShloMosaic
open scoped BigOperators

/-- Twice a product, its second factor shared. -/
theorem twice (a : ℝ) (y : EReal) : (a : EReal) * y + a * y = ((2 * a : ℝ) : EReal) * y := by
  rw [EReal.coe_mul, mul_assoc, show ((2 : ℝ) : EReal) = 1 + 1 by rw [← EReal.coe_one, ← EReal.coe_add]; norm_num,
    EReal.right_distrib_of_nonneg zero_le_one zero_le_one, one_mul]

variable {K : Type} [Fintype K] (n ε : ℝ) (N E H : EReal) (X D : K → EReal)

/-- The mean square of a row, moved off zero, and its reciprocal square root. -/
def square : EReal := Ideal.div (∑ k, X k * X k) N + E
def recip : EReal := Ideal.rsqrt (square N E X)

/-- A square is not negative. -/
theorem square_nonneg (x : EReal) : 0 ≤ x * x := by
  induction x with
  | bot => simp
  | top => simp
  | coe r => rw [← EReal.coe_mul]; exact EReal.coe_nonneg.mpr (mul_self_nonneg r)

theorem recip_top (hn : 0 < n) (h : ∃ k, X k = ⊤ ∨ X k = ⊥) : recip n ε X = 0 ∧ square n ε X = ⊤ := by
  obtain ⟨k, hk⟩ := h
  have e : X k * X k = ⊤ := by rcases hk with e | e <;> rw [e] <;> rfl
  have s : ∑ k, X k * X k = ⊤ := top_le_iff.mp (e ▸ Finset.single_le_sum (f := fun k => X k * X k) (fun i _ => square_nonneg (X i)) (Finset.mem_univ k))
  have v : square n ε X = ⊤ := by
    unfold square
    rw [s, Ideal.div_coe hn.ne', EReal.top_mul_coe_of_pos (by positivity), EReal.top_add_coe]
  exact ⟨by unfold recip; rw [v]; rfl, v⟩

/-- The gradient a row's entry receives, the two ways. -/
theorem grad (hn : 0 < n) (hε : 0 < ε) (eN : N = n) (eE : E = ε) (eH : H = ((-2⁻¹ : ℝ) : EReal)) (j : K) :
    recip N E X * (D j - X j * recip N E X * Ideal.div (∑ k, D k * (X k * recip N E X)) N)
      = D j * recip N E X + X j * Ideal.div ((∑ k, X k * D k) * (H * Ideal.div (recip N E X) (square N E X))) N
        + Ideal.div ((∑ k, X k * D k) * (H * Ideal.div (recip N E X) (square N E X))) N * X j := by
  subst eN eE eH
  by_cases h : ∃ k, X k = ⊤ ∨ X k = ⊥
  · obtain ⟨e, e'⟩ := recip_top n ε X hn h
    have d0 : Ideal.div (0 : EReal) ⊤ = 0 := by unfold Ideal.div; simp
    rw [e, e', d0]
    simp only [mul_zero, zero_mul, Ideal.div_coe hn.ne', add_zero]
  · have hX : ∀ k, X k = ((X k).toReal : EReal) := fun k => by
      refine (EReal.coe_toReal (fun e => h ⟨k, Or.inl e⟩) (fun e => h ⟨k, Or.inr e⟩)).symm
    generalize hx : (fun k => (X k).toReal) = x at hX
    replace hX : ∀ k, X k = (x k : EReal) := fun k => by rw [hX k, ← hx]
    obtain ⟨w, hw, e⟩ : ∃ w : ℝ, 0 < w ∧ square n ε X = (w : EReal) := by
      refine ⟨(∑ k, x k * x k) * (1 / n) + ε, ?_, ?_⟩
      · have : 0 ≤ ∑ k, x k * x k := Finset.sum_nonneg fun k _ => mul_self_nonneg _
        positivity
      · unfold square
        rw [Cert.Reals.sum_eq _ _ (fun k => x k * x k) (fun k _ => by rw [hX k, EReal.coe_mul]), Ideal.div_coe hn.ne', ← EReal.coe_mul, ← EReal.coe_add, one_div]
    have hs : 0 < Real.sqrt w := Real.sqrt_pos.mpr hw
    obtain ⟨ρ, hρ, e'⟩ : ∃ ρ : ℝ, ρ = (Real.sqrt w)⁻¹ ∧ recip n ε X = (ρ : EReal) := by
      refine ⟨_, rfl, ?_⟩
      unfold recip
      rw [e]
      show (if w < 0 then ⊥ else if w = 0 then ⊤ else ((Real.sqrt w)⁻¹ : ℝ) : EReal) = _
      rw [if_neg (by linarith), if_neg hw.ne']
    have hρ0 : 0 ≤ ρ := by rw [hρ]; positivity
    have hc : ρ / w = ρ ^ 3 := by
      rw [hρ]
      field_simp
      rw [Real.sq_sqrt hw.le]
    rw [e, e', hX j, Cert.Reals.div_real _ _ hw.ne', hc]
    have hT : ∑ k, D k * (X k * (ρ : EReal)) = (ρ : EReal) * ∑ k, X k * D k := by
      rw [Cert.Running.real_mul_sum _ _ hρ0]
      exact Finset.sum_congr rfl fun k _ => by rw [mul_comm (D k), mul_comm (X k), mul_assoc]
    rw [hT]
    generalize (∑ k, X k * D k) = T
    simp only [Ideal.div_coe hn.ne', one_div]
    rw [sub_eq_add_neg, EReal.left_distrib_of_nonneg_of_ne_top (EReal.coe_nonneg.mpr hρ0) (EReal.coe_ne_top ρ), ← EReal.neg_mul, add_assoc,
      mul_comm (D j)]
    congr 1
    have l : (ρ : EReal) * (-((x j : EReal) * ρ) * (ρ * T * ((n⁻¹ : ℝ) : EReal))) = ((-(x j * ρ ^ 3 * n⁻¹) : ℝ) : EReal) * T := by
      rw [show (-(x j * ρ ^ 3 * n⁻¹) : ℝ) = ρ * (-(x j * ρ)) * (ρ * n⁻¹) by ring]
      simp only [EReal.coe_mul, EReal.coe_neg]
      ac_rfl
    have r : (x j : EReal) * (T * (((-2⁻¹ : ℝ) : EReal) * ((ρ ^ 3 : ℝ) : EReal)) * ((n⁻¹ : ℝ) : EReal)) = ((x j * (-2⁻¹ * ρ ^ 3 * n⁻¹) : ℝ) : EReal) * T := by
      simp only [EReal.coe_mul]
      ac_rfl
    rw [l, mul_comm _ (x j : EReal), r, twice]
    congr 2
    ring

end Cert.Norm

end
-- ==== Proof.NormValue.lean ====
/-
  The six results of the backward pass of a norm, entry by entry: the two wide ones are written block by block, the four sums over
  the rows grow from point to point and are written once.
-/
module

public import proofs.«01_k».proof.Proof.NormBlock
public import proofs.«01_k».proof.Proof.NormMath
public import proofs.«01_k».proof.Proof.Sums

@[expose] public section

noncomputable section

open Idealize.ShloMosaic Idealize.ShloMosaic.TcCoe Idealize.SL.Sem
open Idealize.ShloMosaic.Pipeline (Dat)

namespace Cert.NormIdeal.Rows

open Cert.NormIdeal Cert.NormIdeal.Gen Cert.NormIdeal.Value
open Cert.Norm (square recip)

/-- The row length, the offset, as the programs' words give them. -/
abbrev N : EReal := Ideal.ofBits .f32 1149239296#32
abbrev E : EReal := Ideal.ofBits .f32 897988541#32

/-- A row of an array. -/
def row {n : ℕ} (f : (⟨2, ![n, 1024]⟩ : Shape).Idx → EReal) (i : Fin n) : Fin 1024 → EReal := fun k => f (ix2 i k)

/-- Of one row: the normed row, the gradient it receives, and the gradient the kernel gives the row itself. -/
def hat (X : Fin 1024 → EReal) (k : Fin 1024) : EReal := X k * recip N E X
def lin (D S : Fin 1024 → EReal) (k : Fin 1024) : EReal := D k * (1 + S k)
def grad (D S G : Fin 1024 → EReal) (k : Fin 1024) : EReal := lin D S k * G k
def dx (D X C G S : Fin 1024 → EReal) (j : Fin 1024) : EReal :=
  C j + recip N E X * (grad D S G j - hat X j * Ideal.div (∑ k, grad D S G k * hat X k) N)

section Payloads
variable (x d c f dx' : Vec Ideal S512x1024 .f32) (s g a : Vec Ideal S1x1024 .f32) (r : Fin 512) (j : Fin 1024)

theorem pay3_apply : (k0_pay3 x : S512x1024.Idx → EReal) (ix2 r j) = hat (row x r) j := by
  unfold k0_pay3 k0_pay2
  pointwise
  rfl

theorem pay4_apply : (k0_pay4 x g : S512x1024.Idx → EReal) (ix2 r j) = hat (row x r) j * row g 0 j := by
  rw [← pay3_apply]
  unfold k0_pay4
  pointwise
  rfl

theorem pay5_apply : (k0_pay5 d s : S512x1024.Idx → EReal) (ix2 r j) = lin (row d r) (row s 0) j := by
  unfold k0_pay5
  pointwise
  rfl

theorem pay6_apply : (k0_pay6 x d s g c : S512x1024.Idx → EReal) (ix2 r j) = dx (row d r) (row x r) (row c r) (row g 0) (row s 0) j := by
  unfold k0_pay6 k0_pay5 k0_pay3 k0_pay2
  pointwise
  rfl

theorem pay11_apply (u v : Vec Ideal S512x1024 .f32) : (k0_pay11 u v a : S1x1024.Idx → EReal) (ix2 0 j) = a (ix2 0 j) + ∑ k : Fin 512, (v (ix2 k j) : EReal) * u (ix2 k j) := by
  unfold k0_pay11
  pointwise

theorem pay12_apply (u v : Vec Ideal S512x1024 .f32) : (k0_pay12 u v a : S1x1024.Idx → EReal) (ix2 0 j) = a (ix2 0 j) + ∑ k : Fin 512, (u (ix2 k j) : EReal) * v (ix2 k j) := by
  unfold k0_pay12
  pointwise

theorem pay13_apply : (k0_pay13 d a : S1x1024.Idx → EReal) (ix2 0 j) = a (ix2 0 j) + ∑ k : Fin 512, (d (ix2 k j) : EReal) := by
  unfold k0_pay13
  pointwise

theorem pay14_apply : (k0_pay14 dx' a : S512x1024.Idx → EReal) (ix2 r j) = (a (ix2 0 j) : EReal) * dx' (ix2 r j) := by
  unfold k0_pay14
  pointwise

theorem pay1_apply : (k0_pay1 (k0_pay15 a) (k0_pay16 dx' f) : S1x1024.Idx → EReal) (ix2 0 j) = a (ix2 0 j) + ∑ k : Fin 512, (dx' (ix2 k j) : EReal) * f (ix2 k j) := by
  unfold k0_pay1 k0_pay15 k0_pay16
  pointwise

theorem zero_apply : (k0_pay7 (F := Ideal) : S1x1024.Idx → EReal) (ix2 0 j) = 0 ∧ (k0_pay8 (F := Ideal) : S1x1024.Idx → EReal) (ix2 0 j) = 0
    ∧ (k0_pay9 (F := Ideal) : S1x1024.Idx → EReal) (ix2 0 j) = 0 ∧ (k0_pay10 (F := Ideal) : S1x1024.Idx → EReal) (ix2 0 j) = 0 := by
  unfold k0_pay7 k0_pay8 k0_pay9 k0_pay10
  refine ⟨?_, ?_, ?_, ?_⟩ <;> pointwise

end Payloads

variable (m : (ℓ : Loc nD τ sig) → Buf (Elt Ideal) ℓ) (c : Dev nD)

/-- The seven arguments. -/
abbrev aD : S4096x1024.Idx → EReal := m ((c : Thread nD τ).loc main_arg0)
abbrev aX : S4096x1024.Idx → EReal := m ((c : Thread nD τ).loc main_arg1)
abbrev aC : S4096x1024.Idx → EReal := m ((c : Thread nD τ).loc main_arg2)
abbrev aG : S1x1024.Idx → EReal := m ((c : Thread nD τ).loc main_arg3)
abbrev aS : S1x1024.Idx → EReal := m ((c : Thread nD τ).loc main_arg4)
abbrev aF : S4096x1024.Idx → EReal := m ((c : Thread nD τ).loc main_arg5)
abbrev aT : S1x1024.Idx → EReal := m ((c : Thread nD τ).loc main_arg6)

theorem idx_big : ∀ t : Fin cfg0.N, (∀ a : Fin 2, win0_0.index t a = ![t.val, 0] a ∧ win0_1.index t a = ![t.val, 0] a ∧ win0_2.index t a = ![t.val, 0] a
    ∧ win0_5.index t a = ![t.val, 0] a ∧ win0_7.index t a = ![t.val, 0] a ∧ win0_11.index t a = ![t.val, 0] a) :=
  (by decide +kernel : ∀ t : Fin grid0.N, _)
theorem idx_small : ∀ t : Fin cfg0.N, (∀ a : Fin 2, win0_3.index t a = 0 ∧ win0_4.index t a = 0 ∧ win0_6.index t a = 0
    ∧ win0_8.index t a = 0 ∧ win0_9.index t a = 0 ∧ win0_10.index t a = 0 ∧ win0_12.index t a = 0) :=
  (by decide +kernel : ∀ t : Fin grid0.N, _)

/-- The array's row behind row `r` of point `t`'s blocks. -/
def up (t : Fin cfg0.N) (r : Fin 512) : Fin 4096 := ⟨512 * t.val + r.val, by have := lt_of_lt_of_eq t.isLt N_0; omega⟩

/-- Where an entry of a block of 512 rows, and one of a block of a single row, lies in its array. -/
theorem at_big (t : Fin cfg0.N) {ix : Fin 2 → ℕ} (h : ∀ a, ix a = ![t.val, 0] a) (r : Fin 512) (k : Fin 1024) (a : Fin 2) :
    ix a * S512x1024.size a + 1 * (ix2 r k a).val = (ix2 (up t r) k a).val := by
  rw [h a]
  match a with
  | ⟨0, _⟩ => show t.val * 512 + 1 * r.val = 512 * t.val + r.val; omega
  | ⟨1, _⟩ => show 0 * 1024 + 1 * k.val = k.val; omega
theorem at_small {ix : Fin 2 → ℕ} (h : ∀ a, ix a = 0) (k : S1x1024.Idx) (a : Fin 2) : ix a * S1x1024.size a + 1 * (k a).val = (k a).val := by
  rw [h a]; omega

/-- The blocks of 512 rows cover an array of 4096; a block of a single row covers an array of one row. -/
theorem in_big (i : S4096x1024.Idx) : ∃ t : Fin cfg0.N, ∀ ix : Fin 2 → ℕ, (∀ a, ix a = ![t.val, 0] a) →
    ∀ a, ix a * S512x1024.size a ≤ (i a).val ∧ (i a).val < ix a * S512x1024.size a + S512x1024.size a := by
  have h0 : (i 0).val < 4096 := (i 0).isLt
  have h1 : (i 1).val < 1024 := (i 1).isLt
  refine ⟨⟨(i 0).val / 512, lt_of_lt_of_eq (by omega) N_0.symm⟩, fun ix h a => ?_⟩
  rw [h a]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega
theorem in_small {ix : Fin 2 → ℕ} (h : ∀ a, ix a = 0) (i : S1x1024.Idx) (a : Fin 2) :
    ix a * S1x1024.size a ≤ (i a).val ∧ (i a).val < ix a * S1x1024.size a + S1x1024.size a := by
  have := (i a).isLt
  rw [h a]; omega

section Blocks
variable (t : Fin cfg0.N) (r : Fin 512)

theorem blk0 : row (iblk m c 0 t : Vec Ideal S512x1024 .f32) r = row (aD m c) (up t r) :=
  funext fun k => congrArg (aD m c) (funext fun a => Fin.ext (at_big t (fun a => (idx_big t a).1) r k a))
theorem blk1 : row (iblk m c 1 t : Vec Ideal S512x1024 .f32) r = row (aX m c) (up t r) :=
  funext fun k => congrArg (aX m c) (funext fun a => Fin.ext (at_big t (fun a => (idx_big t a).2.1) r k a))
theorem blk2 : row (iblk m c 2 t : Vec Ideal S512x1024 .f32) r = row (aC m c) (up t r) :=
  funext fun k => congrArg (aC m c) (funext fun a => Fin.ext (at_big t (fun a => (idx_big t a).2.2.1) r k a))
theorem blk3 : row (iblk m c 3 t : Vec Ideal S1x1024 .f32) 0 = row (aG m c) 0 :=
  funext fun k => congrArg (aG m c) (funext fun a => Fin.ext (at_small (fun a => (idx_small t a).1) (ix2 0 k) a))
theorem blk4 : row (iblk m c 4 t : Vec Ideal S1x1024 .f32) 0 = row (aS m c) 0 :=
  funext fun k => congrArg (aS m c) (funext fun a => Fin.ext (at_small (fun a => (idx_small t a).2.1) (ix2 0 k) a))
theorem blk5 : row (iblk m c 5 t : Vec Ideal S512x1024 .f32) r = row (aF m c) (up t r) :=
  funext fun k => congrArg (aF m c) (funext fun a => Fin.ext (at_big t (fun a => (idx_big t a).2.2.2.1) r k a))
theorem blk6 : row (iblk m c 6 t : Vec Ideal S1x1024 .f32) 0 = row (aT m c) 0 :=
  funext fun k => congrArg (aT m c) (funext fun a => Fin.ext (at_small (fun a => (idx_small t a).2.2.1) (ix2 0 k) a))

end Blocks

/-- What the kernel gives at row `i`: the row's gradient, and the row's terms of the four sums. -/
def R7 (j : Fin 1024) (i : Fin 4096) : EReal := dx (row (aD m c) i) (row (aX m c) i) (row (aC m c) i) (row (aG m c) 0) (row (aS m c) 0) j
def R8 (j : Fin 1024) (i : Fin 4096) : EReal := lin (row (aD m c) i) (row (aS m c) 0) j * hat (row (aX m c) i) j
def R9 (j : Fin 1024) (i : Fin 4096) : EReal := row (aD m c) i j * (hat (row (aX m c) i) j * row (aG m c) 0 j)
def R10 (j : Fin 1024) (i : Fin 4096) : EReal := row (aD m c) i j
def R12 (j : Fin 1024) (i : Fin 4096) : EReal := R7 m c j i * row (aF m c) i j

/-- The terms of point `n`'s rows, added. -/
def part (R : Fin 4096 → EReal) (n : ℕ) : EReal := ∑ k : Fin 512, if h : 512 * n + k.val < 4096 then R ⟨512 * n + k.val, h⟩ else 0

theorem part_eq (R : Fin 4096 → EReal) (t : Fin cfg0.N) : part R t.val = ∑ k, R (up t k) :=
  Finset.sum_congr rfl fun k _ => dif_pos (up t k).isLt

/-- A value that starts at the first point's part and takes in a part a point ends at the sum over all rows. -/
theorem grow (R : Fin 4096 → EReal) (f : ∀ n, n < cfg0.N → EReal) (h0 : ∀ h, f 0 h = part R 0)
    (hs : ∀ n h, f (n + 1) h = f n (Nat.lt_of_succ_lt h) + part R (n + 1)) (t : Fin cfg0.N) (ht : t.val % 8 = 7) : f t.val t.isLt = ∑ i, R i := by
  have g : ∀ n h, f n h = ∑ s ∈ Finset.range (n + 1), part R s := by
    intro n
    induction n with
    | zero => intro h; rw [h0, Finset.sum_range_one]
    | succ n ih => intro h; rw [hs, ih, Finset.sum_range_succ _ (n + 1)]
  have hN : t.val < 8 := lt_of_lt_of_eq t.isLt N_0
  rw [g, show t.val = 7 by omega]
  exact Cert.Sums.sum_runs_range (a := 8) (b := 512) (by decide) _ (fun s k => if h : 512 * s + k.val < 4096 then R ⟨512 * s + k.val, h⟩ else 0)
    fun s k hs _ => dif_pos hs

/-- A point's blocks give its rows' results. -/
theorem b7 (t : Fin cfg0.N) (r : Fin 512) (j : Fin 1024) :
    (k0_pay6 (iblk m c 1 t) (iblk m c 0 t) (iblk m c 4 t) (iblk m c 3 t) (iblk m c 2 t) : S512x1024.Idx → EReal) (ix2 r j) = R7 m c j (up t r) := by
  rw [pay6_apply, blk0, blk1, blk2, blk3, blk4]
  rfl

theorem b8 (t : Fin cfg0.N) (a : Vec Ideal S1x1024 .f32) (j : Fin 1024) :
    (k0_pay11 (k0_pay3 (iblk m c 1 t)) (k0_pay5 (iblk m c 0 t) (iblk m c 4 t)) a : S1x1024.Idx → EReal) (ix2 0 j) = a (ix2 0 j) + part (R8 m c j) t.val := by
  rw [pay11_apply, part_eq]
  congr 1
  refine Finset.sum_congr rfl fun k _ => ?_
  rw [pay3_apply, pay5_apply, blk0, blk1, blk4]
  rfl

theorem b9 (t : Fin cfg0.N) (a : Vec Ideal S1x1024 .f32) (j : Fin 1024) :
    (k0_pay12 (iblk m c 0 t) (k0_pay4 (iblk m c 1 t) (iblk m c 3 t)) a : S1x1024.Idx → EReal) (ix2 0 j) = a (ix2 0 j) + part (R9 m c j) t.val := by
  rw [pay12_apply, part_eq]
  congr 1
  refine Finset.sum_congr rfl fun k _ => ?_
  rw [pay4_apply, blk1, blk3]
  exact congrArg (· * _) (congrFun (blk0 m c t k) j)

theorem b10 (t : Fin cfg0.N) (a : Vec Ideal S1x1024 .f32) (j : Fin 1024) :
    (k0_pay13 (iblk m c 0 t) a : S1x1024.Idx → EReal) (ix2 0 j) = a (ix2 0 j) + part (R10 m c j) t.val := by
  rw [pay13_apply, part_eq]
  congr 1
  refine Finset.sum_congr rfl fun k _ => ?_
  exact congrFun (blk0 m c t k) j

theorem b12 (t : Fin cfg0.N) (a : Vec Ideal S1x1024 .f32) (j : Fin 1024) :
    (k0_pay1 (k0_pay15 a) (k0_pay16 (k0_pay6 (iblk m c 1 t) (iblk m c 0 t) (iblk m c 4 t) (iblk m c 3 t) (iblk m c 2 t)) (iblk m c 5 t)) : S1x1024.Idx → EReal) (ix2 0 j) = a (ix2 0 j) + part (R12 m c j) t.val := by
  rw [pay1_apply, part_eq]
  congr 1
  refine Finset.sum_congr rfl fun k _ => ?_
  rw [b7]
  exact congrArg (_ * ·) (congrFun (blk5 m c t k) j)

/-- The outputs' buffers after a point. -/
theorem o7 (t : Fin cfg0.N) : (outsAt0 m c t.val t.isLt).1 = k0_pay6 (iblk m c 1 t) (iblk m c 0 t) (iblk m c 4 t) (iblk m c 3 t) (iblk m c 2 t) := by
  by_cases h : t.val % 8 = 0
  · rw [outsAt0_A m c t h]; dsimp only; rw [(out_A ..).1]
  · rw [outsAt0_B m c t h]; dsimp only; rw [(out_B ..).1]

theorem o11 (t : Fin cfg0.N) : (outsAt0 m c t.val t.isLt).2.2.2.2.1 = k0_pay14 (k0_pay6 (iblk m c 1 t) (iblk m c 0 t) (iblk m c 4 t) (iblk m c 3 t) (iblk m c 2 t)) (iblk m c 6 t) := by
  by_cases h : t.val % 8 = 0
  · rw [outsAt0_A m c t h]; dsimp only; rw [(out_A ..).2.2.2.2.1]
  · rw [outsAt0_B m c t h]; dsimp only; rw [(out_B ..).2.2.2.2.1]

theorem o8 (t : Fin cfg0.N) (ht : t.val % 8 = 7) (j : Fin 1024) : ((outsAt0 m c t.val t.isLt).2.1 : S1x1024.Idx → EReal) (ix2 0 j) = ∑ i, R8 m c j i := by
  refine grow (R8 m c j) (fun n h => ((outsAt0 m c n h).2.1 : S1x1024.Idx → EReal) (ix2 0 j)) (fun h => ?_) (fun n h => ?_) t ht
  · rw [outsAt0_A m c ⟨0, h⟩ rfl]; dsimp only; rw [(out_A ..).2.1]
    exact (b8 m c ⟨0, h⟩ _ j).trans (by rw [(zero_apply j).1, zero_add])
  · have hn : ¬(n + 1) % 8 = 0 := by have := lt_of_lt_of_eq h N_0; omega
    rw [outsAt0_B m c ⟨n + 1, h⟩ hn]; dsimp only; rw [(out_B ..).2.1]
    exact b8 m c ⟨n + 1, h⟩ _ j

theorem o9 (t : Fin cfg0.N) (ht : t.val % 8 = 7) (j : Fin 1024) : ((outsAt0 m c t.val t.isLt).2.2.1 : S1x1024.Idx → EReal) (ix2 0 j) = ∑ i, R9 m c j i := by
  refine grow (R9 m c j) (fun n h => ((outsAt0 m c n h).2.2.1 : S1x1024.Idx → EReal) (ix2 0 j)) (fun h => ?_) (fun n h => ?_) t ht
  · rw [outsAt0_A m c ⟨0, h⟩ rfl]; dsimp only; rw [(out_A ..).2.2.1]
    exact (b9 m c ⟨0, h⟩ _ j).trans (by rw [(zero_apply j).2.1, zero_add])
  · have hn : ¬(n + 1) % 8 = 0 := by have := lt_of_lt_of_eq h N_0; omega
    rw [outsAt0_B m c ⟨n + 1, h⟩ hn]; dsimp only; rw [(out_B ..).2.2.1]
    exact b9 m c ⟨n + 1, h⟩ _ j

theorem o10 (t : Fin cfg0.N) (ht : t.val % 8 = 7) (j : Fin 1024) : ((outsAt0 m c t.val t.isLt).2.2.2.1 : S1x1024.Idx → EReal) (ix2 0 j) = ∑ i, R10 m c j i := by
  refine grow (R10 m c j) (fun n h => ((outsAt0 m c n h).2.2.2.1 : S1x1024.Idx → EReal) (ix2 0 j)) (fun h => ?_) (fun n h => ?_) t ht
  · rw [outsAt0_A m c ⟨0, h⟩ rfl]; dsimp only; rw [(out_A ..).2.2.2.1]
    exact (b10 m c ⟨0, h⟩ _ j).trans (by rw [(zero_apply j).2.2.1, zero_add])
  · have hn : ¬(n + 1) % 8 = 0 := by have := lt_of_lt_of_eq h N_0; omega
    rw [outsAt0_B m c ⟨n + 1, h⟩ hn]; dsimp only; rw [(out_B ..).2.2.2.1]
    exact b10 m c ⟨n + 1, h⟩ _ j

theorem o12 (t : Fin cfg0.N) (ht : t.val % 8 = 7) (j : Fin 1024) : ((outsAt0 m c t.val t.isLt).2.2.2.2.2 : S1x1024.Idx → EReal) (ix2 0 j) = ∑ i, R12 m c j i := by
  refine grow (R12 m c j) (fun n h => ((outsAt0 m c n h).2.2.2.2.2 : S1x1024.Idx → EReal) (ix2 0 j)) (fun h => ?_) (fun n h => ?_) t ht
  · rw [outsAt0_A m c ⟨0, h⟩ rfl]; dsimp only; rw [(out_A ..).2.2.2.2.2]
    exact (b12 m c ⟨0, h⟩ _ j).trans (by rw [(zero_apply j).2.2.2, zero_add])
  · have hn : ¬(n + 1) % 8 = 0 := by have := lt_of_lt_of_eq h N_0; omega
    rw [outsAt0_B m c ⟨n + 1, h⟩ hn]; dsimp only; rw [(out_B ..).2.2.2.2.2]
    exact b12 m c ⟨n + 1, h⟩ _ j

theorem one_row (y : S1x1024.Idx) : ∃ s : Fin 1024, y = ix2 (0 : Fin 1) s :=
  ⟨y 1, (ValueIdx.eq_ix2 y).trans (congrArg (ix2 · _) (Subsingleton.elim (α := Fin 1) _ _))⟩

/-- The last point. -/
def last : Fin cfg0.N := ⟨7, lt_of_lt_of_eq (by decide) N_0.symm⟩

/-- The result arrays after the run. -/
theorem final7 : (dats m 0 c).arrAt 7 cfg0.N = ((fun i => R7 m c (i 1) (i 0)) : S4096x1024.Idx → EReal) := by
  refine (dats m 0 c).arrAt_eq_of_cover 7 _ (fun t _ => ?_) (fun i => ?_)
  · rw [flushed7, o7]
    funext y
    obtain ⟨r, s, rfl⟩ : ∃ (r : Fin 512) (s : Fin 1024), y = ix2 r s := ⟨y 0, y 1, ValueIdx.eq_ix2 y⟩
    rw [View.read_apply, show ((cfg0.win 7).blk t).view.emb (ix2 r s) = ix2 (up t r) s from
      funext fun a => Fin.ext (at_big t (fun a => (idx_big t a).2.2.2.2.1) r s a)]
    exact b7 m c t r s
  · obtain ⟨t, h⟩ := in_big i
    refine ⟨t, flush0_7 t, ?_⟩
    show i ∈ ((View.whole main_v0_0).slice (win0_7.rect t)).set
    rw [View.set_slice_whole, Rect.mem_set_unit]
    exact h _ fun a => (idx_big t a).2.2.2.2.1

theorem final11 : (dats m 0 c).arrAt 11 cfg0.N = ((fun i => row (aT m c) 0 (i 1) * R7 m c (i 1) (i 0)) : S4096x1024.Idx → EReal) := by
  refine (dats m 0 c).arrAt_eq_of_cover 11 _ (fun t _ => ?_) (fun i => ?_)
  · rw [flushed11, o11]
    funext y
    obtain ⟨r, s, rfl⟩ : ∃ (r : Fin 512) (s : Fin 1024), y = ix2 r s := ⟨y 0, y 1, ValueIdx.eq_ix2 y⟩
    rw [View.read_apply, show ((cfg0.win 11).blk t).view.emb (ix2 r s) = ix2 (up t r) s from
      funext fun a => Fin.ext (at_big t (fun a => (idx_big t a).2.2.2.2.2) r s a)]
    refine (pay14_apply _ _ r s).trans ?_
    rw [b7]
    exact congrArg (· * _) (congrFun (blk6 m c t) s)
  · obtain ⟨t, h⟩ := in_big i
    refine ⟨t, flush0_11 t, ?_⟩
    show i ∈ ((View.whole main_v0_4).slice (win0_11.rect t)).set
    rw [View.set_slice_whole, Rect.mem_set_unit]
    exact h _ fun a => (idx_big t a).2.2.2.2.2

theorem final8 : (dats m 0 c).arrAt 8 cfg0.N = ((fun i => ∑ k, R8 m c (i 1) k) : S1x1024.Idx → EReal) := by
  refine (dats m 0 c).arrAt_eq_of_cover 8 _ (fun t hf => ?_) (fun i => ?_)
  · rw [flushed8]
    funext y
    obtain ⟨s, rfl⟩ := one_row y
    rw [View.read_apply, show ((cfg0.win 8).blk t).view.emb (ix2 (0 : Fin 1) s) = ix2 (0 : Fin 1) s from
      funext fun a => Fin.ext (at_small (fun a => (idx_small t a).2.2.2.1) (ix2 0 s) a)]
    exact o8 m c t ((flush0_8 t).mp hf) s
  · refine ⟨last, (flush0_8 last).mpr rfl, ?_⟩
    show i ∈ ((View.whole main_v0_1).slice (win0_8.rect last)).set
    rw [View.set_slice_whole, Rect.mem_set_unit]
    exact in_small (fun a => (idx_small last a).2.2.2.1) i

theorem final9 : (dats m 0 c).arrAt 9 cfg0.N = ((fun i => ∑ k, R9 m c (i 1) k) : S1x1024.Idx → EReal) := by
  refine (dats m 0 c).arrAt_eq_of_cover 9 _ (fun t hf => ?_) (fun i => ?_)
  · rw [flushed9]
    funext y
    obtain ⟨s, rfl⟩ := one_row y
    rw [View.read_apply, show ((cfg0.win 9).blk t).view.emb (ix2 (0 : Fin 1) s) = ix2 (0 : Fin 1) s from
      funext fun a => Fin.ext (at_small (fun a => (idx_small t a).2.2.2.2.1) (ix2 0 s) a)]
    exact o9 m c t ((flush0_9 t).mp hf) s
  · refine ⟨last, (flush0_9 last).mpr rfl, ?_⟩
    show i ∈ ((View.whole main_v0_2).slice (win0_9.rect last)).set
    rw [View.set_slice_whole, Rect.mem_set_unit]
    exact in_small (fun a => (idx_small last a).2.2.2.2.1) i

theorem final10 : (dats m 0 c).arrAt 10 cfg0.N = ((fun i => ∑ k, R10 m c (i 1) k) : S1x1024.Idx → EReal) := by
  refine (dats m 0 c).arrAt_eq_of_cover 10 _ (fun t hf => ?_) (fun i => ?_)
  · rw [flushed10]
    funext y
    obtain ⟨s, rfl⟩ := one_row y
    rw [View.read_apply, show ((cfg0.win 10).blk t).view.emb (ix2 (0 : Fin 1) s) = ix2 (0 : Fin 1) s from
      funext fun a => Fin.ext (at_small (fun a => (idx_small t a).2.2.2.2.2.1) (ix2 0 s) a)]
    exact o10 m c t ((flush0_10 t).mp hf) s
  · refine ⟨last, (flush0_10 last).mpr rfl, ?_⟩
    show i ∈ ((View.whole main_v0_3).slice (win0_10.rect last)).set
    rw [View.set_slice_whole, Rect.mem_set_unit]
    exact in_small (fun a => (idx_small last a).2.2.2.2.2.1) i

theorem final12 : (dats m 0 c).arrAt 12 cfg0.N = ((fun i => ∑ k, R12 m c (i 1) k) : S1x1024.Idx → EReal) := by
  refine (dats m 0 c).arrAt_eq_of_cover 12 _ (fun t hf => ?_) (fun i => ?_)
  · rw [flushed12]
    funext y
    obtain ⟨s, rfl⟩ := one_row y
    rw [View.read_apply, show ((cfg0.win 12).blk t).view.emb (ix2 (0 : Fin 1) s) = ix2 (0 : Fin 1) s from
      funext fun a => Fin.ext (at_small (fun a => (idx_small t a).2.2.2.2.2.2) (ix2 0 s) a)]
    exact o12 m c t ((flush0_12 t).mp hf) s
  · refine ⟨last, (flush0_12 last).mpr rfl, ?_⟩
    show i ∈ ((View.whole main_v0_5).slice (win0_12.rect last)).set
    rw [View.set_slice_whole, Rect.mem_set_unit]
    exact in_small (fun a => (idx_small last a).2.2.2.2.2.2) i

end Cert.NormIdeal.Rows

end
-- ==== Proof.NormFinal.lean ====
/-
  The backward pass of a norm and the reference, which differentiates it: the same six results.
-/
module

public import proofs.«01_k».proof.Defs
public import proofs.«01_k».proof.Proof.NormValue
public import proofs.«01_k».proof.Proof.Gen.NormRefIdeal.Run

@[expose] public section

noncomputable section

open Idealize.ShloMosaic Idealize.ShloMosaic.TcCoe Idealize.SL.Sem

namespace Cert.NormIdeal.Rows

open Cert.Norm (square recip)

/-- The words of the row length, the offset and minus a half. -/
theorem word_N : N = ((1024 : ℝ) : EReal) := by
  have e1 : ((1149239296#32 : BitVec 32).extractLsb' 31 1 == 1#1) = false := by decide
  have e2 : ((1149239296#32 : BitVec 32).extractLsb' 23 8).toNat = 137 := by decide
  have e3 : ((1149239296#32 : BitVec 32).extractLsb' 0 23).toNat = 0 := by decide
  simp only [N, Ideal.ofBits, Ideal.ieee, e1, e2, e3]
  norm_num

theorem word_H : Ideal.ofBits .f32 3204448256#32 = ((-2⁻¹ : ℝ) : EReal) := by
  have e1 : ((3204448256#32 : BitVec 32).extractLsb' 31 1 == 1#1) = true := by decide
  have e2 : ((3204448256#32 : BitVec 32).extractLsb' 23 8).toNat = 126 := by decide
  have e3 : ((3204448256#32 : BitVec 32).extractLsb' 0 23).toNat = 0 := by decide
  simp only [Ideal.ofBits, Ideal.ieee, e1, e2, e3]
  norm_num

theorem word_E : ∃ ε : ℝ, 0 < ε ∧ E = (ε : EReal) := by
  have e1 : ((897988541#32 : BitVec 32).extractLsb' 31 1 == 1#1) = false := by decide
  have e2 : ((897988541#32 : BitVec 32).extractLsb' 23 8).toNat = 107 := by decide
  simp only [E, Ideal.ofBits, Ideal.ieee, e1, e2]
  refine ⟨_, ?_, by norm_num; rfl⟩
  positivity

variable (D X C G S : Fin 1024 → EReal)

/-- A sum over the rows, as an array. -/
def total (R : Fin 1024 → Fin 4096 → EReal) : (⟨2, ![1, 1024]⟩ : Shape).Idx → EReal := fun i => ∑ k, R (i 1) k

/-- The row's gradient as differentiation gives it. -/
def coef : EReal := Ideal.div ((∑ k, X k * grad D S G k) * (Ideal.ofBits .f32 3204448256#32 * Ideal.div (recip N E X) (square N E X))) N
def dx' (j : Fin 1024) : EReal := C j + (grad D S G j * recip N E X + X j * coef D X G S + coef D X G S * X j)

theorem dx_eq (j : Fin 1024) : dx D X C G S j = dx' D X C G S j := by
  obtain ⟨ε, hε, e⟩ := word_E
  exact congrArg (C j + ·) (Cert.Norm.grad 1024 ε N E _ X (grad D S G) (by norm_num) hε word_N e word_H j)

end Cert.NormIdeal.Rows

namespace Cert.NormRefIdeal.Rows

open Cert.NormRefIdeal Cert.NormIdeal.Rows

variable (m : (ℓ : Loc nD τ sig) → Buf (Elt Ideal) ℓ) (c : Dev nD) (i : Fin 4096) (j : Fin 1024)

/-- The rows' gradients, by differentiation. -/
def grads : EReal := dx' (row (m ((c.tc : Thread nD τ).loc main_arg0)) i) (row (m ((c.tc : Thread nD τ).loc main_arg1)) i) (row (m ((c.tc : Thread nD τ).loc main_arg2)) i)
  (row (m ((c.tc : Thread nD τ).loc main_arg3)) 0) (row (m ((c.tc : Thread nD τ).loc main_arg4)) 0) j

theorem ref0 : (Value.res_main_v49 m c : S4096x1024.Idx → EReal) (ix2 i j) = grads m c i j := by
  unfold Value.res_main_v49
  pointwise
  simp only [Finset.univ_unique, Finset.sum_singleton]
  rfl

theorem ref4 : (Value.res_main_v57 m c : S4096x1024.Idx → EReal) (ix2 i j) = row (m ((c.tc : Thread nD τ).loc main_arg6)) 0 j * grads m c i j := by
  unfold Value.res_main_v57
  pointwise
  simp only [Finset.univ_unique, Finset.sum_singleton]
  rfl

theorem ref5 : (Value.res_main_v56 m c : S1x1024.Idx → EReal) (ix2 0 j) = ∑ k : Fin 4096, grads m c k j * row (m ((c.tc : Thread nD τ).loc main_arg5)) k j := by
  unfold Value.res_main_v56
  pointwise
  simp only [Finset.univ_unique, Finset.sum_singleton]
  rfl

end Cert.NormRefIdeal.Rows

namespace Cert.Proof

open Cert.NormIdeal.Rows Cert.NormRefIdeal.Rows

theorem algebraic_Norm : Cert.algebraic_NormIdeal_NormRefIdeal := by
  intro m ρ m' ρ' _ hagree
  refine ⟨fun c i => R7 m c (i 1) (i 0), fun c => total (R8 m c), fun c => total (R9 m c), fun c => total (R10 m c),
    fun c i => row (aT m c) 0 (i 1) * R7 m c (i 1) (i 0), fun c => total (R12 m c), (θ_run Cert.NormIdeal.defs _ _).mono (fun _ h c => ?_) (Cert.NormIdeal.Value.run_blocks (F := Ideal) m ρ), ?_⟩
  · obtain ⟨h0, h1, h2, h3, h4, h5, h⟩ := h c
    exact ⟨h0.trans (final7 m c), h1.trans (final8 m c), h2.trans (final9 m c), h3.trans (final10 m c), h4.trans (final11 m c), h5.trans (final12 m c), h⟩
  refine (θ_run Cert.NormRefIdeal.defs _ _).mono (fun _ h c => ?_) (Cert.NormRefIdeal.Value.run (F := Ideal) m' ρ')
  obtain ⟨h0, h1, h2, h3, h4, h5, h⟩ := h c
  obtain rfl : c = 0 := Subsingleton.elim _ _
  obtain ⟨g0, g1, g2, g3, g4, g5, g6⟩ := hagree 0
  have e : ∀ i j, grads m' 0 i j = R7 m 0 j i := fun i j => by
    unfold grads
    rw [g0, g1, g2, g3, g4]
    exact (dx_eq ..).symm
  refine ⟨h0.trans ?_, h1.trans ?_, h2.trans ?_, h3.trans ?_, h4.trans ?_, h5.trans ?_, h⟩
  · funext i
    obtain ⟨r, s, rfl⟩ : ∃ r s, i = ix2 r s := ⟨i 0, i 1, ValueIdx.eq_ix2 i⟩
    exact (ref0 m' 0 r s).trans (e r s)
  · rw [g0, g1, g4]
    funext i
    obtain ⟨r, s, rfl⟩ : ∃ r s, i = ix2 r s := ⟨i 0, i 1, ValueIdx.eq_ix2 i⟩
    unfold total
    pointwise
    exact Finset.sum_congr rfl fun k _ => mul_comm _ _
  · rw [g0, g1, g3]
    funext i
    obtain ⟨r, s, rfl⟩ : ∃ r s, i = ix2 r s := ⟨i 0, i 1, ValueIdx.eq_ix2 i⟩
    unfold total
    pointwise
    exact Finset.sum_congr rfl fun k _ => mul_comm _ _
  · rw [g0]
    funext i
    obtain ⟨r, s, rfl⟩ : ∃ r s, i = ix2 r s := ⟨i 0, i 1, ValueIdx.eq_ix2 i⟩
    unfold total
    pointwise
    rfl
  · funext i
    obtain ⟨r, s, rfl⟩ : ∃ r s, i = ix2 r s := ⟨i 0, i 1, ValueIdx.eq_ix2 i⟩
    refine (ref4 m' 0 r s).trans ?_
    rw [e, g6]
    rfl
  · funext i
    obtain ⟨r, s, rfl⟩ : ∃ r s, i = ix2 r s := ⟨i 0, i 1, ValueIdx.eq_ix2 i⟩
    obtain rfl : r = 0 := Subsingleton.elim _ _
    refine (ref5 m' 0 s).trans ?_
    simp only [e]
    rw [g5]
    rfl

theorem frame_NormRef : Cert.quiescent_NormRefIdeal := fun m ρ _ =>
  (θ_run Cert.NormRefIdeal.defs _ _).mono (fun r h => ⟨fun c => (h c).2.2.2.2.2.2, Idealize.ShloMosaic.sem_eq_zero_of_no_sems (by decide) r.2⟩)
    (Cert.NormRefIdeal.Value.run (F := Ideal) m ρ)

end Cert.Proof

end
-- ==== Proof.lean ====
/- The claims about the calls of the backward pass, assembled from the modules that prove them. -/
module

public import proofs.«01_k».proof.Defs
public import proofs.«01_k».proof.Proof.Gen.DwUp.Frame
public import proofs.«01_k».proof.Proof.Gen.DwUpIdeal.Value
public import proofs.«01_k».proof.Proof.Gen.DwUpRefIdeal.Run
public import proofs.«01_k».proof.Proof.Gen.Dq
public import proofs.«01_k».proof.Proof.Gen.Dq.Skeleton
public import proofs.«01_k».proof.Proof.Gen.Dq.Launch
public import proofs.«01_k».proof.Proof.Gen.DqIdeal
public import proofs.«01_k».proof.Proof.Gen.DqIdeal.Skeleton
public import proofs.«01_k».proof.Proof.Gen.DqIdeal.Launch
public import proofs.«01_k».proof.Proof.Gen.DqRefIdeal.Run
public import proofs.«01_k».proof.Proof.Gen.Dkv
public import proofs.«01_k».proof.Proof.Gen.Dkv.Skeleton
public import proofs.«01_k».proof.Proof.Gen.Dkv.Launch
public import proofs.«01_k».proof.Proof.Gen.DkvIdeal
public import proofs.«01_k».proof.Proof.Gen.DkvIdeal.Skeleton
public import proofs.«01_k».proof.Proof.Gen.DkvIdeal.Launch
public import proofs.«01_k».proof.Proof.Gen.DkvRefIdeal.Run
public import proofs.«01_k».proof.Proof.Gen.Dh2.Frame
public import proofs.«01_k».proof.Proof.Gen.Dh2Ideal.Value
public import proofs.«01_k».proof.Proof.Gen.Dh2RefIdeal.Run
public import proofs.«01_k».proof.Proof.Gen.Dact.Frame
public import proofs.«01_k».proof.Proof.Gen.DactIdeal.Value
public import proofs.«01_k».proof.Proof.Gen.DactRefIdeal.Run
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwIn.Frame
public import proofs.«01_k».proof.Proof.Gen.DwInIdeal.Value
public import proofs.«01_k».proof.Proof.Gen.DwInRefIdeal.Run
public import proofs.«01_k».proof.Proof.Gen.Dh1.Frame
public import proofs.«01_k».proof.Proof.Gen.Dh1Ideal.Value
public import proofs.«01_k».proof.Proof.Gen.Dh1RefIdeal.Run
public import proofs.«01_k».proof.Proof.Gen.Dycat.Frame
public import proofs.«01_k».proof.Proof.Gen.DycatIdeal.Value
public import proofs.«01_k».proof.Proof.Gen.DycatRefIdeal.Run
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwUq.Frame
public import proofs.«01_k».proof.Proof.Gen.DwUqIdeal.Value
public import proofs.«01_k».proof.Proof.Gen.DwUqRefIdeal.Run
public import proofs.«01_k».proof.Proof.Gen.DwUkv.Frame
public import proofs.«01_k».proof.Proof.Gen.DwUkvIdeal.Value
public import proofs.«01_k».proof.Proof.Gen.DwUkvRefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.Mla
public import proofs.«01_k».proof.Proof.Gen.Mla.Skeleton
public import proofs.«01_k».proof.Proof.Gen.Mla.Launch
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaRefIdeal.Run
public import proofs.«01_k».proof.Proof.Gen.Norm.Frame
public import proofs.«01_k».proof.Proof.Gen.NormIdeal.Value
public import proofs.«01_k».proof.Proof.Gen.NormRefIdeal.Run
public import proofs.«01_k».proof.Proof.MlaFinal
public import proofs.«01_k».proof.Proof.DwUp
public import proofs.«01_k».proof.Proof.DqFinal
public import proofs.«01_k».proof.Proof.DkvFinal
public import proofs.«01_k».proof.Proof.Dh2
public import proofs.«01_k».proof.Proof.Dact
public import proofs.«01_k».proof.Proof.DwDown
public import proofs.«01_k».proof.Proof.DwIn
public import proofs.«01_k».proof.Proof.Dh1
public import proofs.«01_k».proof.Proof.Dycat
public import proofs.«01_k».proof.Proof.DwOut
public import proofs.«01_k».proof.Proof.DwUq
public import proofs.«01_k».proof.Proof.DwUkv
public import proofs.«01_k».proof.Proof.Up
public import proofs.«01_k».proof.Proof.Down
public import proofs.«01_k».proof.Proof.Proj
public import proofs.«01_k».proof.Proof.Out
public import proofs.«01_k».proof.Proof.NormFinal
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem claim : Cert.Claim :=
  have := Cert.Pre_finite.facts
  have := Cert.Pre_finite_scores.facts
  ⟨Cert.DwUp.Gen.facts, Cert.DwUpIdeal.Gen.facts, Cert.DwUpRefIdeal.Gen.facts,
    Cert.Dq.Gen.facts, Cert.DqIdeal.Gen.facts, Cert.DqRefIdeal.Gen.facts,
    Cert.Dkv.Gen.facts, Cert.DkvIdeal.Gen.facts, Cert.DkvRefIdeal.Gen.facts,
    Cert.Dh2.Gen.facts, Cert.Dh2Ideal.Gen.facts, Cert.Dh2RefIdeal.Gen.facts,
    Cert.Dact.Gen.facts, Cert.DactIdeal.Gen.facts, Cert.DactRefIdeal.Gen.facts,
    Cert.DwDown.Gen.facts, Cert.DwDownIdeal.Gen.facts, Cert.DwDownRefIdeal.Gen.facts,
    Cert.DwIn.Gen.facts, Cert.DwInIdeal.Gen.facts, Cert.DwInRefIdeal.Gen.facts,
    Cert.Dh1.Gen.facts, Cert.Dh1Ideal.Gen.facts, Cert.Dh1RefIdeal.Gen.facts,
    Cert.Dycat.Gen.facts, Cert.DycatIdeal.Gen.facts, Cert.DycatRefIdeal.Gen.facts,
    Cert.DwOut.Gen.facts, Cert.DwOutIdeal.Gen.facts, Cert.DwOutRefIdeal.Gen.facts,
    Cert.DwUq.Gen.facts, Cert.DwUqIdeal.Gen.facts, Cert.DwUqRefIdeal.Gen.facts,
    Cert.DwUkv.Gen.facts, Cert.DwUkvIdeal.Gen.facts, Cert.DwUkvRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Proj.Gen.facts, Cert.ProjIdeal.Gen.facts, Cert.ProjRefIdeal.Gen.facts,
    Cert.Out.Gen.facts, Cert.OutIdeal.Gen.facts, Cert.OutRefIdeal.Gen.facts,
    Cert.Mla.Gen.facts, Cert.MlaIdeal.Gen.facts, Cert.MlaRefIdeal.Gen.facts,
    Cert.Norm.Gen.facts, Cert.NormIdeal.Gen.facts, Cert.NormRefIdeal.Gen.facts,
    Cert.Pre_finite.facts, Cert.Pre_finite_scores.facts,
    fun m ρ _ => Cert.DwUp.Gen.frame m ρ, fun m ρ _ => Cert.DwUpIdeal.Gen.frame m ρ, frame_DwUpRef,
    frame_Dq, frame_DqIdeal, fun m ρ _ => frame_DqIdeal m ρ trivial, frame_DqRef, fun m ρ _ => frame_DqRef m ρ trivial,
    frame_Dkv, frame_DkvIdeal, fun m ρ _ => frame_DkvIdeal m ρ trivial, frame_DkvRef, fun m ρ _ => frame_DkvRef m ρ trivial,
    fun m ρ _ => Cert.Dh2.Gen.frame m ρ, fun m ρ _ => Cert.Dh2Ideal.Gen.frame m ρ, frame_Dh2Ref,
    fun m ρ _ => Cert.Dact.Gen.frame m ρ, fun m ρ _ => Cert.DactIdeal.Gen.frame m ρ, frame_DactRef,
    fun m ρ _ => Cert.DwDown.Gen.frame m ρ, fun m ρ _ => Cert.DwDownIdeal.Gen.frame m ρ, frame_DwDownRef,
    fun m ρ _ => Cert.DwIn.Gen.frame m ρ, fun m ρ _ => Cert.DwInIdeal.Gen.frame m ρ, frame_DwInRef,
    fun m ρ _ => Cert.Dh1.Gen.frame m ρ, fun m ρ _ => Cert.Dh1Ideal.Gen.frame m ρ, frame_Dh1Ref,
    fun m ρ _ => Cert.Dycat.Gen.frame m ρ, fun m ρ _ => Cert.DycatIdeal.Gen.frame m ρ, frame_DycatRef,
    fun m ρ _ => Cert.DwOut.Gen.frame m ρ, fun m ρ _ => Cert.DwOutIdeal.Gen.frame m ρ, frame_DwOutRef,
    fun m ρ _ => Cert.DwUq.Gen.frame m ρ, fun m ρ _ => Cert.DwUqIdeal.Gen.frame m ρ, frame_DwUqRef,
    fun m ρ _ => Cert.DwUkv.Gen.frame m ρ, fun m ρ _ => Cert.DwUkvIdeal.Gen.frame m ρ, frame_DwUkvRef,
    fun m ρ _ => Cert.Up.Gen.frame m ρ, fun m ρ _ => Cert.UpIdeal.Gen.frame m ρ, frame_UpRef,
    fun m ρ _ => Cert.Down.Gen.frame m ρ, fun m ρ _ => Cert.DownIdeal.Gen.frame m ρ, frame_DownRef,
    fun m ρ _ => Cert.Proj.Gen.frame m ρ, fun m ρ _ => Cert.ProjIdeal.Gen.frame m ρ, frame_ProjRef,
    fun m ρ _ => Cert.Out.Gen.frame m ρ, fun m ρ _ => Cert.OutIdeal.Gen.frame m ρ, frame_OutRef,
    frame_Mla, frame_MlaIdeal, fun m ρ _ => frame_MlaIdeal m ρ trivial, frame_MlaRef, fun m ρ _ => frame_MlaRef m ρ trivial,
    fun m ρ _ => Cert.Norm.Gen.frame m ρ, fun m ρ _ => Cert.NormIdeal.Gen.frame m ρ, frame_NormRef,
    trivial, algebraic_DwUp, trivial, algebraic_Dq,
    IdealRules.named_const.statement _ _ _ _ _ rfl, algebraic_Dkv,
    trivial, algebraic_Dh2,
    trivial, algebraic_Dact,
    trivial, algebraic_DwDown,
    trivial, algebraic_DwIn,
    trivial, algebraic_Dh1,
    trivial, algebraic_Dycat,
    trivial, algebraic_DwOut,
    trivial, algebraic_DwUq,
    trivial, algebraic_DwUkv,
    trivial, algebraic_Up,
    trivial, algebraic_Down,
    trivial, algebraic_Proj,
    trivial, algebraic_Out,
    IdealRules.named_const.statement _ _ _ _ _ rfl, algebraic_Mla,
    trivial, algebraic_Norm⟩

end Cert.Proof

end
